-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_latent [hPre_finite_latent : Cert.Pre_finite_latent.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).1 = (fun _ => 1#1)
    ∧ (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.1 = (fun _ => 1#1)
    ∧ (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.1 = (fun _ => 1#1)
    ∧ (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.1 = (fun _ => 1#1)
    ∧ (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.2.1 = (fun _ => 1#1)
    ∧ (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_latent [hPre_finite_latent : Cert.Pre_finite_latent.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).1 = (fun _ => 1#1)
    ∧ (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.1 = (fun _ => 1#1)
    ∧ (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.1 = (fun _ => 1#1)
    ∧ (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.1 = (fun _ => 1#1)
    ∧ (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.2.1 = (fun _ => 1#1)
    ∧ (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_window [hPre_finite_window : Cert.Pre_finite_window.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_window.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite_window.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite_window.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.1 = (fun _ => 1#1)
    ∧ (Cert.Pre_finite_window.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_window [hPre_finite_window : Cert.Pre_finite_window.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_window.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite_window.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite_window.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.1 = (fun _ => 1#1)
    ∧ (Cert.Pre_finite_window.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite_latent [hKernel13Ideal : Cert.Kernel13Ideal.Facts] [hPre_finite_latent : Cert.Pre_finite_latent.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_latent m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite_latent [hReference13Ideal : Cert.Reference13Ideal.Facts] [hPre_finite_latent : Cert.Pre_finite_latent.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_latent m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite_window [hKernel14Ideal : Cert.Kernel14Ideal.Facts] [hPre_finite_window : Cert.Pre_finite_window.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_window m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite_window [hReference14Ideal : Cert.Reference14Ideal.Facts] [hPre_finite_window : Cert.Pre_finite_window.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_window m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)) (v1 : (c : Dev Cert.Kernel5Ideal.nD) → Buf (Elt Ideal) ((c.tc : Thread Cert.Kernel5Ideal.nD Cert.Kernel5Ideal.τ).loc Cert.Kernel5Ideal.main_v15)) (v2 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_v17) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6)) (v1 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_v8) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)) (v1 : (c : Dev Cert.Kernel9Ideal.nD) → Buf (Elt Ideal) ((c.tc : Thread Cert.Kernel9Ideal.nD Cert.Kernel9Ideal.τ).loc Cert.Kernel9Ideal.main_v5)) (v2 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_v5) = v1 c
          ∧ r.2.mem ((c.tc : Thread Cert.Kernel9Ideal.nD Cert.Kernel9Ideal.τ).loc Cert.Kernel9Ideal.main_v7) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v10)) (v1 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_v12) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  IdealRules.named_const.Statement Cert.Kernel13Ideal.κ "scale_log2e" .f32 0x3DD53B95#32 (((Real.sqrt 192)⁻¹ * (Real.log 2)⁻¹ : ℝ) : EReal)

def algebraic_Kernel13Ideal_Reference13Ideal_pre_finite_latent [hKernel13Ideal : Cert.Kernel13Ideal.Facts] [hReference13Ideal : Cert.Reference13Ideal.Facts] [hPre_finite_latent : Cert.Pre_finite_latent.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_latent m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v50)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v50) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v155) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  IdealRules.named_const.Statement Cert.Kernel14Ideal.κ "scale_log2e" .f32 0x3E0293EE#32 (((11863283 / 134217728) * (Real.log 2)⁻¹ : ℝ) : EReal)
  ∧ IdealRules.named_const.Statement Cert.Kernel14Ideal.κ "mask" .f32 0xF149F2CA#32 ⊥

def algebraic_Kernel14Ideal_Reference14Ideal_pre_finite_window [hKernel14Ideal : Cert.Kernel14Ideal.Facts] [hReference14Ideal : Cert.Reference14Ideal.Facts] [hPre_finite_window : Cert.Pre_finite_window.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_window m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v46)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v46) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v154) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_latent : Cert.Pre_finite_latent.Facts) (hPre_finite_window : Cert.Pre_finite_window.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_latent (hKernel13Ideal := hKernel13Ideal) (hPre_finite_latent := hPre_finite_latent)
    ∧ quiescent_Reference13Ideal (hReference13Ideal := hReference13Ideal)
    ∧ quiescent_Reference13Ideal_pre_finite_latent (hReference13Ideal := hReference13Ideal) (hPre_finite_latent := hPre_finite_latent)
    ∧ quiescent_Kernel14 (hKernel14 := hKernel14)
    ∧ quiescent_Kernel14Ideal (hKernel14Ideal := hKernel14Ideal)
    ∧ quiescent_Kernel14Ideal_pre_finite_window (hKernel14Ideal := hKernel14Ideal) (hPre_finite_window := hPre_finite_window)
    ∧ quiescent_Reference14Ideal (hReference14Ideal := hReference14Ideal)
    ∧ quiescent_Reference14Ideal_pre_finite_window (hReference14Ideal := hReference14Ideal) (hPre_finite_window := hPre_finite_window)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_latent (hKernel13Ideal := hKernel13Ideal) (hReference13Ideal := hReference13Ideal) (hPre_finite_latent := hPre_finite_latent)
    ∧ preserves_Kernel14_Kernel14Ideal
    ∧ algebraic_Kernel14Ideal_Reference14Ideal_pre_finite_window (hKernel14Ideal := hKernel14Ideal) (hReference14Ideal := hReference14Ideal) (hPre_finite_window := hPre_finite_window)
-- ==== Pre_finite.lean ====
abbrev S8192x6144 : Shape := ⟨2, ![8192, 6144]⟩
abbrev S8x256x8x128 : Shape := ⟨4, ![8, 256, 8, 128]⟩
abbrev S_ : Shape := ⟨0, ![]⟩

class Facts : Prop where
  bcast_S_S8192x6144 : S_.BroadcastsInDim S8192x6144 (![] : Fin 0 → Fin S8192x6144.rank)
  bcast_S_S8x256x8x128 : S_.BroadcastsInDim S8x256x8x128 (![] : Fin 0 → Fin S8x256x8x128.rank)

variable [Facts]

def fn {F : FTy → Type} [FloatOps F] (main_arg0 : FVec F S8192x6144 .f32) (main_arg1 : FVec F S8x256x8x128 .f32) (main_arg2 : FVec F S8x256x8x128 .f32) : IVec S8192x6144 1 × IVec S8x256x8x128 1 × IVec S8x256x8x128 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S8x256x8x128 .f32 := Host.absf main_arg1
  let main_cst_0 : FVec F S_ .f32 := constant S_ .f32 0x7F800000#32
  let main_v4 : FVec F S8x256x8x128 .f32 := broadcastInDim S8x256x8x128 ![] bcast_S_S8x256x8x128 main_cst_0
  let main_v5 : IVec S8x256x8x128 1 := cmpf .olt main_v3 main_v4
  let main_v6 : FVec F S8x256x8x128 .f32 := Host.absf main_arg2
  let main_cst_1 : FVec F S_ .f32 := constant S_ .f32 0x7F800000#32
  let main_v7 : FVec F S8x256x8x128 .f32 := broadcastInDim S8x256x8x128 ![] bcast_S_S8x256x8x128 main_cst_1
  let main_v8 : IVec S8x256x8x128 1 := cmpf .olt main_v6 main_v7
  (main_v2, main_v5, main_v8)
-- ==== Pre_finite_latent.lean ====
abbrev S8x1024x64x192 : Shape := ⟨4, ![8, 1024, 64, 192]⟩
abbrev S8x1024x512 : Shape := ⟨3, ![8, 1024, 512]⟩
abbrev S8x1024x64 : Shape := ⟨3, ![8, 1024, 64]⟩
abbrev S512x16384 : Shape := ⟨2, ![512, 16384]⟩
abbrev S8x256x512 : Shape := ⟨3, ![8, 256, 512]⟩
abbrev S8x256x64 : Shape := ⟨3, ![8, 256, 64]⟩
abbrev S_ : Shape := ⟨0, ![]⟩

class Facts : Prop where
  bcast_S_S8x1024x64x192 : S_.BroadcastsInDim S8x1024x64x192 (![] : Fin 0 → Fin S8x1024x64x192.rank)
  bcast_S_S8x1024x512 : S_.BroadcastsInDim S8x1024x512 (![] : Fin 0 → Fin S8x1024x512.rank)
  bcast_S_S8x1024x64 : S_.BroadcastsInDim S8x1024x64 (![] : Fin 0 → Fin S8x1024x64.rank)
  bcast_S_S512x16384 : S_.BroadcastsInDim S512x16384 (![] : Fin 0 → Fin S512x16384.rank)
  bcast_S_S8x256x512 : S_.BroadcastsInDim S8x256x512 (![] : Fin 0 → Fin S8x256x512.rank)
  bcast_S_S8x256x64 : S_.BroadcastsInDim S8x256x64 (![] : Fin 0 → Fin S8x256x64.rank)

variable [Facts]

def fn {F : FTy → Type} [FloatOps F] (main_arg0 : FVec F S8x1024x64x192 .f32) (main_arg1 : FVec F S8x1024x512 .f32) (main_arg2 : FVec F S8x1024x64 .f32) (main_arg3 : FVec F S512x16384 .f32) (main_arg4 : FVec F S8x256x512 .f32) (main_arg5 : FVec F S8x256x64 .f32) : IVec S8x1024x64x192 1 × IVec S8x1024x512 1 × IVec S8x1024x64 1 × IVec S512x16384 1 × IVec S8x256x512 1 × IVec S8x256x64 1 :=
  let main_v0 : FVec F S8x1024x64x192 .f32 := Host.absf main_arg0
  let main_cst : FVec F S_ .f32 := constant S_ .f32 0x7F800000#32
  let main_v1 : FVec F S8x1024x64x192 .f32 := broadcastInDim S8x1024x64x192 ![] bcast_S_S8x1024x64x192 main_cst
  let main_v2 : IVec S8x1024x64x192 1 := cmpf .olt main_v0 main_v1
  let main_v3 : FVec F S8x1024x512 .f32 := Host.absf main_arg1
  let main_cst_0 : FVec F S_ .f32 := constant S_ .f32 0x7F800000#32
  let main_v4 : FVec F S8x1024x512 .f32 := broadcastInDim S8x1024x512 ![] bcast_S_S8x1024x512 main_cst_0
  let main_v5 : IVec S8x1024x512 1 := cmpf .olt main_v3 main_v4
  let main_v6 : FVec F S8x1024x64 .f32 := Host.absf main_arg2
  let main_cst_1 : FVec F S_ .f32 := constant S_ .f32 0x7F800000#32
  let main_v7 : FVec F S8x1024x64 .f32 := broadcastInDim S8x1024x64 ![] bcast_S_S8x1024x64 main_cst_1
  let main_v8 : IVec S8x1024x64 1 := cmpf .olt main_v6 main_v7
  let main_v9 : FVec F S512x16384 .f32 := Host.absf main_arg3
  let main_cst_2 : FVec F S_ .f32 := constant S_ .f32 0x7F800000#32
  let main_v10 : FVec F S512x16384 .f32 := broadcastInDim S512x16384 ![] bcast_S_S512x16384 main_cst_2
  let main_v11 : IVec S512x16384 1 := cmpf .olt main_v9 main_v10
  let main_v12 : FVec F S8x256x512 .f32 := Host.absf main_arg4
  let main_cst_3 : FVec F S_ .f32 := constant S_ .f32 0x7F800000#32
  let main_v13 : FVec F S8x256x512 .f32 := broadcastInDim S8x256x512 ![] bcast_S_S8x256x512 main_cst_3
  let main_v14 : IVec S8x256x512 1 := cmpf .olt main_v12 main_v13
  let main_v15 : FVec F S8x256x64 .f32 := Host.absf main_arg5
  let main_cst_4 : FVec F S_ .f32 := constant S_ .f32 0x7F800000#32
  let main_v16 : FVec F S8x256x64 .f32 := broadcastInDim S8x256x64 ![] bcast_S_S8x256x64 main_cst_4
  let main_v17 : IVec S8x256x64 1 := cmpf .olt main_v15 main_v16
  (main_v2, main_v5, main_v8, main_v11, main_v14, main_v17)
-- ==== Pre_finite_window.lean ====
abbrev S8192x6144 : Shape := ⟨2, ![8192, 6144]⟩
abbrev S8x256x8x128 : Shape := ⟨4, ![8, 256, 8, 128]⟩
abbrev S32 : Shape := ⟨1, ![32]⟩
abbrev S_ : Shape := ⟨0, ![]⟩

class Facts : Prop where
  bcast_S_S8192x6144 : S_.BroadcastsInDim S8192x6144 (![] : Fin 0 → Fin S8192x6144.rank)
  bcast_S_S8x256x8x128 : S_.BroadcastsInDim S8x256x8x128 (![] : Fin 0 → Fin S8x256x8x128.rank)
  bcast_S_S32 : S_.BroadcastsInDim S32 (![] : Fin 0 → Fin S32.rank)

variable [Facts]

def fn {F : FTy → Type} [FloatOps F] (main_arg0 : FVec F S8192x6144 .f32) (main_arg1 : FVec F S8x256x8x128 .f32) (main_arg2 : FVec F S8x256x8x128 .f32) (main_arg3 : FVec F S32 .f32) : IVec S8192x6144 1 × IVec S8x256x8x128 1 × IVec S8x256x8x128 1 × IVec S32 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S8x256x8x128 .f32 := Host.absf main_arg1
  let main_cst_0 : FVec F S_ .f32 := constant S_ .f32 0x7F800000#32
  let main_v4 : FVec F S8x256x8x128 .f32 := broadcastInDim S8x256x8x128 ![] bcast_S_S8x256x8x128 main_cst_0
  let main_v5 : IVec S8x256x8x128 1 := cmpf .olt main_v3 main_v4
  let main_v6 : FVec F S8x256x8x128 .f32 := Host.absf main_arg2
  let main_cst_1 : FVec F S_ .f32 := constant S_ .f32 0x7F800000#32
  let main_v7 : FVec F S8x256x8x128 .f32 := broadcastInDim S8x256x8x128 ![] bcast_S_S8x256x8x128 main_cst_1
  let main_v8 : IVec S8x256x8x128 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  (main_v2, main_v5, main_v8, main_v11)
-- ==== Kernel.lean ====
abbrev S8192x6144 : Shape := ⟨2, ![8192, 6144]⟩
abbrev S8x256x8x128 : Shape := ⟨4, ![8, 256, 8, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S1x1024x1x128 : Shape := ⟨4, ![1, 1024, 1, 128]⟩
abbrev S8x256x1024 : Shape := ⟨3, ![8, 256, 1024]⟩
abbrev S8192x4096 : Shape := ⟨2, ![8192, 4096]⟩
abbrev S1024x512 : Shape := ⟨2, ![1024, 512]⟩
abbrev S1x256x128 : Shape := ⟨3, ![1, 256, 128]⟩
abbrev S256x128 : Shape := ⟨2, ![256, 128]⟩
abbrev S1024x1024 : Shape := ⟨2, ![1024, 1024]⟩
abbrev S4x256x1024 : Shape := ⟨3, ![4, 256, 1024]⟩
abbrev S1024x256 : Shape := ⟨2, ![1024, 256]⟩
abbrev S4x256x256 : Shape := ⟨3, ![4, 256, 256]⟩
abbrev S4x256 : Shape := ⟨2, ![4, 256]⟩
abbrev S4x256x1 : Shape := ⟨3, ![4, 256, 1]⟩
abbrev S4x256x128 : Shape := ⟨3, ![4, 256, 128]⟩

abbrev nBuf : Space → Nat
  | .hbm => 47
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S8x256x8x128, .f32⟩
  | .hbm, ⟨2, _⟩ => ⟨S8x256x8x128, .f32⟩
  | .hbm, ⟨3, _⟩ => ⟨S16, .f32⟩
  | .hbm, ⟨4, _⟩ => ⟨S16x64, .f32⟩
  | .hbm, ⟨5, _⟩ => ⟨S1024, .f32⟩
  | .hbm, ⟨6, _⟩ => ⟨S64, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1024x1, .f32⟩
  | .hbm, ⟨19, _⟩ => ⟨S1x32, .f32⟩
  | .hbm, ⟨20, _⟩ => ⟨S1024x32, .f32⟩
  | .hbm, ⟨21, _⟩ => ⟨S1024x32, .f32⟩
  | .hbm, ⟨22, _⟩ => ⟨S1024x32, .f32⟩
  | .hbm, ⟨23, _⟩ => ⟨S1024x1, .f32⟩
  | .hbm, ⟨24, _⟩ => ⟨S1x32, .f32⟩
  | .hbm, ⟨25, _⟩ => ⟨S1024x32, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x128, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1024x32, .f32⟩
  | .hbm, ⟨37, _⟩ => ⟨S1024x128, .f32⟩
  | .hbm, ⟨38, _⟩ => ⟨S1x1024x1x128, .f32⟩
  | .hbm, ⟨39, _⟩ => ⟨S1x1024x1x128, .f32⟩
  | .hbm, ⟨40, _⟩ => ⟨S1024x128, .f32⟩
  | .hbm, ⟨41, _⟩ => ⟨S1x1024x1x128, .f32⟩
  | .hbm, ⟨42, _⟩ => ⟨S1x1024x1x128, .f32⟩
  | .hbm, ⟨43, _⟩ => ⟨S1024x128, .f32⟩
  | .hbm, ⟨44, _⟩ => ⟨S8x256x1024, .f32⟩
  | .hbm, ⟨45, _⟩ => ⟨S8x256x1024, .f32⟩
  | .hbm, ⟨46, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1024x128, .f32⟩
  | .local _ .vmem, ⟨11, _⟩ => ⟨S1024x128, .f32⟩
  | .local _ .vmem, ⟨12, _⟩ => ⟨S1024x512, .bf16⟩
  | .local _ .vmem, ⟨13, _⟩ => ⟨S1024x512, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S8192x6144 : Shape := ⟨2, ![8192, 6144]⟩
abbrev S8x256x8x128 : Shape := ⟨4, ![8, 256, 8, 128]⟩
abbrev S8x1024x6144 : Shape := ⟨3, ![8, 1024, 6144]⟩
abbrev S8x1024x4096 : Shape := ⟨3, ![8, 1024, 4096]⟩
abbrev S8x1024x32x128 : Shape := ⟨4, ![8, 1024, 32, 128]⟩
abbrev S8x1024x1024 : Shape := ⟨3, ![8, 1024, 1024]⟩
abbrev S8x1024x8x128 : Shape := ⟨4, ![8, 1024, 8, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x1x32 : Shape := ⟨3, ![1024, 1, 32]⟩
abbrev S8x1024x32x64 : Shape := ⟨4, ![8, 1024, 32, 64]⟩
abbrev S8x1024x32x32 : Shape := ⟨4, ![8, 1024, 32, 32]⟩
abbrev S1x1024x1x32 : Shape := ⟨4, ![1, 1024, 1, 32]⟩
abbrev S8x1024x8x4x128 : Shape := ⟨5, ![8, 1024, 8, 4, 128]⟩
abbrev S8x1024x8x64 : Shape := ⟨4, ![8, 1024, 8, 64]⟩
abbrev S8x1024x8x32 : Shape := ⟨4, ![8, 1024, 8, 32]⟩
abbrev S8x8x1024x1024x4 : Shape := ⟨5, ![8, 8, 1024, 1024, 4]⟩
abbrev S8x8x4x1024x1024 : Shape := ⟨5, ![8, 8, 4, 1024, 1024]⟩
abbrev S8x8x256x1024x4 : Shape := ⟨5, ![8, 8, 256, 1024, 4]⟩
abbrev S8x8x4x1024x256 : Shape := ⟨5, ![8, 8, 4, 1024, 256]⟩
abbrev S8x8x4x1024x1280 : Shape := ⟨5, ![8, 8, 4, 1024, 1280]⟩
abbrev S8x8x4x1024 : Shape := ⟨4, ![8, 8, 4, 1024]⟩
abbrev S8x8x4x1024x1 : Shape := ⟨5, ![8, 8, 4, 1024, 1]⟩
abbrev S8x8x128x4x1024 : Shape := ⟨5, ![8, 8, 128, 4, 1024]⟩
abbrev S8192x4096 : Shape := ⟨2, ![8192, 4096]⟩

abbrev nBuf : Space → Nat
  | .hbm => 153
  | .vmem => 0
  | .smem => 0
  | _ => 0

abbrev hbmTy0_0 (i : Nat) : BufTy := match i % 128 with
  | 0 => ⟨S8192x6144, .f32⟩
  | 1 => ⟨S8x256x8x128, .f32⟩
  | 2 => ⟨S8x256x8x128, .f32⟩
  | 3 => ⟨S8x1024x6144, .f32⟩
  | 4 => ⟨S8x1024x4096, .f32⟩
  | 5 => ⟨S8x1024x32x128, .f32⟩
  | 6 => ⟨S8x1024x1024, .f32⟩
  | 7 => ⟨S8x1024x8x128, .f32⟩
  | 8 => ⟨S8x1024x1024, .f32⟩
  | 9 => ⟨S8x1024x8x128, .f32⟩
  | 10 => ⟨S16, .f32⟩
  | 11 => ⟨S16x64, .f32⟩
  | 12 => ⟨S1024, .f32⟩
  | 13 => ⟨S64, .f32⟩
  | 14 => ⟨S1x64, .f32⟩
  | 15 => ⟨S16x64, .f32⟩
  | 16 => ⟨S1024, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S1024x1, .f32⟩
  | 26 => ⟨S1x32, .f32⟩
  | 27 => ⟨S1024x32, .f32⟩
  | 28 => ⟨S1024x32, .f32⟩
  | 29 => ⟨S1024x32, .f32⟩
  | 30 => ⟨S1024x1, .f32⟩
  | 31 => ⟨S1x32, .f32⟩
  | 32 => ⟨S1024x32, .f32⟩
  | 33 => ⟨S1024x32, .f32⟩
  | 34 => ⟨S1024x32, .f32⟩
  | 35 => ⟨S1024x32, .f32⟩
  | 36 => ⟨S1024x32, .f32⟩
  | 37 => ⟨S1024x32, .f32⟩
  | 38 => ⟨S1024x32, .f32⟩
  | 39 => ⟨S1024x1x32, .f32⟩
  | 40 => ⟨S1024x1x32, .f32⟩
  | 41 => ⟨S1024x1x32, .f32⟩
  | 42 => ⟨S1024x1x32, .f32⟩
  | 43 => ⟨S8x1024x32x64, .f32⟩
  | 44 => ⟨S8x1024x32x32, .f32⟩
  | 45 => ⟨S8x1024x32x32, .f32⟩
  | 46 => ⟨S1x1024x1x32, .f32⟩
  | 47 => ⟨S8x1024x32x32, .f32⟩
  | 48 => ⟨S8x1024x32x32, .f32⟩
  | 49 => ⟨S1x1024x1x32, .f32⟩
  | 50 => ⟨S8x1024x32x32, .f32⟩
  | 51 => ⟨S8x1024x32x32, .f32⟩
  | 52 => ⟨S8x1024x32x32, .f32⟩
  | 53 => ⟨S1x1024x1x32, .f32⟩
  | 54 => ⟨S8x1024x32x32, .f32⟩
  | 55 => ⟨S8x1024x32x32, .f32⟩
  | 56 => ⟨S1x1024x1x32, .f32⟩
  | 57 => ⟨S8x1024x32x32, .f32⟩
  | 58 => ⟨S8x1024x32x32, .f32⟩
  | 59 => ⟨S8x1024x32x32, .f32⟩
  | 60 => ⟨S8x1024x32x64, .f32⟩
  | 61 => ⟨S8x1024x32x64, .f32⟩
  | 62 => ⟨S8x1024x32x32, .f32⟩
  | 63 => ⟨S8x1024x32x32, .f32⟩
  | 64 => ⟨S1x1024x1x32, .f32⟩
  | 65 => ⟨S8x1024x32x32, .f32⟩
  | 66 => ⟨S8x1024x32x32, .f32⟩
  | 67 => ⟨S1x1024x1x32, .f32⟩
  | 68 => ⟨S8x1024x32x32, .f32⟩
  | 69 => ⟨S8x1024x32x32, .f32⟩
  | 70 => ⟨S8x1024x32x32, .f32⟩
  | 71 => ⟨S1x1024x1x32, .f32⟩
  | 72 => ⟨S8x1024x32x32, .f32⟩
  | 73 => ⟨S8x1024x32x32, .f32⟩
  | 74 => ⟨S1x1024x1x32, .f32⟩
  | 75 => ⟨S8x1024x32x32, .f32⟩
  | 76 => ⟨S8x1024x32x32, .f32⟩
  | 77 => ⟨S8x1024x32x32, .f32⟩
  | 78 => ⟨S8x1024x32x64, .f32⟩
  | 79 => ⟨S8x1024x32x128, .f32⟩
  | 80 => ⟨S8x1024x8x4x128, .f32⟩
  | 81 => ⟨S8x1024x8x4x128, .f32⟩
  | 82 => ⟨S8x1024x8x64, .f32⟩
  | 83 => ⟨S8x1024x8x32, .f32⟩
  | 84 => ⟨S8x1024x8x32, .f32⟩
  | 85 => ⟨S1x1024x1x32, .f32⟩
  | 86 => ⟨S8x1024x8x32, .f32⟩
  | 87 => ⟨S8x1024x8x32, .f32⟩
  | 88 => ⟨S1x1024x1x32, .f32⟩
  | 89 => ⟨S8x1024x8x32, .f32⟩
  | 90 => ⟨S8x1024x8x32, .f32⟩
  | 91 => ⟨S8x1024x8x32, .f32⟩
  | 92 => ⟨S1x1024x1x32, .f32⟩
  | 93 => ⟨S8x1024x8x32, .f32⟩
  | 94 => ⟨S8x1024x8x32, .f32⟩
  | 95 => ⟨S1x1024x1x32, .f32⟩
  | 96 => ⟨S8x1024x8x32, .f32⟩
  | 97 => ⟨S8x1024x8x32, .f32⟩
  | 98 => ⟨S8x1024x8x32, .f32⟩
  | 99 => ⟨S8x1024x8x64, .f32⟩
  | 100 => ⟨S8x1024x8x64, .f32⟩
  | 101 => ⟨S8x1024x8x32, .f32⟩
  | 102 => ⟨S8x1024x8x32, .f32⟩
  | 103 => ⟨S1x1024x1x32, .f32⟩
  | 104 => ⟨S8x1024x8x32, .f32⟩
  | 105 => ⟨S8x1024x8x32, .f32⟩
  | 106 => ⟨S1x1024x1x32, .f32⟩
  | 107 => ⟨S8x1024x8x32, .f32⟩
  | 108 => ⟨S8x1024x8x32, .f32⟩
  | 109 => ⟨S8x1024x8x32, .f32⟩
  | 110 => ⟨S1x1024x1x32, .f32⟩
  | 111 => ⟨S8x1024x8x32, .f32⟩
  | 112 => ⟨S8x1024x8x32, .f32⟩
  | 113 => ⟨S1x1024x1x32, .f32⟩
  | 114 => ⟨S8x1024x8x32, .f32⟩
  | 115 => ⟨S8x1024x8x32, .f32⟩
  | 116 => ⟨S8x1024x8x32, .f32⟩
  | 117 => ⟨S8x1024x8x64, .f32⟩
  | 118 => ⟨S8x1024x8x128, .f32⟩
  | 119 => ⟨S8x8x1024x1024x4, .f32⟩
  | 120 => ⟨S8x8x4x1024x1024, .f32⟩
  | 121 => ⟨S_, .f32⟩
  | 122 => ⟨S8x8x4x1024x1024, .f32⟩
  | 123 => ⟨S8x8x4x1024x1024, .f32⟩
  | 124 => ⟨S8x8x256x1024x4, .f32⟩
  | 125 => ⟨S8x8x4x1024x256, .f32⟩
  | 126 => ⟨S_, .f32⟩
  | 127 => ⟨S8x8x4x1024x256, .f32⟩
  | _ => ⟨S8192x6144, .f32⟩

abbrev hbmTy0_1 (i : Nat) : BufTy := match i % 128 with
  | 0 => ⟨S8x8x4x1024x256, .f32⟩
  | 1 => ⟨S8x8x4x1024x1280, .f32⟩
  | 2 => ⟨S_, .f32⟩
  | 3 => ⟨S8x8x4x1024, .f32⟩
  | 4 => ⟨S_, .f32⟩
  | 5 => ⟨S8x8x4x1024, .f32⟩
  | 6 => ⟨S8x8x4x1024, .f32⟩
  | 7 => ⟨S8x8x4x1024x1, .f32⟩
  | 8 => ⟨S8x8x4x1024x1280, .f32⟩
  | 9 => ⟨S8x8x4x1024x1280, .f32⟩
  | 10 => ⟨S8x8x4x1024x1280, .f32⟩
  | 11 => ⟨S_, .f32⟩
  | 12 => ⟨S8x8x4x1024, .f32⟩
  | 13 => ⟨S8x8x4x1024x1, .f32⟩
  | 14 => ⟨S8x8x4x1024x1280, .f32⟩
  | 15 => ⟨S8x8x4x1024x1280, .f32⟩
  | 16 => ⟨S8x8x4x1024x1024, .f32⟩
  | 17 => ⟨S8x8x128x4x1024, .f32⟩
  | 18 => ⟨S8x1024x8x4x128, .f32⟩
  | 19 => ⟨S8x8x4x1024x256, .f32⟩
  | 20 => ⟨S8x8x128x4x1024, .f32⟩
  | 21 => ⟨S8x1024x8x4x128, .f32⟩
  | 22 => ⟨S8x1024x8x4x128, .f32⟩
  | 23 => ⟨S8192x4096, .f32⟩
  | 24 => ⟨S8192x4096, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_cst_1 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_cst_2 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_cst_3 : Ref sig .tc := ⟨.hbm, 130, rfl⟩
abbrev main_v123 : Ref sig .tc := ⟨.hbm, 131, rfl⟩
abbrev main_cst_4 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_cst_5 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩

abbrev nD : Nat := 1
abbrev τ : Topo := Topo.v7x

variable {F : FTy → Type} [FloatOps F]
-- ==== Kernel2.lean ====
abbrev S8192x4096 : Shape := ⟨2, ![8192, 4096]⟩
abbrev S4096x22016 : Shape := ⟨2, ![4096, 22016]⟩
abbrev S8192x11264 : Shape := ⟨2, ![8192, 11264]⟩
abbrev S2048x4096 : Shape := ⟨2, ![2048, 4096]⟩
abbrev S4096x256 : Shape := ⟨2, ![4096, 256]⟩
abbrev S2048x256 : Shape := ⟨2, ![2048, 256]⟩
abbrev S8192x11008 : Shape := ⟨2, ![8192, 11008]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x22016, .f32⟩
  | .hbm, ⟨2, _⟩ => ⟨S8192x4096, .bf16⟩
  | .hbm, ⟨3, _⟩ => ⟨S8192x11264, .bf16⟩
  | .hbm, ⟨4, _⟩ => ⟨S8192x11008, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S2048x256, .bf16⟩
  | .local _ .vmem, ⟨6, _⟩ => ⟨S2048x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 44, 1], ![false, false, false]⟩

def k0_cond1 (i : grid0.Coords) : BitVec 1 :=
  let arg1 : BitVec 32 := BitVec.ofNat 32 (i 1).val
  let c43_i32 : BitVec 32 := 43#32
  let v0 : BitVec 1 := Scalar.cmpi .slt arg1 c43_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c43_i32_0 : BitVec 32 := 43#32
  let v3 : BitVec 1 := Scalar.cmpi .sge arg1 c43_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let v0 : BitVec 32 := Scalar.minsi arg1 c42_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let v0 : BitVec 32 := Scalar.minsi arg1 c42_i32
  let c43_i32 : BitVec 32 := 43#32
  let v1 : BitVec 32 := Scalar.addi c43_i32 v0
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x4096 : Shape := ⟨2, ![8192, 4096]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x22016, .f32⟩
  | .hbm, ⟨2, _⟩ => ⟨S8192x22016, .f32⟩
  | .hbm, ⟨3, _⟩ => ⟨S8192x11008, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S_, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S8x9x4096 : Shape := ⟨3, ![8, 9, 4096]⟩
abbrev S_ : Shape := ⟨0, ![]⟩
abbrev S8192x11264 : Shape := ⟨2, ![8192, 11264]⟩
abbrev S11264x4096 : Shape := ⟨2, ![11264, 4096]⟩
abbrev S8x1x36864 : Shape := ⟨3, ![8, 1, 36864]⟩
abbrev S16x1x36864 : Shape := ⟨3, ![16, 1, 36864]⟩
abbrev S2048x1024 : Shape := ⟨2, ![2048, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 17
  | .vmem => 10
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S8x9x4096, .f32⟩
  | .hbm, ⟨4, _⟩ => ⟨S8192x11008, .bf16⟩
  | .hbm, ⟨5, _⟩ => ⟨S_, .i32⟩
  | .hbm, ⟨6, _⟩ => ⟨S_, .bf16⟩
  | .hbm, ⟨7, _⟩ => ⟨S8192x11264, .bf16⟩
  | .hbm, ⟨8, _⟩ => ⟨S11008x4096, .bf16⟩
  | .hbm, ⟨9, _⟩ => ⟨S_, .i32⟩
  | .hbm, ⟨10, _⟩ => ⟨S_, .bf16⟩
  | .hbm, ⟨11, _⟩ => ⟨S11264x4096, .bf16⟩
  | .hbm, ⟨12, _⟩ => ⟨S8x1x36864, .f32⟩
  | .hbm, ⟨13, _⟩ => ⟨S_, .i32⟩
  | .hbm, ⟨14, _⟩ => ⟨S_, .f32⟩
  | .hbm, ⟨15, _⟩ => ⟨S16x1x36864, .f32⟩
  | .hbm, ⟨16, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2x1x1024, .f32⟩
  | .local _ .vmem, ⟨7, _⟩ => ⟨S2x1x1024, .f32⟩
  | .local _ .vmem, ⟨8, _⟩ => ⟨S2048x1024, .f32⟩
  | .local _ .vmem, ⟨9, _⟩ => ⟨S2048x1024, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  let c0_i32_1 : BitVec 32 := 0#32
  ![v0.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩
abbrev S8x9x4096 : Shape := ⟨3, ![8, 9, 4096]⟩
abbrev S8x1x4096 : Shape := ⟨3, ![8, 1, 4096]⟩
abbrev S8x4096 : Shape := ⟨2, ![8, 4096]⟩
abbrev S8x1024x4096 : Shape := ⟨3, ![8, 1024, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S8x9x4096, .f32⟩
  | .hbm, ⟨4, _⟩ => ⟨S8x1x4096, .f32⟩
  | .hbm, ⟨5, _⟩ => ⟨S8x4096, .f32⟩
  | .hbm, ⟨6, _⟩ => ⟨S8x1x4096, .f32⟩
  | .hbm, ⟨7, _⟩ => ⟨S8x1024x4096, .f32⟩
  | .hbm, ⟨8, _⟩ => ⟨S8192x4096, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1x4096, .f32⟩
  | .hbm, ⟨15, _⟩ => ⟨S8x1x4096, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S8x9x4096 : Shape := ⟨3, ![8, 9, 4096]⟩
abbrev S8x1x36864 : Shape := ⟨3, ![8, 1, 36864]⟩
abbrev S_ : Shape := ⟨0, ![]⟩
abbrev S16x1x36864 : Shape := ⟨3, ![16, 1, 36864]⟩
abbrev S2048x1024 : Shape := ⟨2, ![2048, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8x9x4096, .f32⟩
  | .hbm, ⟨4, _⟩ => ⟨S8x1x36864, .f32⟩
  | .hbm, ⟨5, _⟩ => ⟨S_, .i32⟩
  | .hbm, ⟨6, _⟩ => ⟨S_, .f32⟩
  | .hbm, ⟨7, _⟩ => ⟨S16x1x36864, .f32⟩
  | .hbm, ⟨8, _⟩ => ⟨S8192x4096, .bf16⟩
  | .hbm, ⟨9, _⟩ => ⟨S4096x4096, .bf16⟩
  | .hbm, ⟨10, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2x1x1024, .f32⟩
  | .local _ .vmem, ⟨7, _⟩ => ⟨S2x1x1024, .f32⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c20_i32 : BitVec 32 := 20#32
  let v1 : BitVec 32 := Scalar.addi c20_i32 arg1
  let c0_i32_0 : BitVec 32 := 0#32
  let c0_i32_1 : BitVec 32 := 0#32
  ![v0.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x4096 : Shape := ⟨2, ![8192, 4096]⟩
abbrev S4096x4096 : Shape := ⟨2, ![4096, 4096]⟩
abbrev S8x9x4096 : Shape := ⟨3, ![8, 9, 4096]⟩
abbrev S8x1x4096 : Shape := ⟨3, ![8, 1, 4096]⟩
abbrev S8x4096 : Shape := ⟨2, ![8, 4096]⟩
abbrev S8x1024x4096 : Shape := ⟨3, ![8, 1024, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8x9x4096, .f32⟩
  | .hbm, ⟨4, _⟩ => ⟨S8x1x4096, .f32⟩
  | .hbm, ⟨5, _⟩ => ⟨S8x4096, .f32⟩
  | .hbm, ⟨6, _⟩ => ⟨S8x1x4096, .f32⟩
  | .hbm, ⟨7, _⟩ => ⟨S8x1024x4096, .f32⟩
  | .hbm, ⟨8, _⟩ => ⟨S8x1024x4096, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S4096x4096 : Shape := ⟨2, ![4096, 4096]⟩
abbrev S4096x6144 : Shape := ⟨2, ![4096, 6144]⟩
abbrev S128 : Shape := ⟨1, ![128]⟩
abbrev S1x128 : Shape := ⟨2, ![1, 128]⟩
abbrev S32x128 : Shape := ⟨2, ![32, 128]⟩
abbrev S4096 : Shape := ⟨1, ![4096]⟩
abbrev S8x128 : Shape := ⟨2, ![8, 128]⟩
abbrev S1024 : Shape := ⟨1, ![1024]⟩
abbrev S_ : Shape := ⟨0, ![]⟩
abbrev S6144 : Shape := ⟨1, ![6144]⟩
abbrev S1x6144 : Shape := ⟨2, ![1, 6144]⟩
abbrev S8x6144 : Shape := ⟨2, ![8, 6144]⟩
abbrev S1024x4096 : Shape := ⟨2, ![1024, 4096]⟩
abbrev S4096x1024 : Shape := ⟨2, ![4096, 1024]⟩
abbrev S8x1024 : Shape := ⟨2, ![8, 1024]⟩
abbrev S1024x1024 : Shape := ⟨2, ![1024, 1024]⟩
abbrev S1024x128 : Shape := ⟨2, ![1024, 128]⟩
abbrev S1024x1 : Shape := ⟨2, ![1024, 1]⟩
abbrev S16x256x8x128 : Shape := ⟨4, ![16, 256, 8, 128]⟩

abbrev nBuf : Space → Nat
  | .hbm => 23
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S32x128, .f32⟩
  | .hbm, ⟨6, _⟩ => ⟨S4096, .f32⟩
  | .hbm, ⟨7, _⟩ => ⟨S1x128, .f32⟩
  | .hbm, ⟨8, _⟩ => ⟨S8x128, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S6144, .f32⟩
  | .hbm, ⟨13, _⟩ => ⟨S1x6144, .f32⟩
  | .hbm, ⟨14, _⟩ => ⟨S8x6144, .f32⟩
  | .hbm, ⟨15, _⟩ => ⟨S4096x4096, .bf16⟩
  | .hbm, ⟨16, _⟩ => ⟨S4096x6144, .bf16⟩
  | .hbm, ⟨17, _⟩ => ⟨S4096x6144, .f32⟩
  | .hbm, ⟨18, _⟩ => ⟨S4096x4096, .f32⟩
  | .hbm, ⟨19, _⟩ => ⟨S4096x1024, .f32⟩
  | .hbm, ⟨20, _⟩ => ⟨S16x256x8x128, .f32⟩
  | .hbm, ⟨21, _⟩ => ⟨S4096x1024, .f32⟩
  | .hbm, ⟨22, _⟩ => ⟨S16x256x8x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def k0_cond1 (i : grid0.Coords) : BitVec 1 :=
  let arg1 : BitVec 32 := BitVec.ofNat 32 (i 1).val
  let c5_i32 : BitVec 32 := 5#32
  let v0 : BitVec 1 := Scalar.cmpi .slt arg1 c5_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c5_i32_0 : BitVec 32 := 5#32
  let v3 : BitVec 1 := Scalar.cmpi .sge arg1 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg1 c5_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x4096 : Shape := ⟨2, ![4096, 4096]⟩
abbrev S4096x6144 : Shape := ⟨2, ![4096, 6144]⟩
abbrev S128 : Shape := ⟨1, ![128]⟩
abbrev S16x256x4096 : Shape := ⟨3, ![16, 256, 4096]⟩
abbrev S16x256x6144 : Shape := ⟨3, ![16, 256, 6144]⟩
abbrev S16x256x32x128 : Shape := ⟨4, ![16, 256, 32, 128]⟩
abbrev S16x256x1024 : Shape := ⟨3, ![16, 256, 1024]⟩
abbrev S16x256x8x128 : Shape := ⟨4, ![16, 256, 8, 128]⟩
abbrev S_ : Shape := ⟨0, ![]⟩
abbrev S16x256x32 : Shape := ⟨3, ![16, 256, 32]⟩
abbrev S16x256x32x1 : Shape := ⟨4, ![16, 256, 32, 1]⟩
abbrev S1x1x1x128 : Shape := ⟨4, ![1, 1, 1, 128]⟩
abbrev S16x256x8 : Shape := ⟨3, ![16, 256, 8]⟩
abbrev S16x256x8x1 : Shape := ⟨4, ![16, 256, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S16x256x4096, .f32⟩
  | .hbm, ⟨5, _⟩ => ⟨S16x256x6144, .f32⟩
  | .hbm, ⟨6, _⟩ => ⟨S16x256x4096, .f32⟩
  | .hbm, ⟨7, _⟩ => ⟨S16x256x32x128, .f32⟩
  | .hbm, ⟨8, _⟩ => ⟨S16x256x1024, .f32⟩
  | .hbm, ⟨9, _⟩ => ⟨S16x256x8x128, .f32⟩
  | .hbm, ⟨10, _⟩ => ⟨S16x256x1024, .f32⟩
  | .hbm, ⟨11, _⟩ => ⟨S16x256x8x128, .f32⟩
  | .hbm, ⟨12, _⟩ => ⟨S16x256x32x128, .f32⟩
  | .hbm, ⟨13, _⟩ => ⟨S_, .f32⟩
  | .hbm, ⟨14, _⟩ => ⟨S16x256x32, .f32⟩
  | .hbm, ⟨15, _⟩ => ⟨S16x256x32x1, .f32⟩
  | .hbm, ⟨16, _⟩ => ⟨S_, .f32⟩
  | .hbm, ⟨17, _⟩ => ⟨S16x256x32x1, .f32⟩
  | .hbm, ⟨18, _⟩ => ⟨S16x256x32x1, .f32⟩
  | .hbm, ⟨19, _⟩ => ⟨S_, .f32⟩
  | .hbm, ⟨20, _⟩ => ⟨S16x256x32x1, .f32⟩
  | .hbm, ⟨21, _⟩ => ⟨S16x256x32x1, .f32⟩
  | .hbm, ⟨22, _⟩ => ⟨S16x256x32x1, .f32⟩
  | .hbm, ⟨23, _⟩ => ⟨S16x256x32x128, .f32⟩
  | .hbm, ⟨24, _⟩ => ⟨S16x256x32x128, .f32⟩
  | .hbm, ⟨25, _⟩ => ⟨S1x1x1x128, .f32⟩
  | .hbm, ⟨26, _⟩ => ⟨S16x256x32x128, .f32⟩
  | .hbm, ⟨27, _⟩ => ⟨S16x256x32x128, .f32⟩
  | .hbm, ⟨28, _⟩ => ⟨S4096x4096, .f32⟩
  | .hbm, ⟨29, _⟩ => ⟨S16x256x8x128, .f32⟩
  | .hbm, ⟨30, _⟩ => ⟨S_, .f32⟩
  | .hbm, ⟨31, _⟩ => ⟨S16x256x8, .f32⟩
  | .hbm, ⟨32, _⟩ => ⟨S16x256x8x1, .f32⟩
  | .hbm, ⟨33, _⟩ => ⟨S_, .f32⟩
  | .hbm, ⟨34, _⟩ => ⟨S16x256x8x1, .f32⟩
  | .hbm, ⟨35, _⟩ => ⟨S16x256x8x1, .f32⟩
  | .hbm, ⟨36, _⟩ => ⟨S_, .f32⟩
  | .hbm, ⟨37, _⟩ => ⟨S16x256x8x1, .f32⟩
  | .hbm, ⟨38, _⟩ => ⟨S16x256x8x1, .f32⟩
  | .hbm, ⟨39, _⟩ => ⟨S16x256x8x1, .f32⟩
  | .hbm, ⟨40, _⟩ => ⟨S16x256x8x128, .f32⟩
  | .hbm, ⟨41, _⟩ => ⟨S16x256x8x128, .f32⟩
  | .hbm, ⟨42, _⟩ => ⟨S1x1x1x128, .f32⟩
  | .hbm, ⟨43, _⟩ => ⟨S16x256x8x128, .f32⟩
  | .hbm, ⟨44, _⟩ => ⟨S16x256x8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel6.lean ====
abbrev S4096x4096 : Shape := ⟨2, ![4096, 4096]⟩
abbrev S4096x576 : Shape := ⟨2, ![4096, 576]⟩
abbrev S512 : Shape := ⟨1, ![512]⟩
abbrev S_ : Shape := ⟨0, ![]⟩
abbrev S4096x640 : Shape := ⟨2, ![4096, 640]⟩
abbrev S1x512 : Shape := ⟨2, ![1, 512]⟩
abbrev S8x512 : Shape := ⟨2, ![8, 512]⟩
abbrev S4096x512 : Shape := ⟨2, ![4096, 512]⟩
abbrev S4096x128 : Shape := ⟨2, ![4096, 128]⟩
abbrev S1024x4096 : Shape := ⟨2, ![1024, 4096]⟩
abbrev S1024x512 : Shape := ⟨2, ![1024, 512]⟩
abbrev S1024x128 : Shape := ⟨2, ![1024, 128]⟩
abbrev S1024x640 : Shape := ⟨2, ![1024, 640]⟩
abbrev S1024 : Shape := ⟨1, ![1024]⟩
abbrev S1024x1 : Shape := ⟨2, ![1024, 1]⟩
abbrev S16x256x512 : Shape := ⟨3, ![16, 256, 512]⟩
abbrev S4096x64 : Shape := ⟨2, ![4096, 64]⟩
abbrev S16x256x64 : Shape := ⟨3, ![16, 256, 64]⟩

abbrev nBuf : Space → Nat
  | .hbm => 15
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x576, .f32⟩
  | .hbm, ⟨2, _⟩ => ⟨S512, .f32⟩
  | .hbm, ⟨3, _⟩ => ⟨S4096x576, .bf16⟩
  | .hbm, ⟨4, _⟩ => ⟨S_, .i32⟩
  | .hbm, ⟨5, _⟩ => ⟨S_, .bf16⟩
  | .hbm, ⟨6, _⟩ => ⟨S4096x640, .bf16⟩
  | .hbm, ⟨7, _⟩ => ⟨S1x512, .f32⟩
  | .hbm, ⟨8, _⟩ => ⟨S8x512, .f32⟩
  | .hbm, ⟨9, _⟩ => ⟨S4096x4096, .bf16⟩
  | .hbm, ⟨10, _⟩ => ⟨S4096x512, .f32⟩
  | .hbm, ⟨11, _⟩ => ⟨S4096x128, .f32⟩
  | .hbm, ⟨12, _⟩ => ⟨S16x256x512, .f32⟩
  | .hbm, ⟨13, _⟩ => ⟨S4096x64, .f32⟩
  | .hbm, ⟨14, _⟩ => ⟨S16x256x64, .f32⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg1 c0_i32
  let c0_i32_0 : BitVec 32 := 0#32
  let v1 : BitVec 32 := Scalar.addi c0_i32_0 v0
  let c0_i32_1 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference6Ideal.lean ====
abbrev S4096x4096 : Shape := ⟨2, ![4096, 4096]⟩
abbrev S4096x576 : Shape := ⟨2, ![4096, 576]⟩
abbrev S512 : Shape := ⟨1, ![512]⟩
abbrev S16x256x4096 : Shape := ⟨3, ![16, 256, 4096]⟩
abbrev S16x256x576 : Shape := ⟨3, ![16, 256, 576]⟩
abbrev S16x256x512 : Shape := ⟨3, ![16, 256, 512]⟩
abbrev S_ : Shape := ⟨0, ![]⟩
abbrev S16x256 : Shape := ⟨2, ![16, 256]⟩
abbrev S16x256x1 : Shape := ⟨3, ![16, 256, 1]⟩
abbrev S1x1x512 : Shape := ⟨3, ![1, 1, 512]⟩
abbrev S16x256x64 : Shape := ⟨3, ![16, 256, 64]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x576, .f32⟩
  | .hbm, ⟨2, _⟩ => ⟨S512, .f32⟩
  | .hbm, ⟨3, _⟩ => ⟨S16x256x4096, .f32⟩
  | .hbm, ⟨4, _⟩ => ⟨S16x256x576, .f32⟩
  | .hbm, ⟨5, _⟩ => ⟨S16x256x512, .f32⟩
  | .hbm, ⟨6, _⟩ => ⟨S16x256x512, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x512, .f32⟩
  | .hbm, ⟨18, _⟩ => ⟨S16x256x512, .f32⟩
  | .hbm, ⟨19, _⟩ => ⟨S1x1x512, .f32⟩
  | .hbm, ⟨20, _⟩ => ⟨S16x256x512, .f32⟩
  | .hbm, ⟨21, _⟩ => ⟨S16x256x512, .f32⟩
  | .hbm, ⟨22, _⟩ => ⟨S16x256x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S8x9x4096 : Shape := ⟨3, ![8, 9, 4096]⟩
abbrev S8x1x36864 : Shape := ⟨3, ![8, 1, 36864]⟩
abbrev S_ : Shape := ⟨0, ![]⟩
abbrev S16x1x36864 : Shape := ⟨3, ![16, 1, 36864]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S8x9x4096, .f32⟩
  | .hbm, ⟨4, _⟩ => ⟨S8x1x36864, .f32⟩
  | .hbm, ⟨5, _⟩ => ⟨S_, .i32⟩
  | .hbm, ⟨6, _⟩ => ⟨S_, .f32⟩
  | .hbm, ⟨7, _⟩ => ⟨S16x1x36864, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c6_i32 : BitVec 32 := 6#32
  let c0_i32_6 : BitVec 32 := 0#32
  ![v18.toNat, c0_i32_5.toNat, c6_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c7_i32 : BitVec 32 := 7#32
  let c0_i32_6 : BitVec 32 := 0#32
  ![v18.toNat, c0_i32_5.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x4096 : Shape := ⟨2, ![8192, 4096]⟩
abbrev S4096 : Shape := ⟨1, ![4096]⟩
abbrev S8x9x4096 : Shape := ⟨3, ![8, 9, 4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S1x1x4096 : Shape := ⟨3, ![1, 1, 4096]⟩
abbrev S8x1x4096 : Shape := ⟨3, ![8, 1, 4096]⟩
abbrev S8x4096 : Shape := ⟨2, ![8, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S8x9x4096, .f32⟩
  | .hbm, ⟨4, _⟩ => ⟨S8x1024x4096, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S_, .f32⟩
  | .hbm, ⟨9, _⟩ => ⟨S8x1024x1, .f32⟩
  | .hbm, ⟨10, _⟩ => ⟨S8x1024x1, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S8x1024x1, .f32⟩
  | .hbm, ⟨24, _⟩ => ⟨S8x1024x4096, .f32⟩
  | .hbm, ⟨25, _⟩ => ⟨S8x1024x4096, .f32⟩
  | .hbm, ⟨26, _⟩ => ⟨S1x1x4096, .f32⟩
  | .hbm, ⟨27, _⟩ => ⟨S8x1024x4096, .f32⟩
  | .hbm, ⟨28, _⟩ => ⟨S8x1024x4096, .f32⟩
  | .hbm, ⟨29, _⟩ => ⟨S1x1x4096, .f32⟩
  | .hbm, ⟨30, _⟩ => ⟨S8x1024x4096, .f32⟩
  | .hbm, ⟨31, _⟩ => ⟨S8x1024x4096, .f32⟩
  | .hbm, ⟨32, _⟩ => ⟨S8x1x4096, .f32⟩
  | .hbm, ⟨33, _⟩ => ⟨S8x4096, .f32⟩
  | .hbm, ⟨34, _⟩ => ⟨S8x1x4096, .f32⟩
  | .hbm, ⟨35, _⟩ => ⟨S_, .f32⟩
  | .hbm, ⟨36, _⟩ => ⟨S8x1x4096, .f32⟩
  | .hbm, ⟨37, _⟩ => ⟨S8x1x4096, .f32⟩
  | .hbm, ⟨38, _⟩ => ⟨S8x1024x4096, .f32⟩
  | .hbm, ⟨39, _⟩ => ⟨S8x1024x4096, .f32⟩
  | .hbm, ⟨40, _⟩ => ⟨S8x1x4096, .f32⟩
  | .hbm, ⟨41, _⟩ => ⟨S8x4096, .f32⟩
  | .hbm, ⟨42, _⟩ => ⟨S8x1x4096, .f32⟩
  | .hbm, ⟨43, _⟩ => ⟨S8x1024x4096, .f32⟩
  | .hbm, ⟨44, _⟩ => ⟨S8x1024x4096, .f32⟩
  | .hbm, ⟨45, _⟩ => ⟨S8192x4096, .f32⟩
  | .hbm, ⟨46, _⟩ => ⟨S8192x4096, .f32⟩
  | .hbm, ⟨47, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel8.lean ====
abbrev S8192x8192 : Shape := ⟨2, ![8192, 8192]⟩
abbrev S8192x4096 : Shape := ⟨2, ![8192, 4096]⟩
abbrev S8x9x4096 : Shape := ⟨3, ![8, 9, 4096]⟩
abbrev S8x1x36864 : Shape := ⟨3, ![8, 1, 36864]⟩
abbrev S_ : Shape := ⟨0, ![]⟩
abbrev S16x1x36864 : Shape := ⟨3, ![16, 1, 36864]⟩
abbrev S2048x1024 : Shape := ⟨2, ![2048, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8x9x4096, .f32⟩
  | .hbm, ⟨4, _⟩ => ⟨S8x1x36864, .f32⟩
  | .hbm, ⟨5, _⟩ => ⟨S_, .i32⟩
  | .hbm, ⟨6, _⟩ => ⟨S_, .f32⟩
  | .hbm, ⟨7, _⟩ => ⟨S16x1x36864, .f32⟩
  | .hbm, ⟨8, _⟩ => ⟨S8192x8192, .bf16⟩
  | .hbm, ⟨9, _⟩ => ⟨S8192x4096, .bf16⟩
  | .hbm, ⟨10, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2x1x1024, .f32⟩
  | .local _ .vmem, ⟨7, _⟩ => ⟨S2x1x1024, .f32⟩
  | .local _ .vmem, ⟨8, _⟩ => ⟨S2048x1024, .f32⟩
  | .local _ .vmem, ⟨9, _⟩ => ⟨S2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c7_i32 : BitVec 32 := 7#32
  let v4 : BitVec 1 := Scalar.cmpi .slt arg2 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c20_i32 : BitVec 32 := 20#32
  let v1 : BitVec 32 := Scalar.addi c20_i32 arg1
  let c0_i32_0 : BitVec 32 := 0#32
  let c0_i32_1 : BitVec 32 := 0#32
  ![v0.toNat, c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S8192x8192 : Shape := ⟨2, ![8192, 8192]⟩
abbrev S8192x4096 : Shape := ⟨2, ![8192, 4096]⟩
abbrev S8x9x4096 : Shape := ⟨3, ![8, 9, 4096]⟩
abbrev S8x1x4096 : Shape := ⟨3, ![8, 1, 4096]⟩
abbrev S8x4096 : Shape := ⟨2, ![8, 4096]⟩
abbrev S8x1024x4096 : Shape := ⟨3, ![8, 1024, 4096]⟩
abbrev S8x1024x8192 : Shape := ⟨3, ![8, 1024, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8x9x4096, .f32⟩
  | .hbm, ⟨4, _⟩ => ⟨S8x1x4096, .f32⟩
  | .hbm, ⟨5, _⟩ => ⟨S8x4096, .f32⟩
  | .hbm, ⟨6, _⟩ => ⟨S8x1x4096, .f32⟩
  | .hbm, ⟨7, _⟩ => ⟨S8x1024x4096, .f32⟩
  | .hbm, ⟨8, _⟩ => ⟨S8x1024x8192, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S4096x4096 : Shape := ⟨2, ![4096, 4096]⟩
abbrev S4096x6144 : Shape := ⟨2, ![4096, 6144]⟩
abbrev S1024x4096 : Shape := ⟨2, ![1024, 4096]⟩
abbrev S4096x1024 : Shape := ⟨2, ![4096, 1024]⟩
abbrev S1024x1024 : Shape := ⟨2, ![1024, 1024]⟩
abbrev S16x256x8x128 : Shape := ⟨4, ![16, 256, 8, 128]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S4096x4096, .bf16⟩
  | .hbm, ⟨3, _⟩ => ⟨S4096x6144, .bf16⟩
  | .hbm, ⟨4, _⟩ => ⟨S4096x6144, .f32⟩
  | .hbm, ⟨5, _⟩ => ⟨S4096x4096, .f32⟩
  | .hbm, ⟨6, _⟩ => ⟨S4096x1024, .f32⟩
  | .hbm, ⟨7, _⟩ => ⟨S16x256x8x128, .f32⟩
  | .hbm, ⟨8, _⟩ => ⟨S4096x1024, .f32⟩
  | .hbm, ⟨9, _⟩ => ⟨S16x256x8x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg1 c5_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S4096x6144 : Shape := ⟨2, ![4096, 6144]⟩
abbrev S16x256x4096 : Shape := ⟨3, ![16, 256, 4096]⟩
abbrev S16x256x6144 : Shape := ⟨3, ![16, 256, 6144]⟩
abbrev S16x256x1024 : Shape := ⟨3, ![16, 256, 1024]⟩
abbrev S16x256x8x128 : Shape := ⟨4, ![16, 256, 8, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S16x256x4096, .f32⟩
  | .hbm, ⟨3, _⟩ => ⟨S16x256x6144, .f32⟩
  | .hbm, ⟨4, _⟩ => ⟨S16x256x4096, .f32⟩
  | .hbm, ⟨5, _⟩ => ⟨S4096x4096, .f32⟩
  | .hbm, ⟨6, _⟩ => ⟨S16x256x1024, .f32⟩
  | .hbm, ⟨7, _⟩ => ⟨S16x256x8x128, .f32⟩
  | .hbm, ⟨8, _⟩ => ⟨S16x256x1024, .f32⟩
  | .hbm, ⟨9, _⟩ => ⟨S16x256x8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel10.lean ====
abbrev S8192x4096 : Shape := ⟨2, ![8192, 4096]⟩
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S8192x1024 : Shape := ⟨2, ![8192, 1024]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S8x1024, .f32⟩
  | .hbm, ⟨5, _⟩ => ⟨S8192x4096, .bf16⟩
  | .hbm, ⟨6, _⟩ => ⟨S4096x1024, .bf16⟩
  | .hbm, ⟨7, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S8x1024, .f32⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg1 c0_i32
  let c0_i32_0 : BitVec 32 := 0#32
  let v1 : BitVec 32 := Scalar.addi c0_i32_0 v0
  let c0_i32_1 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference10Ideal.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S8192x1024 : Shape := ⟨2, ![8192, 1024]⟩
abbrev S1024x12288 : Shape := ⟨2, ![1024, 12288]⟩
abbrev S1024x64x192 : Shape := ⟨3, ![1024, 64, 192]⟩
abbrev S1024x64x128 : Shape := ⟨3, ![1024, 64, 128]⟩
abbrev S1024x8192 : Shape := ⟨2, ![1024, 8192]⟩
abbrev S1024x64x64 : Shape := ⟨3, ![1024, 64, 64]⟩
abbrev S1024x4096 : Shape := ⟨2, ![1024, 4096]⟩
abbrev S8192x12288 : Shape := ⟨2, ![8192, 12288]⟩
abbrev S1024x1024 : Shape := ⟨2, ![1024, 1024]⟩
abbrev S1024x2048 : Shape := ⟨2, ![1024, 2048]⟩
abbrev S8192x8192 : Shape := ⟨2, ![8192, 8192]⟩
abbrev S8192x64x128 : Shape := ⟨3, ![8192, 64, 128]⟩
abbrev S8192x4096 : Shape := ⟨2, ![8192, 4096]⟩
abbrev S8192x64x64 : Shape := ⟨3, ![8192, 64, 64]⟩

abbrev nBuf : Space → Nat
  | .hbm => 15
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x12288, .f32⟩
  | .hbm, ⟨2, _⟩ => ⟨S1024x12288, .bf16⟩
  | .hbm, ⟨3, _⟩ => ⟨S1024x64x192, .bf16⟩
  | .hbm, ⟨4, _⟩ => ⟨S1024x64x128, .bf16⟩
  | .hbm, ⟨5, _⟩ => ⟨S1024x8192, .bf16⟩
  | .hbm, ⟨6, _⟩ => ⟨S1024x64x64, .bf16⟩
  | .hbm, ⟨7, _⟩ => ⟨S1024x4096, .bf16⟩
  | .hbm, ⟨8, _⟩ => ⟨S1024x12288, .bf16⟩
  | .hbm, ⟨9, _⟩ => ⟨S8192x1024, .bf16⟩
  | .hbm, ⟨10, _⟩ => ⟨S8192x12288, .f32⟩
  | .hbm, ⟨11, _⟩ => ⟨S8192x8192, .f32⟩
  | .hbm, ⟨12, _⟩ => ⟨S8192x64x128, .f32⟩
  | .hbm, ⟨13, _⟩ => ⟨S8192x4096, .f32⟩
  | .hbm, ⟨14, _⟩ => ⟨S8192x64x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg1 c5_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x12288 : Shape := ⟨2, ![1024, 12288]⟩
abbrev S8192x12288 : Shape := ⟨2, ![8192, 12288]⟩
abbrev S8192x64x192 : Shape := ⟨3, ![8192, 64, 192]⟩
abbrev S8192x64x128 : Shape := ⟨3, ![8192, 64, 128]⟩
abbrev S8192x64x64 : Shape := ⟨3, ![8192, 64, 64]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x12288, .f32⟩
  | .hbm, ⟨2, _⟩ => ⟨S8192x12288, .f32⟩
  | .hbm, ⟨3, _⟩ => ⟨S8192x64x192, .f32⟩
  | .hbm, ⟨4, _⟩ => ⟨S8192x64x128, .f32⟩
  | .hbm, ⟨5, _⟩ => ⟨S8192x64x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8x1024x4096 : Shape := ⟨3, ![8, 1024, 4096]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8x1024x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x4096 : Shape := ⟨2, ![8192, 4096]⟩
abbrev S4096 : Shape := ⟨1, ![4096]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S8x1024x4096, .f32⟩
  | .hbm, ⟨4, _⟩ => ⟨S_, .f32⟩
  | .hbm, ⟨5, _⟩ => ⟨S8x1024, .f32⟩
  | .hbm, ⟨6, _⟩ => ⟨S8x1024x1, .f32⟩
  | .hbm, ⟨7, _⟩ => ⟨S_, .f32⟩
  | .hbm, ⟨8, _⟩ => ⟨S8x1024x1, .f32⟩
  | .hbm, ⟨9, _⟩ => ⟨S8x1024x1, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S_, .f32⟩
  | .hbm, ⟨20, _⟩ => ⟨S8x1024x1, .f32⟩
  | .hbm, ⟨21, _⟩ => ⟨S8x1024x1, .f32⟩
  | .hbm, ⟨22, _⟩ => ⟨S8x1024x1, .f32⟩
  | .hbm, ⟨23, _⟩ => ⟨S8x1024x4096, .f32⟩
  | .hbm, ⟨24, _⟩ => ⟨S8x1024x4096, .f32⟩
  | .hbm, ⟨25, _⟩ => ⟨S1x1x4096, .f32⟩
  | .hbm, ⟨26, _⟩ => ⟨S8x1024x4096, .f32⟩
  | .hbm, ⟨27, _⟩ => ⟨S8x1024x4096, .f32⟩
  | .hbm, ⟨28, _⟩ => ⟨S1x1x4096, .f32⟩
  | .hbm, ⟨29, _⟩ => ⟨S8x1024x4096, .f32⟩
  | .hbm, ⟨30, _⟩ => ⟨S8x1024x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel13.lean ====
abbrev S8x1024x64x192 : Shape := ⟨4, ![8, 1024, 64, 192]⟩
abbrev S8x1024x512 : Shape := ⟨3, ![8, 1024, 512]⟩
abbrev S8x1024x64 : Shape := ⟨3, ![8, 1024, 64]⟩
abbrev S512x16384 : Shape := ⟨2, ![512, 16384]⟩
abbrev S8x256x512 : Shape := ⟨3, ![8, 256, 512]⟩
abbrev S8x256x64 : Shape := ⟨3, ![8, 256, 64]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S8192x64x192 : Shape := ⟨3, ![8192, 64, 192]⟩
abbrev S8192x64x128 : Shape := ⟨3, ![8192, 64, 128]⟩
abbrev S8192x8192 : Shape := ⟨2, ![8192, 8192]⟩
abbrev S8192x64x64 : Shape := ⟨3, ![8192, 64, 64]⟩
abbrev S8192x4096 : Shape := ⟨2, ![8192, 4096]⟩
abbrev S8192x12288 : Shape := ⟨2, ![8192, 12288]⟩
abbrev S8x256x128 : Shape := ⟨3, ![8, 256, 128]⟩
abbrev S8192x512 : Shape := ⟨2, ![8192, 512]⟩
abbrev S8192x64 : Shape := ⟨2, ![8192, 64]⟩
abbrev S8192x128 : Shape := ⟨2, ![8192, 128]⟩
abbrev S1024x256 : Shape := ⟨2, ![1024, 256]⟩
abbrev S1024x512 : Shape := ⟨2, ![1024, 512]⟩
abbrev S512x512 : Shape := ⟨2, ![512, 512]⟩
abbrev S1x256x512 : Shape := ⟨3, ![1, 256, 512]⟩
abbrev S1x256x128 : Shape := ⟨3, ![1, 256, 128]⟩
abbrev S2x512x1024 : Shape := ⟨3, ![2, 512, 1024]⟩
abbrev S2x512x256 : Shape := ⟨3, ![2, 512, 256]⟩
abbrev S256x512 : Shape := ⟨2, ![256, 512]⟩
abbrev S256x128 : Shape := ⟨2, ![256, 128]⟩
abbrev S256x256 : Shape := ⟨2, ![256, 256]⟩
abbrev S512x128 : Shape := ⟨2, ![512, 128]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1x512x256 : Shape := ⟨3, ![1, 512, 256]⟩

abbrev nBuf : Space → Nat
  | .hbm => 63
  | .vmem => 20
  | .smem => 0
  | _ => 0

abbrev bufTy : (tb : Table) → Fin (tcTables nBuf tb) → BufTy
  | .hbm, ⟨0, _⟩ => ⟨S8x1024x64x192, .f32⟩
  | .hbm, ⟨1, _⟩ => ⟨S8x1024x512, .f32⟩
  | .hbm, ⟨2, _⟩ => ⟨S8x1024x64, .f32⟩
  | .hbm, ⟨3, _⟩ => ⟨S512x16384, .f32⟩
  | .hbm, ⟨4, _⟩ => ⟨S8x256x512, .f32⟩
  | .hbm, ⟨5, _⟩ => ⟨S8x256x64, .f32⟩
  | .hbm, ⟨6, _⟩ => ⟨S16, .f32⟩
  | .hbm, ⟨7, _⟩ => ⟨S16x64, .f32⟩
  | .hbm, ⟨8, _⟩ => ⟨S1024, .f32⟩
  | .hbm, ⟨9, _⟩ => ⟨S64, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S1024x1, .f32⟩
  | .hbm, ⟨22, _⟩ => ⟨S1x16, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S1024x1, .f32⟩
  | .hbm, ⟨27, _⟩ => ⟨S1x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x16, .f32⟩
  | .hbm, ⟨33, _⟩ => ⟨S1024x64, .f32⟩
  | .hbm, ⟨34, _⟩ => ⟨S1024x16, .f32⟩
  | .hbm, ⟨35, _⟩ => ⟨S1024x16, .f32⟩
  | .hbm, ⟨36, _⟩ => ⟨S1024x16, .f32⟩
  | .hbm, ⟨37, _⟩ => ⟨S1024x16, .f32⟩
  | .hbm, ⟨38, _⟩ => ⟨S1024x16, .f32⟩
  | .hbm, ⟨39, _⟩ => ⟨S1024x16, .f32⟩
  | .hbm, ⟨40, _⟩ => ⟨S1024x64, .f32⟩
  | .hbm, ⟨41, _⟩ => ⟨S1x1024x1x64, .f32⟩
  | .hbm, ⟨42, _⟩ => ⟨S1x1024x2x64, .f32⟩
  | .hbm, ⟨43, _⟩ => ⟨S1024x128, .f32⟩
  | .hbm, ⟨44, _⟩ => ⟨S1x1024x1x64, .f32⟩
  | .hbm, ⟨45, _⟩ => ⟨S1x1024x2x64, .f32⟩
  | .hbm, ⟨46, _⟩ => ⟨S1024x128, .f32⟩
  | .hbm, ⟨47, _⟩ => ⟨S8192x64x192, .f32⟩
  | .hbm, ⟨48, _⟩ => ⟨S8192x64x128, .f32⟩
  | .hbm, ⟨49, _⟩ => ⟨S8192x8192, .f32⟩
  | .hbm, ⟨50, _⟩ => ⟨S8192x64x64, .f32⟩
  | .hbm, ⟨51, _⟩ => ⟨S8192x4096, .f32⟩
  | .hbm, ⟨52, _⟩ => ⟨S8192x12288, .f32⟩
  | .hbm, ⟨53, _⟩ => ⟨S_, .i32⟩
  | .hbm, ⟨54, _⟩ => ⟨S_, .f32⟩
  | .hbm, ⟨55, _⟩ => ⟨S8x256x128, .f32⟩
  | .hbm, ⟨56, _⟩ => ⟨S8192x512, .f32⟩
  | .hbm, ⟨57, _⟩ => ⟨S8192x64, .f32⟩
  | .hbm, ⟨58, _⟩ => ⟨S_, .i32⟩
  | .hbm, ⟨59, _⟩ => ⟨S_, .f32⟩
  | .hbm, ⟨60, _⟩ => ⟨S8192x128, .f32⟩
  | .hbm, ⟨61, _⟩ => ⟨S512x16384, .bf16⟩
  | .hbm, ⟨62, _⟩ => ⟨S8192x8192, .bf16⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S512x512, .bf16⟩
  | .local _ .vmem, ⟨9, _⟩ => ⟨S512x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x128, .f32⟩
  | .local _ .vmem, ⟨13, _⟩ => ⟨S1x256x128, .f32⟩
  | .local _ .vmem, ⟨14, _⟩ => ⟨S1024x128, .f32⟩
  | .local _ .vmem, ⟨15, _⟩ => ⟨S1024x128, .f32⟩
  | .local _ .vmem, ⟨16, _⟩ => ⟨S1024x256, .bf16⟩
  | .local _ .vmem, ⟨17, _⟩ => ⟨S1024x256, .bf16⟩
  | .local _ .vmem, ⟨18, _⟩ => ⟨S2x512x1024, .bf16⟩
  | .local _ .vmem, ⟨19, _⟩ => ⟨S2x512x256, .bf16⟩
  | _, _ => ⟨S8x1024x64x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c : Ref sig .tc := ⟨.hbm, 53, rfl⟩
abbrev main_call0_v0 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_1 : Ref sig .tc := ⟨.hbm, 58, rfl⟩
abbrev main_call1_v0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel13Ideal.lean ====
variable {F : FTy → Type} [FloatOps F] [Named F]
def κ : String → Option EReal := fun
  | "scale_log2e" => some (((Real.sqrt 192)⁻¹ * (Real.log 2)⁻¹ : ℝ) : EReal)
  | _ => none
-- ==== Reference13Ideal.lean ====
abbrev S8x1024x64x192 : Shape := ⟨4, ![8, 1024, 64, 192]⟩
abbrev S8x1024x512 : Shape := ⟨3, ![8, 1024, 512]⟩
abbrev S8x1024x64 : Shape := ⟨3, ![8, 1024, 64]⟩
abbrev S512x16384 : Shape := ⟨2, ![512, 16384]⟩
abbrev S8x256x512 : Shape := ⟨3, ![8, 256, 512]⟩
abbrev S8x256x64 : Shape := ⟨3, ![8, 256, 64]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x1x16 : Shape := ⟨3, ![1024, 1, 16]⟩
abbrev S8x1024x64x128 : Shape := ⟨4, ![8, 1024, 64, 128]⟩
abbrev S8x1024x64x64 : Shape := ⟨4, ![8, 1024, 64, 64]⟩
abbrev S8x1024x64x32 : Shape := ⟨4, ![8, 1024, 64, 32]⟩
abbrev S8x1024x64x16 : Shape := ⟨4, ![8, 1024, 64, 16]⟩
abbrev S1x1024x1x16 : Shape := ⟨4, ![1, 1024, 1, 16]⟩
abbrev S8x1024x1x64 : Shape := ⟨4, ![8, 1024, 1, 64]⟩
abbrev S8x1024x1x32 : Shape := ⟨4, ![8, 1024, 1, 32]⟩
abbrev S8x1024x1x16 : Shape := ⟨4, ![8, 1024, 1, 16]⟩
abbrev S8x1024x16384 : Shape := ⟨3, ![8, 1024, 16384]⟩
abbrev S8x1024x64x256 : Shape := ⟨4, ![8, 1024, 64, 256]⟩
abbrev S8x256x16384 : Shape := ⟨3, ![8, 256, 16384]⟩
abbrev S8x256x64x256 : Shape := ⟨4, ![8, 256, 64, 256]⟩
abbrev S8x256x64x128 : Shape := ⟨4, ![8, 256, 64, 128]⟩
abbrev S8x256x1x64 : Shape := ⟨4, ![8, 256, 1, 64]⟩
abbrev S8x256x64x64 : Shape := ⟨4, ![8, 256, 64, 64]⟩
abbrev S8x256x64x192 : Shape := ⟨4, ![8, 256, 64, 192]⟩
abbrev S8x1024x64x1x192 : Shape := ⟨5, ![8, 1024, 64, 1, 192]⟩
abbrev S8x64x1024x1024x1 : Shape := ⟨5, ![8, 64, 1024, 1024, 1]⟩
abbrev S8x64x1x1024x1024 : Shape := ⟨5, ![8, 64, 1, 1024, 1024]⟩
abbrev S8x64x256x1024x1 : Shape := ⟨5, ![8, 64, 256, 1024, 1]⟩
abbrev S8x64x1x1024x256 : Shape := ⟨5, ![8, 64, 1, 1024, 256]⟩
abbrev S8x64x1x1024x1280 : Shape := ⟨5, ![8, 64, 1, 1024, 1280]⟩
abbrev S8x64x1x1024 : Shape := ⟨4, ![8, 64, 1, 1024]⟩
abbrev S8x64x1x1024x1 : Shape := ⟨5, ![8, 64, 1, 1024, 1]⟩
abbrev S8x64x128x1x1024 : Shape := ⟨5, ![8, 64, 128, 1, 1024]⟩
abbrev S8x1024x64x1x128 : Shape := ⟨5, ![8, 1024, 64, 1, 128]⟩
abbrev S8192x8192 : Shape := ⟨2, ![8192, 8192]⟩

abbrev nBuf : Space → Nat
  | .hbm => 169
  | .vmem => 0
  | .smem => 0
  | _ => 0

abbrev hbmTy0_0 (i : Nat) : BufTy := match i % 128 with
  | 0 => ⟨S8x1024x64x192, .f32⟩
  | 1 => ⟨S8x1024x512, .f32⟩
  | 2 => ⟨S8x1024x64, .f32⟩
  | 3 => ⟨S512x16384, .f32⟩
  | 4 => ⟨S8x256x512, .f32⟩
  | 5 => ⟨S8x256x64, .f32⟩
  | 6 => ⟨S16, .f32⟩
  | 7 => ⟨S16x64, .f32⟩
  | 8 => ⟨S1024, .f32⟩
  | 9 => ⟨S64, .f32⟩
  | 10 => ⟨S1x64, .f32⟩
  | 11 => ⟨S16x64, .f32⟩
  | 12 => ⟨S1024, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S1024x1, .f32⟩
  | 22 => ⟨S1x16, .f32⟩
  | 23 => ⟨S1024x16, .f32⟩
  | 24 => ⟨S1024x16, .f32⟩
  | 25 => ⟨S1024x16, .f32⟩
  | 26 => ⟨S1024x1, .f32⟩
  | 27 => ⟨S1x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x1x16, .f32⟩
  | 36 => ⟨S1024x1x16, .f32⟩
  | 37 => ⟨S1024x1x16, .f32⟩
  | 38 => ⟨S1024x1x16, .f32⟩
  | 39 => ⟨S8x1024x64x128, .f32⟩
  | 40 => ⟨S8x1024x64x64, .f32⟩
  | 41 => ⟨S8x1024x64x32, .f32⟩
  | 42 => ⟨S8x1024x64x16, .f32⟩
  | 43 => ⟨S8x1024x64x16, .f32⟩
  | 44 => ⟨S1x1024x1x16, .f32⟩
  | 45 => ⟨S8x1024x64x16, .f32⟩
  | 46 => ⟨S8x1024x64x16, .f32⟩
  | 47 => ⟨S1x1024x1x16, .f32⟩
  | 48 => ⟨S8x1024x64x16, .f32⟩
  | 49 => ⟨S8x1024x64x16, .f32⟩
  | 50 => ⟨S8x1024x64x16, .f32⟩
  | 51 => ⟨S1x1024x1x16, .f32⟩
  | 52 => ⟨S8x1024x64x16, .f32⟩
  | 53 => ⟨S8x1024x64x16, .f32⟩
  | 54 => ⟨S1x1024x1x16, .f32⟩
  | 55 => ⟨S8x1024x64x16, .f32⟩
  | 56 => ⟨S8x1024x64x16, .f32⟩
  | 57 => ⟨S8x1024x64x16, .f32⟩
  | 58 => ⟨S8x1024x64x32, .f32⟩
  | 59 => ⟨S8x1024x64x32, .f32⟩
  | 60 => ⟨S8x1024x64x16, .f32⟩
  | 61 => ⟨S8x1024x64x16, .f32⟩
  | 62 => ⟨S1x1024x1x16, .f32⟩
  | 63 => ⟨S8x1024x64x16, .f32⟩
  | 64 => ⟨S8x1024x64x16, .f32⟩
  | 65 => ⟨S1x1024x1x16, .f32⟩
  | 66 => ⟨S8x1024x64x16, .f32⟩
  | 67 => ⟨S8x1024x64x16, .f32⟩
  | 68 => ⟨S8x1024x64x16, .f32⟩
  | 69 => ⟨S1x1024x1x16, .f32⟩
  | 70 => ⟨S8x1024x64x16, .f32⟩
  | 71 => ⟨S8x1024x64x16, .f32⟩
  | 72 => ⟨S1x1024x1x16, .f32⟩
  | 73 => ⟨S8x1024x64x16, .f32⟩
  | 74 => ⟨S8x1024x64x16, .f32⟩
  | 75 => ⟨S8x1024x64x16, .f32⟩
  | 76 => ⟨S8x1024x64x32, .f32⟩
  | 77 => ⟨S8x1024x64x64, .f32⟩
  | 78 => ⟨S8x1024x64x192, .f32⟩
  | 79 => ⟨S8x1024x1x64, .f32⟩
  | 80 => ⟨S8x1024x1x32, .f32⟩
  | 81 => ⟨S8x1024x1x16, .f32⟩
  | 82 => ⟨S8x1024x1x16, .f32⟩
  | 83 => ⟨S1x1024x1x16, .f32⟩
  | 84 => ⟨S8x1024x1x16, .f32⟩
  | 85 => ⟨S8x1024x1x16, .f32⟩
  | 86 => ⟨S1x1024x1x16, .f32⟩
  | 87 => ⟨S8x1024x1x16, .f32⟩
  | 88 => ⟨S8x1024x1x16, .f32⟩
  | 89 => ⟨S8x1024x1x16, .f32⟩
  | 90 => ⟨S1x1024x1x16, .f32⟩
  | 91 => ⟨S8x1024x1x16, .f32⟩
  | 92 => ⟨S8x1024x1x16, .f32⟩
  | 93 => ⟨S1x1024x1x16, .f32⟩
  | 94 => ⟨S8x1024x1x16, .f32⟩
  | 95 => ⟨S8x1024x1x16, .f32⟩
  | 96 => ⟨S8x1024x1x16, .f32⟩
  | 97 => ⟨S8x1024x1x32, .f32⟩
  | 98 => ⟨S8x1024x1x32, .f32⟩
  | 99 => ⟨S8x1024x1x16, .f32⟩
  | 100 => ⟨S8x1024x1x16, .f32⟩
  | 101 => ⟨S1x1024x1x16, .f32⟩
  | 102 => ⟨S8x1024x1x16, .f32⟩
  | 103 => ⟨S8x1024x1x16, .f32⟩
  | 104 => ⟨S1x1024x1x16, .f32⟩
  | 105 => ⟨S8x1024x1x16, .f32⟩
  | 106 => ⟨S8x1024x1x16, .f32⟩
  | 107 => ⟨S8x1024x1x16, .f32⟩
  | 108 => ⟨S1x1024x1x16, .f32⟩
  | 109 => ⟨S8x1024x1x16, .f32⟩
  | 110 => ⟨S8x1024x1x16, .f32⟩
  | 111 => ⟨S1x1024x1x16, .f32⟩
  | 112 => ⟨S8x1024x1x16, .f32⟩
  | 113 => ⟨S8x1024x1x16, .f32⟩
  | 114 => ⟨S8x1024x1x16, .f32⟩
  | 115 => ⟨S8x1024x1x32, .f32⟩
  | 116 => ⟨S8x1024x1x64, .f32⟩
  | 117 => ⟨S8x1024x64, .f32⟩
  | 118 => ⟨S8x1024x16384, .f32⟩
  | 119 => ⟨S8x1024x64x256, .f32⟩
  | 120 => ⟨S8x1024x64x128, .f32⟩
  | 121 => ⟨S8x1024x1x64, .f32⟩
  | 122 => ⟨S8x1024x64x64, .f32⟩
  | 123 => ⟨S8x1024x64x192, .f32⟩
  | 124 => ⟨S8x1024x64x128, .f32⟩
  | 125 => ⟨S8x256x16384, .f32⟩
  | 126 => ⟨S8x256x64x256, .f32⟩
  | 127 => ⟨S8x256x64x128, .f32⟩
  | _ => ⟨S8x1024x64x192, .f32⟩

abbrev hbmTy0_1 (i : Nat) : BufTy := match i % 128 with
  | 0 => ⟨S8x256x1x64, .f32⟩
  | 1 => ⟨S8x256x64x64, .f32⟩
  | 2 => ⟨S8x256x64x192, .f32⟩
  | 3 => ⟨S8x256x64x128, .f32⟩
  | 4 => ⟨S8x1024x64x1x192, .f32⟩
  | 5 => ⟨S8x1024x64x1x192, .f32⟩
  | 6 => ⟨S_, .f32⟩
  | 7 => ⟨S_, .f32⟩
  | 8 => ⟨S_, .f32⟩
  | 9 => ⟨S8x64x1024x1024x1, .f32⟩
  | 10 => ⟨S8x64x1x1024x1024, .f32⟩
  | 11 => ⟨S8x64x1x1024x1024, .f32⟩
  | 12 => ⟨S8x64x1x1024x1024, .f32⟩
  | 13 => ⟨S8x64x256x1024x1, .f32⟩
  | 14 => ⟨S8x64x1x1024x256, .f32⟩
  | 15 => ⟨S8x64x1x1024x256, .f32⟩
  | 16 => ⟨S8x64x1x1024x256, .f32⟩
  | 17 => ⟨S8x64x1x1024x1280, .f32⟩
  | 18 => ⟨S_, .f32⟩
  | 19 => ⟨S8x64x1x1024, .f32⟩
  | 20 => ⟨S_, .f32⟩
  | 21 => ⟨S8x64x1x1024, .f32⟩
  | 22 => ⟨S8x64x1x1024, .f32⟩
  | 23 => ⟨S8x64x1x1024x1, .f32⟩
  | 24 => ⟨S8x64x1x1024x1280, .f32⟩
  | 25 => ⟨S8x64x1x1024x1280, .f32⟩
  | 26 => ⟨S8x64x1x1024x1280, .f32⟩
  | 27 => ⟨S_, .f32⟩
  | 28 => ⟨S8x64x1x1024, .f32⟩
  | 29 => ⟨S8x64x1x1024x1, .f32⟩
  | 30 => ⟨S8x64x1x1024x1280, .f32⟩
  | 31 => ⟨S8x64x1x1024x1280, .f32⟩
  | 32 => ⟨S8x64x1x1024x1024, .f32⟩
  | 33 => ⟨S8x64x128x1x1024, .f32⟩
  | 34 => ⟨S8x1024x64x1x128, .f32⟩
  | 35 => ⟨S8x64x1x1024x256, .f32⟩
  | 36 => ⟨S8x64x128x1x1024, .f32⟩
  | 37 => ⟨S8x1024x64x1x128, .f32⟩
  | 38 => ⟨S8x1024x64x1x128, .f32⟩
  | 39 => ⟨S8192x8192, .f32⟩
  | 40 => ⟨S8192x8192, .bf16⟩
  | _ => ⟨S8x1024x64x192, .f32⟩

abbrev hbmTy (i : Nat) : BufTy := match i / 128 with
  | 0 => hbmTy0_0 i
  | 1 => hbmTy0_1 i
  | _ => ⟨S8x1024x64x192, .f32⟩

abbrev bufTy : (tb : Table) → Fin (tcTables nBuf tb) → BufTy
  | .hbm, ⟨i, _⟩ => hbmTy i
  | _, _ => ⟨S8x1024x64x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_cst_1 : Ref sig .tc := ⟨.hbm, 134, rfl⟩
abbrev main_cst_2 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_cst_3 : Ref sig .tc := ⟨.hbm, 146, rfl⟩
abbrev main_v136 : Ref sig .tc := ⟨.hbm, 147, rfl⟩
abbrev main_cst_4 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_cst_5 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩

abbrev nD : Nat := 1
abbrev τ : Topo := Topo.v7x

variable {F : FTy → Type} [FloatOps F]
-- ==== Kernel14.lean ====
abbrev S8192x6144 : Shape := ⟨2, ![8192, 6144]⟩
abbrev S8x256x8x128 : Shape := ⟨4, ![8, 256, 8, 128]⟩
abbrev S32 : Shape := ⟨1, ![32]⟩
abbrev S8x256x1024 : Shape := ⟨3, ![8, 256, 1024]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S1x1024x1x128 : Shape := ⟨4, ![1, 1024, 1, 128]⟩
abbrev S8x4x1x1 : Shape := ⟨4, ![8, 4, 1, 1]⟩
abbrev S8x4x8x128 : Shape := ⟨4, ![8, 4, 8, 128]⟩
abbrev S8192x4096 : Shape := ⟨2, ![8192, 4096]⟩
abbrev S1024x512 : Shape := ⟨2, ![1024, 512]⟩
abbrev S1x256x128 : Shape := ⟨3, ![1, 256, 128]⟩
abbrev S1x4x8x128 : Shape := ⟨4, ![1, 4, 8, 128]⟩
abbrev S256x128 : Shape := ⟨2, ![256, 128]⟩
abbrev S1x4x1x1 : Shape := ⟨4, ![1, 4, 1, 1]⟩
abbrev S4x1x1 : Shape := ⟨3, ![4, 1, 1]⟩
abbrev S384x128 : Shape := ⟨2, ![384, 128]⟩
abbrev S1024x384 : Shape := ⟨2, ![1024, 384]⟩
abbrev S4x256x384 : Shape := ⟨3, ![4, 256, 384]⟩
abbrev S256x384 : Shape := ⟨2, ![256, 384]⟩
abbrev S1x256x384 : Shape := ⟨3, ![1, 256, 384]⟩
abbrev S1024x256 : Shape := ⟨2, ![1024, 256]⟩
abbrev S4x256x256 : Shape := ⟨3, ![4, 256, 256]⟩
abbrev S4x256 : Shape := ⟨2, ![4, 256]⟩
abbrev S4x256x1 : Shape := ⟨3, ![4, 256, 1]⟩
abbrev S4x256x128 : Shape := ⟨3, ![4, 256, 128]⟩
abbrev S512x128 : Shape := ⟨2, ![512, 128]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 54
  | .vmem => 16
  | .smem => 0
  | _ => 0

abbrev bufTy : (tb : Table) → Fin (tcTables nBuf tb) → BufTy
  | .hbm, ⟨0, _⟩ => ⟨S8192x6144, .f32⟩
  | .hbm, ⟨1, _⟩ => ⟨S8x256x8x128, .f32⟩
  | .hbm, ⟨2, _⟩ => ⟨S8x256x8x128, .f32⟩
  | .hbm, ⟨3, _⟩ => ⟨S32, .f32⟩
  | .hbm, ⟨4, _⟩ => ⟨S8x256x1024, .f32⟩
  | .hbm, ⟨5, _⟩ => ⟨S8x256x1024, .f32⟩
  | .hbm, ⟨6, _⟩ => ⟨S16, .f32⟩
  | .hbm, ⟨7, _⟩ => ⟨S16x64, .f32⟩
  | .hbm, ⟨8, _⟩ => ⟨S1024, .f32⟩
  | .hbm, ⟨9, _⟩ => ⟨S64, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1024x1, .f32⟩
  | .hbm, ⟨22, _⟩ => ⟨S1x32, .f32⟩
  | .hbm, ⟨23, _⟩ => ⟨S1024x32, .f32⟩
  | .hbm, ⟨24, _⟩ => ⟨S1024x32, .f32⟩
  | .hbm, ⟨25, _⟩ => ⟨S1024x32, .f32⟩
  | .hbm, ⟨26, _⟩ => ⟨S1024x1, .f32⟩
  | .hbm, ⟨27, _⟩ => ⟨S1x32, .f32⟩
  | .hbm, ⟨28, _⟩ => ⟨S1024x32, .f32⟩
  | .hbm, ⟨29, _⟩ => ⟨S1024x32, .f32⟩
  | .hbm, ⟨30, _⟩ => ⟨S1024x32, .f32⟩
  | .hbm, ⟨31, _⟩ => ⟨S1024x32, .f32⟩
  | .hbm, ⟨32, _⟩ => ⟨S1024x32, .f32⟩
  | .hbm, ⟨33, _⟩ => ⟨S1024x128, .f32⟩
  | .hbm, ⟨34, _⟩ => ⟨S1024x32, .f32⟩
  | .hbm, ⟨35, _⟩ => ⟨S1024x32, .f32⟩
  | .hbm, ⟨36, _⟩ => ⟨S1024x32, .f32⟩
  | .hbm, ⟨37, _⟩ => ⟨S1024x32, .f32⟩
  | .hbm, ⟨38, _⟩ => ⟨S1024x32, .f32⟩
  | .hbm, ⟨39, _⟩ => ⟨S1024x32, .f32⟩
  | .hbm, ⟨40, _⟩ => ⟨S1024x128, .f32⟩
  | .hbm, ⟨41, _⟩ => ⟨S1x1024x1x128, .f32⟩
  | .hbm, ⟨42, _⟩ => ⟨S1x1024x1x128, .f32⟩
  | .hbm, ⟨43, _⟩ => ⟨S1024x128, .f32⟩
  | .hbm, ⟨44, _⟩ => ⟨S1x1024x1x128, .f32⟩
  | .hbm, ⟨45, _⟩ => ⟨S1x1024x1x128, .f32⟩
  | .hbm, ⟨46, _⟩ => ⟨S1024x128, .f32⟩
  | .hbm, ⟨47, _⟩ => ⟨S_, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S8x4x1x1, .f32⟩
  | .hbm, ⟨52, _⟩ => ⟨S8x4x8x128, .f32⟩
  | .hbm, ⟨53, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1024x128, .f32⟩
  | .local _ .vmem, ⟨11, _⟩ => ⟨S1024x128, .f32⟩
  | .local _ .vmem, ⟨12, _⟩ => ⟨S1x4x8x128, .f32⟩
  | .local _ .vmem, ⟨13, _⟩ => ⟨S1x4x8x128, .f32⟩
  | .local _ .vmem, ⟨14, _⟩ => ⟨S1024x512, .bf16⟩
  | .local _ .vmem, ⟨15, _⟩ => ⟨S1024x512, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_1 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel14Ideal.lean ====
variable {F : FTy → Type} [FloatOps F] [Named F]
def κ : String → Option EReal := fun
  | "mask" => some ⊥
  | "scale_log2e" => some (((11863283 / 134217728) * (Real.log 2)⁻¹ : ℝ) : EReal)
  | _ => none
-- ==== Reference14Ideal.lean ====
abbrev S8192x6144 : Shape := ⟨2, ![8192, 6144]⟩
abbrev S8x256x8x128 : Shape := ⟨4, ![8, 256, 8, 128]⟩
abbrev S32 : Shape := ⟨1, ![32]⟩
abbrev S8x1024x6144 : Shape := ⟨3, ![8, 1024, 6144]⟩
abbrev S8x1024x4096 : Shape := ⟨3, ![8, 1024, 4096]⟩
abbrev S8x1024x32x128 : Shape := ⟨4, ![8, 1024, 32, 128]⟩
abbrev S8x1024x1024 : Shape := ⟨3, ![8, 1024, 1024]⟩
abbrev S8x1024x8x128 : Shape := ⟨4, ![8, 1024, 8, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x1x32 : Shape := ⟨3, ![1024, 1, 32]⟩
abbrev S8x1024x32x64 : Shape := ⟨4, ![8, 1024, 32, 64]⟩
abbrev S8x1024x32x32 : Shape := ⟨4, ![8, 1024, 32, 32]⟩
abbrev S1x1024x1x32 : Shape := ⟨4, ![1, 1024, 1, 32]⟩
abbrev S8x1024x8x4x128 : Shape := ⟨5, ![8, 1024, 8, 4, 128]⟩
abbrev S8x1024x8x64 : Shape := ⟨4, ![8, 1024, 8, 64]⟩
abbrev S8x1024x8x32 : Shape := ⟨4, ![8, 1024, 8, 32]⟩
abbrev S1x8x4x1x1 : Shape := ⟨5, ![1, 8, 4, 1, 1]⟩
abbrev S1x1024 : Shape := ⟨2, ![1, 1024]⟩
abbrev S1024x1024 : Shape := ⟨2, ![1024, 1024]⟩
abbrev S8x8x1024x1024x4 : Shape := ⟨5, ![8, 8, 1024, 1024, 4]⟩
abbrev S8x8x4x1024x1024 : Shape := ⟨5, ![8, 8, 4, 1024, 1024]⟩
abbrev S8x8x256x1024x4 : Shape := ⟨5, ![8, 8, 256, 1024, 4]⟩
abbrev S8x8x4x1024x256 : Shape := ⟨5, ![8, 8, 4, 1024, 256]⟩
abbrev S8x8x4x1024x1 : Shape := ⟨5, ![8, 8, 4, 1024, 1]⟩
abbrev S8x8x4x1024x1281 : Shape := ⟨5, ![8, 8, 4, 1024, 1281]⟩
abbrev S8x8x4x1024 : Shape := ⟨4, ![8, 8, 4, 1024]⟩
abbrev S8x8x128x4x1024 : Shape := ⟨5, ![8, 8, 128, 4, 1024]⟩
abbrev S8192x4096 : Shape := ⟨2, ![8192, 4096]⟩

abbrev nBuf : Space → Nat
  | .hbm => 171
  | .vmem => 0
  | .smem => 0
  | _ => 0

abbrev hbmTy0_0 (i : Nat) : BufTy := match i % 128 with
  | 0 => ⟨S8192x6144, .f32⟩
  | 1 => ⟨S8x256x8x128, .f32⟩
  | 2 => ⟨S8x256x8x128, .f32⟩
  | 3 => ⟨S32, .f32⟩
  | 4 => ⟨S8x1024x6144, .f32⟩
  | 5 => ⟨S8x1024x4096, .f32⟩
  | 6 => ⟨S8x1024x32x128, .f32⟩
  | 7 => ⟨S8x1024x1024, .f32⟩
  | 8 => ⟨S8x1024x8x128, .f32⟩
  | 9 => ⟨S8x1024x1024, .f32⟩
  | 10 => ⟨S8x1024x8x128, .f32⟩
  | 11 => ⟨S16, .f32⟩
  | 12 => ⟨S16x64, .f32⟩
  | 13 => ⟨S1024, .f32⟩
  | 14 => ⟨S64, .f32⟩
  | 15 => ⟨S1x64, .f32⟩
  | 16 => ⟨S16x64, .f32⟩
  | 17 => ⟨S1024, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S1024x1, .f32⟩
  | 27 => ⟨S1x32, .f32⟩
  | 28 => ⟨S1024x32, .f32⟩
  | 29 => ⟨S1024x32, .f32⟩
  | 30 => ⟨S1024x32, .f32⟩
  | 31 => ⟨S1024x1, .f32⟩
  | 32 => ⟨S1x32, .f32⟩
  | 33 => ⟨S1024x32, .f32⟩
  | 34 => ⟨S1024x32, .f32⟩
  | 35 => ⟨S1024x32, .f32⟩
  | 36 => ⟨S1024x32, .f32⟩
  | 37 => ⟨S1024x32, .f32⟩
  | 38 => ⟨S1024x32, .f32⟩
  | 39 => ⟨S1024x32, .f32⟩
  | 40 => ⟨S1024x1x32, .f32⟩
  | 41 => ⟨S1024x1x32, .f32⟩
  | 42 => ⟨S1024x1x32, .f32⟩
  | 43 => ⟨S1024x1x32, .f32⟩
  | 44 => ⟨S8x1024x32x64, .f32⟩
  | 45 => ⟨S8x1024x32x32, .f32⟩
  | 46 => ⟨S8x1024x32x32, .f32⟩
  | 47 => ⟨S1x1024x1x32, .f32⟩
  | 48 => ⟨S8x1024x32x32, .f32⟩
  | 49 => ⟨S8x1024x32x32, .f32⟩
  | 50 => ⟨S1x1024x1x32, .f32⟩
  | 51 => ⟨S8x1024x32x32, .f32⟩
  | 52 => ⟨S8x1024x32x32, .f32⟩
  | 53 => ⟨S8x1024x32x32, .f32⟩
  | 54 => ⟨S1x1024x1x32, .f32⟩
  | 55 => ⟨S8x1024x32x32, .f32⟩
  | 56 => ⟨S8x1024x32x32, .f32⟩
  | 57 => ⟨S1x1024x1x32, .f32⟩
  | 58 => ⟨S8x1024x32x32, .f32⟩
  | 59 => ⟨S8x1024x32x32, .f32⟩
  | 60 => ⟨S8x1024x32x32, .f32⟩
  | 61 => ⟨S8x1024x32x64, .f32⟩
  | 62 => ⟨S8x1024x32x64, .f32⟩
  | 63 => ⟨S8x1024x32x32, .f32⟩
  | 64 => ⟨S8x1024x32x32, .f32⟩
  | 65 => ⟨S1x1024x1x32, .f32⟩
  | 66 => ⟨S8x1024x32x32, .f32⟩
  | 67 => ⟨S8x1024x32x32, .f32⟩
  | 68 => ⟨S1x1024x1x32, .f32⟩
  | 69 => ⟨S8x1024x32x32, .f32⟩
  | 70 => ⟨S8x1024x32x32, .f32⟩
  | 71 => ⟨S8x1024x32x32, .f32⟩
  | 72 => ⟨S1x1024x1x32, .f32⟩
  | 73 => ⟨S8x1024x32x32, .f32⟩
  | 74 => ⟨S8x1024x32x32, .f32⟩
  | 75 => ⟨S1x1024x1x32, .f32⟩
  | 76 => ⟨S8x1024x32x32, .f32⟩
  | 77 => ⟨S8x1024x32x32, .f32⟩
  | 78 => ⟨S8x1024x32x32, .f32⟩
  | 79 => ⟨S8x1024x32x64, .f32⟩
  | 80 => ⟨S8x1024x32x128, .f32⟩
  | 81 => ⟨S8x1024x8x4x128, .f32⟩
  | 82 => ⟨S8x1024x8x4x128, .f32⟩
  | 83 => ⟨S8x1024x8x64, .f32⟩
  | 84 => ⟨S8x1024x8x32, .f32⟩
  | 85 => ⟨S8x1024x8x32, .f32⟩
  | 86 => ⟨S1x1024x1x32, .f32⟩
  | 87 => ⟨S8x1024x8x32, .f32⟩
  | 88 => ⟨S8x1024x8x32, .f32⟩
  | 89 => ⟨S1x1024x1x32, .f32⟩
  | 90 => ⟨S8x1024x8x32, .f32⟩
  | 91 => ⟨S8x1024x8x32, .f32⟩
  | 92 => ⟨S8x1024x8x32, .f32⟩
  | 93 => ⟨S1x1024x1x32, .f32⟩
  | 94 => ⟨S8x1024x8x32, .f32⟩
  | 95 => ⟨S8x1024x8x32, .f32⟩
  | 96 => ⟨S1x1024x1x32, .f32⟩
  | 97 => ⟨S8x1024x8x32, .f32⟩
  | 98 => ⟨S8x1024x8x32, .f32⟩
  | 99 => ⟨S8x1024x8x32, .f32⟩
  | 100 => ⟨S8x1024x8x64, .f32⟩
  | 101 => ⟨S8x1024x8x64, .f32⟩
  | 102 => ⟨S8x1024x8x32, .f32⟩
  | 103 => ⟨S8x1024x8x32, .f32⟩
  | 104 => ⟨S1x1024x1x32, .f32⟩
  | 105 => ⟨S8x1024x8x32, .f32⟩
  | 106 => ⟨S8x1024x8x32, .f32⟩
  | 107 => ⟨S1x1024x1x32, .f32⟩
  | 108 => ⟨S8x1024x8x32, .f32⟩
  | 109 => ⟨S8x1024x8x32, .f32⟩
  | 110 => ⟨S8x1024x8x32, .f32⟩
  | 111 => ⟨S1x1024x1x32, .f32⟩
  | 112 => ⟨S8x1024x8x32, .f32⟩
  | 113 => ⟨S8x1024x8x32, .f32⟩
  | 114 => ⟨S1x1024x1x32, .f32⟩
  | 115 => ⟨S8x1024x8x32, .f32⟩
  | 116 => ⟨S8x1024x8x32, .f32⟩
  | 117 => ⟨S8x1024x8x32, .f32⟩
  | 118 => ⟨S8x1024x8x64, .f32⟩
  | 119 => ⟨S8x1024x8x128, .f32⟩
  | 120 => ⟨S1x8x4x1x1, .f32⟩
  | 121 => ⟨S1024, .i32⟩
  | 122 => ⟨S1024x1, .i32⟩
  | 123 => ⟨S1x1024, .i32⟩
  | 124 => ⟨S1024x1024, .i32⟩
  | 125 => ⟨S1024x1024, .i32⟩
  | 126 => ⟨S1024x1024, .i32⟩
  | 127 => ⟨S1024x1024, .i32⟩
  | _ => ⟨S8192x6144, .f32⟩

abbrev hbmTy0_1 (i : Nat) : BufTy := match i % 128 with
  | 0 => ⟨S_, .i32⟩
  | 1 => ⟨S1024x1024, .i32⟩
  | 2 => ⟨S1024x1024, .i1⟩
  | 3 => ⟨S8x8x1024x1024x4, .f32⟩
  | 4 => ⟨S8x8x4x1024x1024, .f32⟩
  | 5 => ⟨S_, .f32⟩
  | 6 => ⟨S8x8x4x1024x1024, .f32⟩
  | 7 => ⟨S8x8x4x1024x1024, .f32⟩
  | 8 => ⟨S_, .f32⟩
  | 9 => ⟨S_, .f32⟩
  | 10 => ⟨S8x8x4x1024x1024, .i1⟩
  | 11 => ⟨S8x8x4x1024x1024, .f32⟩
  | 12 => ⟨S8x8x4x1024x1024, .f32⟩
  | 13 => ⟨S8x8x256x1024x4, .f32⟩
  | 14 => ⟨S8x8x4x1024x256, .f32⟩
  | 15 => ⟨S_, .f32⟩
  | 16 => ⟨S8x8x4x1024x256, .f32⟩
  | 17 => ⟨S8x8x4x1024x256, .f32⟩
  | 18 => ⟨S8x8x4x1024x1, .f32⟩
  | 19 => ⟨S8x8x4x1024x1281, .f32⟩
  | 20 => ⟨S_, .f32⟩
  | 21 => ⟨S8x8x4x1024, .f32⟩
  | 22 => ⟨S_, .f32⟩
  | 23 => ⟨S8x8x4x1024, .f32⟩
  | 24 => ⟨S8x8x4x1024, .f32⟩
  | 25 => ⟨S8x8x4x1024x1, .f32⟩
  | 26 => ⟨S8x8x4x1024x1281, .f32⟩
  | 27 => ⟨S8x8x4x1024x1281, .f32⟩
  | 28 => ⟨S8x8x4x1024x1281, .f32⟩
  | 29 => ⟨S_, .f32⟩
  | 30 => ⟨S8x8x4x1024, .f32⟩
  | 31 => ⟨S8x8x4x1024x1, .f32⟩
  | 32 => ⟨S8x8x4x1024x1281, .f32⟩
  | 33 => ⟨S8x8x4x1024x1281, .f32⟩
  | 34 => ⟨S8x8x4x1024x1024, .f32⟩
  | 35 => ⟨S8x8x128x4x1024, .f32⟩
  | 36 => ⟨S8x1024x8x4x128, .f32⟩
  | 37 => ⟨S8x8x4x1024x256, .f32⟩
  | 38 => ⟨S8x8x128x4x1024, .f32⟩
  | 39 => ⟨S8x1024x8x4x128, .f32⟩
  | 40 => ⟨S8x1024x8x4x128, .f32⟩
  | 41 => ⟨S8192x4096, .f32⟩
  | 42 => ⟨S8192x4096, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_c : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_cst_1 : Ref sig .tc := ⟨.hbm, 133, rfl⟩
abbrev main_v126 : Ref sig .tc := ⟨.hbm, 134, rfl⟩
abbrev main_v127 : Ref sig .tc := ⟨.hbm, 135, rfl⟩
abbrev main_cst_2 : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_cst_3 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_cst_4 : Ref sig .tc := ⟨.hbm, 148, rfl⟩
abbrev main_v135 : Ref sig .tc := ⟨.hbm, 149, rfl⟩
abbrev main_cst_5 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_cst_6 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩

abbrev nD : Nat := 1
abbrev τ : Topo := Topo.v7x

variable {F : FTy → Type} [FloatOps F]
-- ==== Proof.Attn.Block.lean ====
/-
  Hand-written. THE ATTENTION, ONE BLOCK: what one query block of 256 rows and one head computes from the blocks it reads.
-/
module

public import proofs.«01_k».proof.Proof.Gen.KernelIdeal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Attn

open Idealize.ShloMosaic Idealize.ShloMosaic.TcCoe Idealize.SL.Sem
open Cert.KernelIdeal Cert.KernelIdeal.Gen

/-- One lane of a rotated head: the head times the cosines plus its partner lane times the signed sines. -/
def rot (x c s : Fin 128 → EReal) (d : Fin 128) : EReal :=
  x d * c d +
    Scalar.select (IntOp.cmpi CmpIPredicate.eq (IntOp.andi (BitVec.ofNat 32 ↑d) 32#32) 0#32)
      (x ⟨(↑d + 128 - 96) % 128, Nat.mod_lt _ (by decide)⟩)
      (x ⟨(↑d + 128 - 32) % 128, Nat.mod_lt _ (by decide)⟩) * s d

/-- The weighted mean of the local and the context values, the weights being powers of two of the scores
    below the largest of them. -/
def mean (sL : Fin 1024 → EReal) (sC : Fin 256 → EReal) (vL : Fin 1024 → EReal) (vC : Fin 256 → EReal) : EReal :=
  Ideal.div
    (∑ x, FloatOps.exp2 (F := Ideal) (φ := .f32) (sL x - max (Finset.fold max (Ideal.ofBits FTy.f32 4286578688#32) sL Finset.univ) (Finset.fold max (Ideal.ofBits FTy.f32 4286578688#32) sC Finset.univ)) * vL x +
      ∑ x, FloatOps.exp2 (F := Ideal) (φ := .f32) (sC x - max (Finset.fold max (Ideal.ofBits FTy.f32 4286578688#32) sL Finset.univ) (Finset.fold max (Ideal.ofBits FTy.f32 4286578688#32) sC Finset.univ)) * vC x)
    (∑ x, FloatOps.exp2 (F := Ideal) (φ := .f32) (sL x - max (Finset.fold max (Ideal.ofBits FTy.f32 4286578688#32) sL Finset.univ) (Finset.fold max (Ideal.ofBits FTy.f32 4286578688#32) sC Finset.univ)) +
      ∑ x, FloatOps.exp2 (F := Ideal) (φ := .f32) (sC x - max (Finset.fold max (Ideal.ofBits FTy.f32 4286578688#32) sL Finset.univ) (Finset.fold max (Ideal.ofBits FTy.f32 4286578688#32) sC Finset.univ)))

/-- The kernel's scale, 1/sqrt(128) over ln 2. -/
abbrev qscale : Ideal .f32 := Named.named κ "scale_log2e" 1040356334#32

/-- The vector the body computes for a query block: four heads' rotated and raw queries against the keys. -/
def block (k : FVec Ideal S1024x128 .bf16) (v : FVec Ideal S1024x128 .bf16) (kc vc : FVec Ideal S256x128 .bf16)
    (q0 q1 q2 q3 c s : FVec Ideal S256x128 .f32) : FVec Ideal S4x256x128 .f32 :=
  k0_pay25 v vc
    (k0_pay22 k (k0_pay17 q0 c s) (k0_pay17 q1 c s) (k0_pay18 q2) (k0_pay20 c) s q3 c s)
    (k0_pay23 kc (k0_pay11 q0) (k0_pay16 q1) (k0_pay19 q2) q3)
    (k0_pay24 k (k0_pay17 q0 c s) (k0_pay17 q1 c s) (k0_pay18 q2) (k0_pay20 c) s q3 c s)

/-- The four heads' queries by number. -/
def four (q0 q1 q2 q3 : FVec Ideal S256x128 .f32) (g : Fin 4) : FVec Ideal S256x128 .f32 := ![q0, q1, q2, q3] g

/-- The rotated keys at an index. -/
theorem keys_apply (x c s : Vec Ideal S1024x128 .f32) (l : Fin 1024) (d : Fin 128) :
    k0_pay6 (F := Ideal) (View.ld x r0_0) (View.ld c r0_0) (View.ld s r0_0) (ix2 l d)
      = rot (fun e => x (ix2 l e)) (fun e => c (ix2 l e)) (fun e => s (ix2 l e)) d := by
  unfold rot
  pointwise [k0_pay6]

/-- The rotated queries at an index. -/
theorem queries_apply (x c s : Vec Ideal S256x128 .f32) (l : Fin 256) (d : Fin 128) :
    k0_pay17 (F := Ideal) x c s (ix2 l d)
      = rot (fun e => x (ix2 l e) * qscale) (fun e => c (ix2 l e)) (fun e => s (ix2 l e)) d := by
  unfold rot
  pointwise [k0_pay17, k0_pay15]

/-- The mean at an index, from the scores. -/
theorem mean_apply (v18 : FVec Ideal S1024x128 .bf16) (v24 : FVec Ideal S256x128 .bf16) (v108 : FVec Ideal S4x256x1024 .f32)
    (v110 : FVec Ideal S4x256x256 .f32) (v112 : FVec Ideal S4x256x1 .f32)
    (h : ∀ g r, v112 (ix3 g r 0) = Finset.fold max (Ideal.ofBits FTy.f32 4286578688#32) (fun x => v108 (ix3 g r x)) Finset.univ)
    (i : S4x256x128.Idx) :
    k0_pay25 (F := Ideal) v18 v24 v108 v110 v112 i
      = mean (fun l => v108 (ix3 (i 0) (i 1) l)) (fun l => v110 (ix3 (i 0) (i 1) l)) (fun l => v18 (ix2 l (i 2))) (fun l => v24 (ix2 l (i 2))) := by
  unfold mean
  have h' := h (i 0) (i 1)
  dsimp only
  rw [← h']
  pointwise [k0_pay25]

/-- The local scores at an index. -/
theorem scores_apply (k : FVec Ideal S1024x128 .bf16) (q0 q1 q2 q3 c s : FVec Ideal S256x128 .f32) (g : Fin 4) (r : Fin 256) (l : Fin 1024) :
    k0_pay22 k (k0_pay17 q0 c s) (k0_pay17 q1 c s) (k0_pay18 q2) (k0_pay20 c) s q3 c s (ix3 g r l)
      = ∑ d, rot (fun e => four q0 q1 q2 q3 g (ix2 r e) * qscale) (fun e => c (ix2 r e)) (fun e => s (ix2 r e)) d * k (ix2 l d) := by
  match g with
  | ⟨0, _⟩ =>
    unfold rot four
    pointwise [k0_pay22, k0_pay21, k0_pay20, k0_pay18, k0_pay17, k0_pay15]
  | ⟨1, _⟩ =>
    unfold rot four
    pointwise [k0_pay22, k0_pay21, k0_pay20, k0_pay18, k0_pay17, k0_pay15]
  | ⟨2, _⟩ =>
    unfold rot four
    pointwise [k0_pay22, k0_pay21, k0_pay20, k0_pay18, k0_pay17, k0_pay15]
    simp only [show ¬ (512 + r.val < 256) by omega, show ¬ (512 + r.val - 256 < 256) by omega, show 512 + r.val - 256 - 256 = r.val by omega, r.isLt, dif_pos, dif_neg, not_false_eq_true, dite_true, dite_false, Fin.eta]
  | ⟨3, _⟩ =>
    unfold rot four
    pointwise [k0_pay22, k0_pay21, k0_pay20, k0_pay18, k0_pay17, k0_pay15]
    simp only [show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The context scores at an index. -/
theorem ctx_apply (k : FVec Ideal S256x128 .bf16) (q0 q1 q2 q3 : FVec Ideal S256x128 .f32) (g : Fin 4) (r : Fin 256) (l : Fin 256) :
    k0_pay23 k (k0_pay11 q0) (k0_pay16 q1) (k0_pay19 q2) q3 (ix3 g r l)
      = ∑ d, four q0 q1 q2 q3 g (ix2 r d) * qscale * k (ix2 l d) := by
  match g with
  | ⟨0, _⟩ =>
    unfold four
    pointwise [k0_pay23, k0_pay10, k0_pay11, k0_pay15, k0_pay16, k0_pay18, k0_pay19, k0_pay21]
  | ⟨1, _⟩ =>
    unfold four
    pointwise [k0_pay23, k0_pay10, k0_pay11, k0_pay15, k0_pay16, k0_pay18, k0_pay19, k0_pay21]
  | ⟨2, _⟩ =>
    unfold four
    pointwise [k0_pay23, k0_pay10, k0_pay11, k0_pay15, k0_pay16, k0_pay18, k0_pay19, k0_pay21]
    simp only [show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold four
    pointwise [k0_pay23, k0_pay10, k0_pay11, k0_pay15, k0_pay16, k0_pay18, k0_pay19, k0_pay21]
    simp only [show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The block at an index: the mean, with the scores spelt out. -/
theorem block_apply (k v : FVec Ideal S1024x128 .bf16) (kc vc : FVec Ideal S256x128 .bf16)
    (q0 q1 q2 q3 c s : FVec Ideal S256x128 .f32) (g : Fin 4) (r : Fin 256) (d : Fin 128) :
    block k v kc vc q0 q1 q2 q3 c s (ix3 g r d)
      = mean (fun l => ∑ e, rot (fun e => four q0 q1 q2 q3 g (ix2 r e) * qscale) (fun e => c (ix2 r e)) (fun e => s (ix2 r e)) e * k (ix2 l e))
          (fun l => ∑ e, four q0 q1 q2 q3 g (ix2 r e) * qscale * kc (ix2 l e))
          (fun l => v (ix2 l d)) (fun l => vc (ix2 l d)) := by
  unfold block
  rw [mean_apply _ _ _ _ _ (fun g r => by pointwise [k0_pay24])]
  refine congrArg₂ (fun a b => mean a b _ _) (funext fun l => ?_) (funext fun l => ?_)
  · exact scores_apply k q0 q1 q2 q3 c s g r l
  · exact ctx_apply kc q0 q1 q2 q3 g r l

/-- Head 0 of a stored stack of four, at an index. -/
theorem cut0_apply (B : FVec Ideal S4x256x128 .f32) (z : S256x128.Idx) :
    (truncf .bf16 (shapeCast S256x128 (extractStridedSlice S1x256x128 ![0, 0, 0] B slices_S4x256x128_o0_0_0_S1x256x128) shapeCasts_S1x256x128_S256x128) bitsLt_bf16_f32 : FVec Ideal S256x128 .bf16) z
      = B (ix3 (0 : Fin 4) (z 0) (z 1)) := by
  pointwise

/-- Head 1 of a stored stack of four, at an index. -/
theorem cut1_apply (B : FVec Ideal S4x256x128 .f32) (z : S256x128.Idx) :
    (truncf .bf16 (shapeCast S256x128 (extractStridedSlice S1x256x128 ![1, 0, 0] B slices_S4x256x128_o1_0_0_S1x256x128) shapeCasts_S1x256x128_S256x128) bitsLt_bf16_f32 : FVec Ideal S256x128 .bf16) z
      = B (ix3 (1 : Fin 4) (z 0) (z 1)) := by
  pointwise

/-- Head 2 of a stored stack of four, at an index. -/
theorem cut2_apply (B : FVec Ideal S4x256x128 .f32) (z : S256x128.Idx) :
    (truncf .bf16 (shapeCast S256x128 (extractStridedSlice S1x256x128 ![2, 0, 0] B slices_S4x256x128_o2_0_0_S1x256x128) shapeCasts_S1x256x128_S256x128) bitsLt_bf16_f32 : FVec Ideal S256x128 .bf16) z
      = B (ix3 (2 : Fin 4) (z 0) (z 1)) := by
  pointwise

/-- Head 3 of a stored stack of four, at an index. -/
theorem cut3_apply (B : FVec Ideal S4x256x128 .f32) (z : S256x128.Idx) :
    (truncf .bf16 (shapeCast S256x128 (extractStridedSlice S1x256x128 ![3, 0, 0] B slices_S4x256x128_o3_0_0_S1x256x128) shapeCasts_S1x256x128_S256x128) bitsLt_bf16_f32 : FVec Ideal S256x128 .bf16) z
      = B (ix3 (3 : Fin 4) (z 0) (z 1)) := by
  pointwise

/-- What the body leaves at row `p`, head `g`, lane `d`, from the blocks it reads. -/
def spec (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (p : Fin 1024) (g : Fin 4) (d : Fin 128) : EReal :=
  mean
    (fun l => ∑ e, rot (fun e => x0 (ix2 p (⟨g.val * 128 + e.val, by omega⟩ : Fin 512)) * qscale) (fun e => x5 (ix2 p e)) (fun e => x6 (ix2 p e)) e
      * rot (fun e => x1 (ix2 l e)) (fun e => x5 (ix2 l e)) (fun e => x6 (ix2 l e)) e)
    (fun l => ∑ e, x0 (ix2 p (⟨g.val * 128 + e.val, by omega⟩ : Fin 512)) * qscale * x3 (ix3 (0 : Fin 1) l e))
    (fun l => x2 (ix2 l d)) (fun l => x4 (ix3 (0 : Fin 1) l d))

/-- The vector of query block 0. -/
def block0 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) : FVec Ideal S4x256x128 .f32 :=
  block (k0_pay6 (View.ld x1 r0_0) (View.ld x5 r0_0) (View.ld x6 r0_0)) (k0_pay7 (View.ld x2 r0_0)) (k0_pay8 (View.ld x3 r0_1)) (k0_pay9 (View.ld x4 r0_1)) (View.ld x0 r0_2) (View.ld x0 r0_4) (View.ld x0 r0_5) (View.ld x0 r0_6) (View.ld x5 r0_3) (View.ld x6 r0_3)

/-- The four heads' queries of query block 0, at an index. -/
theorem four0_apply (x0 : Vec Ideal S1024x512 .f32) (g : Fin 4) (r : Fin 256) (e : Fin 128) :
    four (View.ld x0 r0_2) (View.ld x0 r0_4) (View.ld x0 r0_5) (View.ld x0 r0_6) g (ix2 r e)
      = x0 (ix2 (⟨0 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 0 at an index. -/
theorem block0_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (g : Fin 4) (r : Fin 256) (d : Fin 128) :
    block0 x0 x1 x2 x3 x4 x5 x6 (ix3 g r d) = spec x0 x1 x2 x3 x4 x5 x6 ⟨0 + r.val, by omega⟩ g d := by
  unfold block0 spec
  rw [block_apply]
  have hc : ∀ e : Fin 128, View.ld x5 r0_3 (ix2 r e) = x5 (ix2 (⟨0 + r.val, by omega⟩ : Fin 1024) e) := fun e => by pointwise
  have hs : ∀ e : Fin 128, View.ld x6 r0_3 (ix2 r e) = x6 (ix2 (⟨0 + r.val, by omega⟩ : Fin 1024) e) := fun e => by pointwise
  have hv : ∀ (x : Vec Ideal S1024x128 .f32) (l : Fin 1024) (e : Fin 128), k0_pay7 (View.ld x r0_0) (ix2 l e) = x (ix2 l e) := fun x l e => by pointwise [k0_pay7]
  have h8 : ∀ (x : Vec Ideal S1x256x128 .f32) (l : Fin 256) (e : Fin 128), k0_pay8 (View.ld x r0_1) (ix2 l e) = x (ix3 (0 : Fin 1) l e) := fun x l e => by pointwise [k0_pay8]
  have h9 : ∀ (x : Vec Ideal S1x256x128 .f32) (l : Fin 256) (e : Fin 128), k0_pay9 (View.ld x r0_1) (ix2 l e) = x (ix3 (0 : Fin 1) l e) := fun x l e => by pointwise [k0_pay9]
  simp only [four0_apply, hc, hs, hv, h8, h9, keys_apply]

/-- The vector of query block 1. -/
def block1 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) : FVec Ideal S4x256x128 .f32 :=
  block (k0_pay6 (View.ld x1 r0_0) (View.ld x5 r0_0) (View.ld x6 r0_0)) (k0_pay7 (View.ld x2 r0_0)) (k0_pay8 (View.ld x3 r0_1)) (k0_pay9 (View.ld x4 r0_1)) (View.ld x0 r0_7) (View.ld x0 r0_9) (View.ld x0 r0_10) (View.ld x0 r0_11) (View.ld x5 r0_8) (View.ld x6 r0_8)

/-- The four heads' queries of query block 1, at an index. -/
theorem four1_apply (x0 : Vec Ideal S1024x512 .f32) (g : Fin 4) (r : Fin 256) (e : Fin 128) :
    four (View.ld x0 r0_7) (View.ld x0 r0_9) (View.ld x0 r0_10) (View.ld x0 r0_11) g (ix2 r e)
      = x0 (ix2 (⟨256 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 1 at an index. -/
theorem block1_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (g : Fin 4) (r : Fin 256) (d : Fin 128) :
    block1 x0 x1 x2 x3 x4 x5 x6 (ix3 g r d) = spec x0 x1 x2 x3 x4 x5 x6 ⟨256 + r.val, by omega⟩ g d := by
  unfold block1 spec
  rw [block_apply]
  have hc : ∀ e : Fin 128, View.ld x5 r0_8 (ix2 r e) = x5 (ix2 (⟨256 + r.val, by omega⟩ : Fin 1024) e) := fun e => by pointwise
  have hs : ∀ e : Fin 128, View.ld x6 r0_8 (ix2 r e) = x6 (ix2 (⟨256 + r.val, by omega⟩ : Fin 1024) e) := fun e => by pointwise
  have hv : ∀ (x : Vec Ideal S1024x128 .f32) (l : Fin 1024) (e : Fin 128), k0_pay7 (View.ld x r0_0) (ix2 l e) = x (ix2 l e) := fun x l e => by pointwise [k0_pay7]
  have h8 : ∀ (x : Vec Ideal S1x256x128 .f32) (l : Fin 256) (e : Fin 128), k0_pay8 (View.ld x r0_1) (ix2 l e) = x (ix3 (0 : Fin 1) l e) := fun x l e => by pointwise [k0_pay8]
  have h9 : ∀ (x : Vec Ideal S1x256x128 .f32) (l : Fin 256) (e : Fin 128), k0_pay9 (View.ld x r0_1) (ix2 l e) = x (ix3 (0 : Fin 1) l e) := fun x l e => by pointwise [k0_pay9]
  simp only [four1_apply, hc, hs, hv, h8, h9, keys_apply]

/-- The vector of query block 2. -/
def block2 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) : FVec Ideal S4x256x128 .f32 :=
  block (k0_pay6 (View.ld x1 r0_0) (View.ld x5 r0_0) (View.ld x6 r0_0)) (k0_pay7 (View.ld x2 r0_0)) (k0_pay8 (View.ld x3 r0_1)) (k0_pay9 (View.ld x4 r0_1)) (View.ld x0 r0_12) (View.ld x0 r0_14) (View.ld x0 r0_15) (View.ld x0 r0_16) (View.ld x5 r0_13) (View.ld x6 r0_13)

/-- The four heads' queries of query block 2, at an index. -/
theorem four2_apply (x0 : Vec Ideal S1024x512 .f32) (g : Fin 4) (r : Fin 256) (e : Fin 128) :
    four (View.ld x0 r0_12) (View.ld x0 r0_14) (View.ld x0 r0_15) (View.ld x0 r0_16) g (ix2 r e)
      = x0 (ix2 (⟨512 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 2 at an index. -/
theorem block2_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (g : Fin 4) (r : Fin 256) (d : Fin 128) :
    block2 x0 x1 x2 x3 x4 x5 x6 (ix3 g r d) = spec x0 x1 x2 x3 x4 x5 x6 ⟨512 + r.val, by omega⟩ g d := by
  unfold block2 spec
  rw [block_apply]
  have hc : ∀ e : Fin 128, View.ld x5 r0_13 (ix2 r e) = x5 (ix2 (⟨512 + r.val, by omega⟩ : Fin 1024) e) := fun e => by pointwise
  have hs : ∀ e : Fin 128, View.ld x6 r0_13 (ix2 r e) = x6 (ix2 (⟨512 + r.val, by omega⟩ : Fin 1024) e) := fun e => by pointwise
  have hv : ∀ (x : Vec Ideal S1024x128 .f32) (l : Fin 1024) (e : Fin 128), k0_pay7 (View.ld x r0_0) (ix2 l e) = x (ix2 l e) := fun x l e => by pointwise [k0_pay7]
  have h8 : ∀ (x : Vec Ideal S1x256x128 .f32) (l : Fin 256) (e : Fin 128), k0_pay8 (View.ld x r0_1) (ix2 l e) = x (ix3 (0 : Fin 1) l e) := fun x l e => by pointwise [k0_pay8]
  have h9 : ∀ (x : Vec Ideal S1x256x128 .f32) (l : Fin 256) (e : Fin 128), k0_pay9 (View.ld x r0_1) (ix2 l e) = x (ix3 (0 : Fin 1) l e) := fun x l e => by pointwise [k0_pay9]
  simp only [four2_apply, hc, hs, hv, h8, h9, keys_apply]

/-- The vector of query block 3. -/
def block3 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) : FVec Ideal S4x256x128 .f32 :=
  block (k0_pay6 (View.ld x1 r0_0) (View.ld x5 r0_0) (View.ld x6 r0_0)) (k0_pay7 (View.ld x2 r0_0)) (k0_pay8 (View.ld x3 r0_1)) (k0_pay9 (View.ld x4 r0_1)) (View.ld x0 r0_17) (View.ld x0 r0_19) (View.ld x0 r0_20) (View.ld x0 r0_21) (View.ld x5 r0_18) (View.ld x6 r0_18)

/-- The four heads' queries of query block 3, at an index. -/
theorem four3_apply (x0 : Vec Ideal S1024x512 .f32) (g : Fin 4) (r : Fin 256) (e : Fin 128) :
    four (View.ld x0 r0_17) (View.ld x0 r0_19) (View.ld x0 r0_20) (View.ld x0 r0_21) g (ix2 r e)
      = x0 (ix2 (⟨768 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 3 at an index. -/
theorem block3_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (g : Fin 4) (r : Fin 256) (d : Fin 128) :
    block3 x0 x1 x2 x3 x4 x5 x6 (ix3 g r d) = spec x0 x1 x2 x3 x4 x5 x6 ⟨768 + r.val, by omega⟩ g d := by
  unfold block3 spec
  rw [block_apply]
  have hc : ∀ e : Fin 128, View.ld x5 r0_18 (ix2 r e) = x5 (ix2 (⟨768 + r.val, by omega⟩ : Fin 1024) e) := fun e => by pointwise
  have hs : ∀ e : Fin 128, View.ld x6 r0_18 (ix2 r e) = x6 (ix2 (⟨768 + r.val, by omega⟩ : Fin 1024) e) := fun e => by pointwise
  have hv : ∀ (x : Vec Ideal S1024x128 .f32) (l : Fin 1024) (e : Fin 128), k0_pay7 (View.ld x r0_0) (ix2 l e) = x (ix2 l e) := fun x l e => by pointwise [k0_pay7]
  have h8 : ∀ (x : Vec Ideal S1x256x128 .f32) (l : Fin 256) (e : Fin 128), k0_pay8 (View.ld x r0_1) (ix2 l e) = x (ix3 (0 : Fin 1) l e) := fun x l e => by pointwise [k0_pay8]
  have h9 : ∀ (x : Vec Ideal S1x256x128 .f32) (l : Fin 256) (e : Fin 128), k0_pay9 (View.ld x r0_1) (ix2 l e) = x (ix3 (0 : Fin 1) l e) := fun x l e => by pointwise [k0_pay9]
  simp only [four3_apply, hc, hs, hv, h8, h9, keys_apply]

set_option maxHeartbeats 1000000 in
/-- The body's result at row `p`, head `g` and lane `d` of its block, from the blocks it reads. -/
theorem out_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (i : S1024x512.Idx) (p : Fin 1024) (g : Fin 4) (d : Fin 128) (hp : (i 0).val = p.val) (hi : (i 1).val = g.val * 128 + d.val) :
    out0_7 x0 x1 x2 x3 x4 x5 x6 i = spec x0 x1 x2 x3 x4 x5 x6 p g d := by
  unfold out0_7
  canon_tiles z hz
  · refine (cut3_apply (block3 x0 x1 x2 x3 x4 x5 x6) z).trans ((block3_apply x0 x1 x2 x3 x4 x5 x6 _ _ _).trans ?_)
    exact congr (congr (congrArg (spec x0 x1 x2 x3 x4 x5 x6) (Fin.ext (by show 768 + (z 0).val = p.val; omega))) (Fin.ext (by show 3 = g.val; omega)))
      (Fin.ext (by show (z 1).val = d.val; omega))
  · refine (cut2_apply (block3 x0 x1 x2 x3 x4 x5 x6) z).trans ((block3_apply x0 x1 x2 x3 x4 x5 x6 _ _ _).trans ?_)
    exact congr (congr (congrArg (spec x0 x1 x2 x3 x4 x5 x6) (Fin.ext (by show 768 + (z 0).val = p.val; omega))) (Fin.ext (by show 2 = g.val; omega)))
      (Fin.ext (by show (z 1).val = d.val; omega))
  · refine (cut1_apply (block3 x0 x1 x2 x3 x4 x5 x6) z).trans ((block3_apply x0 x1 x2 x3 x4 x5 x6 _ _ _).trans ?_)
    exact congr (congr (congrArg (spec x0 x1 x2 x3 x4 x5 x6) (Fin.ext (by show 768 + (z 0).val = p.val; omega))) (Fin.ext (by show 1 = g.val; omega)))
      (Fin.ext (by show (z 1).val = d.val; omega))
  · refine (cut0_apply (block3 x0 x1 x2 x3 x4 x5 x6) z).trans ((block3_apply x0 x1 x2 x3 x4 x5 x6 _ _ _).trans ?_)
    exact congr (congr (congrArg (spec x0 x1 x2 x3 x4 x5 x6) (Fin.ext (by show 768 + (z 0).val = p.val; omega))) (Fin.ext (by show 0 = g.val; omega)))
      (Fin.ext (by show (z 1).val = d.val; omega))
  · refine (cut3_apply (block2 x0 x1 x2 x3 x4 x5 x6) z).trans ((block2_apply x0 x1 x2 x3 x4 x5 x6 _ _ _).trans ?_)
    exact congr (congr (congrArg (spec x0 x1 x2 x3 x4 x5 x6) (Fin.ext (by show 512 + (z 0).val = p.val; omega))) (Fin.ext (by show 3 = g.val; omega)))
      (Fin.ext (by show (z 1).val = d.val; omega))
  · refine (cut2_apply (block2 x0 x1 x2 x3 x4 x5 x6) z).trans ((block2_apply x0 x1 x2 x3 x4 x5 x6 _ _ _).trans ?_)
    exact congr (congr (congrArg (spec x0 x1 x2 x3 x4 x5 x6) (Fin.ext (by show 512 + (z 0).val = p.val; omega))) (Fin.ext (by show 2 = g.val; omega)))
      (Fin.ext (by show (z 1).val = d.val; omega))
  · refine (cut1_apply (block2 x0 x1 x2 x3 x4 x5 x6) z).trans ((block2_apply x0 x1 x2 x3 x4 x5 x6 _ _ _).trans ?_)
    exact congr (congr (congrArg (spec x0 x1 x2 x3 x4 x5 x6) (Fin.ext (by show 512 + (z 0).val = p.val; omega))) (Fin.ext (by show 1 = g.val; omega)))
      (Fin.ext (by show (z 1).val = d.val; omega))
  · refine (cut0_apply (block2 x0 x1 x2 x3 x4 x5 x6) z).trans ((block2_apply x0 x1 x2 x3 x4 x5 x6 _ _ _).trans ?_)
    exact congr (congr (congrArg (spec x0 x1 x2 x3 x4 x5 x6) (Fin.ext (by show 512 + (z 0).val = p.val; omega))) (Fin.ext (by show 0 = g.val; omega)))
      (Fin.ext (by show (z 1).val = d.val; omega))
  · refine (cut3_apply (block1 x0 x1 x2 x3 x4 x5 x6) z).trans ((block1_apply x0 x1 x2 x3 x4 x5 x6 _ _ _).trans ?_)
    exact congr (congr (congrArg (spec x0 x1 x2 x3 x4 x5 x6) (Fin.ext (by show 256 + (z 0).val = p.val; omega))) (Fin.ext (by show 3 = g.val; omega)))
      (Fin.ext (by show (z 1).val = d.val; omega))
  · refine (cut2_apply (block1 x0 x1 x2 x3 x4 x5 x6) z).trans ((block1_apply x0 x1 x2 x3 x4 x5 x6 _ _ _).trans ?_)
    exact congr (congr (congrArg (spec x0 x1 x2 x3 x4 x5 x6) (Fin.ext (by show 256 + (z 0).val = p.val; omega))) (Fin.ext (by show 2 = g.val; omega)))
      (Fin.ext (by show (z 1).val = d.val; omega))
  · refine (cut1_apply (block1 x0 x1 x2 x3 x4 x5 x6) z).trans ((block1_apply x0 x1 x2 x3 x4 x5 x6 _ _ _).trans ?_)
    exact congr (congr (congrArg (spec x0 x1 x2 x3 x4 x5 x6) (Fin.ext (by show 256 + (z 0).val = p.val; omega))) (Fin.ext (by show 1 = g.val; omega)))
      (Fin.ext (by show (z 1).val = d.val; omega))
  · refine (cut0_apply (block1 x0 x1 x2 x3 x4 x5 x6) z).trans ((block1_apply x0 x1 x2 x3 x4 x5 x6 _ _ _).trans ?_)
    exact congr (congr (congrArg (spec x0 x1 x2 x3 x4 x5 x6) (Fin.ext (by show 256 + (z 0).val = p.val; omega))) (Fin.ext (by show 0 = g.val; omega)))
      (Fin.ext (by show (z 1).val = d.val; omega))
  · refine (cut3_apply (block0 x0 x1 x2 x3 x4 x5 x6) z).trans ((block0_apply x0 x1 x2 x3 x4 x5 x6 _ _ _).trans ?_)
    exact congr (congr (congrArg (spec x0 x1 x2 x3 x4 x5 x6) (Fin.ext (by show 0 + (z 0).val = p.val; omega))) (Fin.ext (by show 3 = g.val; omega)))
      (Fin.ext (by show (z 1).val = d.val; omega))
  · refine (cut2_apply (block0 x0 x1 x2 x3 x4 x5 x6) z).trans ((block0_apply x0 x1 x2 x3 x4 x5 x6 _ _ _).trans ?_)
    exact congr (congr (congrArg (spec x0 x1 x2 x3 x4 x5 x6) (Fin.ext (by show 0 + (z 0).val = p.val; omega))) (Fin.ext (by show 2 = g.val; omega)))
      (Fin.ext (by show (z 1).val = d.val; omega))
  · refine (cut1_apply (block0 x0 x1 x2 x3 x4 x5 x6) z).trans ((block0_apply x0 x1 x2 x3 x4 x5 x6 _ _ _).trans ?_)
    exact congr (congr (congrArg (spec x0 x1 x2 x3 x4 x5 x6) (Fin.ext (by show 0 + (z 0).val = p.val; omega))) (Fin.ext (by show 1 = g.val; omega)))
      (Fin.ext (by show (z 1).val = d.val; omega))
  · refine (cut0_apply (block0 x0 x1 x2 x3 x4 x5 x6) z).trans ((block0_apply x0 x1 x2 x3 x4 x5 x6 _ _ _).trans ?_)
    exact congr (congr (congrArg (spec x0 x1 x2 x3 x4 x5 x6) (Fin.ext (by show 0 + (z 0).val = p.val; omega))) (Fin.ext (by show 0 = g.val; omega)))
      (Fin.ext (by show (z 1).val = d.val; omega))

end Cert.Attn

end
-- ==== Proof.Attn.Softmax.lean ====
/-
  Hand-written. THE ATTENTION, THE SOFTMAX: over real scores the kernel's weighted mean and the reference's are one real number.
-/
module

public import proofs.«01_k».proof.Proof.Attn.Block

@[expose] public section

noncomputable section

namespace Cert.Attn

open Idealize.ShloMosaic

/-- A sum of reals, read as extended reals. -/
theorem sum_coe {ι : Type} [Fintype ι] (f : ι → ℝ) : ∑ x, (f x : EReal) = ((∑ x, f x : ℝ) : EReal) := by
  classical
  refine Finset.induction_on (motive := fun s => ∑ x ∈ s, (f x : EReal) = ((∑ x ∈ s, f x : ℝ) : EReal)) Finset.univ (by simp) ?_
  intro x s hx ih
  rw [Finset.sum_insert hx, Finset.sum_insert hx, ih, EReal.coe_add]

/-- A quotient of reals by a real that is not zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The word the maxima start from is minus infinity. -/
theorem neg_inf : Ideal.ofBits FTy.f32 4286578688#32 = ⊥ := by simp [Ideal.ofBits, Ideal.ieee]

/-- The greatest of finitely many reals is a real. -/
theorem fold_real {ι : Type} [Fintype ι] [Nonempty ι] (f : ι → EReal) (hf : ∀ x, ∃ r : ℝ, f x = r) :
    ∃ r : ℝ, Finset.fold max (Ideal.ofBits FTy.f32 4286578688#32) f Finset.univ = r := by
  rw [neg_inf]
  have h1 : Finset.fold max ⊥ f Finset.univ ≠ ⊤ := by
    refine ne_of_lt ((Finset.fold_max_lt _).mpr ⟨bot_lt_top, fun x _ => ?_⟩)
    obtain ⟨r, hr⟩ := hf x
    rw [hr]
    exact EReal.coe_lt_top r
  have h2 : Finset.fold max ⊥ f Finset.univ ≠ ⊥ := by
    obtain ⟨x⟩ := ‹Nonempty ι›
    obtain ⟨r, hr⟩ := hf x
    have : (r : EReal) ≤ Finset.fold max ⊥ f Finset.univ := (Finset.le_fold_max _).mpr (Or.inr ⟨x, Finset.mem_univ x, hr.ge⟩)
    exact ne_of_gt (lt_of_lt_of_le (EReal.bot_lt_coe r) this)
  exact ⟨_, (EReal.coe_toReal h1 h2).symm⟩

/-- The weighted mean of real values under the exponentials of real scores. -/
def softMean (dL : Fin 1024 → ℝ) (dC : Fin 256 → ℝ) (vL : Fin 1024 → ℝ) (vC : Fin 256 → ℝ) : ℝ :=
  (∑ x, Real.exp (dL x) * vL x + ∑ x, Real.exp (dC x) * vC x) / (∑ x, Real.exp (dL x) + ∑ x, Real.exp (dC x))

theorem total_pos (dL : Fin 1024 → ℝ) (dC : Fin 256 → ℝ) : 0 < ∑ x, Real.exp (dL x) + ∑ x, Real.exp (dC x) :=
  add_pos_of_nonneg_of_pos (Finset.sum_nonneg fun x _ => (Real.exp_pos _).le) (Finset.sum_pos (fun x _ => Real.exp_pos _) Finset.univ_nonempty)

/-- A power of two below a bound is an exponential times a factor of the bound's alone. -/
theorem pow_shift (d M : ℝ) : Real.rpow 2 (d * (Real.log 2)⁻¹ - M) = Real.exp d * Real.rpow 2 (-M) := by
  have h2 : Real.log 2 ≠ 0 := (Real.log_pos (by norm_num)).ne'
  show (2 : ℝ) ^ (d * (Real.log 2)⁻¹ - M) = Real.exp d * (2 : ℝ) ^ (-M)
  rw [sub_eq_add_neg, Real.rpow_add (by norm_num), Real.rpow_def_of_pos (by norm_num) (d * (Real.log 2)⁻¹)]
  congr 2
  field_simp

/-- The kernel's mean over real scores in units of ln 2. -/
theorem mean_real (dL : Fin 1024 → ℝ) (dC : Fin 256 → ℝ) (vL : Fin 1024 → ℝ) (vC : Fin 256 → ℝ) :
    mean (fun x => ((dL x * (Real.log 2)⁻¹ : ℝ) : EReal)) (fun x => ((dC x * (Real.log 2)⁻¹ : ℝ) : EReal)) (fun x => (vL x : EReal)) (fun x => (vC x : EReal))
      = (softMean dL dC vL vC : EReal) := by
  obtain ⟨ML, hL⟩ := fold_real (fun x => ((dL x * (Real.log 2)⁻¹ : ℝ) : EReal)) fun x => ⟨_, rfl⟩
  obtain ⟨MC, hC⟩ := fold_real (fun x => ((dC x * (Real.log 2)⁻¹ : ℝ) : EReal)) fun x => ⟨_, rfl⟩
  obtain ⟨M, hM⟩ : ∃ M : ℝ, max (ML : EReal) (MC : EReal) = M := ⟨max ML MC, (EReal.coe_strictMono.monotone.map_max).symm⟩
  have hp : 0 < Real.rpow 2 (-M) := Real.rpow_pos_of_pos (by norm_num) _
  have he : ∀ t : ℝ, FloatOps.exp2 (F := Ideal) (φ := .f32) ((t : EReal) - (M : EReal)) = ((Real.rpow 2 (t - M) : ℝ) : EReal) := fun t => by
    rw [← EReal.coe_sub]
    rfl
  unfold mean
  rw [hL, hC, hM]
  simp only [he, pow_shift, ← EReal.coe_mul, sum_coe, ← EReal.coe_add]
  have h0 := total_pos dL dC
  have e1 : ∑ x, Real.exp (dL x) * Real.rpow 2 (-M) + ∑ x, Real.exp (dC x) * Real.rpow 2 (-M)
      = Real.rpow 2 (-M) * (∑ x, Real.exp (dL x) + ∑ x, Real.exp (dC x)) := by
    rw [mul_add, Finset.mul_sum, Finset.mul_sum]
    simp only [mul_comm]
  have e2 : ∑ x, Real.exp (dL x) * Real.rpow 2 (-M) * vL x + ∑ x, Real.exp (dC x) * Real.rpow 2 (-M) * vC x
      = Real.rpow 2 (-M) * (∑ x, Real.exp (dL x) * vL x + ∑ x, Real.exp (dC x) * vC x) := by
    rw [mul_add, Finset.mul_sum, Finset.mul_sum]
    exact congrArg₂ (· + ·) (Finset.sum_congr rfl fun x _ => by ring) (Finset.sum_congr rfl fun x _ => by ring)
  rw [e1, e2, div_coe _ _ (mul_pos hp h0).ne', mul_div_mul_left _ _ hp.ne']
  rfl

/-- The reference's weighted sums over real scores, whatever real number is taken off the scores. -/
theorem weighted_real (u : Fin 1280 → ℝ) (M : ℝ) (dL : Fin 1024 → ℝ) (dC : Fin 256 → ℝ) (vL : Fin 1024 → ℝ) (vC : Fin 256 → ℝ)
    (hL : ∀ x : Fin 1024, u ⟨x.val, by omega⟩ = dL x) (hC : ∀ x : Fin 256, u ⟨1024 + x.val, by omega⟩ = dC x) :
    ∑ x : Fin 1024, (vL x : EReal) * Ideal.div (Ideal.exp ((u ⟨x.val, by omega⟩ : EReal) - (M : EReal))) (∑ y : Fin 1280, Ideal.exp ((u y : EReal) - (M : EReal)))
      + ∑ x : Fin 256, (vC x : EReal) * Ideal.div (Ideal.exp ((u ⟨1024 + x.val, by omega⟩ : EReal) - (M : EReal))) (∑ y : Fin 1280, Ideal.exp ((u y : EReal) - (M : EReal)))
      = (softMean dL dC vL vC : EReal) := by
  have he : ∀ t : ℝ, Ideal.exp ((t : EReal) - (M : EReal)) = ((Real.exp t * Real.exp (-M) : ℝ) : EReal) := fun t => by
    rw [← EReal.coe_sub, ← Real.exp_add, ← sub_eq_add_neg]
    rfl
  have hp : 0 < Real.exp (-M) := Real.exp_pos _
  have h0 := total_pos dL dC
  have hs : ∑ y : Fin 1280, Real.exp (u y) * Real.exp (-M) = Real.exp (-M) * (∑ x, Real.exp (dL x) + ∑ x, Real.exp (dC x)) := by
    rw [← Finset.sum_mul, mul_comm]
    congr 1
    refine (Fin.sum_univ_add (a := 1024) (b := 256) (fun y : Fin (1024 + 256) => Real.exp (u y))).trans ?_
    exact congrArg₂ (· + ·) (Finset.sum_congr rfl fun x _ => congrArg Real.exp (hL x)) (Finset.sum_congr rfl fun x _ => congrArg Real.exp (hC x))
  simp only [he, sum_coe, hs, hL, hC, div_coe _ _ (mul_pos hp h0).ne', ← EReal.coe_mul, ← EReal.coe_add]
  unfold softMean
  rw [add_div, Finset.sum_div, Finset.sum_div]
  have hq : ∀ e v : ℝ, v * (e * Real.exp (-M) / (Real.exp (-M) * (∑ x, Real.exp (dL x) + ∑ x, Real.exp (dC x)))) = e * v / (∑ x, Real.exp (dL x) + ∑ x, Real.exp (dC x)) := fun e v => by
    have := hp.ne'
    have := h0.ne'
    field_simp
  simp only [hq]

end Cert.Attn

end
-- ==== Proof.Attn.Array.lean ====
/-
  Hand-written. THE ATTENTION, THE ARRAY: the element of the result at row `r` and column `c`, from the three arguments.
-/
module

public import proofs.«01_k».proof.Proof.Attn.Block
public import proofs.«01_k».proof.Proof.Gen.KernelIdeal.Value

@[expose] public section

set_option maxRecDepth 16384

noncomputable section

namespace Cert.Attn

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

theorem idx_q : ∀ t : Fin cfg0.N, win0_0.index t = ![t.val / 8, t.val % 8] := (by decide +kernel : ∀ t : Fin grid0.N, _)
theorem idx_k : ∀ t : Fin cfg0.N, win0_1.index t = ![t.val / 8, 32 + t.val % 8] := (by decide +kernel : ∀ t : Fin grid0.N, _)
theorem idx_v : ∀ t : Fin cfg0.N, win0_2.index t = ![t.val / 8, 40 + t.val % 8] := (by decide +kernel : ∀ t : Fin grid0.N, _)
theorem idx_ck : ∀ t : Fin cfg0.N, win0_3.index t = ![t.val / 8, 0, t.val % 8] := (by decide +kernel : ∀ t : Fin grid0.N, _)
theorem idx_cv : ∀ t : Fin cfg0.N, win0_4.index t = ![t.val / 8, 0, t.val % 8] := (by decide +kernel : ∀ t : Fin grid0.N, _)
theorem idx_cos : ∀ t : Fin cfg0.N, win0_5.index t = ![0, 0] := (by decide +kernel : ∀ t : Fin grid0.N, _)
theorem idx_sin : ∀ t : Fin cfg0.N, win0_6.index t = ![0, 0] := (by decide +kernel : ∀ t : Fin grid0.N, _)
theorem idx_out : ∀ t : Fin cfg0.N, win0_7.index t = ![t.val / 8, t.val % 8] := (by decide +kernel : ∀ t : Fin grid0.N, _)

/-- The frequencies: ten thousand to the power of minus j over 32. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of the grid's rows. -/
def rowAngles : FVec Ideal S1024x32 .f32 :=
  mulf (broadcastInDim S1024x32 ![0, 1] bcast_S1024x1_S1024x32_0_1 (broadcastInDim S1024x1 ![0] bcast_S1024_S1024x1_0
      (shapeCast S1024 (broadcastInDim S16x64 ![0] bcast_S16_S16x64_0 (sitofp (F := Ideal) .f32 (iotaInDim S16 32 0))) shapeCasts_S16x64_S1024)))
    (broadcastInDim S1024x32 ![0, 1] bcast_S1x32_S1024x32_0_1 (broadcastInDim S1x32 ![1] bcast_S32_S1x32_1 freqs))

/-- The angles of the grid's columns. -/
def colAngles : FVec Ideal S1024x32 .f32 :=
  mulf (broadcastInDim S1024x32 ![0, 1] bcast_S1024x1_S1024x32_0_1 (broadcastInDim S1024x1 ![0] bcast_S1024_S1024x1_0
      (shapeCast S1024 (broadcastInDim S16x64 ![0, 1] bcast_S1x64_S16x64_0_1 (shapeCast S1x64 (sitofp (F := Ideal) .f32 (iotaInDim S64 32 0)) shapeCasts_S64_S1x64)) shapeCasts_S16x64_S1024)))
    (broadcastInDim S1024x32 ![0, 1] bcast_S1x32_S1024x32_0_1 (broadcastInDim S1x32 ![1] bcast_S32_S1x32_1 freqs))

/-- The cosine table. -/
def cosTable : FVec Ideal S1024x128 .f32 :=
  concatenate S1024x128 1 [⟨S1024x32, Host.cos rowAngles⟩, ⟨S1024x32, Host.cos rowAngles⟩, ⟨S1024x32, Host.cos colAngles⟩, ⟨S1024x32, Host.cos colAngles⟩]
    concatenates_S1024x32_S1024x32_S1024x32_S1024x32_S1024x128_d1

/-- The table of signed sines. -/
def sinTable : FVec Ideal S1024x128 .f32 :=
  concatenate S1024x128 1 [⟨S1024x32, Host.negf (Host.sin rowAngles)⟩, ⟨S1024x32, Host.sin rowAngles⟩, ⟨S1024x32, Host.negf (Host.sin colAngles)⟩, ⟨S1024x32, Host.sin colAngles⟩]
    concatenates_S1024x32_S1024x32_S1024x32_S1024x32_S1024x128_d1

/-- The cosine table at the region's entry. -/
theorem entry_cos (c : Dev nD) : (V m c main_v35 : Vec Ideal S1024x128 .f32)
    = shapeCast S1024x128 (broadcastInDim S1x1024x1x128 ![0, 1, 2, 3] bcast_S1x1024x1x128_S1x1024x1x128_0_1_2_3 (shapeCast S1x1024x1x128 cosTable shapeCasts_S1024x128_S1x1024x1x128)) shapeCasts_S1x1024x1x128_S1024x128 := by
  unfold V
  after_results
  rfl

/-- The table of signed sines at the region's entry. -/
theorem entry_sin (c : Dev nD) : (V m c main_v38 : Vec Ideal S1024x128 .f32)
    = shapeCast S1024x128 (broadcastInDim S1x1024x1x128 ![0, 1, 2, 3] bcast_S1x1024x1x128_S1x1024x1x128_0_1_2_3 (shapeCast S1x1024x1x128 sinTable shapeCasts_S1024x128_S1x1024x1x128)) shapeCasts_S1x1024x1x128_S1024x128 := by
  unfold V
  after_results
  rfl

/-- The context keys at the region's entry. -/
theorem entry_ck (c : Dev nD) : (V m c main_v39 : Vec Ideal S8x256x1024 .f32)
    = shapeCast S8x256x1024 (m ((c : Thread nD τ).loc main_arg1) : Vec Ideal S8x256x8x128 .f32) shapeCasts_S8x256x8x128_S8x256x1024 := by
  unfold V
  after_results
  rfl

/-- The context values at the region's entry. -/
theorem entry_cv (c : Dev nD) : (V m c main_v40 : Vec Ideal S8x256x1024 .f32)
    = shapeCast S8x256x1024 (m ((c : Thread nD τ).loc main_arg2) : Vec Ideal S8x256x8x128 .f32) shapeCasts_S8x256x8x128_S8x256x1024 := by
  unfold V
  after_results
  rfl

/-- A table that only changes its shape on the way is the table. -/
theorem table_apply (x : FVec Ideal S1024x128 .f32) (r : Fin 1024) (j : Fin 128) :
    shapeCast S1024x128 (broadcastInDim S1x1024x1x128 ![0, 1, 2, 3] bcast_S1x1024x1x128_S1x1024x1x128_0_1_2_3 (shapeCast S1x1024x1x128 x shapeCasts_S1024x128_S1x1024x1x128)) shapeCasts_S1x1024x1x128_S1024x128 (ix2 r j) = x (ix2 r j) := by
  pointwise

/-- The element of the result for sequence `b`, key/value head `kv`, row `p`, query head `g` of the four and lane `d`. -/
def attend (a : Vec Ideal S8192x6144 .f32) (ck cv : Vec Ideal S8x256x8x128 .f32) (b kv : Fin 8) (p : Fin 1024) (g : Fin 4) (d : Fin 128) : EReal :=
  mean
    (fun l => ∑ e, rot (fun e => a (ix2 (⟨b.val * 1024 + p.val, by omega⟩ : Fin 8192) (⟨kv.val * 512 + g.val * 128 + e.val, by omega⟩ : Fin 6144)) * qscale)
        (fun e => cosTable (ix2 p e)) (fun e => sinTable (ix2 p e)) e
      * rot (fun e => a (ix2 (⟨b.val * 1024 + l.val, by omega⟩ : Fin 8192) (⟨4096 + kv.val * 128 + e.val, by omega⟩ : Fin 6144)))
        (fun e => cosTable (ix2 l e)) (fun e => sinTable (ix2 l e)) e)
    (fun l => ∑ e, a (ix2 (⟨b.val * 1024 + p.val, by omega⟩ : Fin 8192) (⟨kv.val * 512 + g.val * 128 + e.val, by omega⟩ : Fin 6144)) * qscale * ck (ix4 b l kv e))
    (fun l => a (ix2 (⟨b.val * 1024 + l.val, by omega⟩ : Fin 8192) (⟨5120 + kv.val * 128 + d.val, by omega⟩ : Fin 6144)))
    (fun l => cv (ix4 b l kv d))

/-- The result as a function of the three arguments. -/
def result (a : Vec Ideal S8192x6144 .f32) (ck cv : Vec Ideal S8x256x8x128 .f32) : Vec Ideal S8192x4096 .bf16 := fun i =>
  attend a ck cv (⟨(i 0).val / 1024, Nat.div_lt_of_lt_mul (i 0).isLt⟩) (⟨(i 1).val / 512, Nat.div_lt_of_lt_mul (i 1).isLt⟩)
    (⟨(i 0).val % 1024, Nat.mod_lt _ (by decide)⟩) (⟨(i 1).val % 512 / 128, Nat.div_lt_of_lt_mul (Nat.mod_lt _ (by decide))⟩)
    (⟨(i 1).val % 128, Nat.mod_lt _ (by decide)⟩)

/-- The query block a point reads, at an index. -/
theorem read_q (c : Dev nD) (t : Fin cfg0.N) (b kv : Fin 8) (hb : b.val = t.val / 8) (hkv : kv.val = t.val % 8) (p : Fin 1024) (g : Fin 4) (e : Fin 128) : iblk m c 0 t (ix2 p (⟨g.val * 128 + e.val, by omega⟩ : Fin 512)) = m ((c : Thread nD τ).loc main_arg0) (ix2 (⟨b.val * 1024 + p.val, by omega⟩ : Fin 8192) (⟨kv.val * 512 + g.val * 128 + e.val, by omega⟩ : Fin 6144)) := by
  blk_point [iblk, V, idx_q t, hb, hkv]

/-- The key block a point reads, at an index. -/
theorem read_k (c : Dev nD) (t : Fin cfg0.N) (b kv : Fin 8) (hb : b.val = t.val / 8) (hkv : kv.val = t.val % 8) (l : Fin 1024) (e : Fin 128) : iblk m c 1 t (ix2 l e) = m ((c : Thread nD τ).loc main_arg0) (ix2 (⟨b.val * 1024 + l.val, by omega⟩ : Fin 8192) (⟨4096 + kv.val * 128 + e.val, by omega⟩ : Fin 6144)) := by
  blk_point [iblk, V, idx_k t, hb, hkv]

/-- The value block a point reads, at an index. -/
theorem read_v (c : Dev nD) (t : Fin cfg0.N) (b kv : Fin 8) (hb : b.val = t.val / 8) (hkv : kv.val = t.val % 8) (d : Fin 128) (l : Fin 1024) : iblk m c 2 t (ix2 l d) = m ((c : Thread nD τ).loc main_arg0) (ix2 (⟨b.val * 1024 + l.val, by omega⟩ : Fin 8192) (⟨5120 + kv.val * 128 + d.val, by omega⟩ : Fin 6144)) := by
  blk_point [iblk, V, idx_v t, hb, hkv]

/-- The context keys' block a point reads, at an index. -/
theorem read_ck (c : Dev nD) (t : Fin cfg0.N) (b kv : Fin 8) (hb : b.val = t.val / 8) (hkv : kv.val = t.val % 8) (l : Fin 256) (e : Fin 128) : iblk m c 3 t (ix3 (0 : Fin 1) l e) = m ((c : Thread nD τ).loc main_arg1) (ix4 b l kv e) := by
  have hi : ((cfg0.win 3).blk t).view.emb (ix3 (0 : Fin 1) l e) = (ix3 b l (⟨kv.val * 128 + e.val, by omega⟩ : Fin 1024) : S8x256x1024.Idx) := by
    blk_ext [idx_ck t]
  unfold iblk
  refine (congrArg (V m c main_v39) hi).trans ?_
  rw [entry_ck]
  pointwise

/-- The context values' block a point reads, at an index. -/
theorem read_cv (c : Dev nD) (t : Fin cfg0.N) (b kv : Fin 8) (hb : b.val = t.val / 8) (hkv : kv.val = t.val % 8) (d : Fin 128) (l : Fin 256) : iblk m c 4 t (ix3 (0 : Fin 1) l d) = m ((c : Thread nD τ).loc main_arg2) (ix4 b l kv d) := by
  have hi : ((cfg0.win 4).blk t).view.emb (ix3 (0 : Fin 1) l d) = (ix3 b l (⟨kv.val * 128 + d.val, by omega⟩ : Fin 1024) : S8x256x1024.Idx) := by
    blk_ext [idx_cv t]
  unfold iblk
  refine (congrArg (V m c main_v40) hi).trans ?_
  rw [entry_cv]
  pointwise

/-- The block of cosines a point reads, at an index. -/
theorem read_cos (c : Dev nD) (t : Fin cfg0.N) (l : Fin 1024) (e : Fin 128) : iblk m c 5 t (ix2 l e) = cosTable (ix2 l e) := by
  have hi : ((cfg0.win 5).blk t).view.emb (ix2 l e) = (ix2 l e : S1024x128.Idx) := by
    blk_ext [idx_cos t]
  unfold iblk
  refine (congrArg (V m c main_v35) hi).trans ?_
  rw [entry_cos]
  exact table_apply _ l e

/-- The block of signed sines a point reads, at an index. -/
theorem read_sin (c : Dev nD) (t : Fin cfg0.N) (l : Fin 1024) (e : Fin 128) : iblk m c 6 t (ix2 l e) = sinTable (ix2 l e) := by
  have hi : ((cfg0.win 6).blk t).view.emb (ix2 l e) = (ix2 l e : S1024x128.Idx) := by
    blk_ext [idx_sin t]
  unfold iblk
  refine (congrArg (V m c main_v38) hi).trans ?_
  rw [entry_sin]
  exact table_apply _ l e

/-- What a point stores, at an index of its block. -/
theorem block_result (c : Dev nD) (t : Fin cfg0.N) (y : S1024x512.Idx) (i : S8192x4096.Idx)
    (h0 : (i 0).val = t.val / 8 * 1024 + (y 0).val) (h1 : (i 1).val = t.val % 8 * 512 + (y 1).val) :
    (dats m 0 c).after 7 t y
      = result (m ((c : Thread nD τ).loc main_arg0)) (m ((c : Thread nD τ).loc main_arg1)) (m ((c : Thread nD τ).loc main_arg2)) i := by
  have hN : t.val < 64 := t.isLt.trans_eq N_0
  have y0 : (y 0).val < 1024 := (y 0).isLt
  have y1 : (y 1).val < 512 := (y 1).isLt
  obtain ⟨b, hb⟩ : ∃ b : Fin 8, b.val = t.val / 8 := ⟨⟨t.val / 8, by omega⟩, rfl⟩
  obtain ⟨kv, hkv⟩ : ∃ b : Fin 8, b.val = t.val % 8 := ⟨⟨t.val % 8, by omega⟩, rfl⟩
  obtain ⟨p, hp⟩ : ∃ p : Fin 1024, p.val = (y 0).val := ⟨⟨(y 0).val, by omega⟩, rfl⟩
  obtain ⟨g, hg⟩ : ∃ g : Fin 4, g.val = (y 1).val / 128 := ⟨⟨(y 1).val / 128, by omega⟩, rfl⟩
  obtain ⟨d, hd⟩ : ∃ d : Fin 128, d.val = (y 1).val % 128 := ⟨⟨(y 1).val % 128, by omega⟩, rfl⟩
  have er : result (m ((c : Thread nD τ).loc main_arg0)) (m ((c : Thread nD τ).loc main_arg1)) (m ((c : Thread nD τ).loc main_arg2)) i
      = attend (m ((c : Thread nD τ).loc main_arg0)) (m ((c : Thread nD τ).loc main_arg1)) (m ((c : Thread nD τ).loc main_arg2)) b kv p g d := by
    unfold result
    congr 1 <;> refine Fin.ext ?_ <;> dsimp only <;> omega
  rw [er, after0_7, out_apply _ _ _ _ _ _ _ y p g d hp.symm (by omega)]
  unfold spec attend
  simp only [read_q m c t b kv hb hkv p g, read_k m c t b kv hb hkv, read_v m c t b kv hb hkv d, read_ck m c t b kv hb hkv, read_cv m c t b kv hb hkv d, read_cos m c t, read_sin m c t]

/-- The result array after the run. -/
theorem array_eq (c : Dev nD) :
    (dats m 0 c).arrAt 7 cfg0.N
      = result (m ((c : Thread nD τ).loc main_arg0)) (m ((c : Thread nD τ).loc main_arg1)) (m ((c : Thread nD τ).loc main_arg2)) :=
  Dat.arrAt_eq_of_covers (dats m 0 c) 7 _ (by decide +kernel) fun t hf y =>
    block_result m c t y _ (by blk_simp [idx_out t]) (by blk_simp [idx_out t])

/-- The run of the idealized call: its result is `result` of the three arguments, which end unchanged. -/
theorem run : θ_run (defs (F := Ideal)) (onTc (τ := τ) (main (F := Ideal))) ⟨m, fun _ => 0, ρ⟩ (fun r => ∀ c : Dev nD,
    r.2.mem ((c.tc : Thread nD τ).loc main_v41)
      = result (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (array_eq m c), (h c).2⟩) (Value.run_blocks m ρ)

end Cert.Attn

end
-- ==== Proof.Attn.Turned.lean ====
/-
  Hand-written. THE ATTENTION, THE REFERENCE'S TURNED HEADS: the angles, and the queries and keys turned by them, at an index.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Attn

open Idealize.ShloMosaic Idealize.ShloMosaic.TcCoe Idealize.SL.Sem
open Cert.ReferenceIdeal Cert.ReferenceIdeal.Gen Cert.ReferenceIdeal.Read

variable (a : Vec Ideal S8192x6144 .f32) (ck cv : Vec Ideal S8x256x8x128 .f32)

/-- The frequency of pair `j`: ten thousand to the power of minus j over 32. -/
def freq (j : Fin 32) : EReal :=
  Ideal.pow (Ideal.ofBits .f32 1176256512#32) (Ideal.div (-FloatOps.sitofp (F := Ideal) .f32 (BitVec.ofNat 32 ↑j)) (Ideal.ofBits .f32 1107296256#32))

/-- The angle of the grid row of position `r`. -/
def rowAngle (r : Fin 1024) (j : Fin 32) : EReal := FloatOps.sitofp (F := Ideal) .f32 (BitVec.ofNat 32 (↑r / 64)) * freq j

/-- The angle of the grid column of position `r`. -/
def colAngle (r : Fin 1024) (j : Fin 32) : EReal := FloatOps.sitofp (F := Ideal) .f32 (BitVec.ofNat 32 (↑r % 64)) * freq j

/-- One half of a head, 64 lanes, turned by 32 angles: the first 32 lanes are the pairs' first members. -/
def turn (x : Fin 64 → EReal) (A : Fin 32 → EReal) (e : Fin 64) : EReal :=
  if h : e.val < 32 then x ⟨e.val, by omega⟩ * Ideal.cos (A ⟨e.val, h⟩) - x ⟨32 + e.val, by omega⟩ * Ideal.sin (A ⟨e.val, h⟩)
  else x ⟨32 + (e.val - 32), by omega⟩ * Ideal.cos (A ⟨e.val - 32, by omega⟩) + x ⟨e.val - 32, by omega⟩ * Ideal.sin (A ⟨e.val - 32, by omega⟩)

/-- A head, 128 lanes: its first half turned by the row's angles, its second by the column's. -/
def turned (x : Fin 128 → EReal) (A B : Fin 32 → EReal) (e : Fin 128) : EReal :=
  if h : e.val < 64 then turn (fun d => x ⟨d.val, by omega⟩) A ⟨e.val, h⟩
  else turn (fun d => x ⟨64 + d.val, by omega⟩) B ⟨e.val - 64, by omega⟩

theorem rows_ref (r : Fin 1024) (j : Fin 32) : val_main_v24 (F := Ideal) (ix2 r j) = rowAngle r j := by
  unfold rowAngle freq
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0]

theorem cols_ref (r : Fin 1024) (j : Fin 32) : val_main_v29 (F := Ideal) (ix2 r j) = colAngle r j := by
  unfold colAngle freq
  pointwise [val_main_v7, val_main_v8, val_main_v9, val_main_v10, val_main_v11, val_main_v12, val_main_v13, val_main_v14, val_main_v15, val_main_v16, val_main_v17, val_main_v18, val_main_v19, val_main_v20, val_main_v25, val_main_v26, val_main_v27, val_main_v28, val_main_v29, val_main_cst, val_main_cst_0]

/-- The turned queries. -/
theorem q_ref (b : Fin 8) (r : Fin 1024) (h : Fin 32) (e : Fin 128) : val_main_v74 (F := Ideal) a (ix4 b r h e)
    = turned (fun d => a (ix2 (⟨b.val * 1024 + r.val, by omega⟩ : Fin 8192) (⟨h.val * 128 + d.val, by omega⟩ : Fin 6144))) (rowAngle r) (colAngle r) e := by
  unfold turned turn
  simp only [← rows_ref, ← cols_ref]
  pointwise [val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v0, val_main_v1, val_main_v2]

/-- The turned keys. -/
theorem k_ref (b : Fin 8) (r : Fin 1024) (h : Fin 8) (e : Fin 128) : val_main_v113 (F := Ideal) a (ix4 b r h e)
    = turned (fun d => a (ix2 (⟨b.val * 1024 + r.val, by omega⟩ : Fin 8192) (⟨4096 + (h.val * 128 + d.val), by omega⟩ : Fin 6144))) (rowAngle r) (colAngle r) e := by
  unfold turned turn
  simp only [← rows_ref, ← cols_ref]
  pointwise [val_main_v34, val_main_v35, val_main_v36, val_main_v37, val_main_v30, val_main_v31, val_main_v32, val_main_v33, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v0, val_main_v3, val_main_v4]

end Cert.Attn

end
-- ==== Proof.Attn.Tables.lean ====
/-
  Hand-written. THE ATTENTION, THE TABLES: the kernel's rotation by its tables is the reference's turn by its angles.
-/
module

public import proofs.«01_k».proof.Proof.Attn.Array
public import proofs.«01_k».proof.Proof.Attn.Turned

@[expose] public section

set_option maxRecDepth 16384

noncomputable section

namespace Cert.Attn

open Idealize.ShloMosaic
open Cert.KernelIdeal Cert.KernelIdeal.Gen

theorem rows_apply (r : Fin 1024) (j : Fin 32) : rowAngles (ix2 r j) = rowAngle r j := by
  unfold rowAngles rowAngle freq freqs
  pointwise

theorem cols_apply (r : Fin 1024) (j : Fin 32) : colAngles (ix2 r j) = colAngle r j := by
  unfold colAngles colAngle freq freqs
  pointwise

theorem cos_apply (r : Fin 1024) (j : Fin 128) : cosTable (ix2 r j)
    = if h : j.val < 32 then Ideal.cos (rowAngle r ⟨j.val, h⟩) else if h : j.val - 32 < 32 then Ideal.cos (rowAngle r ⟨j.val - 32, h⟩)
      else if h : j.val - 32 - 32 < 32 then Ideal.cos (colAngle r ⟨j.val - 32 - 32, h⟩) else Ideal.cos (colAngle r ⟨j.val - 32 - 32 - 32, by omega⟩) := by
  simp only [← rows_apply, ← cols_apply]
  unfold cosTable
  pointwise

theorem sin_apply (r : Fin 1024) (j : Fin 128) : sinTable (ix2 r j)
    = if h : j.val < 32 then -Ideal.sin (rowAngle r ⟨j.val, h⟩) else if h : j.val - 32 < 32 then Ideal.sin (rowAngle r ⟨j.val - 32, h⟩)
      else if h : j.val - 32 - 32 < 32 then -Ideal.sin (colAngle r ⟨j.val - 32 - 32, h⟩) else Ideal.sin (colAngle r ⟨j.val - 32 - 32 - 32, by omega⟩) := by
  simp only [← rows_apply, ← cols_apply]
  unfold sinTable
  pointwise

/-- The partner's choice: the lane's bit of 32 is clear in the first and third quarters. -/
theorem bit_apply : ∀ d : Fin 128, IntOp.cmpi CmpIPredicate.eq (IntOp.andi (BitVec.ofNat 32 ↑d) 32#32) 0#32
    = if d.val < 32 ∨ (64 ≤ d.val ∧ d.val < 96) then 1#1 else 0#1 := by decide +kernel

theorem partner (x : Fin 128 → EReal) (d : Fin 128) :
    Scalar.select (IntOp.cmpi CmpIPredicate.eq (IntOp.andi (BitVec.ofNat 32 ↑d) 32#32) 0#32)
      (x ⟨(↑d + 128 - 96) % 128, Nat.mod_lt _ (by decide)⟩) (x ⟨(↑d + 128 - 32) % 128, Nat.mod_lt _ (by decide)⟩)
    = if h : d.val < 32 ∨ (64 ≤ d.val ∧ d.val < 96) then x ⟨d.val + 32, by omega⟩ else x ⟨d.val - 32, by omega⟩ := by
  have hd := d.isLt
  rw [bit_apply]
  by_cases h : d.val < 32 ∨ (64 ≤ d.val ∧ d.val < 96)
  · rw [if_pos h, dif_pos h]
    exact congrArg x (Fin.ext (by show (d.val + 128 - 96) % 128 = d.val + 32; omega))
  · rw [if_neg h, dif_neg h]
    exact congrArg x (Fin.ext (by show (d.val + 128 - 32) % 128 = d.val - 32; omega))

/-- The kernel's rotation by its tables' row `r` is the turn by the angles of position `r`. -/
theorem rot_eq (x : Fin 128 → EReal) (r : Fin 1024) (e : Fin 128) :
    rot x (fun d => cosTable (ix2 r d)) (fun d => sinTable (ix2 r d)) e = turned x (rowAngle r) (colAngle r) e := by
  have he := e.isLt
  unfold rot
  dsimp only
  rw [partner, cos_apply, sin_apply]
  unfold turned turn
  dsimp only
  by_cases h1 : e.val < 32
  · rw [dif_pos h1, dif_pos (Or.inl h1), dif_pos h1, dif_pos (by omega), dif_pos h1, mul_neg, sub_eq_add_neg]
    refine congrArg₂ (· + ·) rfl (congrArg Neg.neg (congrArg₂ (· * ·) (congrArg x (Fin.ext ?_)) rfl))
    show e.val + 32 = 32 + e.val
    omega
  by_cases h2 : e.val < 64
  · rw [dif_neg h1, dif_pos (by omega), dif_neg (by omega), dif_neg h1, dif_pos (by omega), dif_pos h2, dif_neg h1]
    refine congrArg₂ (· + ·) (congrArg₂ (· * ·) (congrArg x (Fin.ext ?_)) rfl) rfl
    show e.val = 32 + (e.val - 32)
    omega
  have k : e.val - 32 - 32 = e.val - 64 := by omega
  by_cases h3 : e.val < 96
  · rw [dif_neg h1, dif_neg (by omega), dif_pos (by omega), dif_pos (by omega), dif_neg h1, dif_neg (by omega), dif_pos (by omega), dif_neg h2, dif_pos (by omega), mul_neg, sub_eq_add_neg]
    have ka : (⟨e.val - 32 - 32, by omega⟩ : Fin 32) = ⟨e.val - 64, by omega⟩ := Fin.ext k
    rw [ka]
    refine congrArg₂ (· + ·) (congrArg₂ (· * ·) (congrArg x (Fin.ext ?_)) rfl) (congrArg Neg.neg (congrArg₂ (· * ·) (congrArg x (Fin.ext ?_)) rfl))
    · show e.val = 64 + (e.val - 64)
      omega
    · show e.val + 32 = 64 + (32 + (e.val - 64))
      omega
  · rw [dif_neg h1, dif_neg (by omega), dif_neg (by omega), dif_neg (by omega), dif_neg h1, dif_neg (by omega), dif_neg (by omega), dif_neg h2, dif_neg (by omega)]
    have ka : (⟨e.val - 32 - 32 - 32, by omega⟩ : Fin 32) = ⟨e.val - 64 - 32, by omega⟩ := Fin.ext (by show e.val - 32 - 32 - 32 = e.val - 64 - 32; omega)
    rw [ka]
    refine congrArg₂ (· + ·) (congrArg₂ (· * ·) (congrArg x (Fin.ext ?_)) rfl) (congrArg₂ (· * ·) (congrArg x (Fin.ext ?_)) rfl)
    · show e.val = 64 + (32 + (e.val - 64 - 32))
      omega
    · show e.val - 32 = 64 + (e.val - 64 - 32)
      omega

end Cert.Attn

end
-- ==== Proof.Attn.Reference.lean ====
/-
  Hand-written. THE ATTENTION, THE REFERENCE: its scores, weights and result at an index.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Attn

open Idealize.ShloMosaic Idealize.ShloMosaic.TcCoe Idealize.SL.Sem
open Cert.ReferenceIdeal Cert.ReferenceIdeal.Gen Cert.ReferenceIdeal.Read

variable (a : Vec Ideal S8192x6144 .f32) (ck cv : Vec Ideal S8x256x8x128 .f32)

/-- The scores of a query against the sequence's keys. -/
theorem local_ref (b kv : Fin 8) (g : Fin 4) (r : Fin 1024) (l : Fin 1024) : val_main_v117 (F := Ideal) a (ix5 b kv g r l)
    = (∑ x, val_main_v113 (F := Ideal) a (ix4 b l kv x) * val_main_v74 (F := Ideal) a (ix4 b r (⟨kv.val * 4 + g.val, by omega⟩ : Fin 32) x)) * Ideal.ofBits .f32 1035273459#32 := by
  pointwise [val_main_v75, val_main_v114, val_main_v115, val_main_v116, val_main_v117, val_main_cst_1]

/-- The scores of a query against the context's keys. -/
theorem context_ref (b kv : Fin 8) (g : Fin 4) (r : Fin 1024) (l : Fin 256) : val_main_v121 (F := Ideal) a ck (ix5 b kv g r l)
    = (∑ x, ck (ix4 b l kv x) * a (ix2 (⟨b.val * 1024 + r.val, by omega⟩ : Fin 8192) (⟨kv.val * 512 + g.val * 128 + x.val, by omega⟩ : Fin 6144))) * Ideal.ofBits .f32 1035273459#32 := by
  pointwise [val_main_v76, val_main_v118, val_main_v119, val_main_v120, val_main_v121, val_main_cst_2, val_main_v0, val_main_v1, val_main_v2]

/-- The scores side by side. -/
theorem scores_ref (b kv : Fin 8) (g : Fin 4) (r : Fin 1024) (l : Fin 1280) : val_main_v122 (F := Ideal) a ck (ix5 b kv g r l)
    = if h : l.val < 1024 then val_main_v117 (F := Ideal) a (ix5 b kv g r (⟨l.val, h⟩ : Fin 1024))
      else val_main_v121 (F := Ideal) a ck (ix5 b kv g r (⟨l.val - 1024, by omega⟩ : Fin 256)) := by
  pointwise [val_main_v122]

/-- A maximum over one axis is the fold over that axis's coordinates. -/
theorem reduce_max {s t u : Shape} {d : Fin s.rank} (x : s.Idx → Ideal .f32) (init : u.Idx → Ideal .f32) (h' : s.ReducesTo [d] t) (h : s.Reduces [d] t) (hu : 0 < u.numel) (j : t.Idx) :
    Host.reduce FloatOps.maximumf x init h' hu j = (Finset.univ : Finset (Fin (s.size d))).fold max (init (Shape.Idx.first hu)) (fun k => x (h.lift j k)) :=
  Host.reduce_eq_fold_single _ _ _ _ _ _ _

/-- The maximum starts from minus infinity's word. -/
theorem first_ref : val_main_cst_3 (F := Ideal) (Shape.Idx.first h_S_) = Ideal.ofBits FTy.f32 4286578688#32 := rfl

/-- The coordinate put back at the end of an index. -/
theorem lift_ref (h : S8x8x4x1024x1280.Reduces [4] S8x8x4x1024) (b kv : Fin 8) (g : Fin 4) (r : Fin 1024) (k : Fin 1280) :
    (h.lift (ix4 b kv g r) k : S8x8x4x1024x1280.Idx) = ix5 b kv g r k :=
  funext fun a => Fin.ext (by match a with | ⟨0, _⟩ => rfl | ⟨1, _⟩ => rfl | ⟨2, _⟩ => rfl | ⟨3, _⟩ => rfl | ⟨4, _⟩ => rfl)

/-- The row's greatest score, as a fold. -/
theorem fold_ref (b kv : Fin 8) (g : Fin 4) (r : Fin 1024) (h : S8x8x4x1024x1280.Reduces [4] S8x8x4x1024) : val_main_v123 (F := Ideal) a ck (ix4 b kv g r)
    = (Finset.univ : Finset (Fin (S8x8x4x1024x1280.size 4))).fold max (val_main_cst_3 (F := Ideal) (Shape.Idx.first h_S_)) (fun k => val_main_v122 (F := Ideal) a ck (h.lift (ix4 b kv g r) k)) := by
  unfold val_main_v123
  generalize val_main_v122 (F := Ideal) a ck = y
  exact reduce_max _ _ _ h _ _

/-- The row's greatest score. -/
theorem top_ref (b kv : Fin 8) (g : Fin 4) (r : Fin 1024) : val_main_v125 (F := Ideal) a ck (ix4 b kv g r)
    = max (Ideal.ofBits FTy.f32 4286578688#32) (val_main_v123 (F := Ideal) a ck (ix4 b kv g r)) := by
  rw [val_main_v125_apply]
  generalize val_main_v123 (F := Ideal) a ck (ix4 b kv g r) = y
  rw [val_main_v124_apply]
  rfl

/-- A score's exponential. -/
theorem exp_ref (b kv : Fin 8) (g : Fin 4) (r : Fin 1024) (l : Fin 1280) : val_main_v129 (F := Ideal) a ck (ix5 b kv g r l)
    = Ideal.exp (val_main_v122 (F := Ideal) a ck (ix5 b kv g r l) - val_main_v125 (F := Ideal) a ck (ix4 b kv g r)) := by
  pointwise [val_main_v129, val_main_v128, val_main_v127, val_main_v126]

/-- The sum of a row's exponentials. -/
theorem sum_ref (b kv : Fin 8) (g : Fin 4) (r : Fin 1024) : val_main_v130 (F := Ideal) a ck (ix4 b kv g r)
    = ∑ x : Fin 1280, val_main_v129 (F := Ideal) a ck (ix5 b kv g r x) := by
  pointwise [val_main_v130, val_main_cst_5]

/-- A score's weight. -/
theorem weights_ref (b kv : Fin 8) (g : Fin 4) (r : Fin 1024) (l : Fin 1280) : val_main_v133 (F := Ideal) a ck (ix5 b kv g r l)
   = Ideal.div (val_main_v129 (F := Ideal) a ck (ix5 b kv g r l)) (val_main_v130 (F := Ideal) a ck (ix4 b kv g r)) := by
  pointwise [val_main_v131, val_main_v132, val_main_v133]

theorem idx_lt0 (i : S8192x4096.Idx) : (i 0).val < 8192 := (i 0).isLt
theorem idx_lt1 (i : S8192x4096.Idx) : (i 1).val < 4096 := (i 1).isLt

/-- The reference's result: the weighted sum of the sequence's values and that of the context's. -/
theorem out_ref (i : S8192x4096.Idx) : val_main_v142 (F := Ideal) a ck cv i
    = ∑ x : Fin 1024, a (ix2 (⟨(i 0).val / 1024 * 1024 + x.val, by have := idx_lt0 i; omega⟩ : Fin 8192) (⟨5120 + ((i 1).val / 512 * 128 + (i 1).val % 128), by have := idx_lt1 i; omega⟩ : Fin 6144))
          * val_main_v133 (F := Ideal) a ck (ix5 (⟨(i 0).val / 1024, by have := idx_lt0 i; omega⟩ : Fin 8) (⟨(i 1).val / 512, by have := idx_lt1 i; omega⟩ : Fin 8) (⟨(i 1).val / 128 % 4, by omega⟩ : Fin 4) (⟨(i 0).val % 1024, by omega⟩ : Fin 1024) (⟨x.val, by omega⟩ : Fin 1280))
      + ∑ x : Fin 256, cv (ix4 (⟨(i 0).val / 1024, by have := idx_lt0 i; omega⟩ : Fin 8) x (⟨(i 1).val / 512, by have := idx_lt1 i; omega⟩ : Fin 8) (⟨(i 1).val % 128, by omega⟩ : Fin 128))
          * val_main_v133 (F := Ideal) a ck (ix5 (⟨(i 0).val / 1024, by have := idx_lt0 i; omega⟩ : Fin 8) (⟨(i 1).val / 512, by have := idx_lt1 i; omega⟩ : Fin 8) (⟨(i 1).val / 128 % 4, by omega⟩ : Fin 4) (⟨(i 0).val % 1024, by omega⟩ : Fin 1024) (⟨1024 + x.val, by omega⟩ : Fin 1280)) := by
  pointwise [val_main_v134, val_main_v135, val_main_v136, val_main_v137, val_main_v138, val_main_v139, val_main_v140, val_main_v141, val_main_v142, val_main_v0, val_main_v5, val_main_v6]

end Cert.Attn

end
-- ==== Proof.Attn.Equation.lean ====
/-
  Hand-written. THE ATTENTION, THE EQUATION: over finite arguments the kernel's result is the reference's.
-/
module

public import proofs.«01_k».proof.Proof.Attn.Softmax
public import proofs.«01_k».proof.Proof.Attn.Tables
public import proofs.«01_k».proof.Proof.Attn.Reference

@[expose] public section

set_option maxRecDepth 16384

noncomputable section

namespace Cert.Attn

open Idealize.ShloMosaic Idealize.ShloMosaic.TcCoe Idealize.SL.Sem
open Cert.ReferenceIdeal (S8192x6144 S8x256x8x128 S8192x4096 S8x8x4x1024x1280 S8x8x4x1024)
open Cert.ReferenceIdeal.Read

/-- The scale, 1/sqrt(128) as the reference's word says it. -/
def scale : ℝ := 11863283 / 134217728

theorem scale_word : Ideal.ofBits .f32 1035273459#32 = (scale : EReal) := by
  unfold scale
  simp [Ideal.ofBits, Ideal.ieee]
  rw [← EReal.coe_mul]
  norm_num

theorem qscale_eq : qscale = ((scale * (Real.log 2)⁻¹ : ℝ) : EReal) :=
  IdealRules.named_const.ideal_named_scalar _ _ _ _ rfl

/-- The frequencies are real. -/
theorem freq_real (j : Fin 32) : ∃ f : ℝ, freq j = f := by
  have h1 : Ideal.ofBits .f32 1176256512#32 = ((10000 : ℝ) : EReal) := by
    simp [Ideal.ofBits, Ideal.ieee]
    rw [← EReal.coe_mul]
    norm_num
  have h2 : Ideal.ofBits .f32 1107296256#32 = ((32 : ℝ) : EReal) := by
    simp [Ideal.ofBits, Ideal.ieee]
    rw [← EReal.coe_mul]
    norm_num
  have h3 : FloatOps.sitofp (F := Ideal) .f32 (BitVec.ofNat 32 ↑j) = (((BitVec.ofNat 32 ↑j).toInt : ℝ) : EReal) := rfl
  refine ⟨Real.rpow 10000 (-((BitVec.ofNat 32 ↑j).toInt : ℝ) / 32), ?_⟩
  unfold freq
  rw [h1, h2, h3, ← EReal.coe_neg, div_coe _ _ (by norm_num)]
  rfl

theorem row_real (r : Fin 1024) : ∃ A : Fin 32 → ℝ, ∀ j, rowAngle r j = A j := by
  choose f hf using freq_real
  refine ⟨fun j => ((BitVec.ofNat 32 (r.val / 64)).toInt : ℝ) * f j, fun j => ?_⟩
  unfold rowAngle
  rw [hf j, EReal.coe_mul]
  rfl

theorem col_real (r : Fin 1024) : ∃ A : Fin 32 → ℝ, ∀ j, colAngle r j = A j := by
  choose f hf using freq_real
  refine ⟨fun j => ((BitVec.ofNat 32 (r.val % 64)).toInt : ℝ) * f j, fun j => ?_⟩
  unfold colAngle
  rw [hf j, EReal.coe_mul]
  rfl

/-- The turn of 64 real lanes by real angles. -/
def turnReal (x : Fin 64 → ℝ) (A : Fin 32 → ℝ) (e : Fin 64) : ℝ :=
  if h : e.val < 32 then x ⟨e.val, by omega⟩ * Real.cos (A ⟨e.val, h⟩) - x ⟨32 + e.val, by omega⟩ * Real.sin (A ⟨e.val, h⟩)
  else x ⟨32 + (e.val - 32), by omega⟩ * Real.cos (A ⟨e.val - 32, by omega⟩) + x ⟨e.val - 32, by omega⟩ * Real.sin (A ⟨e.val - 32, by omega⟩)

theorem turn_coe (x : Fin 64 → ℝ) (A : Fin 32 → ℝ) (e : Fin 64) :
    turn (fun d => (x d : EReal)) (fun j => (A j : EReal)) e = (turnReal x A e : EReal) := by
  have hc : ∀ t : ℝ, Ideal.cos (t : EReal) = (Real.cos t : EReal) := fun t => rfl
  have hs : ∀ t : ℝ, Ideal.sin (t : EReal) = (Real.sin t : EReal) := fun t => rfl
  unfold turn turnReal
  split <;> simp only [hc, hs, EReal.coe_mul, EReal.coe_add, EReal.coe_sub]

theorem turn_scale (x : Fin 64 → ℝ) (A : Fin 32 → ℝ) (s : ℝ) (e : Fin 64) : turnReal (fun d => x d * s) A e = turnReal x A e * s := by
  unfold turnReal
  split <;> ring

/-- A turned head of real lanes is real, and scales with the head. -/
theorem turned_real (r : Fin 1024) : ∃ T : (Fin 128 → ℝ) → Fin 128 → ℝ,
    (∀ x e, turned (fun d => (x d : EReal)) (rowAngle r) (colAngle r) e = (T x e : EReal)) ∧ ∀ x s e, T (fun d => x d * s) e = T x e * s := by
  obtain ⟨A, hA⟩ := row_real r
  obtain ⟨B, hB⟩ := col_real r
  refine ⟨fun x e => if h : e.val < 64 then turnReal (fun d => x ⟨d.val, by omega⟩) A ⟨e.val, h⟩ else turnReal (fun d => x ⟨64 + d.val, by omega⟩) B ⟨e.val - 64, by omega⟩, fun x e => ?_, fun x s e => ?_⟩
  · rw [funext hA, funext hB]
    unfold turned
    dsimp only
    split
    · exact turn_coe (fun d : Fin 64 => x ⟨d.val, by omega⟩) A _
    · exact turn_coe (fun d : Fin 64 => x ⟨64 + d.val, by omega⟩) B _
  · dsimp only
    split
    · exact turn_scale (fun d : Fin 64 => x ⟨d.val, by omega⟩) A s _
    · exact turn_scale (fun d : Fin 64 => x ⟨64 + d.val, by omega⟩) B s _

/-- The reference at an index by its parts: sequence, key/value head, row, query head and lane. -/
theorem reference_at (a : Vec Ideal S8192x6144 .f32) (ck cv : Vec Ideal S8x256x8x128 .f32)
    (ha : ∀ i, ∃ r : ℝ, a i = r) (hk : ∀ i, ∃ r : ℝ, ck i = r) (hv : ∀ i, ∃ r : ℝ, cv i = r)
    (b kv : Fin 8) (g : Fin 4) (p : Fin 1024) (d : Fin 128) :
    ∑ x : Fin 1024, a (ix2 (⟨b.val * 1024 + x.val, by omega⟩ : Fin 8192) (⟨5120 + (kv.val * 128 + d.val), by omega⟩ : Fin 6144))
        * val_main_v133 (F := Ideal) a ck (ix5 b kv g p (⟨x.val, by omega⟩ : Fin 1280))
      + ∑ x : Fin 256, cv (ix4 b x kv d) * val_main_v133 (F := Ideal) a ck (ix5 b kv g p (⟨1024 + x.val, by omega⟩ : Fin 1280))
      = attend a ck cv b kv p g d := by
  choose a' ha using ha
  choose k' hk using hk
  choose v' hv using hv
  choose T hT hTs using turned_real
  -- the scores, in exact real numbers
  let q : Fin 128 → ℝ := fun e => a' (ix2 (⟨b.val * 1024 + p.val, by omega⟩ : Fin 8192) (⟨kv.val * 512 + g.val * 128 + e.val, by omega⟩ : Fin 6144))
  let k : Fin 1024 → Fin 128 → ℝ := fun l e => a' (ix2 (⟨b.val * 1024 + l.val, by omega⟩ : Fin 8192) (⟨4096 + (kv.val * 128 + e.val), by omega⟩ : Fin 6144))
  let dL : Fin 1024 → ℝ := fun l => (∑ e, T l (k l) e * T p q e) * scale
  let dC : Fin 256 → ℝ := fun l => (∑ e, k' (ix4 b l kv e) * q e) * scale
  let vL : Fin 1024 → ℝ := fun l => a' (ix2 (⟨b.val * 1024 + l.val, by omega⟩ : Fin 8192) (⟨5120 + (kv.val * 128 + d.val), by omega⟩ : Fin 6144))
  let vC : Fin 256 → ℝ := fun l => v' (ix4 b l kv d)
  let u : Fin 1280 → ℝ := fun l => if h : l.val < 1024 then dL ⟨l.val, h⟩ else dC ⟨l.val - 1024, by omega⟩
  have hscore : ∀ l : Fin 1280, val_main_v122 (F := Ideal) a ck (ix5 b kv g p l) = (u l : EReal) := fun l => by
    rw [scores_ref]
    by_cases h : l.val < 1024
    · rw [dif_pos h, local_ref, show u l = dL ⟨l.val, h⟩ from dif_pos h, scale_word]
      simp only [k_ref, q_ref, ha]
      have hq : ∀ e : Fin 128, (⟨(kv.val * 4 + g.val) * 128 + e.val, by omega⟩ : Fin 6144) = ⟨kv.val * 512 + g.val * 128 + e.val, by omega⟩ := fun e => Fin.ext (by show (kv.val * 4 + g.val) * 128 + e.val = kv.val * 512 + g.val * 128 + e.val; omega)
      simp only [hq, hT, ← EReal.coe_mul, sum_coe]
      rfl
    · rw [dif_neg h, context_ref, show u l = dC ⟨l.val - 1024, by omega⟩ from dif_neg h, scale_word]
      simp only [ha, hk, ← EReal.coe_mul, sum_coe]
      rfl
  obtain ⟨M, hM⟩ : ∃ M : ℝ, val_main_v125 (F := Ideal) a ck (ix4 b kv g p) = M := by
    have hr : S8x8x4x1024x1280.Reduces [4] S8x8x4x1024 := by decide
    rw [top_ref, neg_inf, max_eq_right bot_le, fold_ref a ck b kv g p hr, first_ref]
    haveI : Nonempty (Fin (S8x8x4x1024x1280.size 4)) := ⟨(0 : Fin 1280)⟩
    exact fold_real _ fun x => ⟨u x, by rw [lift_ref hr b kv g p x]; exact hscore x⟩
  have hw : ∀ l : Fin 1280, val_main_v133 (F := Ideal) a ck (ix5 b kv g p l)
      = Ideal.div (Ideal.exp ((u l : EReal) - (M : EReal))) (∑ y : Fin 1280, Ideal.exp ((u y : EReal) - (M : EReal))) := fun l => by
    rw [weights_ref, sum_ref]
    simp only [exp_ref, hscore, hM]
  simp only [hw, ha, hv]
  refine (weighted_real u M dL dC vL vC (fun x => dif_pos x.isLt) (fun x => ?_)).trans ((mean_real dL dC vL vC).symm.trans ?_)
  · refine (dif_neg (by show ¬ 1024 + x.val < 1024; omega)).trans (congrArg dC (Fin.ext ?_))
    show 1024 + x.val - 1024 = x.val
    omega
  unfold attend
  have hkey : ∀ (l : Fin 1024) (e : Fin 128), (⟨4096 + kv.val * 128 + e.val, by omega⟩ : Fin 6144) = ⟨4096 + (kv.val * 128 + e.val), by omega⟩ := fun l e => Fin.ext (by show 4096 + kv.val * 128 + e.val = 4096 + (kv.val * 128 + e.val); omega)
  have hval : (⟨5120 + kv.val * 128 + d.val, by omega⟩ : Fin 6144) = ⟨5120 + (kv.val * 128 + d.val), by omega⟩ := Fin.ext (by show 5120 + kv.val * 128 + d.val = 5120 + (kv.val * 128 + d.val); omega)
  refine congr (congr (congr (congrArg mean (funext fun l => ?_)) (funext fun l => ?_)) (funext fun l => ?_)) (funext fun l => ?_)
  · simp only [rot_eq, qscale_eq, ha, hkey l, ← EReal.coe_mul, hT, hTs, sum_coe]
    refine congrArg _ ?_
    show (∑ e, T l (k l) e * T p q e) * scale * (Real.log 2)⁻¹ = ∑ e, T p q e * (scale * (Real.log 2)⁻¹) * T l (k l) e
    rw [Finset.sum_mul, Finset.sum_mul]
    exact Finset.sum_congr rfl fun e _ => by ring
  · simp only [qscale_eq, ha, hk, ← EReal.coe_mul, sum_coe]
    refine congrArg _ ?_
    show (∑ e, k' (ix4 b l kv e) * q e) * scale * (Real.log 2)⁻¹ = ∑ e, q e * (scale * (Real.log 2)⁻¹) * k' (ix4 b l kv e)
    rw [Finset.sum_mul, Finset.sum_mul]
    exact Finset.sum_congr rfl fun e _ => by ring
  · rw [hval, ha]
  · rw [hv]

/-- The reference's result is the kernel's, over finite arguments. -/
theorem reference_eq (a : Vec Ideal S8192x6144 .f32) (ck cv : Vec Ideal S8x256x8x128 .f32)
    (ha : ∀ i, ∃ r : ℝ, a i = r) (hk : ∀ i, ∃ r : ℝ, ck i = r) (hv : ∀ i, ∃ r : ℝ, cv i = r) :
    val_main_v142 (F := Ideal) a ck cv = result a ck cv := by
  funext i
  have h0 := idx_lt0 i
  have h1 := idx_lt1 i
  have hg : (⟨(i 1).val % 512 / 128, by omega⟩ : Fin 4) = ⟨(i 1).val / 128 % 4, by omega⟩ := Fin.ext (by show (i 1).val % 512 / 128 = (i 1).val / 128 % 4; omega)
  refine (out_ref a ck cv i).trans ((reference_at a ck cv ha hk hv ⟨(i 0).val / 1024, by omega⟩ ⟨(i 1).val / 512, by omega⟩ ⟨(i 1).val / 128 % 4, by omega⟩
    ⟨(i 0).val % 1024, by omega⟩ ⟨(i 1).val % 128, by omega⟩).trans ?_)
  unfold result
  rw [hg]

/-- A magnitude below plus infinity's word is a real's. -/
theorem real_of_olt {s : Shape} (a : FVec Ideal s .f32) (hb : Cert.Pre_finite.S_.BroadcastsInDim s ![]) (i : s.Idx)
    (h : cmpf .olt (Host.absf a) (broadcastInDim s ![] hb (constant Cert.Pre_finite.S_ .f32 0x7F800000#32)) i = 1#1) : ∃ r : ℝ, a i = r := by
  have h : BitVec.ofBool (decide (FloatOps.absf (F := Ideal) (φ := .f32) (a i) < Ideal.ofBits .f32 0x7F800000#32)) = 1#1 := h
  have ht : Ideal.ofBits FTy.f32 0x7F800000#32 = ⊤ := by simp [Ideal.ofBits, Ideal.ieee]
  rw [ht] at h
  have hlt : FloatOps.absf (F := Ideal) (φ := .f32) (a i) < ⊤ := by
    by_contra hc
    rw [decide_eq_false hc] at h
    exact absurd h (by decide)
  generalize a i = x at hlt
  have e : FloatOps.absf (F := Ideal) (φ := .f32) x = max x (-x) := rfl
  rw [e] at hlt
  obtain ⟨h1, h2⟩ := max_lt_iff.mp hlt
  refine ⟨x.toReal, (EReal.coe_toReal h1.ne fun hx => ?_).symm⟩
  rw [hx] at h2
  exact absurd h2 (by simp)

/-- The predicate's side conditions. -/
theorem facts_finite : Cert.Pre_finite.Facts := ⟨by decide, by decide⟩

/-- The claim: over finite arguments the idealized kernel and the reference end with equal results and their arguments unchanged. -/
theorem algebraic : Cert.algebraic_KernelIdeal_ReferenceIdeal_pre_finite
    (hKernelIdeal := Cert.KernelIdeal.Gen.facts) (hReferenceIdeal := Cert.ReferenceIdeal.Gen.facts) (hPre_finite := facts_finite) := by
  intro m g m' g' hpre hargs
  refine ⟨_, run m g, ?_⟩
  refine (θ_run (Cert.ReferenceIdeal.defs (F := Ideal)) _ _).mono (fun r h c => ?_) (Cert.ReferenceIdeal.Value.run (F := Ideal) m' g')
  obtain ⟨hv, h0⟩ := h c
  obtain ⟨pa, pk, pv⟩ := hpre c
  refine ⟨hv.trans ?_, h0⟩
  refine (val_main_v142_eq (StableHlo.launchContents m' c)).trans ?_
  refine (congr (congr (congrArg (val_main_v142 (F := Ideal)) (hargs c).1) (hargs c).2.1) (hargs c).2.2).trans ?_
  exact reference_eq _ _ _ (fun i => real_of_olt _ _ i (congrFun pa i)) (fun i => real_of_olt _ _ i (congrFun pk i)) (fun i => real_of_olt _ _ i (congrFun pv i))

end Cert.Attn

end
-- ==== Proof.Ffn.Block.lean ====
/-
  Hand-written. THE GATE/UP CALL, ONE BLOCK: what one grid point stores, as a function of the three blocks it reads.
-/
module

public import proofs.«01_k».proof.Proof.Gen.Kernel2Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Ffn

open Idealize.ShloMosaic Idealize.ShloMosaic.TcCoe Idealize.SL.Sem
open Cert.Kernel2Ideal Cert.Kernel2Ideal.Gen
open Idealize.ShloMosaic.Pipeline (Dat Cfg Window)

/-- `g · sigmoid g · u`, the gated unit's scalar, on the extended reals. -/
def glu (g u : EReal) : EReal := g * Ideal.div 1 (1 + Ideal.exp (-g)) * u

/-- An element of the stored block: the gated unit of two rows-by-columns sums. -/
theorem pay_apply (x : Vec Ideal S2048x4096 .bf16) (a b : Vec Ideal S4096x256 .f32) (i : S2048x256.Idx) :
    k0_pay1 (F := Ideal) x a b i
      = glu (∑ k : Fin 4096, x (ix2 (i 0) k) * a (ix2 k (i 1))) (∑ k : Fin 4096, x (ix2 (i 0) k) * b (ix2 k (i 1))) := by
  pointwise [k0_pay1]
  simp only [glu, zero_sub]

end Cert.Ffn

end
-- ==== Proof.Ffn.Array.lean ====
/-
  Hand-written. THE GATE/UP CALL, THE ARRAY: the element of the result at row `r` and column `c`, from the two arguments.
-/
module

public import proofs.«01_k».proof.Proof.Ffn.Block

@[expose] public section

set_option maxRecDepth 16384

noncomputable section

namespace Cert.Ffn

open Idealize.ShloMosaic Idealize.ShloMosaic.TcCoe Idealize.SL.Sem
open Cert.Kernel2Ideal Cert.Kernel2Ideal.Gen
open Idealize.ShloMosaic.Pipeline (Dat Cfg Window)

variable (m : (ℓ : Loc nD τ sig) → Buf (Elt Ideal) ℓ) (ρ : Dev nD → PrngReg)

/-- The result as a function of the two arguments: gate column `c`, up column `11008 + c`. -/
def result (h : Vec Ideal S8192x4096 .f32) (w : Vec Ideal S4096x22016 .f32) : Vec Ideal S8192x11008 .bf16 := fun i =>
  glu (∑ k : Fin 4096, h (ix2 (i 0) k) * w (ix2 k ⟨(i 1).val, lt_of_lt_of_le (i 1).isLt (by decide)⟩))
    (∑ k : Fin 4096, h (ix2 (i 0) k) * w (ix2 k ⟨11008 + (i 1).val, lt_of_lt_of_le (Nat.add_lt_add_left (i 1).isLt 11008) (by decide)⟩))

theorem idx_h : ∀ t : Fin cfg0.N, win0_0.index t = ![t.val / 44, 0] := (by decide +kernel : ∀ t : Fin grid0.N, _)
theorem idx_gate : ∀ t : Fin cfg0.N, win0_1.index t = ![0, min (t.val % 44) 42] := (by decide +kernel : ∀ t : Fin grid0.N, _)
theorem idx_up : ∀ t : Fin cfg0.N, win0_2.index t = ![0, 43 + min (t.val % 44) 42] := (by decide +kernel : ∀ t : Fin grid0.N, _)
theorem idx_out : ∀ t : Fin cfg0.N, win0_3.index t = ![t.val / 44, t.val % 44] := (by decide +kernel : ∀ t : Fin grid0.N, _)

/-- No two grid points write the same block. -/
theorem out_disjoint : ∀ t t' : Fin cfg0.N, (cfg0.win 3).flush t = true → (cfg0.win 3).flush t' = true → t ≠ t' →
    Disjoint ((cfg0.win 3).blk t).view.set ((cfg0.win 3).blk t').view.set :=
  Pipeline.Window.hdisj_of_index_inj _ fun t t' _ _ e => by
    rw [show (cfg0.win 3).index t = _ from idx_out t, show (cfg0.win 3).index t' = _ from idx_out t'] at e
    have e0 : t.val / 44 = t'.val / 44 := congrFun e 0
    have e1 : t.val % 44 = t'.val % 44 := congrFun e 1
    exact Fin.ext (by omega)

/-- What a point of a column below 11008 stores, at an index of its block. -/
theorem block_apply (c : Dev nD) (t : Fin cfg0.N) (ht : t.val % 44 ≤ 42) (y : S2048x256.Idx) (i : S8192x11008.Idx)
    (h0 : (i 0).val = t.val / 44 * 2048 + (y 0).val) (h1 : (i 1).val = t.val % 44 * 256 + (y 1).val) :
    (dats m 0 c).after 3 t y
      = result (m ((c : Thread nD τ).loc main_arg0)) (m ((c : Thread nD τ).loc main_arg1)) i := by
  rw [after0_3, outsAt0_A m c t ht (by omega)]
  frame_out
  rw [pay_apply]
  unfold result
  have hmin : min (t.val % 44) 42 = t.val % 44 := by omega
  blk_point [iblk, V, idx_h t, idx_gate t, idx_up t, hmin]

/-- The padded result array, at the columns that are kept. -/
theorem array_apply (c : Dev nD) (i : S8192x11008.Idx) (j : S8192x11264.Idx) (h0 : (j 0).val = (i 0).val) (h1 : (j 1).val = (i 1).val) :
    (dats m 0 c).arrAt 3 cfg0.N j
      = result (m ((c : Thread nD τ).loc main_arg0)) (m ((c : Thread nD τ).loc main_arg1)) i := by
  have b0 : (i 0).val < 8192 := (i 0).isLt
  have b1 : (i 1).val < 11008 := (i 1).isLt
  obtain ⟨t, ht⟩ : ∃ t : Fin cfg0.N, t.val = (i 0).val / 2048 * 44 + (i 1).val / 256 :=
    ⟨⟨(i 0).val / 2048 * 44 + (i 1).val / 256, by show _ < grid0.N; rw [N_0]; omega⟩, rfl⟩
  have e := (dats m 0 c).arrAt_emb_eq_flushed 3 out_disjoint t (flush0_3 t)
    (ix2 ⟨(i 0).val % 2048, Nat.mod_lt _ (by decide)⟩ ⟨(i 1).val % 256, Nat.mod_lt _ (by decide)⟩)
  have hj : ((cfg0.win 3).blk t).view.emb
      (ix2 ⟨(i 0).val % 2048, Nat.mod_lt _ (by decide)⟩ ⟨(i 1).val % 256, Nat.mod_lt _ (by decide)⟩) = j := by
    blk_ext [idx_out t]
  rw [hj] at e
  rw [e]
  blk_simp
  refine block_apply m c t (by omega) _ i ?_ ?_
  · show (i 0).val = t.val / 44 * 2048 + (i 0).val % 2048
    omega
  · show (i 1).val = t.val % 44 * 256 + (i 1).val % 256
    omega

/-- The kept columns after the region: the slice the host takes of the padded array. -/
theorem tail_eq (c : Dev nD) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  entry_read
  rw [show Pipeline.withArrays spec0 c (V0 m c) (fun w => (dats m 0 c).arrAt w cfg0.N) (Proc.devRef .tc main_v1) = _ from
    Pipeline.withArrays_arr_shared spec0 c (V0 m c) (fun w => (dats m 0 c).arrAt w cfg0.N)
      ((dats m 0 c).arrAt_sharedIn sharedIn0 (V0 m c) (A_eq m c) cfg0.N) 3]
  funext i
  exact (extractStridedSlice_apply ![0, 0] _ slices_S8192x11264_S8192x11008_0_0 i
    (ix2 (i 0) ⟨(i 1).val, lt_of_lt_of_le (i 1).isLt (by decide)⟩)
    (fun a => match a with
      | ⟨0, _⟩ => by show (i 0).val = 0 + (i 0).val; omega
      | ⟨1, _⟩ => by show (i 1).val = 0 + (i 1).val; omega)).trans (array_apply m c i _ rfl rfl)

/-- The run of the idealized call: its result is `result` of the two arguments, which end unchanged. -/
theorem run : θ_run (defs (F := Ideal)) (onTc (τ := τ) (main (F := Ideal))) ⟨m, fun _ => 0, ρ⟩ (fun r => ∀ c : Dev nD,
    r.2.mem ((c.tc : Thread nD τ).loc main_v2)
      = result (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h.1 c).2 main_v2 (Pipeline.mem_restRefs_of main_v2 (by decide) (by decide))).trans (tail_eq m c), h.2 c⟩)
    (θ_run_and (run_main m ρ) (unchanged m ρ))

end Cert.Ffn

end
-- ==== Proof.Ffn.Equation.lean ====
/-
  Hand-written. THE GATE/UP CALL, THE EQUATION: the reference's result is the same function of the two arguments.
-/
module

public import proofs.«01_k».proof.Defs
public import proofs.«01_k».proof.Proof.Ffn.Array
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.ShloMosaic.TcCoe Idealize.SL.Sem

/-- The reference's last value, element by element, is the kernel's result. -/
theorem reference_eq (h : Vec Ideal Cert.Kernel2Ideal.S8192x4096 .f32) (w : Vec Ideal Cert.Kernel2Ideal.S4096x22016 .f32) :
    Cert.Reference2Ideal.Read.val_main_v5 (F := Ideal) h w = result h w := by
  funext i
  pointwise [Cert.Reference2Ideal.Read.val_main_v5, Cert.Reference2Ideal.Read.val_main_v4, Cert.Reference2Ideal.Read.val_main_v3,
    Cert.Reference2Ideal.Read.val_main_v2, Cert.Reference2Ideal.Read.val_main_v1, Cert.Reference2Ideal.Read.val_main_v0,
    Cert.Reference2Ideal.Read.val_main_call0_v5, Cert.Reference2Ideal.Read.val_main_call0_v4, Cert.Reference2Ideal.Read.val_main_call0_v3,
    Cert.Reference2Ideal.Read.val_main_call0_v2, Cert.Reference2Ideal.Read.val_main_call0_v1, Cert.Reference2Ideal.Read.val_main_call0_v0,
    Cert.Reference2Ideal.Read.val_main_call0_cst, Cert.Reference2Ideal.Read.val_main_call0_cst_0]
  simp only [result, glu]

/-- The algebraic claim of the gate/up call. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨_, run m g, ?_⟩
  refine (θ_run (Cert.Reference2Ideal.defs (F := Ideal)) _ _).mono (fun r h c => ?_) (Cert.Reference2Ideal.Value.run (F := Ideal) m' g')
  obtain ⟨hv, h0, h1⟩ := h c
  refine ⟨hv.trans ?_, h0, h1⟩
  rw [(hargs c).1, (hargs c).2]
  exact (Cert.Reference2Ideal.Read.val_main_v5_eq _ _).trans (reference_eq _ _)

end Cert.Ffn

end
-- ==== Proof.Down.Block.lean ====
/-
  Hand-written. THE DOWN PROJECTION, ONE BLOCK: what the eleven grid points of one output block leave in it, as sums over
  the blocks they read.
-/
module

public import proofs.«01_k».proof.Proof.Gen.Kernel3Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Down

open Idealize.ShloMosaic Idealize.ShloMosaic.TcCoe Idealize.SL.Sem
open Cert.Kernel3Ideal Cert.Kernel3Ideal.Gen
open Idealize.ShloMosaic.Pipeline (Dat Cfg Window)

/-- One block product at an index. -/
def prod (x : Vec Ideal S2048x1024 .bf16) (w : Vec Ideal S1024x1024 .bf16) (i : S2048x1024.Idx) : EReal :=
  ∑ k : Fin 1024, x (ix2 (i 0) k) * w (ix2 k (i 1))

/-- The first store: the block product. -/
theorem first_apply (x : Vec Ideal S2048x1024 .bf16) (w : Vec Ideal S1024x1024 .bf16) (i : S2048x1024.Idx) :
    k0_pay1 (F := Ideal) x w i = prod x w i := by
  pointwise [k0_pay1, prod]

/-- A later store: what was there plus the block product. -/
theorem next_apply (a : Vec Ideal S2048x1024 .f32) (x : Vec Ideal S2048x1024 .bf16) (w : Vec Ideal S1024x1024 .bf16) (i : S2048x1024.Idx) :
    k0_pay2 (F := Ideal) a x w i = a i + prod x w i := by
  pointwise [k0_pay2, prod]

variable (m : (ℓ : Loc nD τ sig) → Buf (Elt Ideal) ℓ) (ρ : Dev nD → PrngReg)

/-- The addend of grid point `n` (zero past the grid). -/
def addend (c : Dev nD) (n : ℕ) (i : S2048x1024.Idx) : EReal :=
  if h : n < cfg0.N then prod (iblk m c 0 ⟨n, h⟩) (iblk m c 1 ⟨n, h⟩) i else 0

theorem addend_eq (c : Dev nD) (t : Fin cfg0.N) (i : S2048x1024.Idx) :
    addend m c t.val i = prod (iblk m c 0 t) (iblk m c 1 t) i := dif_pos t.isLt

/-- Before the last point of a block's run, the block holds the sum of the addends so far. -/
theorem partial_apply (c : Dev nD) : ∀ (n : ℕ) (hn : n < cfg0.N) (h : n % 11 ≤ 9) (i : S2048x1024.Idx),
    outsAt0 m c n hn i = ∑ s ∈ Finset.range (n % 11 + 1), addend m c (11 * (n / 11) + s) i := by
  intro n
  induction n with
  | zero =>
    intro hn h i
    rw [show outsAt0 m c 0 hn = _ from outsAt0_A m c ⟨0, hn⟩ rfl (by show ¬(1 ≤ 0 % 11 ∧ 0 % 11 ≤ 9); omega) (by show ¬0 % 11 = 10; omega)]
    frame_out
    rw [first_apply]
    simp only [Nat.zero_mod, Nat.zero_div, Nat.mul_zero, Nat.zero_add, Finset.sum_range_one]
    exact (addend_eq m c ⟨0, hn⟩ i).symm
  | succ n ih =>
    intro hn h i
    by_cases h0 : (n + 1) % 11 = 0
    · rw [show outsAt0 m c (n + 1) hn = _ from outsAt0_A m c ⟨n + 1, hn⟩ h0 (by show ¬(1 ≤ (n + 1) % 11 ∧ _); omega) (by show ¬(n + 1) % 11 = 10; omega)]
      frame_out
      rw [first_apply, h0, Nat.zero_add, Finset.sum_range_one, show 11 * ((n + 1) / 11) + 0 = n + 1 by omega]
      exact (addend_eq m c ⟨n + 1, hn⟩ i).symm
    · rw [show outsAt0 m c (n + 1) hn = _ from outsAt0_B m c ⟨n + 1, hn⟩ h0 (by show 1 ≤ (n + 1) % 11 ∧ (n + 1) % 11 ≤ 9; omega) (by show ¬(n + 1) % 11 = 10; omega)]
      frame_out
      rw [next_apply]
      simp only [Nat.add_sub_cancel]
      rw [ih _ (by omega) i, Finset.sum_range_succ (n := (n + 1) % 11), show (n + 1) % 11 = n % 11 + 1 by omega,
        show (n + 1) / 11 = n / 11 by omega, show 11 * (n / 11) + (n % 11 + 1) = n + 1 by omega]
      exact congrArg _ (addend_eq m c ⟨n + 1, hn⟩ i).symm

/-- The scale of the residual, as printed. -/
def alpha : EReal := FloatOps.ofBits (F := Ideal) .f32 0x3FD744FD#32
/-- One half, as printed. -/
def half : EReal := FloatOps.ofBits (F := Ideal) .f32 0x3F000000#32

/-- After the last point the block holds the scaled residual plus the gated sum of all eleven addends. -/
theorem final_apply (c : Dev nD) (t : Fin cfg0.N) (h : t.val % 11 = 10) (i : S2048x1024.Idx) :
    outsAt0 m c t.val t.isLt i = alpha * iblk m c 2 t i
      + half * iblk m c 3 t (ix3 ⟨(i 0).val / 1024, Nat.div_lt_of_lt_mul (i 0).isLt⟩ 0 (i 1))
        * ∑ s ∈ Finset.range 11, addend m c (11 * (t.val / 11) + s) i := by
  have hs : ∑ s ∈ Finset.range 11, addend m c (11 * (t.val / 11) + s) i
      = outsAt0 m c (t.val - 1) (Nat.lt_of_le_of_lt (Nat.sub_le _ _) t.isLt) i + prod (iblk m c 0 t) (iblk m c 1 t) i := by
    rw [partial_apply m c (t.val - 1) _ (by omega) i, show (t.val - 1) % 11 + 1 = 10 by omega, show (t.val - 1) / 11 = t.val / 11 by omega,
      Finset.sum_range_succ (n := 10), show 11 * (t.val / 11) + 10 = t.val by omega, addend_eq]
  rw [hs, outsAt0_C m c t (by omega) (by omega) h]
  frame_out
  generalize outsAt0 m c (t.val - 1) _ = acc
  generalize iblk m c 0 t = x
  generalize iblk m c 1 t = w
  generalize iblk m c 2 t = r
  generalize iblk m c 3 t = g
  canon_tiles z hz
  · pointwise [k0_pay5, k0_pay3, prod, alpha, half]
    blk_point [hz0, hz1]
  · pointwise [k0_pay4, k0_pay3, prod, alpha, half]
    blk_point [hz0, hz1]

end Cert.Down

end
-- ==== Proof.Down.Array.lean ====
/-
  Hand-written. THE DOWN PROJECTION, THE ARRAY: the element of the result at a row and a column, from the four arguments.
-/
module

public import proofs.«01_k».proof.Proof.Down.Block
public import proofs.«01_k».proof.Proof.Gen.Kernel3Ideal.Value
public import proofs.«01_k».proof.Proof.Gen.Kernel3Ideal.Value
public import Idealize.ShloMosaic.Lib.KernelVsHost

@[expose] public section

set_option maxRecDepth 16384

noncomputable section

namespace Cert.Down

open Idealize.ShloMosaic Idealize.ShloMosaic.TcCoe Idealize.SL.Sem
open Cert.Kernel3Ideal Cert.Kernel3Ideal.Gen
open Idealize.ShloMosaic.Pipeline (Dat Cfg Window)

variable (m : (ℓ : Loc nD τ sig) → Buf (Elt Ideal) ℓ) (ρ : Dev nD → PrngReg)

/-- The result as a function of the four arguments: activations, weights, residual, modulation (row 2 of nine is the gate). -/
def result (a : Vec Ideal S8192x11008 .f32) (w : Vec Ideal S11008x4096 .f32) (x : Vec Ideal S8192x4096 .f32)
    (g : Vec Ideal S8x9x4096 .f32) : Vec Ideal S8192x4096 .f32 := fun i =>
  alpha * x i + half * g (ix3 ⟨(i 0).val / 1024, Nat.div_lt_of_lt_mul (i 0).isLt⟩ 2 (i 1))
    * ∑ k : Fin 11008, a (ix2 (i 0) k) * w (ix2 k (i 1))

theorem idx_act : ∀ t : Fin cfg0.N, win0_0.index t = ![t.val / 44, t.val % 11] := (by decide +kernel : ∀ t : Fin grid0.N, _)
theorem idx_wts : ∀ t : Fin cfg0.N, win0_1.index t = ![t.val % 11, t.val / 11 % 4] := (by decide +kernel : ∀ t : Fin grid0.N, _)
theorem idx_res : ∀ t : Fin cfg0.N, win0_2.index t = ![t.val / 44, t.val / 11 % 4] := (by decide +kernel : ∀ t : Fin grid0.N, _)
theorem idx_mod : ∀ t : Fin cfg0.N, win0_3.index t = ![t.val / 44, 0, 8 + t.val / 11 % 4] := (by decide +kernel : ∀ t : Fin grid0.N, _)
theorem idx_out : ∀ t : Fin cfg0.N, win0_4.index t = ![t.val / 44, t.val / 11 % 4] := (by decide +kernel : ∀ t : Fin grid0.N, _)

/-- The padding value is zero. -/
theorem pad_zero (φ : FTy) : FloatOps.sitofp (F := Ideal) φ (0#32) = (0 : EReal) := by
  show (((0#32 : BitVec 32).toInt : ℝ) : EReal) = 0
  simp

/-- The activations' buffer when the region starts: the argument padded with zero columns. -/
theorem act_eq (c : Dev nD) : V m c main_v1
    = pad S8192x11264 ![0, 0] ![0, 256] ![0, 0] (truncf (F := Ideal) .bf16 (m ((c : Thread nD τ).loc main_arg0)) bitsLt_bf16_f32)
        (sitofp (F := Ideal) .bf16 (constantI S_ 32 0#32)) pads_S8192x11008_S8192x11264_000_02560 h_S_ := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_results

/-- The weights' buffer when the region starts: the argument padded with zero rows. -/
theorem wts_eq (c : Dev nD) : V m c main_v3
    = pad S11264x4096 ![0, 0] ![256, 0] ![0, 0] (truncf (F := Ideal) .bf16 (m ((c : Thread nD τ).loc main_arg1)) bitsLt_bf16_f32)
        (sitofp (F := Ideal) .bf16 (constantI S_ 32 0#32)) pads_S11008x4096_S11264x4096_02560_000 h_S_ := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_results

/-- The modulation's buffer when the region starts: the argument laid out flat, padded with batches. -/
theorem mod_eq (c : Dev nD) : V m c main_v5
    = pad S16x1x36864 ![0, 0, 0] ![8, 0, 0] ![0, 0, 0] (shapeCast S8x1x36864 (m ((c : Thread nD τ).loc main_arg3)) shapeCasts_S8x9x4096_S8x1x36864)
        (sitofp (F := Ideal) .f32 (constantI S_ 32 0#32)) pads_S8x1x36864_S16x1x36864_080_000_000 h_S_ := by
  simp only [V, hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The activations the region reads: the argument, zero past column 11008. -/
theorem act_apply (c : Dev nD) (i : S8192x11264.Idx) :
    V m c main_v1 i = if h : (i 1).val < 11008 then m ((c : Thread nD τ).loc main_arg0) (ix2 (i 0) ⟨(i 1).val, h⟩) else (0 : EReal) := by
  rw [act_eq]
  pointwise
  by_cases h : (i 1).val < 11008
  · rw [dif_pos h, dif_pos]
    intro a
    fin_cases a
    · exact ⟨Nat.zero_le _, Nat.mod_one _, by have h8 : (i 0).val < 8192 := (i 0).isLt; show ((i 0).val - 0) / 1 < 8192; omega⟩
    · exact ⟨Nat.zero_le _, Nat.mod_one _, by show ((i 1).val - 0) / 1 < 11008; omega⟩
  · rw [dif_neg h, dif_neg]
    · exact pad_zero _
    · intro hh
      have := (hh 1).2.2
      replace this : ((i 1).val - 0) / 1 < 11008 := this
      omega

/-- The weights the region reads: the argument, zero past row 11008. -/
theorem wts_apply (c : Dev nD) (i : S11264x4096.Idx) :
    V m c main_v3 i = if h : (i 0).val < 11008 then m ((c : Thread nD τ).loc main_arg1) (ix2 ⟨(i 0).val, h⟩ (i 1)) else (0 : EReal) := by
  rw [wts_eq]
  pointwise
  by_cases h : (i 0).val < 11008
  · rw [dif_pos h, dif_pos]
    intro a
    fin_cases a
    · exact ⟨Nat.zero_le _, Nat.mod_one _, by show ((i 0).val - 0) / 1 < 11008; omega⟩
    · exact ⟨Nat.zero_le _, Nat.mod_one _, by have h4 : (i 1).val < 4096 := (i 1).isLt; show ((i 1).val - 0) / 1 < 4096; omega⟩
  · rw [dif_neg h, dif_neg]
    · exact pad_zero _
    · intro hh
      have := (hh 0).2.2
      replace this : ((i 0).val - 0) / 1 < 11008 := this
      omega

/-- The modulation the region reads, at the batches there are. -/
theorem mod_apply (c : Dev nD) (i : S16x1x36864.Idx) (j : S8x9x4096.Idx) (h0 : (i 0).val = (j 0).val)
    (h2 : (i 2).val = (j 1).val * 4096 + (j 2).val) :
    V m c main_v5 i = m ((c : Thread nD τ).loc main_arg3) j := by
  have b0 : (j 0).val < 8 := (j 0).isLt
  have b1 : (j 1).val < 9 := (j 1).isLt
  have b2 : (j 2).val < 4096 := (j 2).isLt
  have i1 : (i 1).val < 1 := (i 1).isLt
  have i2 : (i 2).val < 36864 := (i 2).isLt
  rw [mod_eq]
  refine (pad_apply_of_inside _ _ _ _ _ _ _ i
    (ix3 (⟨(j 0).val, b0⟩ : Fin 8) (0 : Fin 1) (⟨(i 2).val, i2⟩ : Fin 36864)) (fun a => match a with
      | ⟨0, _⟩ => ?_
      | ⟨1, _⟩ => ?_
      | ⟨2, _⟩ => ?_)).trans ?_
  · show (i 0).val = 0 + (j 0).val * (0 + 1)
    omega
  · show (i 1).val = 0 + 0 * (0 + 1)
    omega
  · show (i 2).val = 0 + (i 2).val * (0 + 1)
    omega
  refine shapeCast_apply _ _ _ _ ?_
  refine (Shape.rowMajor_val_three (d := ![8, 9, 4096]) j).trans (Eq.symm ((Shape.rowMajor_val_three (d := ![8, 1, 36864]) _).trans ?_))
  show ((j 0).val * 1 + 0) * 36864 + (i 2).val = ((j 0).val * 9 + (j 1).val) * 4096 + (j 2).val
  omega

/-- One product of the sum over the padded columns: zero past column 11008. -/
def term (a : Vec Ideal S8192x11008 .f32) (w : Vec Ideal S11008x4096 .f32) (i : S8192x4096.Idx) (l : ℕ) : EReal :=
  if h : l < 11008 then a (ix2 (i 0) ⟨l, h⟩) * w (ix2 ⟨l, h⟩ (i 1)) else 0

/-- A product of two padded reads is a `term`. -/
theorem term_of (a : Vec Ideal S8192x11008 .f32) (w : Vec Ideal S11008x4096 .f32) (i : S8192x4096.Idx) (l : ℕ)
    (j : S8192x11264.Idx) (j' : S11264x4096.Idx) (e0 : (j 0).val = (i 0).val) (e1 : (j 1).val = l) (f0 : (j' 0).val = l)
    (f1 : (j' 1).val = (i 1).val) :
    (if h : (j 1).val < 11008 then a (ix2 (j 0) ⟨(j 1).val, h⟩) else (0 : EReal))
      * (if h : (j' 0).val < 11008 then w (ix2 ⟨(j' 0).val, h⟩ (j' 1)) else (0 : EReal)) = term a w i l := by
  unfold term
  by_cases h : l < 11008
  · rw [dif_pos h, dif_pos (e1 ▸ h), dif_pos (f0 ▸ h)]
    subst e1
    rw [show j 0 = i 0 from Fin.ext e0, show j' 1 = i 1 from Fin.ext f1]
    exact congrArg (a _ * ·) (congrArg w (congrArg (ix2 · (i 1)) (Fin.ext f0)))
  · rw [dif_neg h, dif_neg (e1 ▸ h), zero_mul]

/-- The products of one grid point are a run of 1024 of them. -/
theorem addend_term (c : Dev nD) (t : Fin cfg0.N) (y : S2048x1024.Idx) (i : S8192x4096.Idx)
    (h0 : (i 0).val = t.val / 44 * 2048 + (y 0).val) (h1 : (i 1).val = t.val / 11 % 4 * 1024 + (y 1).val) :
    addend m c t.val y = ∑ k : Fin 1024, term (m ((c : Thread nD τ).loc main_arg0)) (m ((c : Thread nD τ).loc main_arg1)) i
      (t.val % 11 * 1024 + k.val) := by
  have b0 : (y 0).val < 2048 := (y 0).isLt
  have b1 : (y 1).val < 1024 := (y 1).isLt
  rw [addend_eq]
  unfold prod
  refine Finset.sum_congr rfl fun k _ => ?_
  have hk : k.val < 1024 := k.isLt
  refine (congrArg₂ (fun p q : EReal => p * q) (act_apply m c (((cfg0.win 0).blk t).view.emb (ix2 (y 0) k)))
    (wts_apply m c (((cfg0.win 1).blk t).view.emb (ix2 k (y 1))))).trans (term_of _ _ i _ _ _ ?_ ?_ ?_ ?_)
  · blk_simp [idx_act t]
    show t.val / 44 * 2048 + (y 0).val = (i 0).val
    omega
  · blk_simp [idx_act t]
  · blk_simp [idx_wts t]
  · blk_simp [idx_wts t]
    show t.val / 11 % 4 * 1024 + (y 1).val = (i 1).val
    omega

/-- The sum of the padded columns is the sum of the columns there are. -/
theorem sum_term (a : Vec Ideal S8192x11008 .f32) (w : Vec Ideal S11008x4096 .f32) (i : S8192x4096.Idx) :
    ∑ s ∈ Finset.range 11, ∑ k : Fin 1024, term a w i (s * 1024 + k.val)
      = ∑ k : Fin 11008, a (ix2 (i 0) k) * w (ix2 k (i 1)) := by
  have e : ∑ s ∈ Finset.range 11, ∑ k : Fin 1024, term a w i (s * 1024 + k.val) = ∑ l ∈ Finset.range (11008 + 256), term a w i l := by
    rw [Finset.sum_congr rfl fun s _ => (Finset.sum_range (fun k => term a w i (s * 1024 + k))).symm]
    exact Finset.sum_range_range_mul_add 11 1024 (term a w i)
  rw [e, Finset.sum_range_add, Finset.sum_eq_zero (s := Finset.range 256) fun l _ => dif_neg (by omega), add_zero, Finset.sum_range]
  exact Finset.sum_congr rfl fun k _ => dif_pos k.isLt

/-- What the last point of a block's run writes, at an index of the block. -/
theorem block_apply (c : Dev nD) (t : Fin cfg0.N) (ht : t.val % 11 = 10) (y : S2048x1024.Idx) (i : S8192x4096.Idx)
    (h0 : (i 0).val = t.val / 44 * 2048 + (y 0).val) (h1 : (i 1).val = t.val / 11 % 4 * 1024 + (y 1).val) :
    (dats m 0 c).after 4 t y
      = result (m ((c : Thread nD τ).loc main_arg0)) (m ((c : Thread nD τ).loc main_arg1)) (m ((c : Thread nD τ).loc main_arg2))
          (m ((c : Thread nD τ).loc main_arg3)) i := by
  have hN : t.val < 176 := lt_of_lt_of_eq t.isLt N_0
  have b0 : (y 0).val < 2048 := (y 0).isLt
  have b1 : (y 1).val < 1024 := (y 1).isLt
  rw [after0_4, final_apply m c t ht]
  unfold result
  refine congrArg₂ (· + ·) (congrArg (alpha * ·) ?_) (congrArg₂ (· * ·) (congrArg (half * ·) ?_) ?_)
  · unfold iblk
    show V m c main_arg2 (((cfg0.win 2).blk t).view.emb y) = _
    rw [V_main_arg2]
    refine congrArg _ ?_
    blk_ext [idx_res t]
  · unfold iblk
    refine mod_apply m c _ _ ?_ ?_
    · blk_simp [idx_mod t]
      show t.val / 44 * 2 + (y 0).val / 1024 = (i 0).val / 1024
      omega
    · blk_simp [idx_mod t]
      show (8 + t.val / 11 % 4) * 1024 + (y 1).val = 2 * 4096 + (i 1).val
      omega
  · refine Eq.trans (Finset.sum_congr rfl fun s hs => ?_) (sum_term _ _ i)
    have hs' : s < 11 := Finset.mem_range.mp hs
    have hq : 11 * (t.val / 11) + s < cfg0.N := by show _ < grid0.N; rw [N_0]; omega
    rw [show addend m c (11 * (t.val / 11) + s) y = _ from addend_term m c ⟨11 * (t.val / 11) + s, hq⟩ y i (by show _ = (11 * (t.val / 11) + s) / 44 * 2048 + _; omega)
      (by show _ = (11 * (t.val / 11) + s) / 11 % 4 * 1024 + _; omega)]
    show ∑ k : Fin 1024, term _ _ i ((11 * (t.val / 11) + s) % 11 * 1024 + k.val) = _
    rw [show (11 * (t.val / 11) + s) % 11 = s by omega]

/-- The result array after the region. -/
theorem array_eq (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine Dat.arrAt_eq_of_covers (dats m 0 c) 4 _ (by decide +kernel) fun t hf y => ?_
  exact block_apply m c t ((flush0_4 t).mp hf) y _ (by blk_simp [idx_out t]) (by blk_simp [idx_out t])

/-- The run of the idealized call: its result is `result` of the four arguments, which end unchanged. -/
theorem run : θ_run (defs (F := Ideal)) (onTc (τ := τ) (main (F := Ideal))) ⟨m, fun _ => 0, ρ⟩ (fun r => ∀ c : Dev nD,
    r.2.mem ((c.tc : Thread nD τ).loc main_v6)
      = result (m ((c : Thread nD τ).loc main_arg0)) (m ((c : Thread nD τ).loc main_arg1)) (m ((c : Thread nD τ).loc main_arg2))
          (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (array_eq m c), (h c).2⟩) (Cert.Kernel3Ideal.Value.run_blocks m ρ)

end Cert.Down

end
-- ==== Proof.Down.Equation.lean ====
/-
  Hand-written. THE DOWN PROJECTION, THE EQUATION: the reference's result is the same function of the four arguments.
-/
module

public import proofs.«01_k».proof.Defs
public import proofs.«01_k».proof.Proof.Down.Array
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Down

open Idealize.ShloMosaic Idealize.ShloMosaic.TcCoe Idealize.SL.Sem

/-- The reference's last value, element by element, is the kernel's result. -/
theorem reference_eq (a : Vec Ideal Cert.Kernel3Ideal.S8192x11008 .f32) (w : Vec Ideal Cert.Kernel3Ideal.S11008x4096 .f32)
    (x : Vec Ideal Cert.Kernel3Ideal.S8192x4096 .f32) (g : Vec Ideal Cert.Kernel3Ideal.S8x9x4096 .f32) :
    Cert.Reference3Ideal.Read.val_main_v13 (F := Ideal) a w x g = result a w x g := by
  funext i
  pointwise [Cert.Reference3Ideal.Read.val_main_v13, Cert.Reference3Ideal.Read.val_main_v12, Cert.Reference3Ideal.Read.val_main_v11,
    Cert.Reference3Ideal.Read.val_main_v10, Cert.Reference3Ideal.Read.val_main_v9, Cert.Reference3Ideal.Read.val_main_v8,
    Cert.Reference3Ideal.Read.val_main_v7, Cert.Reference3Ideal.Read.val_main_v6, Cert.Reference3Ideal.Read.val_main_v5,
    Cert.Reference3Ideal.Read.val_main_v4, Cert.Reference3Ideal.Read.val_main_v3, Cert.Reference3Ideal.Read.val_main_v2,
    Cert.Reference3Ideal.Read.val_main_v1, Cert.Reference3Ideal.Read.val_main_v0, Cert.Reference3Ideal.Read.val_main_cst,
    Cert.Reference3Ideal.Read.val_main_cst_0]
  unfold result alpha half
  rfl

/-- The algebraic claim of the down projection. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨_, run m g, ?_⟩
  refine (θ_run (Cert.Reference3Ideal.defs (F := Ideal)) _ _).mono (fun r h c => ?_) (Cert.Reference3Ideal.Value.run (F := Ideal) m' g')
  obtain ⟨hv, hk⟩ := h c
  refine ⟨hv.trans ?_, hk⟩
  rw [(hargs c).1, (hargs c).2.1, (hargs c).2.2.1, (hargs c).2.2.2]
  exact (Cert.Reference3Ideal.Read.val_main_v13_eq _ _ _ _).trans (reference_eq _ _ _ _)

end Cert.Down

end
-- ==== Proof.Out.Block.lean ====
/-
  Hand-written. THE OUTPUT PROJECTION OF THE GROUPED ATTENTIONS, ONE BLOCK: what the four grid points of one output block leave in it, as sums over
  the blocks they read.
-/
module

public import proofs.«01_k».proof.Proof.Gen.Kernel4Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Out

open Idealize.ShloMosaic Idealize.ShloMosaic.TcCoe Idealize.SL.Sem
open Cert.Kernel4Ideal Cert.Kernel4Ideal.Gen
open Idealize.ShloMosaic.Pipeline (Dat Cfg Window)

/-- One block product at an index. -/
def prod (x : Vec Ideal S2048x1024 .bf16) (w : Vec Ideal S1024x1024 .bf16) (i : S2048x1024.Idx) : EReal :=
  ∑ k : Fin 1024, x (ix2 (i 0) k) * w (ix2 k (i 1))

/-- The first store: the block product. -/
theorem first_apply (x : Vec Ideal S2048x1024 .bf16) (w : Vec Ideal S1024x1024 .bf16) (i : S2048x1024.Idx) :
    k0_pay1 (F := Ideal) x w i = prod x w i := by
  pointwise [k0_pay1, prod]

/-- A later store: what was there plus the block product. -/
theorem next_apply (a : Vec Ideal S2048x1024 .f32) (x : Vec Ideal S2048x1024 .bf16) (w : Vec Ideal S1024x1024 .bf16) (i : S2048x1024.Idx) :
    k0_pay2 (F := Ideal) a x w i = a i + prod x w i := by
  pointwise [k0_pay2, prod]

variable (m : (ℓ : Loc nD τ sig) → Buf (Elt Ideal) ℓ) (ρ : Dev nD → PrngReg)

/-- The addend of grid point `n` (zero past the grid). -/
def addend (c : Dev nD) (n : ℕ) (i : S2048x1024.Idx) : EReal :=
  if h : n < cfg0.N then prod (iblk m c 0 ⟨n, h⟩) (iblk m c 1 ⟨n, h⟩) i else 0

theorem addend_eq (c : Dev nD) (t : Fin cfg0.N) (i : S2048x1024.Idx) :
    addend m c t.val i = prod (iblk m c 0 t) (iblk m c 1 t) i := dif_pos t.isLt

/-- Before the last point of a block's run, the block holds the sum of the addends so far. -/
theorem partial_apply (c : Dev nD) : ∀ (n : ℕ) (hn : n < cfg0.N) (h : n % 4 ≤ 2) (i : S2048x1024.Idx),
    outsAt0 m c n hn i = ∑ s ∈ Finset.range (n % 4 + 1), addend m c (4 * (n / 4) + s) i := by
  intro n
  induction n with
  | zero =>
    intro hn h i
    rw [show outsAt0 m c 0 hn = _ from outsAt0_A m c ⟨0, hn⟩ rfl (by show ¬(1 ≤ 0 % 4 ∧ 0 % 4 ≤ 2); omega) (by show ¬0 % 4 = 3; omega)]
    frame_out
    rw [first_apply]
    simp only [Nat.zero_mod, Nat.zero_div, Nat.mul_zero, Nat.zero_add, Finset.sum_range_one]
    exact (addend_eq m c ⟨0, hn⟩ i).symm
  | succ n ih =>
    intro hn h i
    by_cases h0 : (n + 1) % 4 = 0
    · rw [show outsAt0 m c (n + 1) hn = _ from outsAt0_A m c ⟨n + 1, hn⟩ h0 (by show ¬(1 ≤ (n + 1) % 4 ∧ _); omega) (by show ¬(n + 1) % 4 = 3; omega)]
      frame_out
      rw [first_apply, h0, Nat.zero_add, Finset.sum_range_one, show 4 * ((n + 1) / 4) + 0 = n + 1 by omega]
      exact (addend_eq m c ⟨n + 1, hn⟩ i).symm
    · rw [show outsAt0 m c (n + 1) hn = _ from outsAt0_B m c ⟨n + 1, hn⟩ h0 (by show 1 ≤ (n + 1) % 4 ∧ (n + 1) % 4 ≤ 2; omega) (by show ¬(n + 1) % 4 = 3; omega)]
      frame_out
      rw [next_apply]
      simp only [Nat.add_sub_cancel]
      rw [ih _ (by omega) i, Finset.sum_range_succ (n := (n + 1) % 4), show (n + 1) % 4 = n % 4 + 1 by omega,
        show (n + 1) / 4 = n / 4 by omega, show 4 * (n / 4) + (n % 4 + 1) = n + 1 by omega]
      exact congrArg _ (addend_eq m c ⟨n + 1, hn⟩ i).symm

/-- The scale of the residual, as printed. -/
def alpha : EReal := FloatOps.ofBits (F := Ideal) .f32 0x3FD744FD#32
/-- One, as printed. -/
def one : EReal := FloatOps.ofBits (F := Ideal) .f32 0x3F800000#32

/-- After the last point the block holds the scaled residual plus the gated sum of all four addends. -/
theorem final_apply (c : Dev nD) (t : Fin cfg0.N) (h : t.val % 4 = 3) (i : S2048x1024.Idx) :
    outsAt0 m c t.val t.isLt i = alpha * iblk m c 2 t i
      + one * iblk m c 3 t (ix3 ⟨(i 0).val / 1024, Nat.div_lt_of_lt_mul (i 0).isLt⟩ 0 (i 1))
        * ∑ s ∈ Finset.range 4, addend m c (4 * (t.val / 4) + s) i := by
  have hs : ∑ s ∈ Finset.range 4, addend m c (4 * (t.val / 4) + s) i
      = outsAt0 m c (t.val - 1) (Nat.lt_of_le_of_lt (Nat.sub_le _ _) t.isLt) i + prod (iblk m c 0 t) (iblk m c 1 t) i := by
    rw [partial_apply m c (t.val - 1) _ (by omega) i, show (t.val - 1) % 4 + 1 = 3 by omega, show (t.val - 1) / 4 = t.val / 4 by omega,
      Finset.sum_range_succ (n := 3), show 4 * (t.val / 4) + 3 = t.val by omega, addend_eq]
  rw [hs, outsAt0_C m c t (by omega) (by omega) h]
  frame_out
  generalize outsAt0 m c (t.val - 1) _ = acc
  generalize iblk m c 0 t = x
  generalize iblk m c 1 t = w
  generalize iblk m c 2 t = r
  generalize iblk m c 3 t = g
  canon_tiles z hz
  · pointwise [k0_pay5, k0_pay3, prod, alpha, one]
    blk_point [hz0, hz1]
  · pointwise [k0_pay4, k0_pay3, prod, alpha, one]
    blk_point [hz0, hz1]

end Cert.Out

end
-- ==== Proof.Out.Array.lean ====
/-
  Hand-written. THE OUTPUT PROJECTION OF THE GROUPED ATTENTIONS, THE ARRAY: the element of the result at a row and a column, from the four arguments.
-/
module

public import proofs.«01_k».proof.Proof.Out.Block
public import proofs.«01_k».proof.Proof.Gen.Kernel4Ideal.Value
public import Idealize.ShloMosaic.Lib.KernelVsHost

@[expose] public section

set_option maxRecDepth 16384

noncomputable section

namespace Cert.Out

open Idealize.ShloMosaic Idealize.ShloMosaic.TcCoe Idealize.SL.Sem
open Cert.Kernel4Ideal Cert.Kernel4Ideal.Gen
open Idealize.ShloMosaic.Pipeline (Dat Cfg Window)

variable (m : (ℓ : Loc nD τ sig) → Buf (Elt Ideal) ℓ) (ρ : Dev nD → PrngReg)

/-- The result as a function of the four arguments: activations, weights, residual, modulation (row 5 of nine is the gate). -/
def result (a : Vec Ideal S8192x4096 .f32) (w : Vec Ideal S4096x4096 .f32) (x : Vec Ideal S8192x4096 .f32)
    (g : Vec Ideal S8x9x4096 .f32) : Vec Ideal S8192x4096 .f32 := fun i =>
  alpha * x i + one * g (ix3 ⟨(i 0).val / 1024, Nat.div_lt_of_lt_mul (i 0).isLt⟩ 5 (i 1))
    * ∑ k : Fin 4096, a (ix2 (i 0) k) * w (ix2 k (i 1))

theorem idx_act : ∀ t : Fin cfg0.N, win0_0.index t = ![t.val / 16, t.val % 4] := (by decide +kernel : ∀ t : Fin grid0.N, _)
theorem idx_wts : ∀ t : Fin cfg0.N, win0_1.index t = ![t.val % 4, t.val / 4 % 4] := (by decide +kernel : ∀ t : Fin grid0.N, _)
theorem idx_res : ∀ t : Fin cfg0.N, win0_2.index t = ![t.val / 16, t.val / 4 % 4] := (by decide +kernel : ∀ t : Fin grid0.N, _)
theorem idx_mod : ∀ t : Fin cfg0.N, win0_3.index t = ![t.val / 16, 0, 20 + t.val / 4 % 4] := (by decide +kernel : ∀ t : Fin grid0.N, _)
theorem idx_out : ∀ t : Fin cfg0.N, win0_4.index t = ![t.val / 16, t.val / 4 % 4] := (by decide +kernel : ∀ t : Fin grid0.N, _)

/-- The padding value is zero. -/
theorem pad_zero (φ : FTy) : FloatOps.sitofp (F := Ideal) φ (0#32) = (0 : EReal) := by
  show (((0#32 : BitVec 32).toInt : ℝ) : EReal) = 0
  simp

/-- The modulation's buffer when the region starts: the argument laid out flat, padded with batches. -/
theorem mod_eq (c : Dev nD) : V m c main_v1
    = pad S16x1x36864 ![0, 0, 0] ![8, 0, 0] ![0, 0, 0] (shapeCast S8x1x36864 (m ((c : Thread nD τ).loc main_arg3)) shapeCasts_S8x9x4096_S8x1x36864)
        (sitofp (F := Ideal) .f32 (constantI S_ 32 0#32)) pads_S8x1x36864_S16x1x36864_080_000_000 h_S_ := by
  simp only [V, hostOps0, hostOps0_1, hostOps0_2, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The activations the region reads: the argument. -/
theorem act_apply (c : Dev nD) (i : S8192x4096.Idx) : V m c main_v2 i = m ((c : Thread nD τ).loc main_arg0) i := by
  have e : V m c main_v2 = truncf (F := Ideal) .bf16 (m ((c : Thread nD τ).loc main_arg0)) bitsLt_bf16_f32 := by
    simp only [V, hostOps0, hostOps0_1, hostOps0_2, List.flatten_cons, List.flatten_nil, List.append_nil,
      List.cons_append, List.nil_append, StableHlo.TRef.binary, StableHlo.TRef.nullary, StableHlo.TRef.unary, StableHlo.TRef.toBuf, StableHlo.TRef.ofBuf, cast_eq]
    after_results
  rw [e]
  pointwise

/-- The weights the region reads: the argument. -/
theorem wts_apply (c : Dev nD) (i : S4096x4096.Idx) : V m c main_v3 i = m ((c : Thread nD τ).loc main_arg1) i := by
  have e : V m c main_v3 = truncf (F := Ideal) .bf16 (m ((c : Thread nD τ).loc main_arg1)) bitsLt_bf16_f32 := by
    simp only [V, hostOps0, hostOps0_1, hostOps0_2, List.flatten_cons, List.flatten_nil, List.append_nil,
      List.cons_append, List.nil_append, StableHlo.TRef.binary, StableHlo.TRef.nullary, StableHlo.TRef.unary, StableHlo.TRef.toBuf, StableHlo.TRef.ofBuf, cast_eq]
    after_results
  rw [e]
  pointwise

/-- The modulation the region reads, at the batches there are. -/
theorem mod_apply (c : Dev nD) (i : S16x1x36864.Idx) (j : S8x9x4096.Idx) (h0 : (i 0).val = (j 0).val)
    (h2 : (i 2).val = (j 1).val * 4096 + (j 2).val) :
    V m c main_v1 i = m ((c : Thread nD τ).loc main_arg3) j := by
  have b0 : (j 0).val < 8 := (j 0).isLt
  have b1 : (j 1).val < 9 := (j 1).isLt
  have b2 : (j 2).val < 4096 := (j 2).isLt
  have i1 : (i 1).val < 1 := (i 1).isLt
  have i2 : (i 2).val < 36864 := (i 2).isLt
  rw [mod_eq]
  refine (pad_apply_of_inside _ _ _ _ _ _ _ i
    (ix3 (⟨(j 0).val, b0⟩ : Fin 8) (0 : Fin 1) (⟨(i 2).val, i2⟩ : Fin 36864)) (fun a => match a with
      | ⟨0, _⟩ => ?_
      | ⟨1, _⟩ => ?_
      | ⟨2, _⟩ => ?_)).trans ?_
  · show (i 0).val = 0 + (j 0).val * (0 + 1)
    omega
  · show (i 1).val = 0 + 0 * (0 + 1)
    omega
  · show (i 2).val = 0 + (i 2).val * (0 + 1)
    omega
  refine shapeCast_apply _ _ _ _ ?_
  refine (Shape.rowMajor_val_three (d := ![8, 9, 4096]) j).trans (Eq.symm ((Shape.rowMajor_val_three (d := ![8, 1, 36864]) _).trans ?_))
  show ((j 0).val * 1 + 0) * 36864 + (i 2).val = ((j 0).val * 9 + (j 1).val) * 4096 + (j 2).val
  omega

/-- One product of the sum over the columns, by the column's number (zero past the last). -/
def term (a : Vec Ideal S8192x4096 .f32) (w : Vec Ideal S4096x4096 .f32) (i : S8192x4096.Idx) (l : ℕ) : EReal :=
  if h : l < 4096 then a (ix2 (i 0) ⟨l, h⟩) * w (ix2 ⟨l, h⟩ (i 1)) else 0

/-- A product of two reads is a `term`. -/
theorem term_of (a : Vec Ideal S8192x4096 .f32) (w : Vec Ideal S4096x4096 .f32) (i : S8192x4096.Idx) (l : ℕ) (h : l < 4096)
    (j : S8192x4096.Idx) (j' : S4096x4096.Idx) (e0 : (j 0).val = (i 0).val) (e1 : (j 1).val = l) (f0 : (j' 0).val = l)
    (f1 : (j' 1).val = (i 1).val) : a j * w j' = term a w i l := by
  unfold term
  rw [dif_pos h]
  have hj : j = ix2 (i 0) ⟨l, h⟩ := funext fun x => match x with
    | ⟨0, _⟩ => Fin.ext e0
    | ⟨1, _⟩ => Fin.ext e1
  have hj' : j' = ix2 ⟨l, h⟩ (i 1) := funext fun x => match x with
    | ⟨0, _⟩ => Fin.ext f0
    | ⟨1, _⟩ => Fin.ext f1
  rw [hj, hj']
  rfl

/-- The products of one grid point are a run of 1024 of them. -/
theorem addend_term (c : Dev nD) (t : Fin cfg0.N) (y : S2048x1024.Idx) (i : S8192x4096.Idx)
    (h0 : (i 0).val = t.val / 16 * 2048 + (y 0).val) (h1 : (i 1).val = t.val / 4 % 4 * 1024 + (y 1).val) :
    addend m c t.val y = ∑ k : Fin 1024, term (m ((c : Thread nD τ).loc main_arg0)) (m ((c : Thread nD τ).loc main_arg1)) i
      (t.val % 4 * 1024 + k.val) := by
  have b0 : (y 0).val < 2048 := (y 0).isLt
  have b1 : (y 1).val < 1024 := (y 1).isLt
  rw [addend_eq]
  unfold prod
  refine Finset.sum_congr rfl fun k _ => ?_
  have hk : k.val < 1024 := k.isLt
  refine (congrArg₂ (fun p q : EReal => p * q) (act_apply m c (((cfg0.win 0).blk t).view.emb (ix2 (y 0) k)))
    (wts_apply m c (((cfg0.win 1).blk t).view.emb (ix2 k (y 1))))).trans (term_of _ _ i _ (by omega) _ _ ?_ ?_ ?_ ?_)
  · blk_simp [idx_act t]
    show t.val / 16 * 2048 + (y 0).val = (i 0).val
    omega
  · blk_simp [idx_act t]
  · blk_simp [idx_wts t]
  · blk_simp [idx_wts t]
    show t.val / 4 % 4 * 1024 + (y 1).val = (i 1).val
    omega

/-- The blocks' sums add up to the sum over all columns. -/
theorem sum_term (a : Vec Ideal S8192x4096 .f32) (w : Vec Ideal S4096x4096 .f32) (i : S8192x4096.Idx) :
    ∑ s ∈ Finset.range 4, ∑ k : Fin 1024, term a w i (s * 1024 + k.val)
      = ∑ k : Fin 4096, a (ix2 (i 0) k) * w (ix2 k (i 1)) := by
  have e : ∑ s ∈ Finset.range 4, ∑ k : Fin 1024, term a w i (s * 1024 + k.val) = ∑ l ∈ Finset.range 4096, term a w i l := by
    rw [Finset.sum_congr rfl fun s _ => (Finset.sum_range (fun k => term a w i (s * 1024 + k))).symm]
    exact Finset.sum_range_range_mul_add 4 1024 (term a w i)
  rw [e, Finset.sum_range]
  exact Finset.sum_congr rfl fun k _ => dif_pos k.isLt

/-- What the last point of a block's run writes, at an index of the block. -/
theorem block_apply (c : Dev nD) (t : Fin cfg0.N) (ht : t.val % 4 = 3) (y : S2048x1024.Idx) (i : S8192x4096.Idx)
    (h0 : (i 0).val = t.val / 16 * 2048 + (y 0).val) (h1 : (i 1).val = t.val / 4 % 4 * 1024 + (y 1).val) :
    (dats m 0 c).after 4 t y
      = result (m ((c : Thread nD τ).loc main_arg0)) (m ((c : Thread nD τ).loc main_arg1)) (m ((c : Thread nD τ).loc main_arg2))
          (m ((c : Thread nD τ).loc main_arg3)) i := by
  have hN : t.val < 64 := lt_of_lt_of_eq t.isLt N_0
  have b0 : (y 0).val < 2048 := (y 0).isLt
  have b1 : (y 1).val < 1024 := (y 1).isLt
  rw [after0_4, final_apply m c t ht]
  unfold result
  refine congrArg₂ (· + ·) (congrArg (alpha * ·) ?_) (congrArg₂ (· * ·) (congrArg (one * ·) ?_) ?_)
  · unfold iblk
    show V m c main_arg2 (((cfg0.win 2).blk t).view.emb y) = _
    rw [V_main_arg2]
    refine congrArg _ ?_
    blk_ext [idx_res t]
  · unfold iblk
    refine mod_apply m c _ _ ?_ ?_
    · blk_simp [idx_mod t]
      show t.val / 16 * 2 + (y 0).val / 1024 = (i 0).val / 1024
      omega
    · blk_simp [idx_mod t]
      show (20 + t.val / 4 % 4) * 1024 + (y 1).val = 5 * 4096 + (i 1).val
      omega
  · refine Eq.trans (Finset.sum_congr rfl fun s hs => ?_) (sum_term _ _ i)
    have hs' : s < 4 := Finset.mem_range.mp hs
    have hq : 4 * (t.val / 4) + s < cfg0.N := by show _ < grid0.N; rw [N_0]; omega
    rw [show addend m c (4 * (t.val / 4) + s) y = _ from addend_term m c ⟨4 * (t.val / 4) + s, hq⟩ y i (by show _ = (4 * (t.val / 4) + s) / 16 * 2048 + _; omega)
      (by show _ = (4 * (t.val / 4) + s) / 4 % 4 * 1024 + _; omega)]
    show ∑ k : Fin 1024, term _ _ i ((4 * (t.val / 4) + s) % 4 * 1024 + k.val) = _
    rw [show (4 * (t.val / 4) + s) % 4 = s by omega]

/-- The result array after the region. -/
theorem array_eq (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine Dat.arrAt_eq_of_covers (dats m 0 c) 4 _ (by decide +kernel) fun t hf y => ?_
  exact block_apply m c t ((flush0_4 t).mp hf) y _ (by blk_simp [idx_out t]) (by blk_simp [idx_out t])

/-- The run of the idealized call: its result is `result` of the four arguments, which end unchanged. -/
theorem run : θ_run (defs (F := Ideal)) (onTc (τ := τ) (main (F := Ideal))) ⟨m, fun _ => 0, ρ⟩ (fun r => ∀ c : Dev nD,
    r.2.mem ((c.tc : Thread nD τ).loc main_v4)
      = result (m ((c : Thread nD τ).loc main_arg0)) (m ((c : Thread nD τ).loc main_arg1)) (m ((c : Thread nD τ).loc main_arg2))
          (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (array_eq m c), (h c).2⟩) (Cert.Kernel4Ideal.Value.run_blocks m ρ)

end Cert.Out

end
-- ==== Proof.Out.Equation.lean ====
/-
  Hand-written. THE OUTPUT PROJECTION OF THE GROUPED ATTENTIONS, THE EQUATION: the reference's result is the same function of the four arguments.
-/
module

public import proofs.«01_k».proof.Defs
public import proofs.«01_k».proof.Proof.Out.Array
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Out

open Idealize.ShloMosaic Idealize.ShloMosaic.TcCoe Idealize.SL.Sem

/-- The printed one is one. -/
theorem one_eq : one = 1 := by
  simp only [one, FloatOps.ofBits]
  simp [Ideal.ofBits, Ideal.ieee]
  rw [← EReal.coe_mul, ← EReal.coe_one]
  norm_num

/-- The reference's last value, element by element, is the kernel's result. -/
theorem reference_eq (a : Vec Ideal Cert.Kernel4Ideal.S8192x4096 .f32) (w : Vec Ideal Cert.Kernel4Ideal.S4096x4096 .f32)
    (x : Vec Ideal Cert.Kernel4Ideal.S8192x4096 .f32) (g : Vec Ideal Cert.Kernel4Ideal.S8x9x4096 .f32) :
    Cert.Reference4Ideal.Read.val_main_v11 (F := Ideal) a w x g = result a w x g := by
  funext i
  pointwise [Cert.Reference4Ideal.Read.val_main_v11, Cert.Reference4Ideal.Read.val_main_v10, Cert.Reference4Ideal.Read.val_main_v9,
    Cert.Reference4Ideal.Read.val_main_v8, Cert.Reference4Ideal.Read.val_main_v7, Cert.Reference4Ideal.Read.val_main_v6,
    Cert.Reference4Ideal.Read.val_main_v5, Cert.Reference4Ideal.Read.val_main_v4, Cert.Reference4Ideal.Read.val_main_v3,
    Cert.Reference4Ideal.Read.val_main_v2, Cert.Reference4Ideal.Read.val_main_v1, Cert.Reference4Ideal.Read.val_main_v0,
    Cert.Reference4Ideal.Read.val_main_cst]
  unfold result alpha
  rw [one_eq, one_mul]
  rfl

/-- The algebraic claim of the output projection of the grouped attentions. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨_, run m g, ?_⟩
  refine (θ_run (Cert.Reference4Ideal.defs (F := Ideal)) _ _).mono (fun r h c => ?_) (Cert.Reference4Ideal.Value.run (F := Ideal) m' g')
  obtain ⟨hv, hk⟩ := h c
  refine ⟨hv.trans ?_, hk⟩
  rw [(hargs c).1, (hargs c).2.1, (hargs c).2.2.1, (hargs c).2.2.2]
  exact (Cert.Reference4Ideal.Read.val_main_v11_eq _ _ _ _).trans (reference_eq _ _ _ _)

end Cert.Out

end
-- ==== Proof.Rms.Row.lean ====
/-
  Hand-written. THE ROOT-MEAN-SQUARE NORM OF A ROW, on the extended reals: what the kernels and the references both compute.
-/
module

public import Idealize.ShloMosaic.PureOps.Ideal.Laws

@[expose] public section

noncomputable section

namespace Cert.Rms

open Idealize.ShloMosaic

/-- A row's number over the root of the row's mean square (`len` is the row's length as printed), times a gain. -/
def row {n : ℕ} (len : EReal) (y : Fin n → EReal) (k : Fin n) (g : EReal) : EReal :=
  y k * Ideal.rsqrt (Ideal.div (∑ l, y l * y l) len + Ideal.ofBits .f32 0x358637BD#32) * g

end Cert.Rms

end
-- ==== Proof.Qkv.Block.lean ====
/-
  Hand-written. THE QUERY/KEY/VALUE PROJECTION WITH NORMALISED HEADS, ONE BLOCK: what one grid point stores, from the blocks it reads.
-/
module

public import proofs.«01_k».proof.Proof.Rms.Row
public import proofs.«01_k».proof.Proof.Gen.Kernel5Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Qkv

open Idealize.ShloMosaic Idealize.ShloMosaic.TcCoe Idealize.SL.Sem
open Cert.Kernel5Ideal Cert.Kernel5Ideal.Gen

/-- The number of columns of a head. -/
def len : EReal := Ideal.ofBits .f32 0x43000000#32

/-- A row's number normalised over its head, the row's 1024 columns being eight heads of 128, times a gain. -/
def head (y : Fin 1024 → EReal) (j : Fin 1024) (g : EReal) : EReal :=
  Rms.row len (fun d : Fin 128 => y ⟨j.val / 128 * 128 + d.val, by omega⟩) ⟨j.val % 128, by omega⟩ g

/-- The head's number at a column of head `n`. -/
theorem head_eq (n : ℕ) (y : Fin 1024 → EReal) (j : Fin 1024) (d : Fin 128) (g : EReal) (hj : j.val = n + d.val) (hn : n % 128 = 0)
    (hn' : n ≤ 896) : head y j g = Rms.row len (fun d : Fin 128 => y ⟨n + d.val, by omega⟩) d g := by
  have e : j.val / 128 * 128 = n := by omega
  have e' : (⟨j.val % 128, by omega⟩ : Fin 128) = d := Fin.ext (by show j.val % 128 = d.val; omega)
  unfold head
  simp only [e, e']

/-- An element of a block's product: a row times a column. -/
def mm (x : Vec Ideal S1024x4096 .bf16) (w : Vec Ideal S4096x1024 .bf16) (r : Fin 1024) (j : Fin 1024) : EReal :=
  ∑ k : Fin 4096, x (ix2 r k) * w (ix2 k j)

/-- An element of the block stored at the last column block: the product as it is. -/
theorem plain_apply (x : Vec Ideal S1024x4096 .bf16) (w : Vec Ideal S4096x1024 .bf16) (i : S1024x1024.Idx) :
    k0_pay2 (F := Ideal) x w i = mm x w (i 0) (i 1) := by
  pointwise [k0_pay2, mm]

/-- The first head's store. -/
theorem head0_apply (x : Vec Ideal S1024x4096 .bf16) (w : Vec Ideal S4096x1024 .bf16) (g : Vec Ideal S1x128 .f32) (i : S1024x128.Idx) :
    k0_pay4 (F := Ideal) x w g i
      = Rms.row len (fun d : Fin 128 => mm x w (i 0) ⟨0 + d.val, by omega⟩) (i 1) (g (ix2 0 (i 1))) := by
  pointwise [k0_pay4, k0_pay3, Rms.row, len, mm]

/-- The second head's store. -/
theorem head1_apply (x : Vec Ideal S1024x4096 .bf16) (w : Vec Ideal S4096x1024 .bf16) (g : Vec Ideal S1x128 .f32) (i : S1024x128.Idx) :
    k0_pay5 (F := Ideal) x w g i
      = Rms.row len (fun d : Fin 128 => mm x w (i 0) ⟨128 + d.val, by omega⟩) (i 1) (g (ix2 0 (i 1))) := by
  pointwise [k0_pay5, k0_pay3, Rms.row, len, mm]

/-- The third head's store. -/
theorem head2_apply (x : Vec Ideal S1024x4096 .bf16) (w : Vec Ideal S4096x1024 .bf16) (g : Vec Ideal S1x128 .f32) (i : S1024x128.Idx) :
    k0_pay8 (F := Ideal) (k0_pay6 x w) (k0_pay7 x w) g i
      = Rms.row len (fun d : Fin 128 => mm x w (i 0) ⟨256 + d.val, by omega⟩) (i 1) (g (ix2 0 (i 1))) := by
  pointwise [k0_pay8, k0_pay7, k0_pay6, k0_pay3, Rms.row, len, mm]

/-- The fourth head's store. -/
theorem head3_apply (x : Vec Ideal S1024x4096 .bf16) (w : Vec Ideal S4096x1024 .bf16) (g : Vec Ideal S1x128 .f32) (i : S1024x128.Idx) :
    k0_pay9 (F := Ideal) (k0_pay3 x w) g i
      = Rms.row len (fun d : Fin 128 => mm x w (i 0) ⟨384 + d.val, by omega⟩) (i 1) (g (ix2 0 (i 1))) := by
  pointwise [k0_pay9, k0_pay3, Rms.row, len, mm]

/-- The fifth head's store. -/
theorem head4_apply (x : Vec Ideal S1024x4096 .bf16) (w : Vec Ideal S4096x1024 .bf16) (g : Vec Ideal S1x128 .f32) (i : S1024x128.Idx) :
    k0_pay11 (F := Ideal) (k0_pay10 (k0_pay3 x w)) g i
      = Rms.row len (fun d : Fin 128 => mm x w (i 0) ⟨512 + d.val, by omega⟩) (i 1) (g (ix2 0 (i 1))) := by
  pointwise [k0_pay11, k0_pay10, k0_pay3, Rms.row, len, mm]

/-- The sixth head's store. -/
theorem head5_apply (x : Vec Ideal S1024x4096 .bf16) (w : Vec Ideal S4096x1024 .bf16) (g : Vec Ideal S1x128 .f32) (i : S1024x128.Idx) :
    k0_pay12 (F := Ideal) (k0_pay3 x w) g i
      = Rms.row len (fun d : Fin 128 => mm x w (i 0) ⟨640 + d.val, by omega⟩) (i 1) (g (ix2 0 (i 1))) := by
  pointwise [k0_pay12, k0_pay3, Rms.row, len, mm]

/-- The seventh head's store. -/
theorem head6_apply (x : Vec Ideal S1024x4096 .bf16) (w : Vec Ideal S4096x1024 .bf16) (g : Vec Ideal S1x128 .f32) (i : S1024x128.Idx) :
    k0_pay13 (F := Ideal) (k0_pay3 x w) g i
      = Rms.row len (fun d : Fin 128 => mm x w (i 0) ⟨768 + d.val, by omega⟩) (i 1) (g (ix2 0 (i 1))) := by
  pointwise [k0_pay13, k0_pay3, Rms.row, len, mm]

/-- The eighth head's store. -/
theorem head7_apply (x : Vec Ideal S1024x4096 .bf16) (w : Vec Ideal S4096x1024 .bf16) (g : Vec Ideal S1x128 .f32) (i : S1024x128.Idx) :
    k0_pay1 (F := Ideal) (k0_pay14 (k0_pay3 x w)) (k0_pay15 (k0_pay3 x w)) g i
      = Rms.row len (fun d : Fin 128 => mm x w (i 0) ⟨896 + d.val, by omega⟩) (i 1) (g (ix2 0 (i 1))) := by
  pointwise [k0_pay1, k0_pay15, k0_pay14, k0_pay3, Rms.row, len, mm]

variable (m : (ℓ : Loc nD τ sig) → Buf (Elt Ideal) ℓ)

/-- What a point of the first five column blocks stores: the product, normalised by heads and scaled by the gain. -/
theorem normed_apply (c : Dev nD) (t : Fin cfg0.N) (ha : t.val % 6 ≤ 4) (hb : ¬t.val % 6 = 5) (y : S1024x1024.Idx) :
    (dats m 0 c).after 3 t y = head (mm (iblk m c 0 t) (iblk m c 1 t) (y 0)) (y 1) ((iblk m c 2 t : Vec Ideal S8x1024 .f32) (ix2 0 (y 1))) := by
  rw [after0_3, outsAt0_A m c t ha hb]
  frame_out
  canon_tiles x h
  · rw [head7_apply, head_eq 896 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head6_apply, head_eq 768 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head5_apply, head_eq 640 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head4_apply, head_eq 512 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head3_apply, head_eq 384 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head2_apply, head_eq 256 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head1_apply, head_eq 128 _ (y 1) (x 1) _ h1 (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans h1.symm)
  · rw [head0_apply, head_eq 0 _ (y 1) (x 1) _ (h1.trans (Nat.zero_add _).symm) (by norm_num) (by norm_num), show y 0 = x 0 from Fin.ext h0]
    refine congrArg (fun g => Rms.row len _ (x 1) g) (congrArg (iblk m c 2 t : Vec Ideal S8x1024 .f32) (funext fun a => ?_))
    fin_cases a
    · rfl
    · exact Fin.ext ((Rect.idx_unit_val _ _ _ _ _).trans ((Nat.zero_add _).trans h1.symm))

/-- What a point of the last column block stores: the product. -/
theorem plain_block (c : Dev nD) (t : Fin cfg0.N) (ha : ¬t.val % 6 ≤ 4) (hb : t.val % 6 = 5) (y : S1024x1024.Idx) :
    (dats m 0 c).after 3 t y = mm (iblk m c 0 t) (iblk m c 1 t) (y 0) (y 1) := by
  rw [after0_3, outsAt0_B m c t ha hb]
  frame_out
  exact plain_apply _ _ _

end Cert.Qkv

end
-- ==== Proof.Qkv.Array.lean ====
/-
  Hand-written. THE QUERY/KEY/VALUE PROJECTION WITH NORMALISED HEADS, THE ARRAYS: the elements of the three results, from the four arguments.
-/
module

public import proofs.«01_k».proof.Proof.Qkv.Block

@[expose] public section

set_option maxRecDepth 16384

noncomputable section

namespace Cert.Qkv

open Idealize.ShloMosaic Idealize.ShloMosaic.TcCoe Idealize.SL.Sem
open Cert.Kernel5Ideal Cert.Kernel5Ideal.Gen
open Idealize.ShloMosaic.Pipeline (Dat Cfg Window)

variable (m : (ℓ : Loc nD τ sig) → Buf (Elt Ideal) ℓ) (ρ : Dev nD → PrngReg)

/-- The gains of the columns: the queries' for 32 heads, the keys' for 8 heads, ones for the values. -/
def strip (gq gk : Vec Ideal S128 .f32) : Vec Ideal S6144 .f32 :=
  concatenate S6144 0
    [⟨S4096, shapeCast S4096 (broadcastInDim S32x128 ![0, 1] bcast_S1x128_S32x128_0_1 (shapeCast S1x128 gq shapeCasts_S128_S1x128)) shapeCasts_S32x128_S4096⟩,
      ⟨S1024, shapeCast S1024 (broadcastInDim S8x128 ![0, 1] bcast_S1x128_S8x128_0_1 (shapeCast S1x128 gk shapeCasts_S128_S1x128)) shapeCasts_S8x128_S1024⟩,
      ⟨S1024, broadcastInDim S1024 ![] bcast_S_S1024 (constant (F := Ideal) S_ .f32 0x3F800000#32)⟩]
    concatenates_S4096_S1024_S1024_S6144_d0

/-- The gains as the region reads them: the columns' gains on every row. -/
def gains (gq gk : Vec Ideal S128 .f32) : Vec Ideal S8x6144 .f32 :=
  broadcastInDim S8x6144 ![0, 1] bcast_S1x6144_S8x6144_0_1 (broadcastInDim S1x6144 ![1] bcast_S6144_S1x6144_1 (strip gq gk))

/-- A row's number normalised over its head, the row's 6144 columns being 48 heads of 128, times a gain. -/
def normed (y : Fin 6144 → EReal) (j : Fin 6144) (g : EReal) : EReal :=
  Rms.row len (fun d : Fin 128 => y ⟨j.val / 128 * 128 + d.val, by omega⟩) ⟨j.val % 128, by omega⟩ g

/-- An element of the whole product. -/
def product (h : Vec Ideal S4096x4096 .f32) (w : Vec Ideal S4096x6144 .f32) (r : Fin 4096) (j : Fin 6144) : EReal :=
  ∑ k : Fin 4096, h (ix2 r k) * w (ix2 k j)

/-- The whole table, as the region writes it: the product, its first 5120 columns normalised by heads and scaled. -/
def table (h : Vec Ideal S4096x4096 .f32) (w : Vec Ideal S4096x6144 .f32) (gq gk : Vec Ideal S128 .f32) : Vec Ideal S4096x6144 .f32 := fun i =>
  if (i 1).val < 5120 then normed (product h w (i 0)) (i 1) (gains gq gk (ix2 0 (i 1))) else product h w (i 0) (i 1)

/-- The queries: the first 4096 columns. -/
def queries (p : Vec Ideal S4096x6144 .f32) : Vec Ideal S4096x4096 .f32 :=
  extractStridedSlice S4096x4096 ![0, 0] p slices_S4096x6144_S4096x4096_0_0

/-- The keys: the next 1024 columns, as batches, tokens, heads. -/
def keys (p : Vec Ideal S4096x6144 .f32) : Vec Ideal S16x256x8x128 .f32 :=
  shapeCast S16x256x8x128 (extractStridedSlice S4096x1024 ![0, 4096] p slices_S4096x6144_S4096x1024_0_4096) shapeCasts_S4096x1024_S16x256x8x128

/-- The values: the last 1024 columns, as batches, tokens, heads. -/
def values (p : Vec Ideal S4096x6144 .f32) : Vec Ideal S16x256x8x128 .f32 :=
  shapeCast S16x256x8x128 (extractStridedSlice S4096x1024 ![0, 5120] p slices_S4096x6144_S4096x1024_0_5120) shapeCasts_S4096x1024_S16x256x8x128

theorem idx_act : ∀ t : Fin cfg0.N, win0_0.index t = ![t.val / 6, 0] := (by decide +kernel : ∀ t : Fin grid0.N, _)
theorem idx_wts : ∀ t : Fin cfg0.N, win0_1.index t = ![0, t.val % 6] := (by decide +kernel : ∀ t : Fin grid0.N, _)
theorem idx_gain : ∀ t : Fin cfg0.N, win0_2.index t = ![0, t.val % 6] := (by decide +kernel : ∀ t : Fin grid0.N, _)
theorem idx_out : ∀ t : Fin cfg0.N, win0_3.index t = ![t.val / 6, t.val % 6] := (by decide +kernel : ∀ t : Fin grid0.N, _)

/-- The activations the region reads: the argument. -/
theorem act_apply (c : Dev nD) (i : S4096x4096.Idx) : V m c main_v10 i = m ((c : Thread nD τ).loc main_arg0) i := by
  have e : (V m c main_v10 : Vec Ideal S4096x4096 .bf16) = truncf (F := Ideal) .bf16 (m ((c : Thread nD τ).loc main_arg0)) bitsLt_bf16_f32 := by
    simp only [V, V0, hostOps0, List.flatten_cons, List.flatten_nil, List.append_nil]
    after_results
  rw [e]
  pointwise

/-- The weights the region reads: the argument. -/
theorem wts_apply (c : Dev nD) (i : S4096x6144.Idx) : V m c main_v11 i = m ((c : Thread nD τ).loc main_arg1) i := by
  have e : (V m c main_v11 : Vec Ideal S4096x6144 .bf16) = truncf (F := Ideal) .bf16 (m ((c : Thread nD τ).loc main_arg1)) bitsLt_bf16_f32 := by
    simp only [V, V0, hostOps0, List.flatten_cons, List.flatten_nil, List.append_nil]
    after_results
  rw [e]
  pointwise

/-- The gains the region reads. -/
theorem gain_eq (c : Dev nD) : V m c main_v9 = gains (m ((c : Thread nD τ).loc main_arg2)) (m ((c : Thread nD τ).loc main_arg3)) := by
  simp only [V, V0, hostOps0, List.flatten_cons, List.flatten_nil, List.append_nil]
  after_results
  rfl

/-- A point's product of its blocks, at a column of its block. -/
theorem mm_block (c : Dev nD) (t : Fin cfg0.N) (r : Fin 1024) (j : Fin 1024) (r' : Fin 4096) (j' : Fin 6144)
    (h0 : r'.val = t.val / 6 * 1024 + r.val) (h1 : j'.val = t.val % 6 * 1024 + j.val) :
    mm (iblk m c 0 t) (iblk m c 1 t) r j = product (m ((c : Thread nD τ).loc main_arg0)) (m ((c : Thread nD τ).loc main_arg1)) r' j' := by
  have hN : t.val < 24 := lt_of_lt_of_eq t.isLt N_0
  have b0 : r.val < 1024 := r.isLt
  have b1 : j.val < 1024 := j.isLt
  unfold mm product
  refine Finset.sum_congr rfl fun k _ => congrArg₂ (fun p q : EReal => p * q)
    ((act_apply m c (((cfg0.win 0).blk t).view.emb (ix2 r k))).trans (congrArg _ ?_))
    ((wts_apply m c (((cfg0.win 1).blk t).view.emb (ix2 k j))).trans (congrArg _ ?_))
  · blk_ext [idx_act t]
  · blk_ext [idx_wts t]

/-- A point's gain, at a column of its block. -/
theorem gain_block (c : Dev nD) (t : Fin cfg0.N) (j : Fin 1024) (j' : Fin 6144) (h1 : j'.val = t.val % 6 * 1024 + j.val) :
    (iblk m c 2 t : Vec Ideal S8x1024 .f32) (ix2 0 j) = gains (m ((c : Thread nD τ).loc main_arg2)) (m ((c : Thread nD τ).loc main_arg3)) (ix2 0 j') := by
  have hN : t.val < 24 := lt_of_lt_of_eq t.isLt N_0
  have b1 : j.val < 1024 := j.isLt
  refine (congrFun (gain_eq m c) (((cfg0.win 2).blk t).view.emb (ix2 0 j))).trans (congrArg _ ?_)
  blk_ext [idx_gain t]

/-- What a point writes, at an index of its block. -/
theorem block_apply (c : Dev nD) (t : Fin cfg0.N) (y : S1024x1024.Idx) (i : S4096x6144.Idx)
    (h0 : (i 0).val = t.val / 6 * 1024 + (y 0).val) (h1 : (i 1).val = t.val % 6 * 1024 + (y 1).val) :
    (dats m 0 c).after 3 t y = table (m ((c : Thread nD τ).loc main_arg0)) (m ((c : Thread nD τ).loc main_arg1))
      (m ((c : Thread nD τ).loc main_arg2)) (m ((c : Thread nD τ).loc main_arg3)) i := by
  have hN : t.val < 24 := lt_of_lt_of_eq t.isLt N_0
  have b0 : (y 0).val < 1024 := (y 0).isLt
  have b1 : (y 1).val < 1024 := (y 1).isLt
  unfold table
  by_cases h5 : t.val % 6 = 5
  · rw [plain_block m c t (by omega) h5 y, if_neg (by omega)]
    exact mm_block m c t _ _ _ _ h0 h1
  · rw [normed_apply m c t (by omega) h5 y, if_pos (by omega)]
    unfold head normed
    have e : (⟨(y 1).val % 128, by omega⟩ : Fin 128) = ⟨(i 1).val % 128, by omega⟩ := Fin.ext (by show (y 1).val % 128 = (i 1).val % 128; omega)
    rw [gain_block m c t (y 1) (i 1) h1, e]
    refine congrArg (fun f => Rms.row len f _ _) (funext fun d => ?_)
    have bd : d.val < 128 := d.isLt
    refine mm_block m c t _ _ _ _ h0 ?_
    show (i 1).val / 128 * 128 + d.val = t.val % 6 * 1024 + ((y 1).val / 128 * 128 + d.val)
    omega

/-- The table after the region. -/
theorem array_eq (c : Dev nD) : (dats m 0 c).arrAt 3 cfg0.N = table (m ((c : Thread nD τ).loc main_arg0)) (m ((c : Thread nD τ).loc main_arg1))
      (m ((c : Thread nD τ).loc main_arg2)) (m ((c : Thread nD τ).loc main_arg3)) := by
  refine Dat.arrAt_eq_of_covers (dats m 0 c) 3 _ (by decide +kernel) fun t hf y => ?_
  exact block_apply m c t y _ (by blk_simp [idx_out t]) (by blk_simp [idx_out t])

/-- The host operations after the region read the table. -/
theorem entry_eq (c : Dev nD) : Pipeline.withArrays spec0 c (V0 m c) (fun w => (dats m 0 c).arrAt w cfg0.N) (Proc.devRef .tc main_v12)
    = table (m ((c : Thread nD τ).loc main_arg0)) (m ((c : Thread nD τ).loc main_arg1))
      (m ((c : Thread nD τ).loc main_arg2)) (m ((c : Thread nD τ).loc main_arg3)) :=
  (Pipeline.withArrays_arr spec0 winFacts0.arr_inj c (V0 m c) (fun w => (dats m 0 c).arrAt w cfg0.N) 3).trans (array_eq m c)

/-- The first result: the queries. -/
theorem tail_q (c : Dev nD) : Pipeline.afterTail₀ cfgs (dats m) 0 (V0 m) [hostOps1] c main_v13
    = queries (table (m ((c : Thread nD τ).loc main_arg0)) (m ((c : Thread nD τ).loc main_arg1))
      (m ((c : Thread nD τ).loc main_arg2)) (m ((c : Thread nD τ).loc main_arg3))) := by
  rw [← entry_eq]
  unfold Pipeline.afterTail₀
  show StableHlo.after hostOps1 _ (Proc.devRef .tc main_v13) = _
  entry_read
  rfl

/-- The second result: the keys. -/
theorem tail_k (c : Dev nD) : Pipeline.afterTail₀ cfgs (dats m) 0 (V0 m) [hostOps1] c main_v15
    = keys (table (m ((c : Thread nD τ).loc main_arg0)) (m ((c : Thread nD τ).loc main_arg1))
      (m ((c : Thread nD τ).loc main_arg2)) (m ((c : Thread nD τ).loc main_arg3))) := by
  rw [← entry_eq]
  unfold Pipeline.afterTail₀
  show StableHlo.after hostOps1 _ (Proc.devRef .tc main_v15) = _
  entry_read
  rfl

/-- The third result: the values. -/
theorem tail_v (c : Dev nD) : Pipeline.afterTail₀ cfgs (dats m) 0 (V0 m) [hostOps1] c main_v17
    = values (table (m ((c : Thread nD τ).loc main_arg0)) (m ((c : Thread nD τ).loc main_arg1))
      (m ((c : Thread nD τ).loc main_arg2)) (m ((c : Thread nD τ).loc main_arg3))) := by
  rw [← entry_eq]
  unfold Pipeline.afterTail₀
  show StableHlo.after hostOps1 _ (Proc.devRef .tc main_v17) = _
  entry_read
  rfl

/-- The run of the idealized call: its results are parts of the table of its arguments, which end unchanged. -/
theorem run : θ_run (defs (F := Ideal)) (onTc (τ := τ) (main (F := Ideal))) ⟨m, fun _ => 0, ρ⟩ (fun r => ∀ c : Dev nD,
    r.2.mem ((c.tc : Thread nD τ).loc main_v13)
      = queries (table (m ((c : Thread nD τ).loc main_arg0)) (m ((c : Thread nD τ).loc main_arg1))
      (m ((c : Thread nD τ).loc main_arg2)) (m ((c : Thread nD τ).loc main_arg3)))
    ∧ r.2.mem ((c.tc : Thread nD τ).loc main_v15)
      = keys (table (m ((c : Thread nD τ).loc main_arg0)) (m ((c : Thread nD τ).loc main_arg1))
      (m ((c : Thread nD τ).loc main_arg2)) (m ((c : Thread nD τ).loc main_arg3)))
    ∧ r.2.mem ((c.tc : Thread nD τ).loc main_v17)
      = values (table (m ((c : Thread nD τ).loc main_arg0)) (m ((c : Thread nD τ).loc main_arg1))
      (m ((c : Thread nD τ).loc main_arg2)) (m ((c : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c =>
    ⟨((h.1 c).2 main_v13 (Pipeline.mem_restRefs_of main_v13 (by decide) (by decide))).trans (tail_q m c),
      ((h.1 c).2 main_v15 (Pipeline.mem_restRefs_of main_v15 (by decide) (by decide))).trans (tail_k m c),
      ((h.1 c).2 main_v17 (Pipeline.mem_restRefs_of main_v17 (by decide) (by decide))).trans (tail_v m c), h.2 c⟩)
    (θ_run_and (run_main m ρ) (unchanged m ρ))

end Cert.Qkv

end
-- ==== Proof.Qkv.Equation.lean ====
/-
  Hand-written. THE QUERY/KEY/VALUE PROJECTION WITH NORMALISED HEADS, THE EQUATION: the reference's results are the same parts of the same table.
-/
module

public import proofs.«01_k».proof.Defs
public import proofs.«01_k».proof.Proof.Qkv.Array
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Qkv

open Idealize.ShloMosaic Idealize.ShloMosaic.TcCoe Idealize.SL.Sem

variable (h : Vec Ideal Cert.Kernel5Ideal.S4096x4096 .f32) (w : Vec Ideal Cert.Kernel5Ideal.S4096x6144 .f32) (gq gk : Vec Ideal Cert.Kernel5Ideal.S128 .f32)

/-- The queries' gains: the head's gains, one head after the other. -/
theorem tile_q (j : Fin 4096) : shapeCast Cert.Kernel5Ideal.S4096
    (broadcastInDim Cert.Kernel5Ideal.S32x128 ![0, 1] Cert.Kernel5Ideal.Gen.bcast_S1x128_S32x128_0_1
      (shapeCast Cert.Kernel5Ideal.S1x128 gq Cert.Kernel5Ideal.Gen.shapeCasts_S128_S1x128)) Cert.Kernel5Ideal.Gen.shapeCasts_S32x128_S4096 (ix1 j)
    = gq (ix1 ⟨j.val % 128, by omega⟩) := by
  pointwise

/-- The keys' gains: the head's gains, one head after the other. -/
theorem tile_k (j : Fin 1024) : shapeCast Cert.Kernel5Ideal.S1024
    (broadcastInDim Cert.Kernel5Ideal.S8x128 ![0, 1] Cert.Kernel5Ideal.Gen.bcast_S1x128_S8x128_0_1
      (shapeCast Cert.Kernel5Ideal.S1x128 gk Cert.Kernel5Ideal.Gen.shapeCasts_S128_S1x128)) Cert.Kernel5Ideal.Gen.shapeCasts_S8x128_S1024 (ix1 j)
    = gk (ix1 ⟨j.val % 128, by omega⟩) := by
  pointwise

/-- The gain of a query column. -/
theorem gains_q (j : Fin 6144) (l : Fin 128) (hj : j.val < 4096) (hl : l.val = j.val % 128) : gains gq gk (ix2 0 j) = gq (ix1 l) := by
  have e : gains gq gk (ix2 0 j) = strip gq gk (ix1 j) := by
    pointwise [gains]
  rw [e]
  unfold strip
  refine (concatenate_apply_piece 0 _ _ (ix1 j) 0 (by simp) Cert.Kernel5Ideal.S4096 _ rfl rfl 0 rfl (ix1 ⟨j.val, hj⟩)
    (fun b hb => absurd (Subsingleton.elim (α := Fin 1) b 0) hb) (Nat.zero_add _)).trans ?_
  exact (tile_q gq ⟨j.val, hj⟩).trans (congrArg (fun t => gq (ix1 t)) (Fin.ext hl.symm))

/-- The gain of a key column. -/
theorem gains_k (j : Fin 6144) (l : Fin 128) (hj : 4096 ≤ j.val) (hj' : j.val < 5120) (hl : l.val = j.val % 128) :
    gains gq gk (ix2 0 j) = gk (ix1 l) := by
  have e : gains gq gk (ix2 0 j) = strip gq gk (ix1 j) := by
    pointwise [gains]
  rw [e]
  unfold strip
  refine (concatenate_apply_piece 0 _ _ (ix1 j) 1 (by simp) Cert.Kernel5Ideal.S1024 _ rfl rfl 4096 rfl (ix1 ⟨j.val - 4096, by omega⟩)
    (fun b hb => absurd (Subsingleton.elim (α := Fin 1) b 0) hb) (Nat.add_sub_cancel' hj)).trans ?_
  exact (tile_k gk ⟨j.val - 4096, by omega⟩).trans <| congrArg (fun t => gk (ix1 t)) (Fin.ext (by show (j.val - 4096) % 128 = l.val; omega))

/-- The table at a query column. -/
theorem table_q (r : Fin 4096) (j : Fin 6144) (hj : j.val < 4096) :
    table h w gq gk (ix2 r j) = normed (product h w r) j (gq (ix1 ⟨j.val % 128, by omega⟩)) :=
  (if_pos (show j.val < 5120 by omega)).trans (congrArg (normed (product h w r) j) (gains_q gq gk j _ hj rfl))

/-- The table at a key column. -/
theorem table_k (r : Fin 4096) (j : Fin 6144) (hj : 4096 ≤ j.val) (hj' : j.val < 5120) :
    table h w gq gk (ix2 r j) = normed (product h w r) j (gk (ix1 ⟨j.val % 128, by omega⟩)) :=
  (if_pos hj').trans (congrArg (normed (product h w r) j) (gains_k gq gk j _ hj hj' rfl))

/-- The normalised number of column `d` of the head whose columns start at `n`. -/
theorem normed_at (n : ℕ) (y : Fin 6144 → EReal) (j : Fin 6144) (d : Fin 128) (g : EReal) (hj : j.val = n + d.val) (hn : n % 128 = 0)
    (hn' : n ≤ 6016) : normed y j g = Rms.row len (fun d : Fin 128 => y ⟨n + d.val, by omega⟩) d g := by
  have e : j.val / 128 * 128 = n := by omega
  have e' : (⟨j.val % 128, by omega⟩ : Fin 128) = d := Fin.ext (by show j.val % 128 = d.val; omega)
  unfold normed
  simp only [e, e']

/-- The normalised number, in full. -/
theorem normed_eq (y : Fin 6144 → EReal) (j : Fin 6144) (g : EReal) : normed y j g = y j * Ideal.rsqrt (Ideal.div
    (∑ d : Fin 128, y ⟨j.val / 128 * 128 + d.val, by omega⟩ * y ⟨j.val / 128 * 128 + d.val, by omega⟩) len
      + Ideal.ofBits .f32 0x358637BD#32) * g :=
  congrArg (fun t => y t * _ * g) (Fin.ext (by show j.val / 128 * 128 + j.val % 128 = j.val; omega))

/-- The reference's queries are the kernel's. -/
theorem queries_eq : Cert.Reference5Ideal.Read.val_main_v21 (F := Ideal) h w gq = queries (table h w gq gk) := by
  funext i
  pointwise [Cert.Reference5Ideal.Read.val_main_v21, Cert.Reference5Ideal.Read.val_main_v20, Cert.Reference5Ideal.Read.val_main_v19,
    Cert.Reference5Ideal.Read.val_main_v18, Cert.Reference5Ideal.Read.val_main_v17, Cert.Reference5Ideal.Read.val_main_v16,
    Cert.Reference5Ideal.Read.val_main_v15, Cert.Reference5Ideal.Read.val_main_v14, Cert.Reference5Ideal.Read.val_main_v13,
    Cert.Reference5Ideal.Read.val_main_v12, Cert.Reference5Ideal.Read.val_main_v11, Cert.Reference5Ideal.Read.val_main_v10,
    Cert.Reference5Ideal.Read.val_main_v9, Cert.Reference5Ideal.Read.val_main_v8, Cert.Reference5Ideal.Read.val_main_v3,
    Cert.Reference5Ideal.Read.val_main_v2, Cert.Reference5Ideal.Read.val_main_v1, Cert.Reference5Ideal.Read.val_main_v0,
    Cert.Reference5Ideal.Read.val_main_cst, Cert.Reference5Ideal.Read.val_main_cst_0, Cert.Reference5Ideal.Read.val_main_cst_1, queries]
  have b1 : (i 1).val < 4096 := (i 1).isLt
  refine Eq.trans ?_ ((table_q h w gq gk (i 0) ⟨(i 1).val, by omega⟩ b1).trans (normed_eq _ _ _)).symm
  rfl

/-- The reference's keys are the kernel's. -/
theorem keys_eq : Cert.Reference5Ideal.Read.val_main_v34 (F := Ideal) h w gk = keys (table h w gq gk) := by
  funext i
  pointwise [Cert.Reference5Ideal.Read.val_main_v34, Cert.Reference5Ideal.Read.val_main_v33, Cert.Reference5Ideal.Read.val_main_v32,
    Cert.Reference5Ideal.Read.val_main_v31, Cert.Reference5Ideal.Read.val_main_v30, Cert.Reference5Ideal.Read.val_main_v29,
    Cert.Reference5Ideal.Read.val_main_v28, Cert.Reference5Ideal.Read.val_main_v27, Cert.Reference5Ideal.Read.val_main_v26,
    Cert.Reference5Ideal.Read.val_main_v25, Cert.Reference5Ideal.Read.val_main_v24, Cert.Reference5Ideal.Read.val_main_v23,
    Cert.Reference5Ideal.Read.val_main_v22, Cert.Reference5Ideal.Read.val_main_v5, Cert.Reference5Ideal.Read.val_main_v4,
    Cert.Reference5Ideal.Read.val_main_v1, Cert.Reference5Ideal.Read.val_main_v0, Cert.Reference5Ideal.Read.val_main_cst_2,
    Cert.Reference5Ideal.Read.val_main_cst_3, Cert.Reference5Ideal.Read.val_main_cst_4, keys]
  have b2 : (i 2).val < 8 := (i 2).isLt
  have b3 : (i 3).val < 128 := (i 3).isLt
  rw [table_k h w gq gk _ _ (Nat.le_add_right _ _) (by show 4096 + ((i 2).val * 128 + (i 3).val) < 5120; omega),
    normed_at (4096 + (i 2).val * 128) _ _ (i 3) _ (Nat.add_assoc _ _ _).symm (by omega) (by omega)]
  refine congrArg₂ (fun (a b : EReal) => a * b) ?_ (congrArg (fun t => gk (ix1 t)) (Fin.ext ?_))
  · simp only [product, Nat.add_assoc]
    rfl
  · show (i 3).val = (4096 + ((i 2).val * 128 + (i 3).val)) % 128
    omega

/-- The reference's values are the kernel's. -/
theorem values_eq : Cert.Reference5Ideal.Read.val_main_v7 (F := Ideal) h w = values (table h w gq gk) := by
  funext i
  pointwise [Cert.Reference5Ideal.Read.val_main_v7, Cert.Reference5Ideal.Read.val_main_v6, Cert.Reference5Ideal.Read.val_main_v1,
    Cert.Reference5Ideal.Read.val_main_v0, values]
  exact (if_neg (show ¬ 5120 + ((i 2).val * 128 + (i 3).val) < 5120 by omega)).symm

/-- The algebraic claim of the projection with normalised heads. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨_, _, _, run m g, ?_⟩
  refine (θ_run (Cert.Reference5Ideal.defs (F := Ideal)) _ _).mono (fun r h c => ?_) (Cert.Reference5Ideal.Value.run (F := Ideal) m' g')
  obtain ⟨hq, hk, hv, hu⟩ := h c
  refine ⟨hq.trans ?_, hk.trans ?_, hv.trans ?_, hu⟩
  · rw [(hargs c).1, (hargs c).2.1, (hargs c).2.2.1]
    exact (Cert.Reference5Ideal.Read.val_main_v21_eq _ _ _).trans (queries_eq _ _ _ _)
  · rw [(hargs c).1, (hargs c).2.1, (hargs c).2.2.2]
    exact (Cert.Reference5Ideal.Read.val_main_v34_eq _ _ _).trans (keys_eq _ _ _ _)
  · rw [(hargs c).1, (hargs c).2.1]
    exact (Cert.Reference5Ideal.Read.val_main_v7_eq _ _).trans (values_eq _ _ _ _)

end Cert.Qkv

end
-- ==== Proof.Kva.Block.lean ====
/-
  Hand-written. THE KEYS' AND VALUES' COMPRESSION, ONE BLOCK: what one grid point stores, from the blocks it reads.
-/
module

public import proofs.«01_k».proof.Proof.Rms.Row
public import proofs.«01_k».proof.Proof.Gen.Kernel6Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Kva

open Idealize.ShloMosaic Idealize.ShloMosaic.TcCoe Idealize.SL.Sem
open Cert.Kernel6Ideal Cert.Kernel6Ideal.Gen

/-- The number of columns of the normalised part. -/
def len : EReal := Ideal.ofBits .f32 0x44000000#32

/-- An element of the block's product: a row times a column. -/
theorem mm_apply (x : Vec Ideal S1024x4096 .bf16) (w : Vec Ideal S4096x640 .bf16) (i : S1024x640.Idx) :
    k0_pay1 (F := Ideal) x w i = ∑ k : Fin 4096, x (ix2 (i 0) k) * w (ix2 k (i 1)) := by
  pointwise [k0_pay1]

/-- An element of the first block stored: a row of the product's first 512 columns, normalised and scaled by the gain. -/
theorem ckv_apply (x : Vec Ideal S1024x4096 .bf16) (w : Vec Ideal S4096x640 .bf16) (g : Vec Ideal S1x512 .f32) (i : S1024x512.Idx) :
    k0_pay2 (F := Ideal) x w g i = Rms.row len (fun j : Fin 512 => ∑ k : Fin 4096, x (ix2 (i 0) k) * w (ix2 k (Fin.castLE (by omega) j)))
      (i 1) (g (ix2 0 (i 1))) := by
  pointwise [k0_pay2, k0_pay1]
  simp only [Rms.row, len]
  rfl

/-- An element of the second block stored: the product's last 128 columns. -/
theorem rope_apply (x : Vec Ideal S1024x4096 .bf16) (w : Vec Ideal S4096x640 .bf16) (i : S1024x128.Idx) :
    k0_pay3 (F := Ideal) x w i = ∑ k : Fin 4096, x (ix2 (i 0) k) * w (ix2 k (Fin.natAdd 512 (i 1))) := by
  pointwise [k0_pay3, k0_pay1]
  rfl

end Cert.Kva

end
-- ==== Proof.Kva.Array.lean ====
/-
  Hand-written. THE KEYS' AND VALUES' COMPRESSION, THE ARRAYS: the elements of the two results, from the three arguments.
-/
module

public import proofs.«01_k».proof.Proof.Kva.Block

@[expose] public section

set_option maxRecDepth 16384

noncomputable section

namespace Cert.Kva

open Idealize.ShloMosaic Idealize.ShloMosaic.TcCoe Idealize.SL.Sem
open Cert.Kernel6Ideal Cert.Kernel6Ideal.Gen
open Idealize.ShloMosaic.Pipeline (Dat Cfg Window)

variable (m : (ℓ : Loc nD τ sig) → Buf (Elt Ideal) ℓ) (ρ : Dev nD → PrngReg)

/-- The weights as the region reads them: the argument with 64 zero columns after its 576. -/
def prepared (w : Vec Ideal S4096x576 .f32) : Vec Ideal S4096x640 .bf16 :=
  pad S4096x640 ![0, 0] ![0, 64] ![0, 0] (truncf (F := Ideal) .bf16 w bitsLt_bf16_f32)
    (sitofp (F := Ideal) .bf16 (constantI S_ 32 0#32)) pads_S4096x576_S4096x640_000_0640 h_S_

/-- The normalised part, as the region writes it: the rows of the product's first 512 columns, normalised and scaled by the gain. -/
def ckv (h : Vec Ideal S4096x4096 .f32) (w : Vec Ideal S4096x576 .f32) (g : Vec Ideal S512 .f32) : Vec Ideal S4096x512 .f32 := fun i =>
  Rms.row len (fun j : Fin 512 => ∑ k : Fin 4096, h (ix2 (i 0) k) * w (ix2 k (Fin.castLE (by omega) j))) (i 1) (g (ix1 (i 1)))

/-- The rotated part, as the region writes it: the product's last 128 columns, the padding's among them. -/
def rope (h : Vec Ideal S4096x4096 .f32) (w : Vec Ideal S4096x576 .f32) : Vec Ideal S4096x128 .f32 := fun i =>
  ∑ k : Fin 4096, h (ix2 (i 0) k) * prepared w (ix2 k (Fin.natAdd 512 (i 1)))

/-- The normalised part by batches and tokens. -/
def cacheCkv (p : Vec Ideal S4096x512 .f32) : Vec Ideal S16x256x512 .f32 := shapeCast S16x256x512 p shapeCasts_S4096x512_S16x256x512

/-- The rotated part by batches and tokens, the padding dropped. -/
def cacheRope (p : Vec Ideal S4096x128 .f32) : Vec Ideal S16x256x64 .f32 :=
  shapeCast S16x256x64 (extractStridedSlice S4096x64 ![0, 0] p slices_S4096x128_S4096x64_0_0) shapeCasts_S4096x64_S16x256x64

theorem idx_act : ∀ t : Fin cfg0.N, win0_0.index t = ![t.val, 0] := (by decide +kernel : ∀ t : Fin grid0.N, _)
theorem idx_wts : ∀ t : Fin cfg0.N, win0_1.index t = ![0, 0] := (by decide +kernel : ∀ t : Fin grid0.N, _)
theorem idx_gain : ∀ t : Fin cfg0.N, win0_2.index t = ![0, 0] := (by decide +kernel : ∀ t : Fin grid0.N, _)
theorem idx_ckv : ∀ t : Fin cfg0.N, win0_3.index t = ![t.val, 0] := (by decide +kernel : ∀ t : Fin grid0.N, _)
theorem idx_rope : ∀ t : Fin cfg0.N, win0_4.index t = ![t.val, 0] := (by decide +kernel : ∀ t : Fin grid0.N, _)

/-- The padded weights at a column of the argument. -/
theorem prepared_apply (w : Vec Ideal S4096x576 .f32) (k : Fin 4096) (j : Fin 640) (l : Fin 576) (hj : j.val = l.val) :
    prepared w (ix2 k j) = w (ix2 k l) := by
  have bl : l.val < 576 := l.isLt
  have bk : k.val < 4096 := k.isLt
  pointwise [prepared]
  rw [dif_pos (lt_of_eq_of_lt hj bl)]
  exact congrArg (fun t => w (ix2 k t)) (Fin.ext hj)

/-- The activations the region reads: the argument. -/
theorem act_apply (c : Dev nD) (i : S4096x4096.Idx) : V m c main_v4 i = m ((c : Thread nD τ).loc main_arg0) i := by
  have e : (V m c main_v4 : Vec Ideal S4096x4096 .bf16) = truncf (F := Ideal) .bf16 (m ((c : Thread nD τ).loc main_arg0)) bitsLt_bf16_f32 := by
    simp only [V, V0, hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [e]
  pointwise

/-- The weights the region reads: the argument, padded. -/
theorem wts_eq (c : Dev nD) : V m c main_v1 = prepared (m ((c : Thread nD τ).loc main_arg1)) := by
  simp only [V, V0, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The gain the region reads: the argument on every row. -/
theorem gain_apply (c : Dev nD) (i : S8x512.Idx) : V m c main_v3 i = m ((c : Thread nD τ).loc main_arg2) (ix1 (i 1)) := by
  have e : (V m c main_v3 : Vec Ideal S8x512 .f32) = broadcastInDim S8x512 ![0, 1] bcast_S1x512_S8x512_0_1
      (broadcastInDim S1x512 ![1] bcast_S512_S1x512_1 (m ((c : Thread nD τ).loc main_arg2))) := by
    simp only [V, V0, hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [e]
  pointwise

/-- What a point writes of the normalised part, at an index of its block. -/
theorem ckv_block (c : Dev nD) (t : Fin cfg0.N) (y : S1024x512.Idx) (i : S4096x512.Idx)
    (h0 : (i 0).val = t.val * 1024 + (y 0).val) (h1 : (i 1).val = (y 1).val) :
    (dats m 0 c).after 3 t y = ckv (m ((c : Thread nD τ).loc main_arg0)) (m ((c : Thread nD τ).loc main_arg1)) (m ((c : Thread nD τ).loc main_arg2)) i := by
  have hN : t.val < 4 := lt_of_lt_of_eq t.isLt N_0
  have b0 : (y 0).val < 1024 := (y 0).isLt
  have b1 : (y 1).val < 512 := (y 1).isLt
  rw [after0_3]
  unfold out0_3
  frame_out
  rw [ckv_apply]
  unfold ckv
  have e1 : y 1 = i 1 := Fin.ext h1.symm
  refine (congrArg₂ (fun f g => Rms.row len f (y 1) g) (funext fun j => Finset.sum_congr rfl fun k _ =>
    congrArg₂ (fun p q : EReal => p * q) ((act_apply m c (((cfg0.win 0).blk t).view.emb (ix2 (y 0) k))).trans (congrArg _ ?_))
      ((congrFun (wts_eq m c) (((cfg0.win 1).blk t).view.emb (ix2 k (Fin.castLE (show 512 ≤ 640 by omega) j)))).trans
        ((congrArg _ ?_).trans (prepared_apply _ k (Fin.castLE (show 512 ≤ 640 by omega) j) (Fin.castLE (show 512 ≤ 576 by omega) j) rfl)))) ?_).trans
          (congrArg (fun k => Rms.row len _ k _) e1)
  · blk_ext [idx_act t]
  · blk_ext [idx_wts t]
  · refine (gain_apply m c (((cfg0.win 2).blk t).view.emb _)).trans (congrArg _ ?_)
    blk_ext [idx_gain t]
    refine (Rect.idx_unit_val _ _ _ _ _).trans ?_
    show 0 + (y 1).val = (i 1).val
    omega

/-- What a point writes of the rotated part, at an index of its block. -/
theorem rope_block (c : Dev nD) (t : Fin cfg0.N) (y : S1024x128.Idx) (i : S4096x128.Idx)
    (h0 : (i 0).val = t.val * 1024 + (y 0).val) (h1 : (i 1).val = (y 1).val) :
    (dats m 0 c).after 4 t y = rope (m ((c : Thread nD τ).loc main_arg0)) (m ((c : Thread nD τ).loc main_arg1)) i := by
  have hN : t.val < 4 := lt_of_lt_of_eq t.isLt N_0
  have b0 : (y 0).val < 1024 := (y 0).isLt
  have b1 : (y 1).val < 128 := (y 1).isLt
  rw [after0_4]
  unfold out0_4
  frame_out
  rw [rope_apply]
  unfold rope
  show (_ : EReal) = _
  refine Finset.sum_congr rfl fun k _ => congrArg₂ (fun p q : EReal => p * q)
    ((act_apply m c (((cfg0.win 0).blk t).view.emb (ix2 (y 0) k))).trans (congrArg _ ?_))
    ((congrFun (wts_eq m c) (((cfg0.win 1).blk t).view.emb (ix2 k (Fin.natAdd 512 (y 1))))).trans (congrArg _ ?_))
  · blk_ext [idx_act t]
  · blk_ext [idx_wts t]
    show 512 + (y 1).val = 512 + (i 1).val
    omega

/-- The normalised part's array after the region. -/
theorem ckv_array (c : Dev nD) : (dats m 0 c).arrAt 3 cfg0.N = ckv (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  exact ckv_block m c t y _ (by blk_simp [idx_ckv t]) (by blk_simp [idx_ckv t])

/-- The rotated part's array after the region. -/
theorem rope_array (c : Dev nD) : (dats m 0 c).arrAt 4 cfg0.N = rope (m ((c : Thread nD τ).loc main_arg0)) (m ((c : Thread nD τ).loc main_arg1)) := by
  refine Dat.arrAt_eq_of_covers (dats m 0 c) 4 _ (by decide +kernel) fun t hf y => ?_
  exact rope_block m c t y _ (by blk_simp [idx_rope t]) (by blk_simp [idx_rope t])

/-- The host operations after the region read the normalised part. -/
theorem ckv_entry (c : Dev nD) : Pipeline.withArrays spec0 c (V0 m c) (fun w => (dats m 0 c).arrAt w cfg0.N) (Proc.devRef .tc main_v5_0)
    = ckv (m ((c : Thread nD τ).loc main_arg0)) (m ((c : Thread nD τ).loc main_arg1)) (m ((c : Thread nD τ).loc main_arg2)) :=
  (Pipeline.withArrays_arr spec0 winFacts0.arr_inj c (V0 m c) (fun w => (dats m 0 c).arrAt w cfg0.N) 3).trans (ckv_array m c)

/-- The host operations after the region read the rotated part. -/
theorem rope_entry (c : Dev nD) : Pipeline.withArrays spec0 c (V0 m c) (fun w => (dats m 0 c).arrAt w cfg0.N) (Proc.devRef .tc main_v5_1)
    = rope (m ((c : Thread nD τ).loc main_arg0)) (m ((c : Thread nD τ).loc main_arg1)) :=
  (Pipeline.withArrays_arr spec0 winFacts0.arr_inj c (V0 m c) (fun w => (dats m 0 c).arrAt w cfg0.N) 4).trans (rope_array m c)

/-- The first result: the normalised part. -/
theorem tail_ckv (c : Dev nD) : Pipeline.afterTail₀ cfgs (dats m) 0 (V0 m) [hostOps1] c main_v6
    = cacheCkv (ckv (m ((c : Thread nD τ).loc main_arg0))
      (m ((c : Thread nD τ).loc main_arg1)) (m ((c : Thread nD τ).loc main_arg2))) := by
  rw [← ckv_entry]
  unfold Pipeline.afterTail₀
  show StableHlo.after hostOps1 _ (Proc.devRef .tc main_v6) = _
  entry_read
  rfl

/-- The second result: the rotated part. -/
theorem tail_rope (c : Dev nD) : Pipeline.afterTail₀ cfgs (dats m) 0 (V0 m) [hostOps1] c main_v8
    = cacheRope (rope (m ((c : Thread nD τ).loc main_arg0)) (m ((c : Thread nD τ).loc main_arg1))) := by
  rw [← rope_entry]
  unfold Pipeline.afterTail₀
  show StableHlo.after hostOps1 _ (Proc.devRef .tc main_v8) = _
  entry_read
  rfl

/-- The run of the idealized call: its results are the two parts computed from its arguments, which end unchanged. -/
theorem run : θ_run (defs (F := Ideal)) (onTc (τ := τ) (main (F := Ideal))) ⟨m, fun _ => 0, ρ⟩ (fun r => ∀ c : Dev nD,
    r.2.mem ((c.tc : Thread nD τ).loc main_v6)
      = cacheCkv (ckv (m ((c : Thread nD τ).loc main_arg0))
      (m ((c : Thread nD τ).loc main_arg1)) (m ((c : Thread nD τ).loc main_arg2)))
    ∧ r.2.mem ((c.tc : Thread nD τ).loc main_v8)
      = cacheRope (rope (m ((c : Thread nD τ).loc main_arg0)) (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨((h.1 c).2 main_v6 (Pipeline.mem_restRefs_of main_v6 (by decide) (by decide))).trans (tail_ckv m c),
      ((h.1 c).2 main_v8 (Pipeline.mem_restRefs_of main_v8 (by decide) (by decide))).trans (tail_rope m c), h.2 c⟩)
    (θ_run_and (run_main m ρ) (unchanged m ρ))

end Cert.Kva

end
-- ==== Proof.Kva.Equation.lean ====
/-
  Hand-written. THE KEYS' AND VALUES' COMPRESSION, THE EQUATION: the reference's results are the same two parts.
-/
module

public import proofs.«01_k».proof.Defs
public import proofs.«01_k».proof.Proof.Kva.Array
public import proofs.«01_k».proof.Proof.Gen.Reference6Ideal
public import proofs.«01_k».proof.Proof.Gen.Reference6Ideal.Run
public import proofs.«01_k».proof.Proof.Gen.Reference6Ideal.Read

@[expose] public section

set_option maxRecDepth 16384

noncomputable section

namespace Cert.Kva

open Idealize.ShloMosaic Idealize.ShloMosaic.TcCoe Idealize.SL.Sem

variable (h : Vec Ideal Cert.Kernel6Ideal.S4096x4096 .f32) (w : Vec Ideal Cert.Kernel6Ideal.S4096x576 .f32)
  (g : Vec Ideal Cert.Kernel6Ideal.S512 .f32)

/-- The reference's normalised part is the kernel's. -/
theorem ckv_eq : Cert.Reference6Ideal.Read.val_main_v15 (F := Ideal) h w g = cacheCkv (ckv h w g) := by
  funext i
  pointwise [Cert.Reference6Ideal.Read.val_main_v15, Cert.Reference6Ideal.Read.val_main_v14, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0, Cert.Reference6Ideal.Read.val_main_cst_1, cacheCkv, ckv, Rms.row, len]
  rfl

/-- The reference's rotated part is the kernel's. -/
theorem rope_eq : Cert.Reference6Ideal.Read.val_main_v16 (F := Ideal) h w = cacheRope (rope h w) := by
  funext i
  pointwise [Cert.Reference6Ideal.Read.val_main_v16, Cert.Reference6Ideal.Read.val_main_v1, Cert.Reference6Ideal.Read.val_main_v0, cacheRope, rope]
  exact Finset.sum_congr rfl fun k _ => congrArg (fun q : EReal => h (ix2 _ k) * q) (prepared_apply w k _ _ rfl).symm

/-- The algebraic claim of the keys' and values' compression. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨_, _, run m g, ?_⟩
  refine (θ_run (Cert.Reference6Ideal.defs (F := Ideal)) _ _).mono (fun r h c => ?_) (Cert.Reference6Ideal.Value.run (F := Ideal) m' g')
  obtain ⟨hp, hr, hu⟩ := h c
  refine ⟨hp.trans ?_, hr.trans ?_, hu⟩
  · rw [(hargs c).1, (hargs c).2.1, (hargs c).2.2]
    exact (Cert.Reference6Ideal.Read.val_main_v15_eq _ _ _).trans (ckv_eq _ _ _)
  · rw [(hargs c).1, (hargs c).2.1]
    exact (Cert.Reference6Ideal.Read.val_main_v16_eq _ _).trans (rope_eq _ _)

end Cert.Kva

end
-- ==== Proof.Norm.Block.lean ====
/-
  Hand-written. THE LAYER NORM WITH MODULATION, ONE BLOCK: what one grid point stores in its two outputs, from the blocks it reads.
-/
module

public import proofs.«01_k».proof.Proof.Gen.Kernel7Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Norm

open Idealize.ShloMosaic Idealize.ShloMosaic.TcCoe Idealize.SL.Sem
open Cert.Kernel7Ideal Cert.Kernel7Ideal.Gen

/-- The average of a row of 4096 numbers. -/
def avg (z : Fin 4096 → EReal) : EReal := Ideal.div (∑ k, z k) (Ideal.ofBits .f32 0x45800000#32)

/-- A row's number less the row's average. -/
def centre (z : Fin 4096 → EReal) (k : Fin 4096) : EReal := z k - avg z

/-- The layer norm of a row at a column, with its gain and bias there. -/
def normed (z : Fin 4096 → EReal) (k : Fin 4096) (g b : EReal) : EReal :=
  centre z k * Ideal.rsqrt (avg (fun l => centre z l * centre z l) + Ideal.ofBits .f32 0x3727C5AC#32) * g + b

/-- An element of the first stored block: the row's layer norm. -/
theorem pay_norm (z : Vec Ideal S256x4096 .f32) (g b : Vec Ideal S1x4096 .f32) (i : S256x4096.Idx) :
    k0_pay1 (F := Ideal) z g b i = normed (fun k => z (ix2 (i 0) k)) (i 1) (g (ix2 0 (i 1))) (b (ix2 0 (i 1))) := by
  pointwise [k0_pay1, normed, centre, avg]

/-- An element of the second stored block: the layer norm, scaled and shifted. -/
theorem pay_mod (z : Vec Ideal S256x4096 .f32) (g b : Vec Ideal S1x4096 .f32) (sc sh : Vec Ideal S1x1x4096 .f32) (i : S256x4096.Idx) :
    k0_pay2 (F := Ideal) z g b sc sh i = normed (fun k => z (ix2 (i 0) k)) (i 1) (g (ix2 0 (i 1))) (b (ix2 0 (i 1)))
      * (1 + sc (ix3 0 0 (i 1))) + sh (ix3 0 0 (i 1)) := by
  rw [← pay_norm]
  pointwise [k0_pay2]

end Cert.Norm

end
-- ==== Proof.Norm.Array.lean ====
/-
  Hand-written. THE LAYER NORM WITH MODULATION, THE ARRAYS: the elements of the two results, from the four arguments.
-/
module

public import proofs.«01_k».proof.Proof.Norm.Block
public import proofs.«01_k».proof.Proof.Gen.Kernel7Ideal.Value
public import Idealize.ShloMosaic.Lib.KernelVsHost

@[expose] public section

set_option maxRecDepth 16384

noncomputable section

namespace Cert.Norm

open Idealize.ShloMosaic Idealize.ShloMosaic.TcCoe Idealize.SL.Sem
open Cert.Kernel7Ideal Cert.Kernel7Ideal.Gen
open Idealize.ShloMosaic.Pipeline (Dat Cfg Window)

variable (m : (ℓ : Loc nD τ sig) → Buf (Elt Ideal) ℓ) (ρ : Dev nD → PrngReg)

/-- The first result as a function of the rows, the gain and the bias. -/
def resultX (z : Vec Ideal S8192x4096 .f32) (g b : Vec Ideal S4096 .f32) : Vec Ideal S8192x4096 .f32 := fun i =>
  normed (fun k => z (ix2 (i 0) k)) (i 1) (g (ix1 (i 1))) (b (ix1 (i 1)))

/-- The second result: the first, modulated by the scale (row 7 of nine) and the shift (row 6) of the row's batch. -/
def resultH (z : Vec Ideal S8192x4096 .f32) (g b : Vec Ideal S4096 .f32) (mo : Vec Ideal S8x9x4096 .f32) : Vec Ideal S8192x4096 .bf16 := fun i =>
  resultX z g b i * (1 + mo (ix3 ⟨(i 0).val / 1024, Nat.div_lt_of_lt_mul (i 0).isLt⟩ 7 (i 1)))
    + mo (ix3 ⟨(i 0).val / 1024, Nat.div_lt_of_lt_mul (i 0).isLt⟩ 6 (i 1))

theorem idx_rows : ∀ t : Fin cfg0.N, win0_0.index t = ![t.val, 0] := (by decide +kernel : ∀ t : Fin grid0.N, _)
theorem idx_gain : ∀ t : Fin cfg0.N, win0_1.index t = ![0, 0] := (by decide +kernel : ∀ t : Fin grid0.N, _)
theorem idx_bias : ∀ t : Fin cfg0.N, win0_2.index t = ![0, 0] := (by decide +kernel : ∀ t : Fin grid0.N, _)
theorem idx_shift : ∀ t : Fin cfg0.N, win0_3.index t = ![t.val / 4, 0, 6] := (by decide +kernel : ∀ t : Fin grid0.N, _)
theorem idx_scale : ∀ t : Fin cfg0.N, win0_4.index t = ![t.val / 4, 0, 7] := (by decide +kernel : ∀ t : Fin grid0.N, _)
theorem idx_x : ∀ t : Fin cfg0.N, win0_5.index t = ![t.val, 0] := (by decide +kernel : ∀ t : Fin grid0.N, _)
theorem idx_h : ∀ t : Fin cfg0.N, win0_6.index t = ![t.val, 0] := (by decide +kernel : ∀ t : Fin grid0.N, _)

/-- The modulation's buffer when the region starts: the argument laid out flat, padded with batches. -/
theorem mod_eq (c : Dev nD) : V m c main_v1
    = pad S16x1x36864 ![0, 0, 0] ![8, 0, 0] ![0, 0, 0] (shapeCast S8x1x36864 (m ((c : Thread nD τ).loc main_arg3)) shapeCasts_S8x9x4096_S8x1x36864)
        (sitofp (F := Ideal) .f32 (constantI S_ 32 0#32)) pads_S8x1x36864_S16x1x36864_080_000_000 h_S_ := by
  simp only [V, hostOps0, hostOps0_1, hostOps0_2, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The gain's buffer when the region starts: the argument as one row. -/
theorem gain_eq (c : Dev nD) : V m c main_v2 = shapeCast S1x4096 (m ((c : Thread nD τ).loc main_arg1)) shapeCasts_S4096_S1x4096 := by
  simp only [V, hostOps0, hostOps0_1, hostOps0_2, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The bias's buffer when the region starts: the argument as one row. -/
theorem bias_eq (c : Dev nD) : V m c main_v3 = shapeCast S1x4096 (m ((c : Thread nD τ).loc main_arg2)) shapeCasts_S4096_S1x4096 := by
  simp only [V, hostOps0, hostOps0_1, hostOps0_2, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The modulation the region reads, at the batches there are. -/
theorem mod_apply (c : Dev nD) (i : S16x1x36864.Idx) (j : S8x9x4096.Idx) (h0 : (i 0).val = (j 0).val)
    (h2 : (i 2).val = (j 1).val * 4096 + (j 2).val) :
    V m c main_v1 i = m ((c : Thread nD τ).loc main_arg3) j := by
  have b0 : (j 0).val < 8 := (j 0).isLt
  have b1 : (j 1).val < 9 := (j 1).isLt
  have b2 : (j 2).val < 4096 := (j 2).isLt
  have i1 : (i 1).val < 1 := (i 1).isLt
  have i2 : (i 2).val < 36864 := (i 2).isLt
  rw [mod_eq]
  refine (pad_apply_of_inside _ _ _ _ _ _ _ i
    (ix3 (⟨(j 0).val, b0⟩ : Fin 8) (0 : Fin 1) (⟨(i 2).val, i2⟩ : Fin 36864)) (fun a => match a with
      | ⟨0, _⟩ => ?_
      | ⟨1, _⟩ => ?_
      | ⟨2, _⟩ => ?_)).trans ?_
  · show (i 0).val = 0 + (j 0).val * (0 + 1)
    omega
  · show (i 1).val = 0 + 0 * (0 + 1)
    omega
  · show (i 2).val = 0 + (i 2).val * (0 + 1)
    omega
  refine shapeCast_apply _ _ _ _ ?_
  refine (Shape.rowMajor_val_three (d := ![8, 9, 4096]) j).trans (Eq.symm ((Shape.rowMajor_val_three (d := ![8, 1, 36864]) _).trans ?_))
  show ((j 0).val * 1 + 0) * 36864 + (i 2).val = ((j 0).val * 9 + (j 1).val) * 4096 + (j 2).val
  omega

/-- The layer norm of the rows a point reads is the first result at the rows it writes. -/
theorem norm_read (c : Dev nD) (t : Fin cfg0.N) (y : S256x4096.Idx) (i : S8192x4096.Idx)
    (h0 : (i 0).val = t.val * 256 + (y 0).val) (h1 : (i 1).val = (y 1).val) :
    normed (fun k => iblk m c 0 t (ix2 (y 0) k)) (y 1) (iblk m c 1 t (ix2 0 (y 1))) (iblk m c 2 t (ix2 0 (y 1)))
      = resultX (m ((c : Thread nD τ).loc main_arg0)) (m ((c : Thread nD τ).loc main_arg1)) (m ((c : Thread nD τ).loc main_arg2)) i := by
  have hN : t.val < 32 := lt_of_lt_of_eq t.isLt N_0
  have b0 : (y 0).val < 256 := (y 0).isLt
  have b1 : (y 1).val < 4096 := (y 1).isLt
  unfold resultX
  have e1 : y 1 = i 1 := Fin.ext h1.symm
  have eg : iblk m c 1 t (ix2 0 (y 1)) = m ((c : Thread nD τ).loc main_arg1) (ix1 (i 1)) := by
    unfold iblk
    show V m c main_v2 (((cfg0.win 1).blk t).view.emb (ix2 0 (y 1))) = _
    rw [gain_eq]
    refine shapeCast_apply _ _ _ _ ?_
    refine (Shape.rowMajor_val_one (d := ![4096]) _).trans (Eq.symm ((Shape.rowMajor_val_two (d := ![1, 4096]) _).trans ?_))
    blk_simp [idx_gain t]
    omega
  have eb : iblk m c 2 t (ix2 0 (y 1)) = m ((c : Thread nD τ).loc main_arg2) (ix1 (i 1)) := by
    unfold iblk
    show V m c main_v3 (((cfg0.win 2).blk t).view.emb (ix2 0 (y 1))) = _
    rw [bias_eq]
    refine shapeCast_apply _ _ _ _ ?_
    refine (Shape.rowMajor_val_one (d := ![4096]) _).trans (Eq.symm ((Shape.rowMajor_val_two (d := ![1, 4096]) _).trans ?_))
    blk_simp [idx_bias t]
    omega
  have ez : (fun k : Fin 4096 => iblk m c 0 t (ix2 (y 0) k)) = fun k => m ((c : Thread nD τ).loc main_arg0) (ix2 (i 0) k) := by
    funext k
    unfold iblk
    show V m c main_arg0 (((cfg0.win 0).blk t).view.emb (ix2 (y 0) k)) = _
    rw [V_main_arg0]
    refine congrArg _ ?_
    blk_ext [idx_rows t]
  rw [eg, eb, ez, e1]

/-- The first block a point writes, at an index. -/
theorem blockX (c : Dev nD) (t : Fin cfg0.N) (y : S256x4096.Idx) (i : S8192x4096.Idx)
    (h0 : (i 0).val = t.val * 256 + (y 0).val) (h1 : (i 1).val = (y 1).val) :
    (dats m 0 c).after 5 t y
      = resultX (m ((c : Thread nD τ).loc main_arg0)) (m ((c : Thread nD τ).loc main_arg1)) (m ((c : Thread nD τ).loc main_arg2)) i := by
  rw [after0_5]
  unfold out0_5
  frame_out
  rw [pay_norm]
  exact norm_read m c t y i h0 h1

/-- The second block a point writes, at an index. -/
theorem blockH (c : Dev nD) (t : Fin cfg0.N) (y : S256x4096.Idx) (i : S8192x4096.Idx)
    (h0 : (i 0).val = t.val * 256 + (y 0).val) (h1 : (i 1).val = (y 1).val) :
    (dats m 0 c).after 6 t y
      = resultH (m ((c : Thread nD τ).loc main_arg0)) (m ((c : Thread nD τ).loc main_arg1)) (m ((c : Thread nD τ).loc main_arg2))
          (m ((c : Thread nD τ).loc main_arg3)) i := by
  have hN : t.val < 32 := lt_of_lt_of_eq t.isLt N_0
  have b0 : (y 0).val < 256 := (y 0).isLt
  have b1 : (y 1).val < 4096 := (y 1).isLt
  rw [after0_6]
  unfold out0_6
  frame_out
  rw [pay_mod]
  unfold resultH
  refine congrArg₂ (· + ·) (congrArg₂ (· * ·) (norm_read m c t y i h0 h1) (congrArg (1 + ·) ?_)) ?_
  · unfold iblk
    refine mod_apply m c _ _ ?_ ?_
    · blk_simp [idx_scale t]
      show t.val / 4 = (i 0).val / 1024
      omega
    · blk_simp [idx_scale t]
      show 7 * 4096 + (y 1).val = 7 * 4096 + (i 1).val
      omega
  · unfold iblk
    refine mod_apply m c _ _ ?_ ?_
    · blk_simp [idx_shift t]
      show t.val / 4 = (i 0).val / 1024
      omega
    · blk_simp [idx_shift t]
      show 6 * 4096 + (y 1).val = 6 * 4096 + (i 1).val
      omega

/-- The first result array after the region. -/
theorem arrayX (c : Dev nD) : (dats m 0 c).arrAt 5 cfg0.N
    = resultX (m ((c : Thread nD τ).loc main_arg0)) (m ((c : Thread nD τ).loc main_arg1)) (m ((c : Thread nD τ).loc main_arg2)) := by
  refine Dat.arrAt_eq_of_covers (dats m 0 c) 5 _ (by decide +kernel) fun t hf y => ?_
  exact blockX m c t y _ (by blk_simp [idx_x t]) (by blk_simp [idx_x t])

/-- The second result array after the region. -/
theorem arrayH (c : Dev nD) : (dats m 0 c).arrAt 6 cfg0.N
    = resultH (m ((c : Thread nD τ).loc main_arg0)) (m ((c : Thread nD τ).loc main_arg1)) (m ((c : Thread nD τ).loc main_arg2))
        (m ((c : Thread nD τ).loc main_arg3)) := by
  refine Dat.arrAt_eq_of_covers (dats m 0 c) 6 _ (by decide +kernel) fun t hf y => ?_
  exact blockH m c t y _ (by blk_simp [idx_h t]) (by blk_simp [idx_h t])

/-- The run of the idealized call: its results are `resultX` and `resultH` of the arguments, which end unchanged. -/
theorem run : θ_run (defs (F := Ideal)) (onTc (τ := τ) (main (F := Ideal))) ⟨m, fun _ => 0, ρ⟩ (fun r => ∀ c : Dev nD,
    r.2.mem ((c.tc : Thread nD τ).loc main_v4_0)
      = resultX (m ((c : Thread nD τ).loc main_arg0)) (m ((c : Thread nD τ).loc main_arg1)) (m ((c : Thread nD τ).loc main_arg2))
    ∧ r.2.mem ((c.tc : Thread nD τ).loc main_v4_1)
      = resultH (m ((c : Thread nD τ).loc main_arg0)) (m ((c : Thread nD τ).loc main_arg1)) (m ((c : Thread nD τ).loc main_arg2))
          (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (arrayX m c), (h c).2.1.trans (arrayH m c), (h c).2.2⟩)
    (Cert.Kernel7Ideal.Value.run_blocks m ρ)

end Cert.Norm

end
-- ==== Proof.Norm.Equation.lean ====
/-
  Hand-written. THE LAYER NORM WITH MODULATION, THE EQUATION: the reference's results are the same functions of the arguments.
-/
module

public import proofs.«01_k».proof.Defs
public import proofs.«01_k».proof.Proof.Norm.Array
public import proofs.«01_k».proof.Proof.Gen.Reference7Ideal
public import proofs.«01_k».proof.Proof.Gen.Reference7Ideal.Run
public import proofs.«01_k».proof.Proof.Gen.Reference7Ideal.Read

@[expose] public section

set_option maxRecDepth 16384

noncomputable section

namespace Cert.Norm

open Idealize.ShloMosaic Idealize.ShloMosaic.TcCoe Idealize.SL.Sem

variable (z : Vec Ideal Cert.Kernel7Ideal.S8192x4096 .f32) (g b : Vec Ideal Cert.Kernel7Ideal.S4096 .f32)
  (mo : Vec Ideal Cert.Kernel7Ideal.S8x9x4096 .f32)

/-- The reference's layer norm, laid out by batches, is the first result. -/
theorem batch_eq (i : Cert.Reference7Ideal.S8x1024x4096.Idx) :
    Cert.Reference7Ideal.Read.val_main_v22 (F := Ideal) z g b i
      = resultX z g b (ix2 ⟨(i 0).val * 1024 + (i 1).val, by
          have h0 : (i 0).val < 8 := (i 0).isLt
          have h1 : (i 1).val < 1024 := (i 1).isLt
          show _ < 8192
          omega⟩ (i 2)) := by
  pointwise [Cert.Reference7Ideal.Read.val_main_v22, Cert.Reference7Ideal.Read.val_main_v21, Cert.Reference7Ideal.Read.val_main_v20,
    Cert.Reference7Ideal.Read.val_main_v19, Cert.Reference7Ideal.Read.val_main_v18, Cert.Reference7Ideal.Read.val_main_v17,
    Cert.Reference7Ideal.Read.val_main_v16, Cert.Reference7Ideal.Read.val_main_v15, Cert.Reference7Ideal.Read.val_main_v14,
    Cert.Reference7Ideal.Read.val_main_v13, Cert.Reference7Ideal.Read.val_main_v12, Cert.Reference7Ideal.Read.val_main_v11,
    Cert.Reference7Ideal.Read.val_main_v10, Cert.Reference7Ideal.Read.val_main_v9, Cert.Reference7Ideal.Read.val_main_v8,
    Cert.Reference7Ideal.Read.val_main_v7, Cert.Reference7Ideal.Read.val_main_v6, Cert.Reference7Ideal.Read.val_main_v5,
    Cert.Reference7Ideal.Read.val_main_v4, Cert.Reference7Ideal.Read.val_main_v3, Cert.Reference7Ideal.Read.val_main_v2,
    Cert.Reference7Ideal.Read.val_main_v1, Cert.Reference7Ideal.Read.val_main_v0, Cert.Reference7Ideal.Read.val_main_cst,
    Cert.Reference7Ideal.Read.val_main_cst_0, Cert.Reference7Ideal.Read.val_main_cst_1, Cert.Reference7Ideal.Read.val_main_cst_2,
    Cert.Reference7Ideal.Read.val_main_cst_3]
  simp only [resultX, normed, centre, avg]
  rfl

/-- The reference's first result, element by element, is the kernel's. -/
theorem referenceX : Cert.Reference7Ideal.Read.val_main_v35 (F := Ideal) z g b = resultX z g b := by
  funext i
  have h0 : (i 0).val < 8192 := (i 0).isLt
  pointwise [Cert.Reference7Ideal.Read.val_main_v35]
  rw [batch_eq]
  refine congrArg _ ?_
  blk_ext

/-- The reference's second result, element by element, is the kernel's. -/
theorem referenceH : Cert.Reference7Ideal.Read.val_main_v37 (F := Ideal) z g b mo = resultH z g b mo := by
  funext i
  have h0 : (i 0).val < 8192 := (i 0).isLt
  pointwise [Cert.Reference7Ideal.Read.val_main_v37, Cert.Reference7Ideal.Read.val_main_v36, Cert.Reference7Ideal.Read.val_main_v34, Cert.Reference7Ideal.Read.val_main_v33, Cert.Reference7Ideal.Read.val_main_v32,
    Cert.Reference7Ideal.Read.val_main_v31, Cert.Reference7Ideal.Read.val_main_v30, Cert.Reference7Ideal.Read.val_main_v29,
    Cert.Reference7Ideal.Read.val_main_v28, Cert.Reference7Ideal.Read.val_main_v27, Cert.Reference7Ideal.Read.val_main_v26,
    Cert.Reference7Ideal.Read.val_main_v25, Cert.Reference7Ideal.Read.val_main_v24, Cert.Reference7Ideal.Read.val_main_v23,
    Cert.Reference7Ideal.Read.val_main_cst_4]
  rw [batch_eq]
  unfold resultH
  refine congrArg (fun t => t * (1 + _) + _) (congrArg (resultX z g b) ?_)
  blk_ext

/-- The algebraic claim of the layer norm with modulation. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨_, _, run m g, ?_⟩
  refine (θ_run (Cert.Reference7Ideal.defs (F := Ideal)) _ _).mono (fun r h c => ?_) (Cert.Reference7Ideal.Value.run (F := Ideal) m' g')
  obtain ⟨hx, hh, hk⟩ := h c
  refine ⟨hx.trans ?_, hh.trans ?_, hk⟩
  · rw [(hargs c).1, (hargs c).2.1, (hargs c).2.2.1]
    exact (Cert.Reference7Ideal.Read.val_main_v35_eq _ _ _).trans (referenceX _ _ _)
  · rw [(hargs c).1, (hargs c).2.1, (hargs c).2.2.1, (hargs c).2.2.2]
    exact (Cert.Reference7Ideal.Read.val_main_v37_eq _ _ _ _).trans (referenceH _ _ _ _)

end Cert.Norm

end
-- ==== Proof.OutMla.Block.lean ====
/-
  Hand-written. THE OUTPUT PROJECTION OF THE LATENT-COMPRESSED ATTENTION, ONE BLOCK: what the eight grid points of one output block leave in it, as sums over
  the blocks they read.
-/
module

public import proofs.«01_k».proof.Proof.Gen.Kernel8Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.OutMla

open Idealize.ShloMosaic Idealize.ShloMosaic.TcCoe Idealize.SL.Sem
open Cert.Kernel8Ideal Cert.Kernel8Ideal.Gen
open Idealize.ShloMosaic.Pipeline (Dat Cfg Window)

/-- One block product at an index. -/
def prod (x : Vec Ideal S2048x1024 .bf16) (w : Vec Ideal S1024x1024 .bf16) (i : S2048x1024.Idx) : EReal :=
  ∑ k : Fin 1024, x (ix2 (i 0) k) * w (ix2 k (i 1))

/-- The first store: the block product. -/
theorem first_apply (x : Vec Ideal S2048x1024 .bf16) (w : Vec Ideal S1024x1024 .bf16) (i : S2048x1024.Idx) :
    k0_pay1 (F := Ideal) x w i = prod x w i := by
  pointwise [k0_pay1, prod]

/-- A later store: what was there plus the block product. -/
theorem next_apply (a : Vec Ideal S2048x1024 .f32) (x : Vec Ideal S2048x1024 .bf16) (w : Vec Ideal S1024x1024 .bf16) (i : S2048x1024.Idx) :
    k0_pay2 (F := Ideal) a x w i = a i + prod x w i := by
  pointwise [k0_pay2, prod]

variable (m : (ℓ : Loc nD τ sig) → Buf (Elt Ideal) ℓ) (ρ : Dev nD → PrngReg)

/-- The addend of grid point `n` (zero past the grid). -/
def addend (c : Dev nD) (n : ℕ) (i : S2048x1024.Idx) : EReal :=
  if h : n < cfg0.N then prod (iblk m c 0 ⟨n, h⟩) (iblk m c 1 ⟨n, h⟩) i else 0

theorem addend_eq (c : Dev nD) (t : Fin cfg0.N) (i : S2048x1024.Idx) :
    addend m c t.val i = prod (iblk m c 0 t) (iblk m c 1 t) i := dif_pos t.isLt

/-- Before the last point of a block's run, the block holds the sum of the addends so far. -/
theorem partial_apply (c : Dev nD) : ∀ (n : ℕ) (hn : n < cfg0.N) (h : n % 8 ≤ 6) (i : S2048x1024.Idx),
    outsAt0 m c n hn i = ∑ s ∈ Finset.range (n % 8 + 1), addend m c (8 * (n / 8) + s) i := by
  intro n
  induction n with
  | zero =>
    intro hn h i
    rw [show outsAt0 m c 0 hn = _ from outsAt0_A m c ⟨0, hn⟩ rfl (by show ¬(1 ≤ 0 % 8 ∧ 0 % 8 ≤ 6); omega) (by show ¬0 % 8 = 7; omega)]
    frame_out
    rw [first_apply]
    simp only [Nat.zero_mod, Nat.zero_div, Nat.mul_zero, Nat.zero_add, Finset.sum_range_one]
    exact (addend_eq m c ⟨0, hn⟩ i).symm
  | succ n ih =>
    intro hn h i
    by_cases h0 : (n + 1) % 8 = 0
    · rw [show outsAt0 m c (n + 1) hn = _ from outsAt0_A m c ⟨n + 1, hn⟩ h0 (by show ¬(1 ≤ (n + 1) % 8 ∧ _); omega) (by show ¬(n + 1) % 8 = 7; omega)]
      frame_out
      rw [first_apply, h0, Nat.zero_add, Finset.sum_range_one, show 8 * ((n + 1) / 8) + 0 = n + 1 by omega]
      exact (addend_eq m c ⟨n + 1, hn⟩ i).symm
    · rw [show outsAt0 m c (n + 1) hn = _ from outsAt0_B m c ⟨n + 1, hn⟩ h0 (by show 1 ≤ (n + 1) % 8 ∧ (n + 1) % 8 ≤ 6; omega) (by show ¬(n + 1) % 8 = 7; omega)]
      frame_out
      rw [next_apply]
      simp only [Nat.add_sub_cancel]
      rw [ih _ (by omega) i, Finset.sum_range_succ (n := (n + 1) % 8), show (n + 1) % 8 = n % 8 + 1 by omega,
        show (n + 1) / 8 = n / 8 by omega, show 8 * (n / 8) + (n % 8 + 1) = n + 1 by omega]
      exact congrArg _ (addend_eq m c ⟨n + 1, hn⟩ i).symm

/-- The scale of the residual, as printed. -/
def alpha : EReal := FloatOps.ofBits (F := Ideal) .f32 0x3FD744FD#32
/-- One, as printed. -/
def one : EReal := FloatOps.ofBits (F := Ideal) .f32 0x3F800000#32

/-- After the last point the block holds the scaled residual plus the gated sum of all eight addends. -/
theorem final_apply (c : Dev nD) (t : Fin cfg0.N) (h : t.val % 8 = 7) (i : S2048x1024.Idx) :
    outsAt0 m c t.val t.isLt i = alpha * iblk m c 2 t i
      + one * iblk m c 3 t (ix3 ⟨(i 0).val / 1024, Nat.div_lt_of_lt_mul (i 0).isLt⟩ 0 (i 1))
        * ∑ s ∈ Finset.range 8, addend m c (8 * (t.val / 8) + s) i := by
  have hs : ∑ s ∈ Finset.range 8, addend m c (8 * (t.val / 8) + s) i
      = outsAt0 m c (t.val - 1) (Nat.lt_of_le_of_lt (Nat.sub_le _ _) t.isLt) i + prod (iblk m c 0 t) (iblk m c 1 t) i := by
    rw [partial_apply m c (t.val - 1) _ (by omega) i, show (t.val - 1) % 8 + 1 = 7 by omega, show (t.val - 1) / 8 = t.val / 8 by omega,
      Finset.sum_range_succ (n := 7), show 8 * (t.val / 8) + 7 = t.val by omega, addend_eq]
  rw [hs, outsAt0_C m c t (by omega) (by omega) h]
  frame_out
  generalize outsAt0 m c (t.val - 1) _ = acc
  generalize iblk m c 0 t = x
  generalize iblk m c 1 t = w
  generalize iblk m c 2 t = r
  generalize iblk m c 3 t = g
  canon_tiles z hz
  · pointwise [k0_pay5, k0_pay3, prod, alpha, one]
    blk_point [hz0, hz1]
  · pointwise [k0_pay4, k0_pay3, prod, alpha, one]
    blk_point [hz0, hz1]

end Cert.OutMla

end
-- ==== Proof.OutMla.Array.lean ====
/-
  Hand-written. THE OUTPUT PROJECTION OF THE LATENT-COMPRESSED ATTENTION, THE ARRAY: the element of the result at a row and a column, from the four arguments.
-/
module

public import proofs.«01_k».proof.Proof.OutMla.Block
public import proofs.«01_k».proof.Proof.Gen.Kernel8Ideal.Value
public import Idealize.ShloMosaic.Lib.KernelVsHost

@[expose] public section

set_option maxRecDepth 16384

noncomputable section

namespace Cert.OutMla

open Idealize.ShloMosaic Idealize.ShloMosaic.TcCoe Idealize.SL.Sem
open Cert.Kernel8Ideal Cert.Kernel8Ideal.Gen
open Idealize.ShloMosaic.Pipeline (Dat Cfg Window)

variable (m : (ℓ : Loc nD τ sig) → Buf (Elt Ideal) ℓ) (ρ : Dev nD → PrngReg)

/-- The result as a function of the four arguments: activations, weights, residual, modulation (row 5 of nine is the gate). -/
def result (a : Vec Ideal S8192x8192 .f32) (w : Vec Ideal S8192x4096 .f32) (x : Vec Ideal S8192x4096 .f32)
    (g : Vec Ideal S8x9x4096 .f32) : Vec Ideal S8192x4096 .f32 := fun i =>
  alpha * x i + one * g (ix3 ⟨(i 0).val / 1024, Nat.div_lt_of_lt_mul (i 0).isLt⟩ 5 (i 1))
    * ∑ k : Fin 8192, a (ix2 (i 0) k) * w (ix2 k (i 1))

theorem idx_act : ∀ t : Fin cfg0.N, win0_0.index t = ![t.val / 32, t.val % 8] := (by decide +kernel : ∀ t : Fin grid0.N, _)
theorem idx_wts : ∀ t : Fin cfg0.N, win0_1.index t = ![t.val % 8, t.val / 8 % 4] := (by decide +kernel : ∀ t : Fin grid0.N, _)
theorem idx_res : ∀ t : Fin cfg0.N, win0_2.index t = ![t.val / 32, t.val / 8 % 4] := (by decide +kernel : ∀ t : Fin grid0.N, _)
theorem idx_mod : ∀ t : Fin cfg0.N, win0_3.index t = ![t.val / 32, 0, 20 + t.val / 8 % 4] := (by decide +kernel : ∀ t : Fin grid0.N, _)
theorem idx_out : ∀ t : Fin cfg0.N, win0_4.index t = ![t.val / 32, t.val / 8 % 4] := (by decide +kernel : ∀ t : Fin grid0.N, _)

/-- The padding value is zero. -/
theorem pad_zero (φ : FTy) : FloatOps.sitofp (F := Ideal) φ (0#32) = (0 : EReal) := by
  show (((0#32 : BitVec 32).toInt : ℝ) : EReal) = 0
  simp

/-- The modulation's buffer when the region starts: the argument laid out flat, padded with batches. -/
theorem mod_eq (c : Dev nD) : V m c main_v1
    = pad S16x1x36864 ![0, 0, 0] ![8, 0, 0] ![0, 0, 0] (shapeCast S8x1x36864 (m ((c : Thread nD τ).loc main_arg3)) shapeCasts_S8x9x4096_S8x1x36864)
        (sitofp (F := Ideal) .f32 (constantI S_ 32 0#32)) pads_S8x1x36864_S16x1x36864_080_000_000 h_S_ := by
  simp only [V, hostOps0, hostOps0_1, hostOps0_2, List.flatten_cons, List.flatten_nil, List.append_nil,
    List.cons_append, List.nil_append, StableHlo.TRef.binary, StableHlo.TRef.nullary, StableHlo.TRef.unary, StableHlo.TRef.toBuf, StableHlo.TRef.ofBuf, cast_eq]
  after_results
  rfl

/-- The activations the region reads: the argument. -/
theorem act_apply (c : Dev nD) (i : S8192x8192.Idx) : V m c main_v2 i = m ((c : Thread nD τ).loc main_arg0) i := by
  have e : V m c main_v2 = truncf (F := Ideal) .bf16 (m ((c : Thread nD τ).loc main_arg0)) bitsLt_bf16_f32 := by
    simp only [V, hostOps0, hostOps0_1, hostOps0_2, List.flatten_cons, List.flatten_nil, List.append_nil,
      List.cons_append, List.nil_append, StableHlo.TRef.binary, StableHlo.TRef.nullary, StableHlo.TRef.unary, StableHlo.TRef.toBuf, StableHlo.TRef.ofBuf, cast_eq]
    after_results
  rw [e]
  pointwise

/-- The weights the region reads: the argument. -/
theorem wts_apply (c : Dev nD) (i : S8192x4096.Idx) : V m c main_v3 i = m ((c : Thread nD τ).loc main_arg1) i := by
  have e : V m c main_v3 = truncf (F := Ideal) .bf16 (m ((c : Thread nD τ).loc main_arg1)) bitsLt_bf16_f32 := by
    simp only [V, hostOps0, hostOps0_1, hostOps0_2, List.flatten_cons, List.flatten_nil, List.append_nil,
      List.cons_append, List.nil_append, StableHlo.TRef.binary, StableHlo.TRef.nullary, StableHlo.TRef.unary, StableHlo.TRef.toBuf, StableHlo.TRef.ofBuf, cast_eq]
    after_results
  rw [e]
  pointwise

/-- The modulation the region reads, at the batches there are. -/
theorem mod_apply (c : Dev nD) (i : S16x1x36864.Idx) (j : S8x9x4096.Idx) (h0 : (i 0).val = (j 0).val)
    (h2 : (i 2).val = (j 1).val * 4096 + (j 2).val) :
    V m c main_v1 i = m ((c : Thread nD τ).loc main_arg3) j := by
  have b0 : (j 0).val < 8 := (j 0).isLt
  have b1 : (j 1).val < 9 := (j 1).isLt
  have b2 : (j 2).val < 4096 := (j 2).isLt
  have i1 : (i 1).val < 1 := (i 1).isLt
  have i2 : (i 2).val < 36864 := (i 2).isLt
  rw [mod_eq]
  refine (pad_apply_of_inside _ _ _ _ _ _ _ i
    (ix3 (⟨(j 0).val, b0⟩ : Fin 8) (0 : Fin 1) (⟨(i 2).val, i2⟩ : Fin 36864)) (fun a => match a with
      | ⟨0, _⟩ => ?_
      | ⟨1, _⟩ => ?_
      | ⟨2, _⟩ => ?_)).trans ?_
  · show (i 0).val = 0 + (j 0).val * (0 + 1)
    omega
  · show (i 1).val = 0 + 0 * (0 + 1)
    omega
  · show (i 2).val = 0 + (i 2).val * (0 + 1)
    omega
  refine shapeCast_apply _ _ _ _ ?_
  refine (Shape.rowMajor_val_three (d := ![8, 9, 4096]) j).trans (Eq.symm ((Shape.rowMajor_val_three (d := ![8, 1, 36864]) _).trans ?_))
  show ((j 0).val * 1 + 0) * 36864 + (i 2).val = ((j 0).val * 9 + (j 1).val) * 4096 + (j 2).val
  omega

/-- One product of the sum over the columns, by the column's number (zero past the last). -/
def term (a : Vec Ideal S8192x8192 .f32) (w : Vec Ideal S8192x4096 .f32) (i : S8192x4096.Idx) (l : ℕ) : EReal :=
  if h : l < 8192 then a (ix2 (i 0) ⟨l, h⟩) * w (ix2 ⟨l, h⟩ (i 1)) else 0

/-- A product of two reads is a `term`. -/
theorem term_of (a : Vec Ideal S8192x8192 .f32) (w : Vec Ideal S8192x4096 .f32) (i : S8192x4096.Idx) (l : ℕ) (h : l < 8192)
    (j : S8192x8192.Idx) (j' : S8192x4096.Idx) (e0 : (j 0).val = (i 0).val) (e1 : (j 1).val = l) (f0 : (j' 0).val = l)
    (f1 : (j' 1).val = (i 1).val) : a j * w j' = term a w i l := by
  unfold term
  rw [dif_pos h]
  have hj : j = ix2 (i 0) ⟨l, h⟩ := funext fun x => match x with
    | ⟨0, _⟩ => Fin.ext e0
    | ⟨1, _⟩ => Fin.ext e1
  have hj' : j' = ix2 ⟨l, h⟩ (i 1) := funext fun x => match x with
    | ⟨0, _⟩ => Fin.ext f0
    | ⟨1, _⟩ => Fin.ext f1
  rw [hj, hj']
  rfl

/-- The products of one grid point are a run of 1024 of them. -/
theorem addend_term (c : Dev nD) (t : Fin cfg0.N) (y : S2048x1024.Idx) (i : S8192x4096.Idx)
    (h0 : (i 0).val = t.val / 32 * 2048 + (y 0).val) (h1 : (i 1).val = t.val / 8 % 4 * 1024 + (y 1).val) :
    addend m c t.val y = ∑ k : Fin 1024, term (m ((c : Thread nD τ).loc main_arg0)) (m ((c : Thread nD τ).loc main_arg1)) i
      (t.val % 8 * 1024 + k.val) := by
  have b0 : (y 0).val < 2048 := (y 0).isLt
  have b1 : (y 1).val < 1024 := (y 1).isLt
  rw [addend_eq]
  unfold prod
  refine Finset.sum_congr rfl fun k _ => ?_
  have hk : k.val < 1024 := k.isLt
  refine (congrArg₂ (fun p q : EReal => p * q) (act_apply m c (((cfg0.win 0).blk t).view.emb (ix2 (y 0) k)))
    (wts_apply m c (((cfg0.win 1).blk t).view.emb (ix2 k (y 1))))).trans (term_of _ _ i _ (by omega) _ _ ?_ ?_ ?_ ?_)
  · blk_simp [idx_act t]
    show t.val / 32 * 2048 + (y 0).val = (i 0).val
    omega
  · blk_simp [idx_act t]
  · blk_simp [idx_wts t]
  · blk_simp [idx_wts t]
    show t.val / 8 % 4 * 1024 + (y 1).val = (i 1).val
    omega

/-- The blocks' sums add up to the sum over all columns. -/
theorem sum_term (a : Vec Ideal S8192x8192 .f32) (w : Vec Ideal S8192x4096 .f32) (i : S8192x4096.Idx) :
    ∑ s ∈ Finset.range 8, ∑ k : Fin 1024, term a w i (s * 1024 + k.val)
      = ∑ k : Fin 8192, a (ix2 (i 0) k) * w (ix2 k (i 1)) := by
  have e : ∑ s ∈ Finset.range 8, ∑ k : Fin 1024, term a w i (s * 1024 + k.val) = ∑ l ∈ Finset.range 8192, term a w i l := by
    rw [Finset.sum_congr rfl fun s _ => (Finset.sum_range (fun k => term a w i (s * 1024 + k))).symm]
    exact Finset.sum_range_range_mul_add 8 1024 (term a w i)
  rw [e, Finset.sum_range]
  exact Finset.sum_congr rfl fun k _ => dif_pos k.isLt

/-- What the last point of a block's run writes, at an index of the block. -/
theorem block_apply (c : Dev nD) (t : Fin cfg0.N) (ht : t.val % 8 = 7) (y : S2048x1024.Idx) (i : S8192x4096.Idx)
    (h0 : (i 0).val = t.val / 32 * 2048 + (y 0).val) (h1 : (i 1).val = t.val / 8 % 4 * 1024 + (y 1).val) :
    (dats m 0 c).after 4 t y
      = result (m ((c : Thread nD τ).loc main_arg0)) (m ((c : Thread nD τ).loc main_arg1)) (m ((c : Thread nD τ).loc main_arg2))
          (m ((c : Thread nD τ).loc main_arg3)) i := by
  have hN : t.val < 128 := lt_of_lt_of_eq t.isLt N_0
  have b0 : (y 0).val < 2048 := (y 0).isLt
  have b1 : (y 1).val < 1024 := (y 1).isLt
  rw [after0_4, final_apply m c t ht]
  unfold result
  refine congrArg₂ (· + ·) (congrArg (alpha * ·) ?_) (congrArg₂ (· * ·) (congrArg (one * ·) ?_) ?_)
  · unfold iblk
    show V m c main_arg2 (((cfg0.win 2).blk t).view.emb y) = _
    rw [V_main_arg2]
    refine congrArg _ ?_
    blk_ext [idx_res t]
  · unfold iblk
    refine mod_apply m c _ _ ?_ ?_
    · blk_simp [idx_mod t]
      show t.val / 32 * 2 + (y 0).val / 1024 = (i 0).val / 1024
      omega
    · blk_simp [idx_mod t]
      show (20 + t.val / 8 % 4) * 1024 + (y 1).val = 5 * 4096 + (i 1).val
      omega
  · refine Eq.trans (Finset.sum_congr rfl fun s hs => ?_) (sum_term _ _ i)
    have hs' : s < 8 := Finset.mem_range.mp hs
    have hq : 8 * (t.val / 8) + s < cfg0.N := by show _ < grid0.N; rw [N_0]; omega
    rw [show addend m c (8 * (t.val / 8) + s) y = _ from addend_term m c ⟨8 * (t.val / 8) + s, hq⟩ y i (by show _ = (8 * (t.val / 8) + s) / 32 * 2048 + _; omega)
      (by show _ = (8 * (t.val / 8) + s) / 8 % 4 * 1024 + _; omega)]
    show ∑ k : Fin 1024, term _ _ i ((8 * (t.val / 8) + s) % 8 * 1024 + k.val) = _
    rw [show (8 * (t.val / 8) + s) % 8 = s by omega]

/-- The result array after the region. -/
theorem array_eq (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine Dat.arrAt_eq_of_covers (dats m 0 c) 4 _ (by decide +kernel) fun t hf y => ?_
  exact block_apply m c t ((flush0_4 t).mp hf) y _ (by blk_simp [idx_out t]) (by blk_simp [idx_out t])

/-- The run of the idealized call: its result is `result` of the four arguments, which end unchanged. -/
theorem run : θ_run (defs (F := Ideal)) (onTc (τ := τ) (main (F := Ideal))) ⟨m, fun _ => 0, ρ⟩ (fun r => ∀ c : Dev nD,
    r.2.mem ((c.tc : Thread nD τ).loc main_v4)
      = result (m ((c : Thread nD τ).loc main_arg0)) (m ((c : Thread nD τ).loc main_arg1)) (m ((c : Thread nD τ).loc main_arg2))
          (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (array_eq m c), (h c).2⟩) (Cert.Kernel8Ideal.Value.run_blocks m ρ)

end Cert.OutMla

end
-- ==== Proof.OutMla.Equation.lean ====
/-
  Hand-written. THE OUTPUT PROJECTION OF THE LATENT-COMPRESSED ATTENTION, THE EQUATION: the reference's result is the same function of the four arguments.
-/
module

public import proofs.«01_k».proof.Defs
public import proofs.«01_k».proof.Proof.OutMla.Array
public import proofs.«01_k».proof.Proof.Gen.Reference8Ideal
public import proofs.«01_k».proof.Proof.Gen.Reference8Ideal.Run
public import proofs.«01_k».proof.Proof.Gen.Reference8Ideal.Read

@[expose] public section

set_option maxRecDepth 16384

noncomputable section

namespace Cert.OutMla

open Idealize.ShloMosaic Idealize.ShloMosaic.TcCoe Idealize.SL.Sem

/-- The printed one is one. -/
theorem one_eq : one = 1 := by
  simp only [one, FloatOps.ofBits]
  simp [Ideal.ofBits, Ideal.ieee]
  rw [← EReal.coe_mul, ← EReal.coe_one]
  norm_num

/-- The reference's last value, element by element, is the kernel's result. -/
theorem reference_eq (a : Vec Ideal Cert.Kernel8Ideal.S8192x8192 .f32) (w : Vec Ideal Cert.Kernel8Ideal.S8192x4096 .f32)
    (x : Vec Ideal Cert.Kernel8Ideal.S8192x4096 .f32) (g : Vec Ideal Cert.Kernel8Ideal.S8x9x4096 .f32) :
    Cert.Reference8Ideal.Read.val_main_v11 (F := Ideal) a w x g = result a w x g := by
  funext i
  pointwise [Cert.Reference8Ideal.Read.val_main_v11, Cert.Reference8Ideal.Read.val_main_v10, Cert.Reference8Ideal.Read.val_main_v9,
    Cert.Reference8Ideal.Read.val_main_v8, Cert.Reference8Ideal.Read.val_main_v7, Cert.Reference8Ideal.Read.val_main_v6,
    Cert.Reference8Ideal.Read.val_main_v5, Cert.Reference8Ideal.Read.val_main_v4, Cert.Reference8Ideal.Read.val_main_v3,
    Cert.Reference8Ideal.Read.val_main_v2, Cert.Reference8Ideal.Read.val_main_v1, Cert.Reference8Ideal.Read.val_main_v0,
    Cert.Reference8Ideal.Read.val_main_cst]
  unfold result alpha
  rw [one_eq, one_mul]
  rfl

/-- The algebraic claim of the output projection of the latent-compressed attention. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨_, run m g, ?_⟩
  refine (θ_run (Cert.Reference8Ideal.defs (F := Ideal)) _ _).mono (fun r h c => ?_) (Cert.Reference8Ideal.Value.run (F := Ideal) m' g')
  obtain ⟨hv, hk⟩ := h c
  refine ⟨hv.trans ?_, hk⟩
  rw [(hargs c).1, (hargs c).2.1, (hargs c).2.2.1, (hargs c).2.2.2]
  exact (Cert.Reference8Ideal.Read.val_main_v11_eq _ _ _ _).trans (reference_eq _ _ _ _)

end Cert.OutMla

end
-- ==== Proof.QkvB.Block.lean ====
/-
  Hand-written. THE PLAIN QUERY/KEY/VALUE PROJECTION, ONE BLOCK: what one grid point stores, from the blocks it reads.
-/
module

public import proofs.«01_k».proof.Proof.Gen.Kernel9Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.QkvB

open Idealize.ShloMosaic Idealize.ShloMosaic.TcCoe Idealize.SL.Sem
open Cert.Kernel9Ideal Cert.Kernel9Ideal.Gen

/-- An element of the stored block: a row times a column. -/
theorem pay_apply (x : Vec Ideal S1024x4096 .bf16) (w : Vec Ideal S4096x1024 .bf16) (i : S1024x1024.Idx) :
    k0_pay1 (F := Ideal) x w i = ∑ k : Fin 4096, x (ix2 (i 0) k) * w (ix2 k (i 1)) := by
  pointwise [k0_pay1]

end Cert.QkvB

end
-- ==== Proof.QkvB.Array.lean ====
/-
  Hand-written. THE PLAIN QUERY/KEY/VALUE PROJECTION, THE ARRAYS: the elements of the three results, from the two arguments.
-/
module

public import proofs.«01_k».proof.Proof.QkvB.Block

@[expose] public section

set_option maxRecDepth 16384

noncomputable section

namespace Cert.QkvB

open Idealize.ShloMosaic Idealize.ShloMosaic.TcCoe Idealize.SL.Sem
open Cert.Kernel9Ideal Cert.Kernel9Ideal.Gen
open Idealize.ShloMosaic.Pipeline (Dat Cfg Window)

variable (m : (ℓ : Loc nD τ sig) → Buf (Elt Ideal) ℓ) (ρ : Dev nD → PrngReg)

/-- The whole product, as the region writes it: queries, keys and values side by side. -/
def product (h : Vec Ideal S4096x4096 .f32) (w : Vec Ideal S4096x6144 .f32) : Vec Ideal S4096x6144 .f32 := fun i =>
  ∑ k : Fin 4096, h (ix2 (i 0) k) * w (ix2 k (i 1))

/-- The queries: the first 4096 columns. -/
def queries (p : Vec Ideal S4096x6144 .f32) : Vec Ideal S4096x4096 .f32 :=
  extractStridedSlice S4096x4096 ![0, 0] p slices_S4096x6144_S4096x4096_0_0

/-- The keys: the next 1024 columns, as batches, tokens, heads. -/
def keys (p : Vec Ideal S4096x6144 .f32) : Vec Ideal S16x256x8x128 .f32 :=
  shapeCast S16x256x8x128 (extractStridedSlice S4096x1024 ![0, 4096] p slices_S4096x6144_S4096x1024_0_4096) shapeCasts_S4096x1024_S16x256x8x128

/-- The values: the last 1024 columns, as batches, tokens, heads. -/
def values (p : Vec Ideal S4096x6144 .f32) : Vec Ideal S16x256x8x128 .f32 :=
  shapeCast S16x256x8x128 (extractStridedSlice S4096x1024 ![0, 5120] p slices_S4096x6144_S4096x1024_0_5120) shapeCasts_S4096x1024_S16x256x8x128

theorem idx_act : ∀ t : Fin cfg0.N, win0_0.index t = ![t.val / 6, 0] := (by decide +kernel : ∀ t : Fin grid0.N, _)
theorem idx_wts : ∀ t : Fin cfg0.N, win0_1.index t = ![0, t.val % 6] := (by decide +kernel : ∀ t : Fin grid0.N, _)
theorem idx_out : ∀ t : Fin cfg0.N, win0_2.index t = ![t.val / 6, t.val % 6] := (by decide +kernel : ∀ t : Fin grid0.N, _)

/-- The activations the region reads: the argument. -/
theorem act_apply (c : Dev nD) (i : S4096x4096.Idx) : V m c main_v0 i = m ((c : Thread nD τ).loc main_arg0) i := by
  have e : (V m c main_v0 : Vec Ideal S4096x4096 .bf16) = truncf (F := Ideal) .bf16 (m ((c : Thread nD τ).loc main_arg0)) bitsLt_bf16_f32 := by
    simp only [V, V0, hostOps0, List.flatten_cons, List.flatten_nil, List.append_nil]
    after_results
  rw [e]
  pointwise

/-- The weights the region reads: the argument. -/
theorem wts_apply (c : Dev nD) (i : S4096x6144.Idx) : V m c main_v1 i = m ((c : Thread nD τ).loc main_arg1) i := by
  have e : (V m c main_v1 : Vec Ideal S4096x6144 .bf16) = truncf (F := Ideal) .bf16 (m ((c : Thread nD τ).loc main_arg1)) bitsLt_bf16_f32 := by
    simp only [V, V0, hostOps0, List.flatten_cons, List.flatten_nil, List.append_nil]
    after_results
  rw [e]
  pointwise

/-- What a point writes, at an index of its block. -/
theorem block_apply (c : Dev nD) (t : Fin cfg0.N) (y : S1024x1024.Idx) (i : S4096x6144.Idx)
    (h0 : (i 0).val = t.val / 6 * 1024 + (y 0).val) (h1 : (i 1).val = t.val % 6 * 1024 + (y 1).val) :
    (dats m 0 c).after 2 t y = product (m ((c : Thread nD τ).loc main_arg0)) (m ((c : Thread nD τ).loc main_arg1)) i := by
  have hN : t.val < 24 := lt_of_lt_of_eq t.isLt N_0
  have b0 : (y 0).val < 1024 := (y 0).isLt
  have b1 : (y 1).val < 1024 := (y 1).isLt
  rw [after0_2]
  unfold out0_2
  frame_out
  rw [pay_apply]
  unfold product
  show (_ : EReal) = _
  refine Finset.sum_congr rfl fun k _ => congrArg₂ (fun p q : EReal => p * q)
    ((act_apply m c (((cfg0.win 0).blk t).view.emb (ix2 (y 0) k))).trans (congrArg _ ?_))
    ((wts_apply m c (((cfg0.win 1).blk t).view.emb (ix2 k (y 1)))).trans (congrArg _ ?_))
  · blk_ext [idx_act t]
  · blk_ext [idx_wts t]

/-- The product array after the region. -/
theorem array_eq (c : Dev nD) : (dats m 0 c).arrAt 2 cfg0.N
    = product (m ((c : Thread nD τ).loc main_arg0)) (m ((c : Thread nD τ).loc main_arg1)) := by
  refine Dat.arrAt_eq_of_covers (dats m 0 c) 2 _ (by decide +kernel) fun t hf y => ?_
  exact block_apply m c t y _ (by blk_simp [idx_out t]) (by blk_simp [idx_out t])

/-- The host operations after the region read the product array. -/
theorem entry_eq (c : Dev nD) : Pipeline.withArrays spec0 c (V0 m c) (fun w => (dats m 0 c).arrAt w cfg0.N) (Proc.devRef .tc main_v2)
    = product (m ((c : Thread nD τ).loc main_arg0)) (m ((c : Thread nD τ).loc main_arg1)) :=
  (Pipeline.withArrays_arr spec0 winFacts0.arr_inj c (V0 m c) (fun w => (dats m 0 c).arrAt w cfg0.N) 2).trans (array_eq m c)

/-- The first result: the queries. -/
theorem tail_q (c : Dev nD) : Pipeline.afterTail₀ cfgs (dats m) 0 (V0 m) [hostOps1] c main_v3
    = queries (product (m ((c : Thread nD τ).loc main_arg0)) (m ((c : Thread nD τ).loc main_arg1))) := by
  rw [← entry_eq]
  unfold Pipeline.afterTail₀
  show StableHlo.after hostOps1 _ (Proc.devRef .tc main_v3) = _
  entry_read
  rfl

/-- The second result: the keys. -/
theorem tail_k (c : Dev nD) : Pipeline.afterTail₀ cfgs (dats m) 0 (V0 m) [hostOps1] c main_v5
    = keys (product (m ((c : Thread nD τ).loc main_arg0)) (m ((c : Thread nD τ).loc main_arg1))) := by
  rw [← entry_eq]
  unfold Pipeline.afterTail₀
  show StableHlo.after hostOps1 _ (Proc.devRef .tc main_v5) = _
  entry_read
  rfl

/-- The third result: the values. -/
theorem tail_v (c : Dev nD) : Pipeline.afterTail₀ cfgs (dats m) 0 (V0 m) [hostOps1] c main_v7
    = values (product (m ((c : Thread nD τ).loc main_arg0)) (m ((c : Thread nD τ).loc main_arg1))) := by
  rw [← entry_eq]
  unfold Pipeline.afterTail₀
  show StableHlo.after hostOps1 _ (Proc.devRef .tc main_v7) = _
  entry_read
  rfl

/-- The run of the idealized call: its results are parts of the product of its arguments, which end unchanged. -/
theorem run : θ_run (defs (F := Ideal)) (onTc (τ := τ) (main (F := Ideal))) ⟨m, fun _ => 0, ρ⟩ (fun r => ∀ c : Dev nD,
    r.2.mem ((c.tc : Thread nD τ).loc main_v3)
      = queries (product (m ((c : Thread nD τ).loc main_arg0)) (m ((c : Thread nD τ).loc main_arg1)))
    ∧ r.2.mem ((c.tc : Thread nD τ).loc main_v5)
      = keys (product (m ((c : Thread nD τ).loc main_arg0)) (m ((c : Thread nD τ).loc main_arg1)))
    ∧ r.2.mem ((c.tc : Thread nD τ).loc main_v7)
      = values (product (m ((c : Thread nD τ).loc main_arg0)) (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h.1 c).2 main_v3 (Pipeline.mem_restRefs_of main_v3 (by decide) (by decide))).trans (tail_q m c),
      ((h.1 c).2 main_v5 (Pipeline.mem_restRefs_of main_v5 (by decide) (by decide))).trans (tail_k m c),
      ((h.1 c).2 main_v7 (Pipeline.mem_restRefs_of main_v7 (by decide) (by decide))).trans (tail_v m c), h.2 c⟩)
    (θ_run_and (run_main m ρ) (unchanged m ρ))

end Cert.QkvB

end
-- ==== Proof.QkvB.Equation.lean ====
/-
  Hand-written. THE PLAIN QUERY/KEY/VALUE PROJECTION, THE EQUATION: the reference's results are the same parts of the same product.
-/
module

public import proofs.«01_k».proof.Defs
public import proofs.«01_k».proof.Proof.QkvB.Array
public import proofs.«01_k».proof.Proof.Gen.Reference9Ideal
public import proofs.«01_k».proof.Proof.Gen.Reference9Ideal.Run
public import proofs.«01_k».proof.Proof.Gen.Reference9Ideal.Read

@[expose] public section

set_option maxRecDepth 16384

noncomputable section

namespace Cert.QkvB

open Idealize.ShloMosaic Idealize.ShloMosaic.TcCoe Idealize.SL.Sem

variable (h : Vec Ideal Cert.Kernel9Ideal.S4096x4096 .f32) (w : Vec Ideal Cert.Kernel9Ideal.S4096x6144 .f32)

/-- The reference's queries are the kernel's. -/
theorem queries_eq : Cert.Reference9Ideal.Read.val_main_v3 (F := Ideal) h w = queries (product h w) := by
  funext i
  pointwise [Cert.Reference9Ideal.Read.val_main_v3, Cert.Reference9Ideal.Read.val_main_v2, Cert.Reference9Ideal.Read.val_main_v1,
    Cert.Reference9Ideal.Read.val_main_v0, queries, product]

/-- The reference's keys are the kernel's. -/
theorem keys_eq : Cert.Reference9Ideal.Read.val_main_v5 (F := Ideal) h w = keys (product h w) := by
  funext i
  pointwise [Cert.Reference9Ideal.Read.val_main_v5, Cert.Reference9Ideal.Read.val_main_v4, Cert.Reference9Ideal.Read.val_main_v1,
    Cert.Reference9Ideal.Read.val_main_v0, keys, product]

/-- The reference's values are the kernel's. -/
theorem values_eq : Cert.Reference9Ideal.Read.val_main_v7 (F := Ideal) h w = values (product h w) := by
  funext i
  pointwise [Cert.Reference9Ideal.Read.val_main_v7, Cert.Reference9Ideal.Read.val_main_v6, Cert.Reference9Ideal.Read.val_main_v1,
    Cert.Reference9Ideal.Read.val_main_v0, values, product]

/-- The algebraic claim of the plain projection. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨_, _, _, run m g, ?_⟩
  refine (θ_run (Cert.Reference9Ideal.defs (F := Ideal)) _ _).mono (fun r h c => ?_) (Cert.Reference9Ideal.Value.run (F := Ideal) m' g')
  obtain ⟨hq, hk, hv, hu⟩ := h c
  refine ⟨hq.trans ?_, hk.trans ?_, hv.trans ?_, hu⟩
  · rw [(hargs c).1, (hargs c).2]
    exact (Cert.Reference9Ideal.Read.val_main_v3_eq _ _).trans (queries_eq _ _)
  · rw [(hargs c).1, (hargs c).2]
    exact (Cert.Reference9Ideal.Read.val_main_v5_eq _ _).trans (keys_eq _ _)
  · rw [(hargs c).1, (hargs c).2]
    exact (Cert.Reference9Ideal.Read.val_main_v7_eq _ _).trans (values_eq _ _)

end Cert.QkvB

end
-- ==== Proof.Qa.Block.lean ====
/-
  Hand-written. THE QUERIES' COMPRESSION, ONE BLOCK: what one grid point stores, from the blocks it reads.
-/
module

public import proofs.«01_k».proof.Proof.Gen.Kernel10Ideal.Frame
public import proofs.«01_k».proof.Proof.Rms.Row
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Qa

open Idealize.ShloMosaic Idealize.ShloMosaic.TcCoe Idealize.SL.Sem
open Cert.Kernel10Ideal Cert.Kernel10Ideal.Gen

/-- The row's length, 1024, as printed. -/
def len : EReal := Ideal.ofBits .f32 0x44800000#32

/-- An element of the stored block: the row of products, normed, times the gain. -/
theorem pay_apply (x : Vec Ideal S1024x4096 .bf16) (w : Vec Ideal S4096x1024 .bf16) (g : Vec Ideal S1x1024 .f32) (i : S1024x1024.Idx) :
    k0_pay1 (F := Ideal) x w g i
      = Rms.row len (fun j : Fin 1024 => ∑ k : Fin 4096, x (ix2 (i 0) k) * w (ix2 k j)) (i 1) (g (ix2 0 (i 1))) := by
  pointwise [k0_pay1, Rms.row, len]

end Cert.Qa

end
-- ==== Proof.Qa.Array.lean ====
/-
  Hand-written. THE QUERIES' COMPRESSION, THE ARRAY: the element of the result at a row and a column, from the three arguments.
-/
module

public import proofs.«01_k».proof.Proof.Qa.Block
public import proofs.«01_k».proof.Proof.Gen.Kernel10Ideal.Value
public import Idealize.ShloMosaic.Lib.KernelVsHost

@[expose] public section

set_option maxRecDepth 16384

noncomputable section

namespace Cert.Qa

open Idealize.ShloMosaic Idealize.ShloMosaic.TcCoe Idealize.SL.Sem
open Cert.Kernel10Ideal Cert.Kernel10Ideal.Gen
open Idealize.ShloMosaic.Pipeline (Dat Cfg Window)

variable (m : (ℓ : Loc nD τ sig) → Buf (Elt Ideal) ℓ) (ρ : Dev nD → PrngReg)

/-- The result as a function of the activations, the weights and the gain. -/
def result (h : Vec Ideal S8192x4096 .f32) (w : Vec Ideal S4096x1024 .f32) (g : Vec Ideal S1024 .f32) : Vec Ideal S8192x1024 .bf16 := fun i =>
  Rms.row len (fun j : Fin 1024 => ∑ k : Fin 4096, h (ix2 (i 0) k) * w (ix2 k j)) (i 1) (g (ix1 (i 1)))

theorem idx_act : ∀ t : Fin cfg0.N, win0_0.index t = ![t.val, 0] := (by decide +kernel : ∀ t : Fin grid0.N, _)
theorem idx_wts : ∀ t : Fin cfg0.N, win0_1.index t = ![0, 0] := (by decide +kernel : ∀ t : Fin grid0.N, _)
theorem idx_gain : ∀ t : Fin cfg0.N, win0_2.index t = ![0, 0] := (by decide +kernel : ∀ t : Fin grid0.N, _)
theorem idx_out : ∀ t : Fin cfg0.N, win0_3.index t = ![t.val, 0] := (by decide +kernel : ∀ t : Fin grid0.N, _)

/-- The activations the region reads: the argument. -/
theorem act_apply (c : Dev nD) (i : S8192x4096.Idx) : V m c main_v2 i = m ((c : Thread nD τ).loc main_arg0) i := by
  have e : (V m c main_v2 : Vec Ideal S8192x4096 .bf16) = truncf (F := Ideal) .bf16 (m ((c : Thread nD τ).loc main_arg0)) bitsLt_bf16_f32 := by
    unfold V
    after_results
  rw [e]
  pointwise

/-- The weights the region reads: the argument. -/
theorem wts_apply (c : Dev nD) (i : S4096x1024.Idx) : V m c main_v3 i = m ((c : Thread nD τ).loc main_arg1) i := by
  have e : (V m c main_v3 : Vec Ideal S4096x1024 .bf16) = truncf (F := Ideal) .bf16 (m ((c : Thread nD τ).loc main_arg1)) bitsLt_bf16_f32 := by
    unfold V
    after_results
  rw [e]
  pointwise

/-- The gain the region reads: the argument on every row. -/
theorem gain_apply (c : Dev nD) (i : S8x1024.Idx) : V m c main_v1 i = m ((c : Thread nD τ).loc main_arg2) (ix1 (i 1)) := by
  have e : (V m c main_v1 : Vec Ideal S8x1024 .f32) = broadcastInDim S8x1024 ![0, 1] bcast_S1x1024_S8x1024_0_1
      (broadcastInDim S1x1024 ![1] bcast_S1024_S1x1024_1 (m ((c : Thread nD τ).loc main_arg2))) := by
    unfold V
    after_results
  rw [e]
  pointwise

/-- What a point writes, at an index of its block. -/
theorem block_apply (c : Dev nD) (t : Fin cfg0.N) (y : S1024x1024.Idx) (i : S8192x1024.Idx)
    (h0 : (i 0).val = t.val * 1024 + (y 0).val) (h1 : (i 1).val = (y 1).val) :
    (dats m 0 c).after 3 t y
      = result (m ((c : Thread nD τ).loc main_arg0)) (m ((c : Thread nD τ).loc main_arg1)) (m ((c : Thread nD τ).loc main_arg2)) i := by
  have hN : t.val < 8 := lt_of_lt_of_eq t.isLt N_0
  have b0 : (y 0).val < 1024 := (y 0).isLt
  have b1 : (y 1).val < 1024 := (y 1).isLt
  rw [after0_3]
  unfold out0_3
  frame_out
  rw [pay_apply]
  unfold result
  have e1 : y 1 = i 1 := Fin.ext h1.symm
  refine (congrArg₂ (fun f g => Rms.row len f (y 1) g) (funext fun j => Finset.sum_congr rfl fun k _ =>
    congrArg₂ (fun p q : EReal => p * q) ((act_apply m c (((cfg0.win 0).blk t).view.emb (ix2 (y 0) k))).trans (congrArg _ ?_))
      ((wts_apply m c (((cfg0.win 1).blk t).view.emb (ix2 k j))).trans (congrArg _ ?_))) ?_).trans (congrArg (fun k => Rms.row len _ k _) e1)
  · blk_ext [idx_act t]
  · blk_ext [idx_wts t]
  · refine (gain_apply m c (((cfg0.win 2).blk t).view.emb _)).trans (congrArg _ ?_)
    blk_ext [idx_gain t]
    refine (Rect.idx_unit_val _ _ _ _ _).trans ?_
    show 0 + (y 1).val = (i 1).val
    omega

/-- The result array after the region. -/
theorem array_eq (c : Dev nD) : (dats m 0 c).arrAt 3 cfg0.N
    = result (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  exact block_apply m c t y _ (by blk_simp [idx_out t]) (by blk_simp [idx_out t])

/-- The run of the idealized call: its result is `result` of the arguments, which end unchanged. -/
theorem run : θ_run (defs (F := Ideal)) (onTc (τ := τ) (main (F := Ideal))) ⟨m, fun _ => 0, ρ⟩ (fun r => ∀ c : Dev nD,
    r.2.mem ((c.tc : Thread nD τ).loc main_v4)
      = result (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (array_eq m c), (h c).2⟩) (Cert.Kernel10Ideal.Value.run_blocks m ρ)

end Cert.Qa

end
-- ==== Proof.Qa.Equation.lean ====
/-
  Hand-written. THE QUERIES' COMPRESSION, THE EQUATION: the reference's result is the same function of the three arguments.
-/
module

public import proofs.«01_k».proof.Defs
public import proofs.«01_k».proof.Proof.Qa.Array
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

namespace Cert.Qa

open Idealize.ShloMosaic Idealize.ShloMosaic.TcCoe Idealize.SL.Sem

/-- The reference's last value, element by element, is the kernel's result. -/
theorem reference_eq (h : Vec Ideal Cert.Kernel10Ideal.S8192x4096 .f32) (w : Vec Ideal Cert.Kernel10Ideal.S4096x1024 .f32)
    (g : Vec Ideal Cert.Kernel10Ideal.S1024 .f32) :
    Cert.Reference10Ideal.Read.val_main_v14 (F := Ideal) h w g = result h w g := by
  funext i
  pointwise [Cert.Reference10Ideal.Read.val_main_v14, Cert.Reference10Ideal.Read.val_main_v13, Cert.Reference10Ideal.Read.val_main_v12,
    Cert.Reference10Ideal.Read.val_main_v11, Cert.Reference10Ideal.Read.val_main_v10, Cert.Reference10Ideal.Read.val_main_v9,
    Cert.Reference10Ideal.Read.val_main_v8, Cert.Reference10Ideal.Read.val_main_v7, Cert.Reference10Ideal.Read.val_main_v6,
    Cert.Reference10Ideal.Read.val_main_v5, Cert.Reference10Ideal.Read.val_main_v4, Cert.Reference10Ideal.Read.val_main_v3,
    Cert.Reference10Ideal.Read.val_main_v2, Cert.Reference10Ideal.Read.val_main_v1, Cert.Reference10Ideal.Read.val_main_v0,
    Cert.Reference10Ideal.Read.val_main_cst, Cert.Reference10Ideal.Read.val_main_cst_0, Cert.Reference10Ideal.Read.val_main_cst_1]
  simp only [result, Rms.row, len]

/-- The algebraic claim of the queries' compression. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨_, run m g, ?_⟩
  refine (θ_run (Cert.Reference10Ideal.defs (F := Ideal)) _ _).mono (fun r h c => ?_) (Cert.Reference10Ideal.Value.run (F := Ideal) m' g')
  obtain ⟨hv, hk⟩ := h c
  refine ⟨hv.trans ?_, hk⟩
  rw [(hargs c).1, (hargs c).2.1, (hargs c).2.2]
  exact (Cert.Reference10Ideal.Read.val_main_v14_eq _ _ _).trans (reference_eq _ _ _)

end Cert.Qa

end
-- ==== Proof.Qb.Block.lean ====
/-
  Hand-written. THE QUERIES' EXPANSION, ONE BLOCK: what one grid point stores, from the blocks it reads.
-/
module

public import proofs.«01_k».proof.Proof.Gen.Kernel11Ideal.Frame
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Qb

open Idealize.ShloMosaic Idealize.ShloMosaic.TcCoe Idealize.SL.Sem
open Cert.Kernel11Ideal Cert.Kernel11Ideal.Gen

/-- An element of the stored block: a row times a column. -/
theorem pay_apply (x : Vec Ideal S1024x1024 .bf16) (w : Vec Ideal S1024x2048 .bf16) (i : S1024x2048.Idx) :
    k0_pay1 (F := Ideal) x w i = ∑ k : Fin 1024, x (ix2 (i 0) k) * w (ix2 k (i 1)) := by
  pointwise [k0_pay1]

end Cert.Qb

end
-- ==== Proof.Qb.Array.lean ====
/-
  Hand-written. THE QUERIES' EXPANSION, THE ARRAYS: the elements of the two results, from the two arguments.
-/
module

public import proofs.«01_k».proof.Proof.Qb.Block

@[expose] public section

set_option maxRecDepth 16384

noncomputable section

namespace Cert.Qb

open Idealize.ShloMosaic Idealize.ShloMosaic.TcCoe Idealize.SL.Sem
open Cert.Kernel11Ideal Cert.Kernel11Ideal.Gen
open Idealize.ShloMosaic.Pipeline (Dat Cfg Window)

variable (m : (ℓ : Loc nD τ sig) → Buf (Elt Ideal) ℓ) (ρ : Dev nD → PrngReg)

/-- The weights as the region reads them: the columns of all the heads' plain parts, then those of their rotated parts. -/
def prepared (w : Vec Ideal S1024x12288 .f32) : Vec Ideal S1024x12288 .bf16 :=
  concatenate S1024x12288 1
    [⟨S1024x8192, shapeCast S1024x8192 (extractStridedSlice S1024x64x128 ![0, 0, 0]
        (shapeCast S1024x64x192 (truncf (F := Ideal) .bf16 w bitsLt_bf16_f32) shapeCasts_S1024x12288_S1024x64x192)
        slices_S1024x64x192_S1024x64x128_0_0_0) shapeCasts_S1024x64x128_S1024x8192⟩,
      ⟨S1024x4096, shapeCast S1024x4096 (extractStridedSlice S1024x64x64 ![0, 0, 128]
        (shapeCast S1024x64x192 (truncf (F := Ideal) .bf16 w bitsLt_bf16_f32) shapeCasts_S1024x12288_S1024x64x192)
        slices_S1024x64x192_S1024x64x64_0_0_128) shapeCasts_S1024x64x64_S1024x4096⟩]
    concatenates_S1024x8192_S1024x4096_S1024x12288_d1

/-- The whole product, as the region writes it: all the plain parts, then all the rotated parts. -/
def product (a : Vec Ideal S8192x1024 .f32) (w : Vec Ideal S1024x12288 .f32) : Vec Ideal S8192x12288 .f32 := fun i =>
  ∑ k : Fin 1024, a (ix2 (i 0) k) * prepared w (ix2 k (i 1))

/-- The plain parts: the first 8192 columns, by head. -/
def plain (p : Vec Ideal S8192x12288 .f32) : Vec Ideal S8192x64x128 .f32 :=
  shapeCast S8192x64x128 (extractStridedSlice S8192x8192 ![0, 0] p slices_S8192x12288_S8192x8192_0_0) shapeCasts_S8192x8192_S8192x64x128

/-- The rotated parts: the last 4096 columns, by head. -/
def rotated (p : Vec Ideal S8192x12288 .f32) : Vec Ideal S8192x64x64 .f32 :=
  shapeCast S8192x64x64 (extractStridedSlice S8192x4096 ![0, 8192] p slices_S8192x12288_S8192x4096_0_8192) shapeCasts_S8192x4096_S8192x64x64

theorem idx_act : ∀ t : Fin cfg0.N, win0_0.index t = ![t.val / 6, 0] := (by decide +kernel : ∀ t : Fin grid0.N, _)
theorem idx_wts : ∀ t : Fin cfg0.N, win0_1.index t = ![0, t.val % 6] := (by decide +kernel : ∀ t : Fin grid0.N, _)
theorem idx_out : ∀ t : Fin cfg0.N, win0_2.index t = ![t.val / 6, t.val % 6] := (by decide +kernel : ∀ t : Fin grid0.N, _)

/-- The activations the region reads: the argument. -/
theorem act_apply (c : Dev nD) (i : S8192x1024.Idx) : V m c main_v7 i = m ((c : Thread nD τ).loc main_arg0) i := by
  have e : (V m c main_v7 : Vec Ideal S8192x1024 .bf16) = truncf (F := Ideal) .bf16 (m ((c : Thread nD τ).loc main_arg0)) bitsLt_bf16_f32 := by
    simp only [V, V0, hostOps0, List.flatten_cons, List.flatten_nil, List.append_nil]
    after_results
  rw [e]
  pointwise

/-- The weights the region reads: the argument, with its columns in the new order. -/
theorem wts_eq (c : Dev nD) : V m c main_v6 = prepared (m ((c : Thread nD τ).loc main_arg1)) := by
  simp only [V, V0, hostOps0, List.flatten_cons, List.flatten_nil, List.append_nil]
  after_results
  rfl

/-- What a point writes, at an index of its block. -/
theorem block_apply (c : Dev nD) (t : Fin cfg0.N) (y : S1024x2048.Idx) (i : S8192x12288.Idx)
    (h0 : (i 0).val = t.val / 6 * 1024 + (y 0).val) (h1 : (i 1).val = t.val % 6 * 2048 + (y 1).val) :
    (dats m 0 c).after 2 t y = product (m ((c : Thread nD τ).loc main_arg0)) (m ((c : Thread nD τ).loc main_arg1)) i := by
  have hN : t.val < 48 := lt_of_lt_of_eq t.isLt N_0
  have b0 : (y 0).val < 1024 := (y 0).isLt
  have b1 : (y 1).val < 2048 := (y 1).isLt
  rw [after0_2]
  unfold out0_2
  frame_out
  rw [pay_apply]
  unfold product
  show (_ : EReal) = _
  refine Finset.sum_congr rfl fun k _ => congrArg₂ (fun p q : EReal => p * q)
    ((act_apply m c (((cfg0.win 0).blk t).view.emb (ix2 (y 0) k))).trans (congrArg _ ?_))
    ((congrFun (wts_eq m c) (((cfg0.win 1).blk t).view.emb (ix2 k (y 1)))).trans (congrArg _ ?_))
  · blk_ext [idx_act t]
  · blk_ext [idx_wts t]

/-- The product array after the region. -/
theorem array_eq (c : Dev nD) : (dats m 0 c).arrAt 2 cfg0.N
    = product (m ((c : Thread nD τ).loc main_arg0)) (m ((c : Thread nD τ).loc main_arg1)) := by
  refine Dat.arrAt_eq_of_covers (dats m 0 c) 2 _ (by decide +kernel) fun t hf y => ?_
  exact block_apply m c t y _ (by blk_simp [idx_out t]) (by blk_simp [idx_out t])

/-- The host operations after the region read the product array. -/
theorem entry_eq (c : Dev nD) : Pipeline.withArrays spec0 c (V0 m c) (fun w => (dats m 0 c).arrAt w cfg0.N) (Proc.devRef .tc main_v8)
    = product (m ((c : Thread nD τ).loc main_arg0)) (m ((c : Thread nD τ).loc main_arg1)) :=
  (Pipeline.withArrays_arr spec0 winFacts0.arr_inj c (V0 m c) (fun w => (dats m 0 c).arrAt w cfg0.N) 2).trans (array_eq m c)

/-- The first result: the plain parts. -/
theorem tail_plain (c : Dev nD) : Pipeline.afterTail₀ cfgs (dats m) 0 (V0 m) [hostOps1] c main_v10
    = plain (product (m ((c : Thread nD τ).loc main_arg0)) (m ((c : Thread nD τ).loc main_arg1))) := by
  rw [← entry_eq]
  unfold Pipeline.afterTail₀
  show StableHlo.after hostOps1 _ (Proc.devRef .tc main_v10) = _
  entry_read
  rfl

/-- The second result: the rotated parts. -/
theorem tail_rotated (c : Dev nD) : Pipeline.afterTail₀ cfgs (dats m) 0 (V0 m) [hostOps1] c main_v12
    = rotated (product (m ((c : Thread nD τ).loc main_arg0)) (m ((c : Thread nD τ).loc main_arg1))) := by
  rw [← entry_eq]
  unfold Pipeline.afterTail₀
  show StableHlo.after hostOps1 _ (Proc.devRef .tc main_v12) = _
  entry_read
  rfl

/-- The run of the idealized call: its results are parts of the product of its arguments, which end unchanged. -/
theorem run : θ_run (defs (F := Ideal)) (onTc (τ := τ) (main (F := Ideal))) ⟨m, fun _ => 0, ρ⟩ (fun r => ∀ c : Dev nD,
    r.2.mem ((c.tc : Thread nD τ).loc main_v10)
      = plain (product (m ((c : Thread nD τ).loc main_arg0)) (m ((c : Thread nD τ).loc main_arg1)))
    ∧ r.2.mem ((c.tc : Thread nD τ).loc main_v12)
      = rotated (product (m ((c : Thread nD τ).loc main_arg0)) (m ((c : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h.1 c).2 main_v10 (Pipeline.mem_restRefs_of main_v10 (by decide) (by decide))).trans (tail_plain m c),
      ((h.1 c).2 main_v12 (Pipeline.mem_restRefs_of main_v12 (by decide) (by decide))).trans (tail_rotated m c), h.2 c⟩)
    (θ_run_and (run_main m ρ) (unchanged m ρ))

end Cert.Qb

end
-- ==== Proof.Qb.Equation.lean ====
/-
  Hand-written. THE QUERIES' EXPANSION, THE EQUATION: the reference's results are the same parts of the same product.
-/
module

public import proofs.«01_k».proof.Defs
public import proofs.«01_k».proof.Proof.Qb.Array
public import proofs.«01_k».proof.Proof.Gen.Reference11Ideal
public import proofs.«01_k».proof.Proof.Gen.Reference11Ideal.Run
public import proofs.«01_k».proof.Proof.Gen.Reference11Ideal.Read

@[expose] public section

set_option maxRecDepth 16384

noncomputable section

namespace Cert.Qb

open Idealize.ShloMosaic Idealize.ShloMosaic.TcCoe Idealize.SL.Sem

variable (a : Vec Ideal Cert.Kernel11Ideal.S8192x1024 .f32) (w : Vec Ideal Cert.Kernel11Ideal.S1024x12288 .f32)

/-- The weights' new order at a plain column: column `d` of a head. -/
theorem prepared_plain (k : Fin 1024) (j : Fin 12288) (l : Fin 12288) (hj : j.val < 8192)
    (hl : l.val = j.val / 128 * 192 + j.val % 128) : prepared w (ix2 k j) = w (ix2 k l) := by
  pointwise [prepared]
  rw [dif_pos hj]
  exact congrArg (fun t => w (ix2 k t)) (Fin.ext hl.symm)

/-- The weights' new order at a rotated column: column `128 + d` of a head. -/
theorem prepared_rotated (k : Fin 1024) (j : Fin 12288) (l : Fin 12288) (hj : 8192 ≤ j.val)
    (hl : l.val = (j.val - 8192) / 64 * 192 + 128 + (j.val - 8192) % 64) : prepared w (ix2 k j) = w (ix2 k l) := by
  pointwise [prepared]
  rw [dif_neg (Nat.not_lt.mpr hj)]
  exact congrArg (fun t => w (ix2 k t)) (Fin.ext ((Nat.add_assoc _ _ _).symm.trans hl.symm))

/-- The reference's plain parts are the kernel's. -/
theorem plain_eq : Cert.Reference11Ideal.Read.val_main_v2 (F := Ideal) a w = plain (product a w) := by
  funext i
  pointwise [Cert.Reference11Ideal.Read.val_main_v2, Cert.Reference11Ideal.Read.val_main_v1,
    Cert.Reference11Ideal.Read.val_main_v0, plain, product]
  have b1 : (i 1).val < 64 := (i 1).isLt
  have b2 : (i 2).val < 128 := (i 2).isLt
  refine Finset.sum_congr rfl fun k _ => congrArg (fun q : EReal => a (ix2 (i 0) k) * q) (prepared_plain w k _ _ ?_ ?_).symm
  · show (i 1).val * 128 + (i 2).val < 8192
    omega
  · show (i 1).val * 192 + (i 2).val = ((i 1).val * 128 + (i 2).val) / 128 * 192 + ((i 1).val * 128 + (i 2).val) % 128
    omega

/-- The reference's rotated parts are the kernel's. -/
theorem rotated_eq : Cert.Reference11Ideal.Read.val_main_v3 (F := Ideal) a w = rotated (product a w) := by
  funext i
  pointwise [Cert.Reference11Ideal.Read.val_main_v3, Cert.Reference11Ideal.Read.val_main_v1,
    Cert.Reference11Ideal.Read.val_main_v0, rotated, product]
  have b1 : (i 1).val < 64 := (i 1).isLt
  have b2 : (i 2).val < 64 := (i 2).isLt
  refine Finset.sum_congr rfl fun k _ => congrArg (fun q : EReal => a (ix2 (i 0) k) * q) (prepared_rotated w k _ _ ?_ ?_).symm
  · exact Nat.le_add_right _ _
  · show (i 1).val * 192 + (128 + (i 2).val)
      = (8192 + ((i 1).val * 64 + (i 2).val) - 8192) / 64 * 192 + 128 + (8192 + ((i 1).val * 64 + (i 2).val) - 8192) % 64
    omega

/-- The algebraic claim of the queries' expansion. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨_, _, run m g, ?_⟩
  refine (θ_run (Cert.Reference11Ideal.defs (F := Ideal)) _ _).mono (fun r h c => ?_) (Cert.Reference11Ideal.Value.run (F := Ideal) m' g')
  obtain ⟨hp, hr, hu⟩ := h c
  refine ⟨hp.trans ?_, hr.trans ?_, hu⟩
  · rw [(hargs c).1, (hargs c).2]
    exact (Cert.Reference11Ideal.Read.val_main_v2_eq _ _).trans (plain_eq _ _)
  · rw [(hargs c).1, (hargs c).2]
    exact (Cert.Reference11Ideal.Read.val_main_v3_eq _ _).trans (rotated_eq _ _)

end Cert.Qb

end
-- ==== Proof.Last.Array.lean ====
/-
  Hand-written. THE LAST LAYER NORM, THE ARRAY: what one grid point stores, and the elements of the result, from the three arguments.
-/
module

public import proofs.«01_k».proof.Proof.Norm.Block
public import proofs.«01_k».proof.Proof.Gen.Kernel12Ideal.Frame
public import Idealize.ShloMosaic.Lib.KernelVsHost

@[expose] public section

set_option maxRecDepth 16384

noncomputable section

namespace Cert.Last

open Idealize.ShloMosaic Idealize.ShloMosaic.TcCoe Idealize.SL.Sem
open Cert.Kernel12Ideal Cert.Kernel12Ideal.Gen
open Idealize.ShloMosaic.Pipeline (Dat Cfg Window)

variable (m : (ℓ : Loc nD τ sig) → Buf (Elt Ideal) ℓ) (ρ : Dev nD → PrngReg)

/-- An element of the stored block: its row's layer norm. -/
theorem stored (z : Vec Ideal S256x4096 .f32) (g b : Vec Ideal S1x4096 .f32) (i : S256x4096.Idx) :
    k0_pay1 (F := Ideal) z g b i = Norm.normed (fun k => z (ix2 (i 0) k)) (i 1) (g (ix2 0 (i 1))) (b (ix2 0 (i 1))) := by
  pointwise [k0_pay1, Norm.normed, Norm.centre, Norm.avg]

/-- The region's array as a function of the rows, the gain and the bias. -/
def rows (z : Vec Ideal S8192x4096 .f32) (g b : Vec Ideal S4096 .f32) : Vec Ideal S8192x4096 .f32 := fun i =>
  Norm.normed (fun k => z (ix2 (i 0) k)) (i 1) (g (ix1 (i 1))) (b (ix1 (i 1)))

/-- The result: the rows by batches and tokens. -/
def result (z : Vec Ideal S8192x4096 .f32) (g b : Vec Ideal S4096 .f32) : Vec Ideal S8x1024x4096 .f32 :=
  shapeCast S8x1024x4096 (rows z g b) shapeCasts_S8192x4096_S8x1024x4096

theorem idx_rows : ∀ t : Fin cfg0.N, win0_0.index t = ![t.val, 0] := (by decide +kernel : ∀ t : Fin grid0.N, _)
theorem idx_gain : ∀ t : Fin cfg0.N, win0_1.index t = ![0, 0] := (by decide +kernel : ∀ t : Fin grid0.N, _)
theorem idx_bias : ∀ t : Fin cfg0.N, win0_2.index t = ![0, 0] := (by decide +kernel : ∀ t : Fin grid0.N, _)
theorem idx_out : ∀ t : Fin cfg0.N, win0_3.index t = ![t.val, 0] := (by decide +kernel : ∀ t : Fin grid0.N, _)

/-- The gain's buffer when the region starts: the argument as one row. -/
theorem gain_eq (c : Dev nD) : V m c main_v0 = shapeCast S1x4096 (m ((c : Thread nD τ).loc main_arg1)) shapeCasts_S4096_S1x4096 := by
  simp only [V, V0, hostOps0, List.flatten_cons, List.flatten_nil, List.append_nil]
  after_results
  rfl

/-- The bias's buffer when the region starts: the argument as one row. -/
theorem bias_eq (c : Dev nD) : V m c main_v1 = shapeCast S1x4096 (m ((c : Thread nD τ).loc main_arg2)) shapeCasts_S4096_S1x4096 := by
  simp only [V, V0, hostOps0, List.flatten_cons, List.flatten_nil, List.append_nil]
  after_results
  rfl

/-- What a point writes, at an index of its block. -/
theorem block (c : Dev nD) (t : Fin cfg0.N) (y : S256x4096.Idx) (i : S8192x4096.Idx)
    (h0 : (i 0).val = t.val * 256 + (y 0).val) (h1 : (i 1).val = (y 1).val) :
    (dats m 0 c).after 3 t y
      = rows (m ((c : Thread nD τ).loc main_arg0)) (m ((c : Thread nD τ).loc main_arg1)) (m ((c : Thread nD τ).loc main_arg2)) i := by
  have hN : t.val < 32 := lt_of_lt_of_eq t.isLt N_0
  have b0 : (y 0).val < 256 := (y 0).isLt
  have b1 : (y 1).val < 4096 := (y 1).isLt
  rw [after0_3]
  unfold out0_3
  frame_out
  rw [stored]
  unfold rows
  have e1 : y 1 = i 1 := Fin.ext h1.symm
  have eg : iblk m c 1 t (ix2 0 (y 1)) = m ((c : Thread nD τ).loc main_arg1) (ix1 (i 1)) := by
    unfold iblk
    show V m c main_v0 (((cfg0.win 1).blk t).view.emb (ix2 0 (y 1))) = _
    rw [gain_eq]
    refine shapeCast_apply _ _ _ _ ?_
    refine (Shape.rowMajor_val_one (d := ![4096]) _).trans (Eq.symm ((Shape.rowMajor_val_two (d := ![1, 4096]) _).trans ?_))
    blk_simp [idx_gain t]
    omega
  have eb : iblk m c 2 t (ix2 0 (y 1)) = m ((c : Thread nD τ).loc main_arg2) (ix1 (i 1)) := by
    unfold iblk
    show V m c main_v1 (((cfg0.win 2).blk t).view.emb (ix2 0 (y 1))) = _
    rw [bias_eq]
    refine shapeCast_apply _ _ _ _ ?_
    refine (Shape.rowMajor_val_one (d := ![4096]) _).trans (Eq.symm ((Shape.rowMajor_val_two (d := ![1, 4096]) _).trans ?_))
    blk_simp [idx_bias t]
    omega
  have ez : (fun k : Fin 4096 => iblk m c 0 t (ix2 (y 0) k)) = fun k => m ((c : Thread nD τ).loc main_arg0) (ix2 (i 0) k) := by
    funext k
    unfold iblk
    show V m c main_arg0 (((cfg0.win 0).blk t).view.emb (ix2 (y 0) k)) = _
    rw [V_main_arg0]
    refine congrArg _ ?_
    blk_ext [idx_rows t]
  rw [eg, eb, ez, e1]

/-- The result array after the region. -/
theorem array (c : Dev nD) : (dats m 0 c).arrAt 3 cfg0.N
    = rows (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  exact block m c t y _ (by blk_simp [idx_out t]) (by blk_simp [idx_out t])

/-- The host operation after the region reads that array. -/
theorem entry (c : Dev nD) : Pipeline.withArrays spec0 c (V0 m c) (fun w => (dats m 0 c).arrAt w cfg0.N) (Proc.devRef .tc main_v2)
    = rows (m ((c : Thread nD τ).loc main_arg0)) (m ((c : Thread nD τ).loc main_arg1)) (m ((c : Thread nD τ).loc main_arg2)) :=
  (Pipeline.withArrays_arr spec0 winFacts0.arr_inj c (V0 m c) (fun w => (dats m 0 c).arrAt w cfg0.N) 3).trans (array m c)

/-- The result after the host operation. -/
theorem tail (c : Dev nD) : Pipeline.afterTail₀ cfgs (dats m) 0 (V0 m) [hostOps1] c main_v3
    = result (m ((c : Thread nD τ).loc main_arg0)) (m ((c : Thread nD τ).loc main_arg1)) (m ((c : Thread nD τ).loc main_arg2)) := by
  unfold result
  rw [← entry]
  unfold Pipeline.afterTail₀
  show StableHlo.after hostOps1 _ (Proc.devRef .tc main_v3) = _
  entry_read
  rfl

/-- The run of the idealized call: its result is `result` of the arguments, which end unchanged. -/
theorem run : θ_run (defs (F := Ideal)) (onTc (τ := τ) (main (F := Ideal))) ⟨m, fun _ => 0, ρ⟩ (fun r => ∀ c : Dev nD,
    r.2.mem ((c.tc : Thread nD τ).loc main_v3)
      = result (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨((h.1 c).2 main_v3 (Pipeline.mem_restRefs_of main_v3 (by decide) (by decide))).trans (tail m c), h.2 c⟩)
    (θ_run_and (run_main m ρ) (unchanged m ρ))

end Cert.Last

end
-- ==== Proof.Last.Equation.lean ====
/-
  Hand-written. THE LAST LAYER NORM, THE EQUATION: the reference's result is the same function of the arguments.
-/
module

public import proofs.«01_k».proof.Defs
public import proofs.«01_k».proof.Proof.Last.Array
public import proofs.«01_k».proof.Proof.Gen.Reference12Ideal
public import proofs.«01_k».proof.Proof.Gen.Reference12Ideal.Run
public import proofs.«01_k».proof.Proof.Gen.Reference12Ideal.Read

@[expose] public section

set_option maxRecDepth 16384

noncomputable section

namespace Cert.Last

open Idealize.ShloMosaic Idealize.ShloMosaic.TcCoe Idealize.SL.Sem

/-- The reference's layer norm, element by element, is the kernel's result. -/
theorem reference (z : Vec Ideal Cert.Kernel12Ideal.S8192x4096 .f32) (g b : Vec Ideal Cert.Kernel12Ideal.S4096 .f32) :
    Cert.Reference12Ideal.Read.val_main_v22 (F := Ideal) z g b = result z g b := by
  funext i
  pointwise [Cert.Reference12Ideal.Read.val_main_v22, Cert.Reference12Ideal.Read.val_main_v21, Cert.Reference12Ideal.Read.val_main_v20,
    Cert.Reference12Ideal.Read.val_main_v19, Cert.Reference12Ideal.Read.val_main_v18, Cert.Reference12Ideal.Read.val_main_v17,
    Cert.Reference12Ideal.Read.val_main_v16, Cert.Reference12Ideal.Read.val_main_v15, Cert.Reference12Ideal.Read.val_main_v14,
    Cert.Reference12Ideal.Read.val_main_v13, Cert.Reference12Ideal.Read.val_main_v12, Cert.Reference12Ideal.Read.val_main_v11,
    Cert.Reference12Ideal.Read.val_main_v10, Cert.Reference12Ideal.Read.val_main_v9, Cert.Reference12Ideal.Read.val_main_v8,
    Cert.Reference12Ideal.Read.val_main_v7, Cert.Reference12Ideal.Read.val_main_v6, Cert.Reference12Ideal.Read.val_main_v5,
    Cert.Reference12Ideal.Read.val_main_v4, Cert.Reference12Ideal.Read.val_main_v3, Cert.Reference12Ideal.Read.val_main_v2,
    Cert.Reference12Ideal.Read.val_main_v1, Cert.Reference12Ideal.Read.val_main_v0, Cert.Reference12Ideal.Read.val_main_cst,
    Cert.Reference12Ideal.Read.val_main_cst_0, Cert.Reference12Ideal.Read.val_main_cst_1, Cert.Reference12Ideal.Read.val_main_cst_2,
    Cert.Reference12Ideal.Read.val_main_cst_3, result, rows]
  simp only [Norm.normed, Norm.centre, Norm.avg]

/-- The algebraic claim of the last layer norm. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨_, run m g, ?_⟩
  refine (θ_run (Cert.Reference12Ideal.defs (F := Ideal)) _ _).mono (fun r h c => ?_) (Cert.Reference12Ideal.Value.run (F := Ideal) m' g')
  obtain ⟨hy, hk⟩ := h c
  refine ⟨hy.trans ?_, hk⟩
  rw [(hargs c).1, (hargs c).2.1, (hargs c).2.2]
  exact (Cert.Reference12Ideal.Read.val_main_v22_eq _ _ _).trans (reference _ _ _)

end Cert.Last

end
-- ==== Proof.Mla.Block.lean ====
/-
  Hand-written. THE LATENT ATTENTION, ONE BLOCK: what the body computes for one pair of heads, from the blocks it reads.
-/
module

public import proofs.«01_k».proof.Proof.Gen.Kernel13Ideal.Value
public import proofs.«01_k».proof.Proof.Attn.Softmax
public import Idealize.ShloMosaic.Lib.Pipeline.Value
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Mla

open Idealize.ShloMosaic Idealize.ShloMosaic.TcCoe Idealize.SL.Sem
open Cert.Kernel13Ideal Cert.Kernel13Ideal.Gen
open Cert.Attn (mean)

/-- One lane of the turned rotary part: the lane times its cosine plus its partner lane times its signed sine. -/
def rot (x c s : Fin 128 → EReal) (d : Fin 128) : EReal :=
  x d * c d +
    Scalar.select (IntOp.cmpi CmpIPredicate.eq (IntOp.andi (BitVec.ofNat 32 ↑d) 16#32) 0#32)
      (x ⟨(↑d + 128 - 112) % 128, Nat.mod_lt _ (by decide)⟩)
      (x ⟨(↑d + 128 - 16) % 128, Nat.mod_lt _ (by decide)⟩) * s d

/-- The kernel's scale, 1/sqrt(192) over ln 2. -/
abbrev qscale : Ideal .f32 := Named.named κ "scale_log2e" 1037384597#32

/-- A score against a latent key: the plain parts' product plus the turned rotary parts'. -/
def scoreL (qn qr c s kn kr : Fin 128 → EReal) : EReal :=
  ∑ e, qn e * qscale * kn e + ∑ e, rot (fun d => qr d * qscale) c s e * kr e

/-- A score against a context key: the plain parts' product plus the rotary parts'. -/
def scoreC (qn qr kn kr : Fin 128 → EReal) : EReal :=
  ∑ e, qn e * qscale * kn e + ∑ e, qr e * qscale * kr e

/-- The first head's latent scores, first half of the rows. -/
theorem latentA (v5 : FVec Ideal S1024x512 .f32) (v23 : FVec Ideal S1024x128 .bf16) (q r c s : Vec Ideal S512x128 .f32) (p : Fin 512) (l : Fin 1024) :
    k0_pay19 v5 v23 q r c s (ix2 p l)
      = scoreL (fun e => q (ix2 p e)) (fun e => r (ix2 p e)) (fun e => c (ix2 p e)) (fun e => s (ix2 p e))
          (fun e => v5 (ix2 l (⟨e.val, by omega⟩ : Fin 512))) (fun e => v23 (ix2 l e)) := by
  unfold scoreL rot
  pointwise [k0_pay19, k0_pay17, k0_pay18, k0_pay13]

/-- The first head's latent scores, second half of the rows. -/
theorem latentB (v5 : FVec Ideal S1024x512 .f32) (v23 : FVec Ideal S1024x128 .bf16) (q r c s : Vec Ideal S512x128 .f32) (p : Fin 512) (l : Fin 1024) :
    k0_pay31 (k0_pay13 v5 v23) (k0_pay28 q) qscale r c s (ix2 p l)
      = scoreL (fun e => q (ix2 p e)) (fun e => r (ix2 p e)) (fun e => c (ix2 p e)) (fun e => s (ix2 p e))
          (fun e => v5 (ix2 l (⟨e.val, by omega⟩ : Fin 512))) (fun e => v23 (ix2 l e)) := by
  unfold scoreL rot
  pointwise [k0_pay31, k0_pay30, k0_pay29, k0_pay28, k0_pay13]

/-- The second head's latent scores, first half of the rows. -/
theorem latentC (v5 : FVec Ideal S1024x512 .f32) (v25 : FVec Ideal S1024x128 .bf16) (q r c s : Vec Ideal S512x128 .f32) (p : Fin 512) (l : Fin 1024) :
    k0_pay47 (k0_pay41 v5 v25) (k0_pay45 q) r c s (ix2 p l)
      = scoreL (fun e => q (ix2 p e)) (fun e => r (ix2 p e)) (fun e => c (ix2 p e)) (fun e => s (ix2 p e))
          (fun e => v5 (ix2 l (⟨256 + e.val, by omega⟩ : Fin 512))) (fun e => v25 (ix2 l e)) := by
  unfold scoreL rot
  pointwise [k0_pay47, k0_pay46, k0_pay45, k0_pay41]

/-- The second head's latent scores, second half of the rows. -/
theorem latentD (v5 : FVec Ideal S1024x512 .f32) (v25 : FVec Ideal S1024x128 .bf16) (q r c s : Vec Ideal S512x128 .f32) (p : Fin 512) (l : Fin 1024) :
    k0_pay62 (k0_pay41 v5 v25) (k0_pay56 q) (k0_pay57 r) (k0_pay59 c) (k0_pay60 s) (iota .tc S512x128 32 [1] iota_S512x128_d1_w32) k0_pay61 (ix2 p l)
      = scoreL (fun e => q (ix2 p e)) (fun e => r (ix2 p e)) (fun e => c (ix2 p e)) (fun e => s (ix2 p e))
          (fun e => v5 (ix2 l (⟨256 + e.val, by omega⟩ : Fin 512))) (fun e => v25 (ix2 l e)) := by
  unfold scoreL rot
  pointwise [k0_pay62, k0_pay61, k0_pay60, k0_pay59, k0_pay57, k0_pay56, k0_pay41]

/-- The first head's context scores, first half of the rows. -/
theorem contextA (v29 : FVec Ideal S256x512 .f32) (v32 : FVec Ideal S256x128 .bf16) (q r : Vec Ideal S512x128 .f32) (p : Fin 512) (l : Fin 256) :
    k0_pay20 v29 v32 q r (ix2 p l)
      = scoreC (fun e => q (ix2 p e)) (fun e => r (ix2 p e)) (fun e => v29 (ix2 l (⟨e.val, by omega⟩ : Fin 512))) (fun e => v32 (ix2 l e)) := by
  unfold scoreC
  pointwise [k0_pay20, k0_pay17, k0_pay18, k0_pay15]

/-- The first head's context scores, second half of the rows. -/
theorem contextB (v29 : FVec Ideal S256x512 .f32) (v32 : FVec Ideal S256x128 .bf16) (q r : Vec Ideal S512x128 .f32) (p : Fin 512) (l : Fin 256) :
    k0_pay32 (k0_pay15 v29 v32) (k0_pay28 q) qscale r (ix2 p l)
      = scoreC (fun e => q (ix2 p e)) (fun e => r (ix2 p e)) (fun e => v29 (ix2 l (⟨e.val, by omega⟩ : Fin 512))) (fun e => v32 (ix2 l e)) := by
  unfold scoreC
  pointwise [k0_pay32, k0_pay30, k0_pay29, k0_pay28, k0_pay15]

/-- The second head's context scores, first half of the rows. -/
theorem contextC (v29 : FVec Ideal S256x512 .f32) (v34 : FVec Ideal S256x128 .bf16) (q r : Vec Ideal S512x128 .f32) (p : Fin 512) (l : Fin 256) :
    k0_pay48 (k0_pay43 v29 v34) (k0_pay45 q) r (ix2 p l)
      = scoreC (fun e => q (ix2 p e)) (fun e => r (ix2 p e)) (fun e => v29 (ix2 l (⟨256 + e.val, by omega⟩ : Fin 512))) (fun e => v34 (ix2 l e)) := by
  unfold scoreC
  pointwise [k0_pay48, k0_pay46, k0_pay45, k0_pay43]

/-- The second head's context scores, second half of the rows. -/
theorem contextD (v29 : FVec Ideal S256x512 .f32) (v34 : FVec Ideal S256x128 .bf16) (q r : Vec Ideal S512x128 .f32) (p : Fin 512) (l : Fin 256) :
    k0_pay63 (k0_pay43 v29 v34) (k0_pay56 q) (k0_pay58 r) (ix2 p l)
      = scoreC (fun e => q (ix2 p e)) (fun e => r (ix2 p e)) (fun e => v29 (ix2 l (⟨256 + e.val, by omega⟩ : Fin 512))) (fun e => v34 (ix2 l e)) := by
  unfold scoreC
  pointwise [k0_pay63, k0_pay58, k0_pay57, k0_pay56, k0_pay43]

/-- The mean of the first head, first half of the rows. -/
theorem meanA (v39 : FVec Ideal S1024x128 .bf16) (v44 : FVec Ideal S256x128 .bf16) (v5 : FVec Ideal S1024x512 .f32) (v23 : FVec Ideal S1024x128 .bf16)
    (q r c s : Vec Ideal S512x128 .f32) (v74 : FVec Ideal S512x256 .f32) (p : Fin 512) (d : Fin 128) :
    k0_pay27 v39 v44 (k0_pay19 v5 v23 q r c s) v74 (k0_pay21 v5 v23 q r c s) (k0_pay24 (k0_pay19 v5 v23 q r c s) v74 (k0_pay21 v5 v23 q r c s))
        (k0_pay26 v74 (k0_pay21 v5 v23 q r c s)) (ix2 p d)
      = mean (fun l => k0_pay19 v5 v23 q r c s (ix2 p l)) (fun l => v74 (ix2 p l)) (fun l => v39 (ix2 l d)) (fun l => v44 (ix2 l d)) := by
  unfold k0_pay21 mean
  dsimp only
  generalize k0_pay19 v5 v23 q r c s = u
  pointwise [k0_pay27, k0_pay26, k0_pay25, k0_pay24, k0_pay23, k0_pay22]

/-- The mean of the first head, second half of the rows. -/
theorem meanB (v39 : FVec Ideal S1024x128 .bf16) (v44 : FVec Ideal S256x128 .bf16) (v37 : FVec Ideal S1024x256 .bf16) (v42 : FVec Ideal S256x256 .bf16)
    (q : FVec Ideal S512x128 .f32) (k : Ideal .f32) (r c s : Vec Ideal S512x128 .f32) (p : Fin 512) (d : Fin 128) :
    k0_pay40 v39 v44 (k0_pay32 v42 q k r) (k0_pay33 v37 v42 q k r c s) (k0_pay35 v37 v42 q k r c s) (k0_pay37 (k0_pay36 v37 v42 q k r c s))
        (k0_pay39 (k0_pay32 v42 q k r) (k0_pay33 v37 v42 q k r c s)) (ix2 p d)
      = mean (fun l => k0_pay31 v37 q k r c s (ix2 p l)) (fun l => k0_pay32 v42 q k r (ix2 p l)) (fun l => v39 (ix2 l d)) (fun l => v44 (ix2 l d)) := by
  unfold k0_pay36 k0_pay35 k0_pay34 k0_pay33 mean
  dsimp only
  generalize k0_pay31 v37 q k r c s = u
  generalize k0_pay32 v42 q k r = w
  pointwise [k0_pay40, k0_pay39, k0_pay38, k0_pay37]

/-- The mean of the second head, first half of the rows. -/
theorem meanC (v179 : FVec Ideal S1024x128 .bf16) (v184 : FVec Ideal S256x128 .bf16) (v177 : FVec Ideal S1024x256 .bf16) (v182 : FVec Ideal S256x256 .bf16)
    (q : FVec Ideal S512x128 .bf16) (r c s : Vec Ideal S512x128 .f32) (p : Fin 512) (d : Fin 128) :
    k0_pay55 v179 v184 (k0_pay48 v182 q r) (k0_pay49 v177 v182 q r c s) (k0_pay51 v177 v182 q r c s) (k0_pay52 v177 v182 q r c s)
        (k0_pay54 (k0_pay48 v182 q r) (k0_pay49 v177 v182 q r c s)) (ix2 p d)
      = mean (fun l => k0_pay47 v177 q r c s (ix2 p l)) (fun l => k0_pay48 v182 q r (ix2 p l)) (fun l => v179 (ix2 l d)) (fun l => v184 (ix2 l d)) := by
  unfold k0_pay52 k0_pay51 k0_pay50 k0_pay49 mean
  dsimp only
  generalize k0_pay47 v177 q r c s = u
  generalize k0_pay48 v182 q r = w
  pointwise [k0_pay55, k0_pay54, k0_pay53]

/-- The mean of the second head, second half of the rows. -/
theorem meanD (v179 : FVec Ideal S1024x128 .bf16) (v184 : FVec Ideal S256x128 .bf16) (v177 : FVec Ideal S1024x256 .bf16) (v182 : FVec Ideal S256x256 .bf16)
    (q : FVec Ideal S512x128 .bf16) (r : FVec Ideal S512x128 .f32) (r' : FVec Ideal S512x128 .bf16) (c s : FVec Ideal S512x128 .f32) (a b : IVec S512x128 32)
    (p : Fin 512) (d : Fin 128) :
    k0_pay2 v184 (k0_pay67 v179 (k0_pay66 v177 v182 q r r' c s a b)) (k0_pay69 v177 v182 q r r' c s a b) (k0_pay1 (k0_pay70 v177 v182 q r r' c s a b)) (ix2 p d)
      = mean (fun l => k0_pay62 v177 q r c s a b (ix2 p l)) (fun l => k0_pay63 v182 q r' (ix2 p l)) (fun l => v179 (ix2 l d)) (fun l => v184 (ix2 l d)) := by
  unfold k0_pay70 k0_pay69 k0_pay68 k0_pay66 k0_pay65 k0_pay64 mean
  dsimp only
  generalize k0_pay62 v177 q r c s a b = u
  generalize k0_pay63 v182 q r' = w
  pointwise [k0_pay2, k0_pay67, k0_pay1]

end Cert.Mla

end
-- ==== Proof.Mla.Pair.lean ====
/-
  Hand-written. THE LATENT ATTENTION, ONE PAIR OF HEADS: the body's whole block, from the blocks it reads.
-/
module

public import proofs.«01_k».proof.Proof.Mla.Block

@[expose] public section

set_option maxRecDepth 16384

noncomputable section

namespace Cert.Mla

open Idealize.ShloMosaic Idealize.ShloMosaic.TcCoe Idealize.SL.Sem
open Cert.Kernel13Ideal Cert.Kernel13Ideal.Gen
open Cert.Attn (mean)

variable (x0 : Vec Ideal S1024x256 .f32) (x1 : Vec Ideal S1024x128 .f32) (x2 : Vec Ideal S1024x512 .f32) (x3 : Vec Ideal S1024x128 .f32)
  (x4 : Vec Ideal S512x512 .bf16) (x5 : Vec Ideal S1x256x512 .f32) (x6 : Vec Ideal S1x256x128 .f32) (x7 x8 : Vec Ideal S1024x128 .f32)

/-- The lane a head's rotary keys are rolled from: the second head's come from 64 lanes before. -/
def from' (h : Fin 2) (e : Fin 128) : Fin 128 := ⟨(e.val + 128 - 64 * h.val) % 128, Nat.mod_lt _ (by decide)⟩

/-- One element of the block: the weighted mean of the pair's head `h` at row `p` and lane `d`. -/
def spec (p : Fin 1024) (h : Fin 2) (d : Fin 128) : EReal :=
  mean
    (fun l => scoreL (fun e => x0 (ix2 p (⟨h.val * 128 + e.val, by omega⟩ : Fin 256))) (fun e => x1 (ix2 p e)) (fun e => x7 (ix2 p e)) (fun e => x8 (ix2 p e))
      (fun e => ∑ k : Fin 512, x2 (ix2 l k) * x4 (ix2 k (⟨h.val * 256 + e.val, by omega⟩ : Fin 512)))
      (fun e => rot (fun d => x3 (ix2 l d)) (fun d => x7 (ix2 l d)) (fun d => x8 (ix2 l d)) (from' h e)))
    (fun l => scoreC (fun e => x0 (ix2 p (⟨h.val * 128 + e.val, by omega⟩ : Fin 256))) (fun e => x1 (ix2 p e))
      (fun e => ∑ k : Fin 512, x5 (ix3 (0 : Fin 1) l k) * x4 (ix2 k (⟨h.val * 256 + e.val, by omega⟩ : Fin 512)))
      (fun e => x6 (ix3 (0 : Fin 1) l (from' h e))))
    (fun l => ∑ k : Fin 512, x2 (ix2 l k) * x4 (ix2 k (⟨h.val * 256 + 128 + d.val, by omega⟩ : Fin 512)))
    (fun l => ∑ k : Fin 512, x5 (ix3 (0 : Fin 1) l k) * x4 (ix2 k (⟨h.val * 256 + 128 + d.val, by omega⟩ : Fin 512)))

theorem expand_apply (l : Fin 1024) (j : Fin 512) : k0_pay4 x4 x2 (ix2 l j) = ∑ k : Fin 512, x2 (ix2 l k) * x4 (ix2 k j) := by
  pointwise [k0_pay4, k0_pay3]

theorem expandC_apply (l : Fin 256) (j : Fin 512) : k0_pay8 x4 x5 (ix2 l j) = ∑ k : Fin 512, x5 (ix3 (0 : Fin 1) l k) * x4 (ix2 k j) := by
  pointwise [k0_pay8, k0_pay3]

theorem keys0_apply (l : Fin 1024) (e : Fin 128) : k0_pay6 x3 x7 x8 (ix2 l e)
    = rot (fun d => x3 (ix2 l d)) (fun d => x7 (ix2 l d)) (fun d => x8 (ix2 l d)) (from' 0 e) := by
  rw [show from' 0 e = e from Fin.ext (by show (e.val + 128 - 64 * 0) % 128 = e.val; omega)]
  unfold rot
  pointwise [k0_pay6, k0_pay5]

theorem keys_apply (l : Fin 1024) (e : Fin 128) : k0_pay5 x3 x7 x8 (ix2 l e)
    = rot (fun d => x3 (ix2 l d)) (fun d => x7 (ix2 l d)) (fun d => x8 (ix2 l d)) e := by
  unfold rot
  pointwise [k0_pay5]

theorem keys1_apply (l : Fin 1024) (e : Fin 128) : k0_pay7 x3 x7 x8 (ix2 l e)
    = rot (fun d => x3 (ix2 l d)) (fun d => x7 (ix2 l d)) (fun d => x8 (ix2 l d)) (from' 1 e) := by
  rw [← keys_apply]
  unfold k0_pay7
  dsimp only
  generalize k0_pay5 x3 x7 x8 = u
  unfold from'
  pointwise

theorem cached0_apply (l : Fin 256) (e : Fin 128) : k0_pay10 x6 (ix2 l e) = x6 (ix3 (0 : Fin 1) l (from' 0 e)) := by
  rw [show from' 0 e = e from Fin.ext (by show (e.val + 128 - 64 * 0) % 128 = e.val; omega)]
  pointwise [k0_pay10, k0_pay9]

theorem cached1_apply (l : Fin 256) (e : Fin 128) : k0_pay12 (k0_pay11 x6) (ix2 l e) = x6 (ix3 (0 : Fin 1) l (from' 1 e)) := by
  unfold from'
  pointwise [k0_pay12, k0_pay11, k0_pay9]

theorem values0_apply (v : FVec Ideal S1024x512 .f32) (l : Fin 1024) (d : Fin 128) : k0_pay14 v (ix2 l d) = v (ix2 l (⟨128 + d.val, by omega⟩ : Fin 512)) := by
  pointwise [k0_pay14]

theorem values1_apply (v : FVec Ideal S1024x512 .f32) (l : Fin 1024) (d : Fin 128) : k0_pay42 v (ix2 l d) = v (ix2 l (⟨384 + d.val, by omega⟩ : Fin 512)) := by
  pointwise [k0_pay42]

theorem valuesC0_apply (v : FVec Ideal S256x512 .f32) (l : Fin 256) (d : Fin 128) : k0_pay16 v (ix2 l d) = v (ix2 l (⟨128 + d.val, by omega⟩ : Fin 512)) := by
  pointwise [k0_pay16]

theorem valuesC1_apply (v : FVec Ideal S256x512 .f32) (l : Fin 256) (d : Fin 128) : k0_pay44 v (ix2 l d) = v (ix2 l (⟨384 + d.val, by omega⟩ : Fin 512)) := by
  pointwise [k0_pay44]

theorem ld00 (p : Fin 512) (e : Fin 128) : View.ld x0 (Rect.unit ![0, 0] ![512, 128] inb_S1024x256_S512x128_0_0) (ix2 p e) = x0 (ix2 (⟨0 + p.val, by omega⟩ : Fin 1024) (⟨0 + e.val, by omega⟩ : Fin 256)) := by
  pointwise

theorem ld10 (p : Fin 512) (e : Fin 128) : View.ld x0 (Rect.unit ![512, 0] ![512, 128] inb_S1024x256_S512x128_512_0) (ix2 p e) = x0 (ix2 (⟨512 + p.val, by omega⟩ : Fin 1024) (⟨0 + e.val, by omega⟩ : Fin 256)) := by
  pointwise

theorem ld01 (p : Fin 512) (e : Fin 128) : View.ld x0 (Rect.unit ![0, 128] ![512, 128] inb_S1024x256_S512x128_0_128) (ix2 p e) = x0 (ix2 (⟨0 + p.val, by omega⟩ : Fin 1024) (⟨128 + e.val, by omega⟩ : Fin 256)) := by
  pointwise

theorem ld11 (p : Fin 512) (e : Fin 128) : View.ld x0 (Rect.unit ![512, 128] ![512, 128] inb_S1024x256_S512x128_512_128) (ix2 p e) = x0 (ix2 (⟨512 + p.val, by omega⟩ : Fin 1024) (⟨128 + e.val, by omega⟩ : Fin 256)) := by
  pointwise

theorem ld_lo (x : Vec Ideal S1024x128 .f32) (p : Fin 512) (e : Fin 128) : View.ld x (Rect.unit ![0, 0] ![512, 128] inb_S1024x128_S512x128_0_0) (ix2 p e) = x (ix2 (⟨0 + p.val, by omega⟩ : Fin 1024) e) := by
  pointwise

theorem ld_hi (x : Vec Ideal S1024x128 .f32) (p : Fin 512) (e : Fin 128) : View.ld x (Rect.unit ![512, 0] ![512, 128] inb_S1024x128_S512x128_512_0) (ix2 p e) = x (ix2 (⟨512 + p.val, by omega⟩ : Fin 1024) e) := by
  pointwise

/-- An index of a stored tile by its two coordinates. -/
theorem tile_eq (z : S512x128.Idx) : z = ix2 (⟨(z 0).val, (z 0).isLt⟩ : Fin 512) (⟨(z 1).val, (z 1).isLt⟩ : Fin 128) :=
  funext fun a => Fin.ext (by match a with | ⟨0, _⟩ => rfl | ⟨1, _⟩ => rfl)

theorem pieceA (P : Fin 512 → Fin 128 → EReal)
    (hP : ∀ p d, P p d = mean
      (fun l => k0_pay19 (k0_pay4 x4 x2) (k0_pay6 x3 x7 x8) (View.ld x0 (Rect.unit ![0, 0] ![512, 128] inb_S1024x256_S512x128_0_0)) (View.ld x1 (Rect.unit ![0, 0] ![512, 128] inb_S1024x128_S512x128_0_0)) (View.ld x7 (Rect.unit ![0, 0] ![512, 128] inb_S1024x128_S512x128_0_0)) (View.ld x8 (Rect.unit ![0, 0] ![512, 128] inb_S1024x128_S512x128_0_0)) (ix2 p l))
      (fun l => k0_pay20 (k0_pay8 x4 x5) (k0_pay10 x6) (View.ld x0 (Rect.unit ![0, 0] ![512, 128] inb_S1024x256_S512x128_0_0)) (View.ld x1 (Rect.unit ![0, 0] ![512, 128] inb_S1024x128_S512x128_0_0)) (ix2 p l)) (fun l => k0_pay14 (k0_pay4 x4 x2) (ix2 l d)) (fun l => k0_pay16 (k0_pay8 x4 x5) (ix2 l d)))
    (p : Fin 512) (d : Fin 128) : P p d = spec x0 x1 x2 x3 x4 x5 x6 x7 x8 (⟨0 + p.val, by omega⟩ : Fin 1024) 0 d := by
  rw [hP]
  unfold spec
  refine congr (congr (congr (congrArg mean (funext fun l => ?_)) (funext fun l => ?_)) (funext fun l => ?_)) (funext fun l => ?_)
  · refine (latentA _ _ _ _ _ _ p l).trans ?_
    exact congr (congr (congr (congr (congr (congrArg scoreL (funext fun e => (ld00 x0 p e).trans (congrArg (fun j => x0 (ix2 _ j)) (Fin.ext (by show 0 + e.val = 0 * 128 + e.val; omega)))))
      (funext fun e => ld_lo x1 p e)) (funext fun e => ld_lo x7 p e)) (funext fun e => ld_lo x8 p e))
      (funext fun e => (congrArg (fun j => k0_pay4 x4 x2 (ix2 l j)) (Fin.ext (by show e.val = 0 * 256 + e.val; omega))).trans (expand_apply x2 x4 l _)))
      (funext fun e => keys0_apply x3 x7 x8 l e)
  · refine (contextA _ _ _ _ p l).trans ?_
    exact congr (congr (congr (congrArg scoreC (funext fun e => (ld00 x0 p e).trans (congrArg (fun j => x0 (ix2 _ j)) (Fin.ext (by show 0 + e.val = 0 * 128 + e.val; omega)))))
      (funext fun e => ld_lo x1 p e))
      (funext fun e => (congrArg (fun j => k0_pay8 x4 x5 (ix2 l j)) (Fin.ext (by show e.val = 0 * 256 + e.val; omega))).trans (expandC_apply x4 x5 l _)))
      (funext fun e => cached0_apply x6 l e)
  · exact (values0_apply _ l d).trans ((congrArg (fun j => k0_pay4 x4 x2 (ix2 l j)) (Fin.ext (by show 128 + d.val = 0 * 256 + 128 + d.val; omega))).trans (expand_apply x2 x4 l _))
  · exact (valuesC0_apply _ l d).trans ((congrArg (fun j => k0_pay8 x4 x5 (ix2 l j)) (Fin.ext (by show 128 + d.val = 0 * 256 + 128 + d.val; omega))).trans (expandC_apply x4 x5 l _))

theorem pieceB (P : Fin 512 → Fin 128 → EReal)
    (hP : ∀ p d, P p d = mean
      (fun l => k0_pay31 (k0_pay13 (k0_pay4 x4 x2) (k0_pay6 x3 x7 x8)) (k0_pay28 (View.ld x0 (Rect.unit ![512, 0] ![512, 128] inb_S1024x256_S512x128_512_0))) qscale (View.ld x1 (Rect.unit ![512, 0] ![512, 128] inb_S1024x128_S512x128_512_0)) (View.ld x7 (Rect.unit ![512, 0] ![512, 128] inb_S1024x128_S512x128_512_0)) (View.ld x8 (Rect.unit ![512, 0] ![512, 128] inb_S1024x128_S512x128_512_0)) (ix2 p l))
      (fun l => k0_pay32 (k0_pay15 (k0_pay8 x4 x5) (k0_pay10 x6)) (k0_pay28 (View.ld x0 (Rect.unit ![512, 0] ![512, 128] inb_S1024x256_S512x128_512_0))) qscale (View.ld x1 (Rect.unit ![512, 0] ![512, 128] inb_S1024x128_S512x128_512_0)) (ix2 p l)) (fun l => k0_pay14 (k0_pay4 x4 x2) (ix2 l d)) (fun l => k0_pay16 (k0_pay8 x4 x5) (ix2 l d)))
    (p : Fin 512) (d : Fin 128) : P p d = spec x0 x1 x2 x3 x4 x5 x6 x7 x8 (⟨512 + p.val, by omega⟩ : Fin 1024) 0 d := by
  rw [hP]
  unfold spec
  refine congr (congr (congr (congrArg mean (funext fun l => ?_)) (funext fun l => ?_)) (funext fun l => ?_)) (funext fun l => ?_)
  · refine (latentB _ _ _ _ _ _ p l).trans ?_
    exact congr (congr (congr (congr (congr (congrArg scoreL (funext fun e => (ld10 x0 p e).trans (congrArg (fun j => x0 (ix2 _ j)) (Fin.ext (by show 0 + e.val = 0 * 128 + e.val; omega)))))
      (funext fun e => ld_hi x1 p e)) (funext fun e => ld_hi x7 p e)) (funext fun e => ld_hi x8 p e))
      (funext fun e => (congrArg (fun j => k0_pay4 x4 x2 (ix2 l j)) (Fin.ext (by show e.val = 0 * 256 + e.val; omega))).trans (expand_apply x2 x4 l _)))
      (funext fun e => keys0_apply x3 x7 x8 l e)
  · refine (contextB _ _ _ _ p l).trans ?_
    exact congr (congr (congr (congrArg scoreC (funext fun e => (ld10 x0 p e).trans (congrArg (fun j => x0 (ix2 _ j)) (Fin.ext (by show 0 + e.val = 0 * 128 + e.val; omega)))))
      (funext fun e => ld_hi x1 p e))
      (funext fun e => (congrArg (fun j => k0_pay8 x4 x5 (ix2 l j)) (Fin.ext (by show e.val = 0 * 256 + e.val; omega))).trans (expandC_apply x4 x5 l _)))
      (funext fun e => cached0_apply x6 l e)
  · exact (values0_apply _ l d).trans ((congrArg (fun j => k0_pay4 x4 x2 (ix2 l j)) (Fin.ext (by show 128 + d.val = 0 * 256 + 128 + d.val; omega))).trans (expand_apply x2 x4 l _))
  · exact (valuesC0_apply _ l d).trans ((congrArg (fun j => k0_pay8 x4 x5 (ix2 l j)) (Fin.ext (by show 128 + d.val = 0 * 256 + 128 + d.val; omega))).trans (expandC_apply x4 x5 l _))

theorem pieceC (P : Fin 512 → Fin 128 → EReal)
    (hP : ∀ p d, P p d = mean
      (fun l => k0_pay47 (k0_pay41 (k0_pay4 x4 x2) (k0_pay7 x3 x7 x8)) (k0_pay45 (View.ld x0 (Rect.unit ![0, 128] ![512, 128] inb_S1024x256_S512x128_0_128))) (View.ld x1 (Rect.unit ![0, 0] ![512, 128] inb_S1024x128_S512x128_0_0)) (View.ld x7 (Rect.unit ![0, 0] ![512, 128] inb_S1024x128_S512x128_0_0)) (View.ld x8 (Rect.unit ![0, 0] ![512, 128] inb_S1024x128_S512x128_0_0)) (ix2 p l))
      (fun l => k0_pay48 (k0_pay43 (k0_pay8 x4 x5) (k0_pay12 (k0_pay11 x6))) (k0_pay45 (View.ld x0 (Rect.unit ![0, 128] ![512, 128] inb_S1024x256_S512x128_0_128))) (View.ld x1 (Rect.unit ![0, 0] ![512, 128] inb_S1024x128_S512x128_0_0)) (ix2 p l)) (fun l => k0_pay42 (k0_pay4 x4 x2) (ix2 l d)) (fun l => k0_pay44 (k0_pay8 x4 x5) (ix2 l d)))
    (p : Fin 512) (d : Fin 128) : P p d = spec x0 x1 x2 x3 x4 x5 x6 x7 x8 (⟨0 + p.val, by omega⟩ : Fin 1024) 1 d := by
  rw [hP]
  unfold spec
  refine congr (congr (congr (congrArg mean (funext fun l => ?_)) (funext fun l => ?_)) (funext fun l => ?_)) (funext fun l => ?_)
  · refine (latentC _ _ _ _ _ _ p l).trans ?_
    exact congr (congr (congr (congr (congr (congrArg scoreL (funext fun e => (ld01 x0 p e).trans (congrArg (fun j => x0 (ix2 _ j)) (Fin.ext (by show 128 + e.val = 1 * 128 + e.val; omega)))))
      (funext fun e => ld_lo x1 p e)) (funext fun e => ld_lo x7 p e)) (funext fun e => ld_lo x8 p e))
      (funext fun e => (congrArg (fun j => k0_pay4 x4 x2 (ix2 l j)) (Fin.ext (by show 256 + e.val = 1 * 256 + e.val; omega))).trans (expand_apply x2 x4 l _)))
      (funext fun e => keys1_apply x3 x7 x8 l e)
  · refine (contextC _ _ _ _ p l).trans ?_
    exact congr (congr (congr (congrArg scoreC (funext fun e => (ld01 x0 p e).trans (congrArg (fun j => x0 (ix2 _ j)) (Fin.ext (by show 128 + e.val = 1 * 128 + e.val; omega)))))
      (funext fun e => ld_lo x1 p e))
      (funext fun e => (congrArg (fun j => k0_pay8 x4 x5 (ix2 l j)) (Fin.ext (by show 256 + e.val = 1 * 256 + e.val; omega))).trans (expandC_apply x4 x5 l _)))
      (funext fun e => cached1_apply x6 l e)
  · exact (values1_apply _ l d).trans ((congrArg (fun j => k0_pay4 x4 x2 (ix2 l j)) (Fin.ext (by show 384 + d.val = 1 * 256 + 128 + d.val; omega))).trans (expand_apply x2 x4 l _))
  · exact (valuesC1_apply _ l d).trans ((congrArg (fun j => k0_pay8 x4 x5 (ix2 l j)) (Fin.ext (by show 384 + d.val = 1 * 256 + 128 + d.val; omega))).trans (expandC_apply x4 x5 l _))

theorem pieceD (P : Fin 512 → Fin 128 → EReal)
    (hP : ∀ p d, P p d = mean
      (fun l => k0_pay62 (k0_pay41 (k0_pay4 x4 x2) (k0_pay7 x3 x7 x8)) (k0_pay56 (View.ld x0 (Rect.unit ![512, 128] ![512, 128] inb_S1024x256_S512x128_512_128))) (k0_pay57 (View.ld x1 (Rect.unit ![512, 0] ![512, 128] inb_S1024x128_S512x128_512_0))) (k0_pay59 (View.ld x7 (Rect.unit ![512, 0] ![512, 128] inb_S1024x128_S512x128_512_0))) (k0_pay60 (View.ld x8 (Rect.unit ![512, 0] ![512, 128] inb_S1024x128_S512x128_512_0))) (iota .tc S512x128 32 [1] iota_S512x128_d1_w32) k0_pay61 (ix2 p l))
      (fun l => k0_pay63 (k0_pay43 (k0_pay8 x4 x5) (k0_pay12 (k0_pay11 x6))) (k0_pay56 (View.ld x0 (Rect.unit ![512, 128] ![512, 128] inb_S1024x256_S512x128_512_128))) (k0_pay58 (View.ld x1 (Rect.unit ![512, 0] ![512, 128] inb_S1024x128_S512x128_512_0))) (ix2 p l)) (fun l => k0_pay42 (k0_pay4 x4 x2) (ix2 l d)) (fun l => k0_pay44 (k0_pay8 x4 x5) (ix2 l d)))
    (p : Fin 512) (d : Fin 128) : P p d = spec x0 x1 x2 x3 x4 x5 x6 x7 x8 (⟨512 + p.val, by omega⟩ : Fin 1024) 1 d := by
  rw [hP]
  unfold spec
  refine congr (congr (congr (congrArg mean (funext fun l => ?_)) (funext fun l => ?_)) (funext fun l => ?_)) (funext fun l => ?_)
  · refine (latentD _ _ _ _ _ _ p l).trans ?_
    exact congr (congr (congr (congr (congr (congrArg scoreL (funext fun e => (ld11 x0 p e).trans (congrArg (fun j => x0 (ix2 _ j)) (Fin.ext (by show 128 + e.val = 1 * 128 + e.val; omega)))))
      (funext fun e => ld_hi x1 p e)) (funext fun e => ld_hi x7 p e)) (funext fun e => ld_hi x8 p e))
      (funext fun e => (congrArg (fun j => k0_pay4 x4 x2 (ix2 l j)) (Fin.ext (by show 256 + e.val = 1 * 256 + e.val; omega))).trans (expand_apply x2 x4 l _)))
      (funext fun e => keys1_apply x3 x7 x8 l e)
  · refine (contextD _ _ _ _ p l).trans ?_
    exact congr (congr (congr (congrArg scoreC (funext fun e => (ld11 x0 p e).trans (congrArg (fun j => x0 (ix2 _ j)) (Fin.ext (by show 128 + e.val = 1 * 128 + e.val; omega)))))
      (funext fun e => ld_hi x1 p e))
      (funext fun e => (congrArg (fun j => k0_pay8 x4 x5 (ix2 l j)) (Fin.ext (by show 256 + e.val = 1 * 256 + e.val; omega))).trans (expandC_apply x4 x5 l _)))
      (funext fun e => cached1_apply x6 l e)
  · exact (values1_apply _ l d).trans ((congrArg (fun j => k0_pay4 x4 x2 (ix2 l j)) (Fin.ext (by show 384 + d.val = 1 * 256 + 128 + d.val; omega))).trans (expand_apply x2 x4 l _))
  · exact (valuesC1_apply _ l d).trans ((congrArg (fun j => k0_pay8 x4 x5 (ix2 l j)) (Fin.ext (by show 384 + d.val = 1 * 256 + 128 + d.val; omega))).trans (expandC_apply x4 x5 l _))

/-- What a point stores, at an index of its block, from the blocks it reads. -/
theorem out_apply (m : (ℓ : Loc nD τ sig) → Buf (Elt Ideal) ℓ) (c : Dev nD) (t : Fin cfg0.N) (i : S1024x256.Idx) (p : Fin 1024) (h : Fin 2) (d : Fin 128)
    (hp : (i 0).val = p.val) (hi : (i 1).val = h.val * 128 + d.val) :
    outsAt0 m c t i = spec (iblk m c 0 t) (iblk m c 1 t) (iblk m c 2 t) (iblk m c 3 t) (iblk m c 4 t) (iblk m c 5 t) (iblk m c 6 t) (iblk m c 7 t) (iblk m c 8 t) p h d := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  canon_tiles z hz
  · rw [View.readCov_cons_toLoadRect, View.readCov_cons_toLoadRect, tile_eq z]
    refine (pieceD x0 x1 x2 x3 x4 x5 x6 x7 x8 (fun p d => _) (fun p d => meanD ..) _ _).trans ?_
    exact congr (congr (congrArg (spec x0 x1 x2 x3 x4 x5 x6 x7 x8) (Fin.ext (by show 512 + (z 0).val = p.val; omega))) (Fin.ext (by show 1 = h.val; omega)))
      (Fin.ext (by show (z 1).val = d.val; omega))
  · rw [View.readCov_cons_toLoadRect, View.readCov_cons_toLoadRect, tile_eq z]
    refine (pieceC x0 x1 x2 x3 x4 x5 x6 x7 x8 (fun p d => _) (fun p d => meanC ..) _ _).trans ?_
    exact congr (congr (congrArg (spec x0 x1 x2 x3 x4 x5 x6 x7 x8) (Fin.ext (by show 0 + (z 0).val = p.val; omega))) (Fin.ext (by show 1 = h.val; omega)))
      (Fin.ext (by show (z 1).val = d.val; omega))
  · rw [View.readCov_cons_toLoadRect, View.readCov_cons_toLoadRect, tile_eq z]
    refine (pieceB x0 x1 x2 x3 x4 x5 x6 x7 x8 (fun p d => _) (fun p d => meanB ..) _ _).trans ?_
    exact congr (congr (congrArg (spec x0 x1 x2 x3 x4 x5 x6 x7 x8) (Fin.ext (by show 512 + (z 0).val = p.val; omega))) (Fin.ext (by show 0 = h.val; omega)))
      (Fin.ext (by show (z 1).val = d.val; omega))
  · rw [View.readCov_cons_toLoadRect, View.readCov_cons_toLoadRect, tile_eq z]
    refine (pieceA x0 x1 x2 x3 x4 x5 x6 x7 x8 (fun p d => _) (fun p d => meanA ..) _ _).trans ?_
    exact congr (congr (congrArg (spec x0 x1 x2 x3 x4 x5 x6 x7 x8) (Fin.ext (by show 0 + (z 0).val = p.val; omega))) (Fin.ext (by show 0 = h.val; omega)))
      (Fin.ext (by show (z 1).val = d.val; omega))

end Cert.Mla

end
-- ==== Proof.Mla.Entry.lean ====
/-
  Hand-written. THE LATENT ATTENTION, THE BLOCKS: what a point reads, from the six arguments and the two tables.
-/
module

public import proofs.«01_k».proof.Proof.Mla.Pair

@[expose] public section

set_option maxRecDepth 16384

noncomputable section

namespace Cert.Mla

open Idealize.ShloMosaic Idealize.ShloMosaic.TcCoe Idealize.SL.Sem
open Cert.Kernel13Ideal Cert.Kernel13Ideal.Gen

variable (m : (ℓ : Loc nD τ sig) → Buf (Elt Ideal) ℓ)

theorem idx_0 : ∀ t : Fin cfg0.N, win0_0.index t = ![t.val / 32, t.val % 32] := (by decide +kernel : ∀ t : Fin grid0.N, _)
theorem idx_1 : ∀ t : Fin cfg0.N, win0_1.index t = ![t.val / 32, 64 + t.val % 32] := (by decide +kernel : ∀ t : Fin grid0.N, _)
theorem idx_2 : ∀ t : Fin cfg0.N, win0_2.index t = ![t.val / 32, 0] := (by decide +kernel : ∀ t : Fin grid0.N, _)
theorem idx_3 : ∀ t : Fin cfg0.N, win0_3.index t = ![t.val / 32, 0] := (by decide +kernel : ∀ t : Fin grid0.N, _)
theorem idx_4 : ∀ t : Fin cfg0.N, win0_4.index t = ![0, t.val % 32] := (by decide +kernel : ∀ t : Fin grid0.N, _)
theorem idx_5 : ∀ t : Fin cfg0.N, win0_5.index t = ![t.val / 32, 0, 0] := (by decide +kernel : ∀ t : Fin grid0.N, _)
theorem idx_6 : ∀ t : Fin cfg0.N, win0_6.index t = ![t.val / 32, 0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)

/-- The frequencies: ten thousand to the power of minus j over 16. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The angles of the grid's rows. -/
def rowAngles : FVec Ideal S1024x16 .f32 :=
  mulf (broadcastInDim S1024x16 ![0, 1] bcast_S1024x1_S1024x16_0_1 (broadcastInDim S1024x1 ![0] bcast_S1024_S1024x1_0
      (shapeCast S1024 (broadcastInDim S16x64 ![0] bcast_S16_S16x64_0 (sitofp (F := Ideal) .f32 (iotaInDim S16 32 0))) shapeCasts_S16x64_S1024)))
    (broadcastInDim S1024x16 ![0, 1] bcast_S1x16_S1024x16_0_1 (broadcastInDim S1x16 ![1] bcast_S16_S1x16_1 freqs))

/-- The angles of the grid's columns. -/
def colAngles : FVec Ideal S1024x16 .f32 :=
  mulf (broadcastInDim S1024x16 ![0, 1] bcast_S1024x1_S1024x16_0_1 (broadcastInDim S1024x1 ![0] bcast_S1024_S1024x1_0
      (shapeCast S1024 (broadcastInDim S16x64 ![0, 1] bcast_S1x64_S16x64_0_1 (shapeCast S1x64 (sitofp (F := Ideal) .f32 (iotaInDim S64 32 0)) shapeCasts_S64_S1x64)) shapeCasts_S16x64_S1024)))
    (broadcastInDim S1024x16 ![0, 1] bcast_S1x16_S1024x16_0_1 (broadcastInDim S1x16 ![1] bcast_S16_S1x16_1 freqs))

/-- The cosine table of one rotary part. -/
def cosTable : FVec Ideal S1024x64 .f32 :=
  concatenate S1024x64 1 [⟨S1024x16, Host.cos rowAngles⟩, ⟨S1024x16, Host.cos rowAngles⟩, ⟨S1024x16, Host.cos colAngles⟩, ⟨S1024x16, Host.cos colAngles⟩]
    concatenates_S1024x16_S1024x16_S1024x16_S1024x16_S1024x64_d1

/-- The table of signed sines of one rotary part. -/
def sinTable : FVec Ideal S1024x64 .f32 :=
  concatenate S1024x64 1 [⟨S1024x16, Host.negf (Host.sin rowAngles)⟩, ⟨S1024x16, Host.sin rowAngles⟩, ⟨S1024x16, Host.negf (Host.sin colAngles)⟩, ⟨S1024x16, Host.sin colAngles⟩]
    concatenates_S1024x16_S1024x16_S1024x16_S1024x16_S1024x64_d1

/-- The cosine table at the region's entry: laid out twice side by side. -/
theorem entry_cos (c : Dev nD) : (V m c main_v35 : Vec Ideal S1024x128 .f32)
    = shapeCast S1024x128 (broadcastInDim S1x1024x2x64 ![0, 1, 2, 3] bcast_S1x1024x1x64_S1x1024x2x64_0_1_2_3 (shapeCast S1x1024x1x64 cosTable shapeCasts_S1024x64_S1x1024x1x64)) shapeCasts_S1x1024x2x64_S1024x128 := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The table of signed sines at the region's entry: laid out twice side by side. -/
theorem entry_sin (c : Dev nD) : (V m c main_v38 : Vec Ideal S1024x128 .f32)
    = shapeCast S1024x128 (broadcastInDim S1x1024x2x64 ![0, 1, 2, 3] bcast_S1x1024x1x64_S1x1024x2x64_0_1_2_3 (shapeCast S1x1024x1x64 sinTable shapeCasts_S1024x64_S1x1024x1x64)) shapeCasts_S1x1024x2x64_S1024x128 := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The queries laid out flat: all heads' plain parts, then all heads' rotary parts. -/
def flatQ (a : Vec Ideal S8x1024x64x192 .f32) : Vec Ideal S8192x12288 .f32 :=
  concatenate S8192x12288 1
    [⟨S8192x8192, shapeCast S8192x8192 (extractStridedSlice S8192x64x128 ![0, 0, 0] (shapeCast S8192x64x192 a shapeCasts_S8x1024x64x192_S8192x64x192) slices_S8192x64x192_S8192x64x128_0_0_0) shapeCasts_S8192x64x128_S8192x8192⟩,
     ⟨S8192x4096, shapeCast S8192x4096 (extractStridedSlice S8192x64x64 ![0, 0, 128] (shapeCast S8192x64x192 a shapeCasts_S8x1024x64x192_S8192x64x192) slices_S8192x64x192_S8192x64x64_0_0_128) shapeCasts_S8192x64x64_S8192x4096⟩]
    concatenates_S8192x8192_S8192x4096_S8192x12288_d1

/-- The queries at the region's entry. -/
theorem entry_q (c : Dev nD) : (V m c main_v44 : Vec Ideal S8192x12288 .f32) = flatQ (m ((c : Thread nD τ).loc main_arg0)) := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The context's rotary keys at the region's entry: padded with zero lanes. -/
theorem entry_ck (c : Dev nD) : (V m c main_v45 : Vec Ideal S8x256x128 .f32)
    = pad S8x256x128 ![0, 0, 0] ![0, 0, 64] ![0, 0, 0] (m ((c : Thread nD τ).loc main_arg5) : Vec Ideal S8x256x64 .f32)
        (sitofp (F := Ideal) .f32 (constantI S_ 32 0#32)) pads_S8x256x64_S8x256x128_000_000_0640 h_S_ := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- The rotary keys at the region's entry: laid out flat and padded with zero lanes. -/
theorem entry_k (c : Dev nD) : (V m c main_v48 : Vec Ideal S8192x128 .f32)
    = pad S8192x128 ![0, 0] ![0, 64] ![0, 0] (shapeCast S8192x64 (m ((c : Thread nD τ).loc main_arg2) : Vec Ideal S8x1024x64 .f32) shapeCasts_S8x1024x64_S8192x64)
        (sitofp (F := Ideal) .f32 (constantI S_ 32 0#32)) pads_S8192x64_S8192x128_000_0640 h_S_ := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The latent at the region's entry. -/
theorem entry_l (c : Dev nD) : (V m c main_v46 : Vec Ideal S8192x512 .f32)
    = shapeCast S8192x512 (m ((c : Thread nD τ).loc main_arg1) : Vec Ideal S8x1024x512 .f32) shapeCasts_S8x1024x512_S8192x512 := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The expansion's weights at the region's entry. -/
theorem entry_w (c : Dev nD) : (V m c main_v49 : Vec Ideal S512x16384 .bf16)
    = truncf (F := Ideal) .bf16 (m ((c : Thread nD τ).loc main_arg3) : Vec Ideal S512x16384 .f32) bitsLt_bf16_f32 := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- The latent cache at the region's entry. -/
theorem entry_c (c : Dev nD) : (V m c main_arg4 : Vec Ideal S8x256x512 .f32) = m ((c : Thread nD τ).loc main_arg4) := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- A rotary part padded with zero lanes. -/
def padded (x : Fin 64 → EReal) (e : Fin 128) : EReal := if h : e.val < 64 then x ⟨e.val, h⟩ else 0

/-- The padding value is zero. -/
theorem zero_word : FloatOps.sitofp (F := Ideal) .f32 (0#32) = (0 : EReal) := by
  show (((0#32 : BitVec 32).toInt : ℝ) : EReal) = 0
  simp

theorem pad_flat (x : Vec Ideal S8192x64 .f32) (r : Fin 8192) (e : Fin 128) :
    pad S8192x128 ![0, 0] ![0, 64] ![0, 0] x (sitofp (F := Ideal) .f32 (constantI S_ 32 0#32)) pads_S8192x64_S8192x128_000_0640 h_S_ (ix2 r e)
      = padded (fun d => x (ix2 r d)) e := by
  have hr := r.isLt
  unfold padded
  pointwise
  by_cases h : e.val < 64
  · rw [dif_pos h, dif_pos]
    exact h
  · rw [dif_neg h, dif_neg]
    · exact zero_word
    · exact h

theorem pad_batched (x : Vec Ideal S8x256x64 .f32) (b : Fin 8) (l : Fin 256) (e : Fin 128) :
    pad S8x256x128 ![0, 0, 0] ![0, 0, 64] ![0, 0, 0] x (sitofp (F := Ideal) .f32 (constantI S_ 32 0#32)) pads_S8x256x64_S8x256x128_000_000_0640 h_S_ (ix3 b l e)
      = padded (fun d => x (ix3 b l d)) e := by
  have hb := b.isLt
  have hl := l.isLt
  unfold padded
  pointwise
  by_cases h : e.val < 64
  · rw [dif_pos h, dif_pos]
    exact h
  · rw [dif_neg h, dif_neg]
    · exact zero_word
    · exact h

/-- A table laid out twice side by side, at an index. -/
theorem table_apply (x : FVec Ideal S1024x64 .f32) (r : Fin 1024) (j : Fin 128) :
    shapeCast S1024x128 (broadcastInDim S1x1024x2x64 ![0, 1, 2, 3] bcast_S1x1024x1x64_S1x1024x2x64_0_1_2_3 (shapeCast S1x1024x1x64 x shapeCasts_S1024x64_S1x1024x1x64)) shapeCasts_S1x1024x2x64_S1024x128 (ix2 r j)
      = x (ix2 r (⟨j.val % 64, Nat.mod_lt _ (by decide)⟩ : Fin 64)) := by
  pointwise

/-- A plain query lane. -/
theorem flat_plain (a : Vec Ideal S8x1024x64x192 .f32) (b : Fin 8) (p : Fin 1024) (j : Fin 32) (h : Fin 2) (e : Fin 128) :
    flatQ a (ix2 (⟨b.val * 1024 + p.val, by omega⟩ : Fin 8192) (⟨j.val * 256 + (h.val * 128 + e.val), by omega⟩ : Fin 12288))
      = a (ix4 b p (⟨j.val * 2 + h.val, by omega⟩ : Fin 64) (⟨e.val, by omega⟩ : Fin 192)) := by
  pointwise [flatQ]
  rw [dif_pos (by omega)]
  exact congrArg (fun n => a (ix4 b p n _)) (Fin.ext (by show (j.val * 256 + (h.val * 128 + e.val)) / 128 = j.val * 2 + h.val; omega))

/-- A rotary query lane of a pair of heads. -/
theorem flat_rotary (a : Vec Ideal S8x1024x64x192 .f32) (b : Fin 8) (p : Fin 1024) (j : Fin 32) (e : Fin 128) :
    flatQ a (ix2 (⟨b.val * 1024 + p.val, by omega⟩ : Fin 8192) (⟨8192 + j.val * 128 + e.val, by omega⟩ : Fin 12288))
      = a (ix4 b p (⟨j.val * 2 + e.val / 64, by omega⟩ : Fin 64) (⟨128 + e.val % 64, by omega⟩ : Fin 192)) := by
  pointwise [flatQ]
  rw [dif_neg (by omega)]
  exact congrArg₂ (fun n k => a (ix4 b p n k)) (Fin.ext (by show (8192 + j.val * 128 + e.val - 8192) / 64 = j.val * 2 + e.val / 64; omega))
    (Fin.ext (by show 128 + (8192 + j.val * 128 + e.val - 8192) % 64 = 128 + e.val % 64; omega))

/-- The latent laid out flat, at an index. -/
theorem flat_latent (a : Vec Ideal S8x1024x512 .f32) (b : Fin 8) (l : Fin 1024) (k : Fin 512) :
    shapeCast S8192x512 a shapeCasts_S8x1024x512_S8192x512 (ix2 (⟨b.val * 1024 + l.val, by omega⟩ : Fin 8192) k) = a (ix3 b l k) := by
  pointwise

/-- The rotary keys laid out flat, at an index. -/
theorem flat_keys (a : Vec Ideal S8x1024x64 .f32) (b : Fin 8) (l : Fin 1024) (d : Fin 64) :
    shapeCast S8192x64 a shapeCasts_S8x1024x64_S8192x64 (ix2 (⟨b.val * 1024 + l.val, by omega⟩ : Fin 8192) d) = a (ix3 b l d) := by
  pointwise

/-- The plain queries a point reads. -/
theorem read_0 (c : Dev nD) (t : Fin cfg0.N) (b : Fin 8) (j : Fin 32) (hb : b.val = t.val / 32) (hj : j.val = t.val % 32) (p : Fin 1024) (h : Fin 2) (e : Fin 128) :
    iblk m c 0 t (ix2 p (⟨h.val * 128 + e.val, by omega⟩ : Fin 256))
      = m ((c : Thread nD τ).loc main_arg0) (ix4 b p (⟨j.val * 2 + h.val, by omega⟩ : Fin 64) (⟨e.val, by omega⟩ : Fin 192)) := by
  have hi : ((cfg0.win 0).blk t).view.emb (ix2 p (⟨h.val * 128 + e.val, by omega⟩ : Fin 256)) = (ix2 (⟨b.val * 1024 + p.val, by omega⟩ : Fin 8192) (⟨j.val * 256 + (h.val * 128 + e.val), by omega⟩ : Fin 12288) : S8192x12288.Idx) := by
    blk_ext [idx_0 t]
  unfold iblk
  refine (congrArg (V m c main_v44) hi).trans ?_
  rw [entry_q]
  exact flat_plain _ b p j h e

/-- The rotary queries a point reads. -/
theorem read_1 (c : Dev nD) (t : Fin cfg0.N) (b : Fin 8) (j : Fin 32) (hb : b.val = t.val / 32) (hj : j.val = t.val % 32) (p : Fin 1024) (e : Fin 128) :
    iblk m c 1 t (ix2 p e)
      = m ((c : Thread nD τ).loc main_arg0) (ix4 b p (⟨j.val * 2 + e.val / 64, by omega⟩ : Fin 64) (⟨128 + e.val % 64, by omega⟩ : Fin 192)) := by
  have hi : ((cfg0.win 1).blk t).view.emb (ix2 p e) = (ix2 (⟨b.val * 1024 + p.val, by omega⟩ : Fin 8192) (⟨8192 + j.val * 128 + e.val, by omega⟩ : Fin 12288) : S8192x12288.Idx) := by
    blk_ext [idx_1 t]
  unfold iblk
  refine (congrArg (V m c main_v44) hi).trans ?_
  rw [entry_q]
  exact flat_rotary _ b p j e

/-- The latent a point reads. -/
theorem read_2 (c : Dev nD) (t : Fin cfg0.N) (b : Fin 8) (hb : b.val = t.val / 32) (l : Fin 1024) (k : Fin 512) :
    iblk m c 2 t (ix2 l k) = m ((c : Thread nD τ).loc main_arg1) (ix3 b l k) := by
  have hi : ((cfg0.win 2).blk t).view.emb (ix2 l k) = (ix2 (⟨b.val * 1024 + l.val, by omega⟩ : Fin 8192) k : S8192x512.Idx) := by
    blk_ext [idx_2 t]
  unfold iblk
  refine (congrArg (V m c main_v46) hi).trans ?_
  rw [entry_l]
  exact flat_latent _ b l k

/-- The rotary keys a point reads. -/
theorem read_3 (c : Dev nD) (t : Fin cfg0.N) (b : Fin 8) (hb : b.val = t.val / 32) (l : Fin 1024) (e : Fin 128) :
    iblk m c 3 t (ix2 l e) = padded (fun d => m ((c : Thread nD τ).loc main_arg2) (ix3 b l d)) e := by
  have hi : ((cfg0.win 3).blk t).view.emb (ix2 l e) = (ix2 (⟨b.val * 1024 + l.val, by omega⟩ : Fin 8192) e : S8192x128.Idx) := by
    blk_ext [idx_3 t]
  unfold iblk
  refine (congrArg (V m c main_v48) hi).trans ?_
  rw [entry_k]
  refine (pad_flat _ _ e).trans (congrArg (fun x => padded x e) (funext fun d => flat_keys _ b l d))

/-- The expansion's weights a point reads. -/
theorem read_4 (c : Dev nD) (t : Fin cfg0.N) (j : Fin 32) (hj : j.val = t.val % 32) (k : Fin 512) (n : Fin 512) :
    iblk m c 4 t (ix2 k n) = m ((c : Thread nD τ).loc main_arg3) (ix2 k (⟨j.val * 512 + n.val, by omega⟩ : Fin 16384)) := by
  have hi : ((cfg0.win 4).blk t).view.emb (ix2 k n) = (ix2 k (⟨j.val * 512 + n.val, by omega⟩ : Fin 16384) : S512x16384.Idx) := by
    blk_ext [idx_4 t]
  unfold iblk
  refine (congrArg (V m c main_v49) hi).trans ?_
  rw [entry_w]
  rfl

/-- The latent cache a point reads. -/
theorem read_5 (c : Dev nD) (t : Fin cfg0.N) (b : Fin 8) (hb : b.val = t.val / 32) (l : Fin 256) (k : Fin 512) :
    iblk m c 5 t (ix3 (0 : Fin 1) l k) = m ((c : Thread nD τ).loc main_arg4) (ix3 b l k) := by
  have hi : ((cfg0.win 5).blk t).view.emb (ix3 (0 : Fin 1) l k) = (ix3 b l k : S8x256x512.Idx) := by
    blk_ext [idx_5 t]
  unfold iblk
  refine (congrArg (V m c main_arg4) hi).trans ?_
  rw [entry_c]

/-- The context's rotary keys a point reads. -/
theorem read_6 (c : Dev nD) (t : Fin cfg0.N) (b : Fin 8) (hb : b.val = t.val / 32) (l : Fin 256) (e : Fin 128) :
    iblk m c 6 t (ix3 (0 : Fin 1) l e) = padded (fun d => m ((c : Thread nD τ).loc main_arg5) (ix3 b l d)) e := by
  have hi : ((cfg0.win 6).blk t).view.emb (ix3 (0 : Fin 1) l e) = (ix3 b l e : S8x256x128.Idx) := by
    blk_ext [idx_6 t]
  unfold iblk
  refine (congrArg (V m c main_v45) hi).trans ?_
  rw [entry_ck]
  exact pad_batched _ b l e

/-- The cosines a point reads. -/
theorem read_7 (c : Dev nD) (t : Fin cfg0.N) (l : Fin 1024) (e : Fin 128) :
    iblk m c 7 t (ix2 l e) = cosTable (ix2 l (⟨e.val % 64, Nat.mod_lt _ (by decide)⟩ : Fin 64)) := by
  have hi : ((cfg0.win 7).blk t).view.emb (ix2 l e) = (ix2 l e : S1024x128.Idx) := by
    blk_ext [idx_7 t]
  unfold iblk
  refine (congrArg (V m c main_v35) hi).trans ?_
  rw [entry_cos]
  exact table_apply _ l e

/-- The signed sines a point reads. -/
theorem read_8 (c : Dev nD) (t : Fin cfg0.N) (l : Fin 1024) (e : Fin 128) :
    iblk m c 8 t (ix2 l e) = sinTable (ix2 l (⟨e.val % 64, Nat.mod_lt _ (by decide)⟩ : Fin 64)) := by
  have hi : ((cfg0.win 8).blk t).view.emb (ix2 l e) = (ix2 l e : S1024x128.Idx) := by
    blk_ext [idx_8 t]
  unfold iblk
  refine (congrArg (V m c main_v38) hi).trans ?_
  rw [entry_sin]
  exact table_apply _ l e

end Cert.Mla

end
-- ==== Proof.Mla.Array.lean ====
/-
  Hand-written. THE LATENT ATTENTION, THE ARRAY: the element of the result at row `r` and column `c`, from the six arguments.
-/
module

public import proofs.«01_k».proof.Proof.Mla.Entry

@[expose] public section

set_option maxRecDepth 16384

noncomputable section

namespace Cert.Mla

open Idealize.ShloMosaic Idealize.ShloMosaic.TcCoe Idealize.SL.Sem
open Cert.Kernel13Ideal Cert.Kernel13Ideal.Gen
open Cert.Attn (mean)
open Idealize.ShloMosaic.Pipeline (Dat Cfg Window)

variable (m : (ℓ : Loc nD τ sig) → Buf (Elt Ideal) ℓ) (ρ : Dev nD → PrngReg)

theorem idx_9 : ∀ t : Fin cfg0.N, win0_9.index t = ![t.val / 32, t.val % 32] := (by decide +kernel : ∀ t : Fin grid0.N, _)

/-- A row of a table laid out twice side by side. -/
def twice (x : FVec Ideal S1024x64 .f32) (r : Fin 1024) (e : Fin 128) : EReal := x (ix2 r (⟨e.val % 64, Nat.mod_lt _ (by decide)⟩ : Fin 64))

/-- The element of the result for sequence `b`, row `p`, pair `j`, head `h` of the pair and lane `d`. -/
def attend (a0 : Vec Ideal S8x1024x64x192 .f32) (a1 : Vec Ideal S8x1024x512 .f32) (a2 : Vec Ideal S8x1024x64 .f32)
    (a3 : Vec Ideal S512x16384 .f32) (a4 : Vec Ideal S8x256x512 .f32) (a5 : Vec Ideal S8x256x64 .f32)
    (b : Fin 8) (p : Fin 1024) (j : Fin 32) (h : Fin 2) (d : Fin 128) : EReal :=
  mean
    (fun l => scoreL (fun e => a0 (ix4 b p (⟨j.val * 2 + h.val, by omega⟩ : Fin 64) (⟨e.val, by omega⟩ : Fin 192)))
      (fun e => a0 (ix4 b p (⟨j.val * 2 + e.val / 64, by omega⟩ : Fin 64) (⟨128 + e.val % 64, by omega⟩ : Fin 192)))
      (twice cosTable p) (twice sinTable p)
      (fun e => ∑ k : Fin 512, a1 (ix3 b l k) * a3 (ix2 k (⟨j.val * 512 + (h.val * 256 + e.val), by omega⟩ : Fin 16384)))
      (fun e => rot (padded fun d => a2 (ix3 b l d)) (twice cosTable l) (twice sinTable l) (from' h e)))
    (fun l => scoreC (fun e => a0 (ix4 b p (⟨j.val * 2 + h.val, by omega⟩ : Fin 64) (⟨e.val, by omega⟩ : Fin 192)))
      (fun e => a0 (ix4 b p (⟨j.val * 2 + e.val / 64, by omega⟩ : Fin 64) (⟨128 + e.val % 64, by omega⟩ : Fin 192)))
      (fun e => ∑ k : Fin 512, a4 (ix3 b l k) * a3 (ix2 k (⟨j.val * 512 + (h.val * 256 + e.val), by omega⟩ : Fin 16384)))
      (fun e => padded (fun d => a5 (ix3 b l d)) (from' h e)))
    (fun l => ∑ k : Fin 512, a1 (ix3 b l k) * a3 (ix2 k (⟨j.val * 512 + (h.val * 256 + 128 + d.val), by omega⟩ : Fin 16384)))
    (fun l => ∑ k : Fin 512, a4 (ix3 b l k) * a3 (ix2 k (⟨j.val * 512 + (h.val * 256 + 128 + d.val), by omega⟩ : Fin 16384)))

/-- The result as a function of the six arguments. -/
def result (a0 : Vec Ideal S8x1024x64x192 .f32) (a1 : Vec Ideal S8x1024x512 .f32) (a2 : Vec Ideal S8x1024x64 .f32)
    (a3 : Vec Ideal S512x16384 .f32) (a4 : Vec Ideal S8x256x512 .f32) (a5 : Vec Ideal S8x256x64 .f32) : Vec Ideal S8192x8192 .bf16 := fun i =>
  attend a0 a1 a2 a3 a4 a5 (⟨(i 0).val / 1024, Nat.div_lt_of_lt_mul (i 0).isLt⟩) (⟨(i 0).val % 1024, Nat.mod_lt _ (by decide)⟩)
    (⟨(i 1).val / 256, Nat.div_lt_of_lt_mul (i 1).isLt⟩) (⟨(i 1).val % 256 / 128, Nat.div_lt_of_lt_mul (Nat.mod_lt _ (by decide))⟩)
    (⟨(i 1).val % 128, Nat.mod_lt _ (by decide)⟩)

/-- What a point stores, at an index of its block. -/
theorem block_result (c : Dev nD) (t : Fin cfg0.N) (y : S1024x256.Idx) (i : S8192x8192.Idx)
    (h0 : (i 0).val = t.val / 32 * 1024 + (y 0).val) (h1 : (i 1).val = t.val % 32 * 256 + (y 1).val) :
    (dats m 0 c).after 9 t y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hN : t.val < 256 := t.isLt.trans_eq N_0
  have y0 : (y 0).val < 1024 := (y 0).isLt
  have y1 : (y 1).val < 256 := (y 1).isLt
  obtain ⟨b, hb⟩ : ∃ b : Fin 8, b.val = t.val / 32 := ⟨⟨t.val / 32, by omega⟩, rfl⟩
  obtain ⟨j, hj⟩ : ∃ b : Fin 32, b.val = t.val % 32 := ⟨⟨t.val % 32, by omega⟩, rfl⟩
  obtain ⟨p, hp⟩ : ∃ p : Fin 1024, p.val = (y 0).val := ⟨⟨(y 0).val, by omega⟩, rfl⟩
  obtain ⟨h, hh⟩ : ∃ g : Fin 2, g.val = (y 1).val / 128 := ⟨⟨(y 1).val / 128, by omega⟩, rfl⟩
  obtain ⟨d, hd⟩ : ∃ d : Fin 128, d.val = (y 1).val % 128 := ⟨⟨(y 1).val % 128, by omega⟩, rfl⟩
  have er : result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i = attend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p j h d := by
    unfold result
    congr 1 <;> refine Fin.ext ?_ <;> dsimp only <;> omega
  rw [er, after0_9, out_apply m c t y p h d hp.symm (by omega)]
  unfold spec attend
  simp only [read_0 m c t b j hb hj p h, read_1 m c t b j hb hj p, read_2 m c t b hb, read_3 m c t b hb, read_4 m c t j hj, read_5 m c t b hb, read_6 m c t b hb, read_7 m c t, read_8 m c t]
  rfl

/-- The result array after the run. -/
theorem array_eq (c : Dev nD) :
    (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Dat.arrAt_eq_of_covers (dats m 0 c) 9 _ (by decide +kernel) fun t hf y =>
    block_result m c t y _ (by blk_simp [idx_9 t]) (by blk_simp [idx_9 t])

/-- The run of the idealized call: its result is `result` of the six arguments, which end unchanged. -/
theorem run : θ_run (defs (F := Ideal)) (onTc (τ := τ) (main (F := Ideal))) ⟨m, fun _ => 0, ρ⟩ (fun r => ∀ c : Dev nD,
    r.2.mem ((c.tc : Thread nD τ).loc main_v50) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨(h c).1.trans (array_eq m c), (h c).2⟩) (Value.run_blocks m ρ)

end Cert.Mla

end
-- ==== Proof.Mla.Turned.lean ====
/-
  Hand-written. THE LATENT ATTENTION, THE REFERENCE'S TURNED PARTS: the angles, and the rotary parts turned by them, at an index.
-/
module

public import proofs.«01_k».proof.Defs
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Mla

open Idealize.ShloMosaic Idealize.ShloMosaic.TcCoe Idealize.SL.Sem
open Cert.Reference13Ideal Cert.Reference13Ideal.Gen Cert.Reference13Ideal.Read

variable (a0 : Vec Ideal S8x1024x64x192 .f32) (a1 : Vec Ideal S8x1024x512 .f32) (a2 : Vec Ideal S8x1024x64 .f32)
  (a3 : Vec Ideal S512x16384 .f32) (a4 : Vec Ideal S8x256x512 .f32) (a5 : Vec Ideal S8x256x64 .f32)

/-- The frequency of pair `j`: ten thousand to the power of minus j over 16. -/
def freq (j : Fin 16) : EReal :=
  Ideal.pow (Ideal.ofBits .f32 1176256512#32) (Ideal.div (-FloatOps.sitofp (F := Ideal) .f32 (BitVec.ofNat 32 ↑j)) (Ideal.ofBits .f32 1098907648#32))

/-- The angle of the grid row of position `r`. -/
def rowAngle (r : Fin 1024) (j : Fin 16) : EReal := FloatOps.sitofp (F := Ideal) .f32 (BitVec.ofNat 32 (↑r / 64)) * freq j

/-- The angle of the grid column of position `r`. -/
def colAngle (r : Fin 1024) (j : Fin 16) : EReal := FloatOps.sitofp (F := Ideal) .f32 (BitVec.ofNat 32 (↑r % 64)) * freq j

/-- One half of a rotary part, 32 lanes, turned by 16 angles: the first 16 lanes are the pairs' first members. -/
def turn (x : Fin 32 → EReal) (A : Fin 16 → EReal) (e : Fin 32) : EReal :=
  if h : e.val < 16 then x ⟨e.val, by omega⟩ * Ideal.cos (A ⟨e.val, h⟩) - x ⟨16 + e.val, by omega⟩ * Ideal.sin (A ⟨e.val, h⟩)
  else x ⟨16 + (e.val - 16), by omega⟩ * Ideal.cos (A ⟨e.val - 16, by omega⟩) + x ⟨e.val - 16, by omega⟩ * Ideal.sin (A ⟨e.val - 16, by omega⟩)

/-- A rotary part, 64 lanes: its first half turned by the row's angles, its second by the column's. -/
def turned (x : Fin 64 → EReal) (A B : Fin 16 → EReal) (e : Fin 64) : EReal :=
  if h : e.val < 32 then turn (fun d => x ⟨d.val, by omega⟩) A ⟨e.val, h⟩
  else turn (fun d => x ⟨32 + d.val, by omega⟩) B ⟨e.val - 32, by omega⟩

theorem rows_ref (r : Fin 1024) (j : Fin 16) : val_main_v17 (F := Ideal) (ix2 r j) = rowAngle r j := by
  unfold rowAngle freq
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0]

theorem cols_ref (r : Fin 1024) (j : Fin 16) : val_main_v22 (F := Ideal) (ix2 r j) = colAngle r j := by
  unfold colAngle freq
  pointwise [val_main_v3, val_main_v4, val_main_v5, val_main_v6, val_main_v7, val_main_v8, val_main_v9, val_main_v10, val_main_v11, val_main_v12, val_main_v18, val_main_v19, val_main_v20, val_main_v21, val_main_v22, val_main_cst, val_main_cst_0]

/-- The queries' turned rotary parts. -/
theorem q_ref (b : Fin 8) (r : Fin 1024) (h : Fin 64) (e : Fin 64) : val_main_v69 (F := Ideal) a0 (ix4 b r h e)
    = turned (fun d => a0 (ix4 b r h (⟨128 + d.val, by omega⟩ : Fin 192))) (rowAngle r) (colAngle r) e := by
  unfold turned turn
  simp only [← rows_ref, ← cols_ref]
  pointwise [val_main_v23, val_main_v24, val_main_v25, val_main_v26, val_main_v27, val_main_v28, val_main_v29, val_main_v30, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69]

/-- The turned rotary keys, one for all heads. -/
theorem k_ref (b : Fin 8) (r : Fin 1024) (e : Fin 64) : val_main_v109 (F := Ideal) a2 (ix3 b r e)
    = turned (fun d => a2 (ix3 b r d)) (rowAngle r) (colAngle r) e := by
  unfold turned turn
  simp only [← rows_ref, ← cols_ref]
  pointwise [val_main_v23, val_main_v24, val_main_v25, val_main_v26, val_main_v27, val_main_v28, val_main_v29, val_main_v30, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109]

end Cert.Mla

end
-- ==== Proof.Mla.Tables.lean ====
/-
  Hand-written. THE LATENT ATTENTION, THE TABLES: the kernel's rotation by its tables is the reference's turn by its angles.
-/
module

public import proofs.«01_k».proof.Proof.Mla.Array
public import proofs.«01_k».proof.Proof.Mla.Turned

@[expose] public section

set_option maxRecDepth 16384

noncomputable section

namespace Cert.Mla

open Idealize.ShloMosaic
open Cert.Kernel13Ideal Cert.Kernel13Ideal.Gen

theorem rows_apply (r : Fin 1024) (j : Fin 16) : rowAngles (ix2 r j) = rowAngle r j := by
  unfold rowAngles rowAngle freq freqs
  pointwise

theorem cols_apply (r : Fin 1024) (j : Fin 16) : colAngles (ix2 r j) = colAngle r j := by
  unfold colAngles colAngle freq freqs
  pointwise

theorem cos_apply (r : Fin 1024) (j : Fin 64) : cosTable (ix2 r j)
    = if h : j.val < 16 then Ideal.cos (rowAngle r ⟨j.val, h⟩) else if h : j.val - 16 < 16 then Ideal.cos (rowAngle r ⟨j.val - 16, h⟩)
      else if h : j.val - 16 - 16 < 16 then Ideal.cos (colAngle r ⟨j.val - 16 - 16, h⟩) else Ideal.cos (colAngle r ⟨j.val - 16 - 16 - 16, by omega⟩) := by
  simp only [← rows_apply, ← cols_apply]
  unfold cosTable
  pointwise

theorem sin_apply (r : Fin 1024) (j : Fin 64) : sinTable (ix2 r j)
    = if h : j.val < 16 then -Ideal.sin (rowAngle r ⟨j.val, h⟩) else if h : j.val - 16 < 16 then Ideal.sin (rowAngle r ⟨j.val - 16, h⟩)
      else if h : j.val - 16 - 16 < 16 then -Ideal.sin (colAngle r ⟨j.val - 16 - 16, h⟩) else Ideal.sin (colAngle r ⟨j.val - 16 - 16 - 16, by omega⟩) := by
  simp only [← rows_apply, ← cols_apply]
  unfold sinTable
  pointwise

/-- The partner's choice: the lane's bit of 16 is clear in the first half of every 32 lanes. -/
theorem bit_apply : ∀ d : Fin 128, IntOp.cmpi CmpIPredicate.eq (IntOp.andi (BitVec.ofNat 32 ↑d) 16#32) 0#32
    = if d.val % 32 < 16 then 1#1 else 0#1 := by decide +kernel

theorem partner (x : Fin 128 → EReal) (d : Fin 128) :
    Scalar.select (IntOp.cmpi CmpIPredicate.eq (IntOp.andi (BitVec.ofNat 32 ↑d) 16#32) 0#32)
      (x ⟨(↑d + 128 - 112) % 128, Nat.mod_lt _ (by decide)⟩) (x ⟨(↑d + 128 - 16) % 128, Nat.mod_lt _ (by decide)⟩)
    = if h : d.val % 32 < 16 then x ⟨d.val + 16, by omega⟩ else x ⟨d.val - 16, by omega⟩ := by
  have hd := d.isLt
  rw [bit_apply]
  by_cases h : d.val % 32 < 16
  · rw [if_pos h, dif_pos h]
    exact congrArg x (Fin.ext (by show (d.val + 128 - 112) % 128 = d.val + 16; omega))
  · rw [if_neg h, dif_neg h]
    exact congrArg x (Fin.ext (by show (d.val + 128 - 16) % 128 = d.val - 16; omega))

/-- The kernel's rotation by its tables' row `r` turns each half of the 128 lanes by the angles of position `r`. -/
theorem rot_eq (x : Fin 128 → EReal) (r : Fin 1024) (e : Fin 128) :
    rot x (twice cosTable r) (twice sinTable r) e
      = turned (fun d => x ⟨e.val / 64 * 64 + d.val, by omega⟩) (rowAngle r) (colAngle r) (⟨e.val % 64, Nat.mod_lt _ (by decide)⟩ : Fin 64) := by
  have he := e.isLt
  unfold rot twice
  rw [partner, cos_apply, sin_apply]
  unfold turned turn
  dsimp only
  by_cases h1 : e.val % 64 < 16
  · simp only [dif_pos h1, dif_pos (show e.val % 32 < 16 by omega), dif_pos (show e.val % 64 < 32 by omega), mul_neg, sub_eq_add_neg]
    refine congrArg₂ (· + ·) (congrArg₂ (· * ·) (congrArg x (Fin.ext ?_)) rfl) (congrArg Neg.neg (congrArg₂ (· * ·) (congrArg x (Fin.ext ?_)) rfl))
    · show e.val = e.val / 64 * 64 + e.val % 64
      omega
    · show e.val + 16 = e.val / 64 * 64 + (16 + e.val % 64)
      omega
  by_cases h2 : e.val % 64 < 32
  · simp only [dif_neg h1, dif_neg (show ¬ e.val % 32 < 16 by omega), dif_pos h2, dif_pos (show e.val % 64 - 16 < 16 by omega)]
    refine congrArg₂ (· + ·) (congrArg₂ (· * ·) (congrArg x (Fin.ext ?_)) rfl) (congrArg₂ (· * ·) (congrArg x (Fin.ext ?_)) rfl)
    · show e.val = e.val / 64 * 64 + (16 + (e.val % 64 - 16))
      omega
    · show e.val - 16 = e.val / 64 * 64 + (e.val % 64 - 16)
      omega
  by_cases h3 : e.val % 64 < 48
  · have ka : (⟨e.val % 64 - 16 - 16, by omega⟩ : Fin 16) = ⟨e.val % 64 - 32, by omega⟩ := Fin.ext (by show e.val % 64 - 16 - 16 = e.val % 64 - 32; omega)
    simp only [dif_neg h1, dif_pos (show e.val % 32 < 16 by omega), dif_neg h2, dif_neg (show ¬ e.val % 64 - 16 < 16 by omega), dif_pos (show e.val % 64 - 16 - 16 < 16 by omega), dif_pos (show e.val % 64 - 32 < 16 by omega), mul_neg, sub_eq_add_neg, ka]
    refine congrArg₂ (· + ·) (congrArg₂ (· * ·) (congrArg x (Fin.ext ?_)) rfl) (congrArg Neg.neg (congrArg₂ (· * ·) (congrArg x (Fin.ext ?_)) rfl))
    · show e.val = e.val / 64 * 64 + (32 + (e.val % 64 - 32))
      omega
    · show e.val + 16 = e.val / 64 * 64 + (32 + (16 + (e.val % 64 - 32)))
      omega
  · have ka : (⟨e.val % 64 - 16 - 16 - 16, by omega⟩ : Fin 16) = ⟨e.val % 64 - 32 - 16, by omega⟩ := Fin.ext (by show e.val % 64 - 16 - 16 - 16 = e.val % 64 - 32 - 16; omega)
    simp only [dif_neg h1, dif_neg (show ¬ e.val % 32 < 16 by omega), dif_neg h2, dif_neg (show ¬ e.val % 64 - 16 < 16 by omega), dif_neg (show ¬ e.val % 64 - 16 - 16 < 16 by omega), dif_neg (show ¬ e.val % 64 - 32 < 16 by omega), ka]
    refine congrArg₂ (· + ·) (congrArg₂ (· * ·) (congrArg x (Fin.ext ?_)) rfl) (congrArg₂ (· * ·) (congrArg x (Fin.ext ?_)) rfl)
    · show e.val = e.val / 64 * 64 + (32 + (16 + (e.val % 64 - 32 - 16)))
      omega
    · show e.val - 16 = e.val / 64 * 64 + (32 + (e.val % 64 - 32 - 16))
      omega

/-- The turn of zero lanes is zero. -/
theorem turned_zero (A B : Fin 16 → EReal) (e : Fin 64) : turned (fun _ => 0) A B e = 0 := by
  unfold turned turn
  split <;> split <;> simp

/-- On the half of the lanes of head `h` of a pair, the pair's rotary queries are the head's own. -/
theorem query_own (y : Fin 2 → Fin 64 → EReal) (s : EReal) (r : Fin 1024) (h : Fin 2) (d : Fin 64) :
    rot (fun e => y (⟨e.val / 64, by omega⟩ : Fin 2) (⟨e.val % 64, by omega⟩ : Fin 64) * s) (twice cosTable r) (twice sinTable r) (⟨h.val * 64 + d.val, by omega⟩ : Fin 128)
      = turned (fun d => y h d * s) (rowAngle r) (colAngle r) d := by
  have hd := d.isLt
  rw [rot_eq]
  dsimp only
  have e1 : (⟨(h.val * 64 + d.val) % 64, Nat.mod_lt _ (by decide)⟩ : Fin 64) = d := Fin.ext (by show (h.val * 64 + d.val) % 64 = d.val; omega)
  rw [e1]
  refine congrArg (fun x => turned x (rowAngle r) (colAngle r) d) (funext fun f => congrArg (· * s) (congrArg₂ y (Fin.ext ?_) (Fin.ext ?_)))
  · show ((h.val * 64 + d.val) / 64 * 64 + f.val) / 64 = h.val
    omega
  · show ((h.val * 64 + d.val) / 64 * 64 + f.val) % 64 = f.val
    omega

/-- On the half of the lanes of head `h`, the rolled rotary keys are the keys. -/
theorem padded_own (x : Fin 64 → EReal) (h : Fin 2) (d : Fin 64) : padded x (from' h (⟨h.val * 64 + d.val, by omega⟩ : Fin 128)) = x d := by
  have hd := d.isLt
  have hh := h.isLt
  unfold padded
  rw [dif_pos (by show (h.val * 64 + d.val + 128 - 64 * h.val) % 128 < 64; omega)]
  exact congrArg x (Fin.ext (by show (h.val * 64 + d.val + 128 - 64 * h.val) % 128 = d.val; omega))

/-- On the other half they are zero. -/
theorem padded_other (x : Fin 64 → EReal) (h : Fin 2) (e : Fin 128) (he : e.val / 64 ≠ h.val) : padded x (from' h e) = 0 := by
  have hh := h.isLt
  have hl := e.isLt
  unfold padded
  rw [dif_neg (by show ¬ (e.val + 128 - 64 * h.val) % 128 < 64; omega)]

/-- On the half of the lanes of head `h`, the turned and rolled rotary keys are the turned keys. -/
theorem key_own (x : Fin 64 → EReal) (r : Fin 1024) (h : Fin 2) (d : Fin 64) :
    rot (padded x) (twice cosTable r) (twice sinTable r) (from' h (⟨h.val * 64 + d.val, by omega⟩ : Fin 128))
      = turned x (rowAngle r) (colAngle r) d := by
  have hd := d.isLt
  have hh := h.isLt
  rw [show from' h (⟨h.val * 64 + d.val, by omega⟩ : Fin 128) = (⟨d.val, by omega⟩ : Fin 128) from Fin.ext (by show (h.val * 64 + d.val + 128 - 64 * h.val) % 128 = d.val; omega), rot_eq]
  dsimp only
  rw [show (⟨d.val % 64, Nat.mod_lt _ (by decide)⟩ : Fin 64) = d from Fin.ext (by show d.val % 64 = d.val; omega)]
  refine congrArg (fun x => turned x (rowAngle r) (colAngle r) d) (funext fun f => ?_)
  have hf := f.isLt
  unfold padded
  rw [dif_pos (by show d.val / 64 * 64 + f.val < 64; omega)]
  exact congrArg x (Fin.ext (by show d.val / 64 * 64 + f.val = f.val; omega))

/-- On the other half they are zero. -/
theorem key_other (x : Fin 64 → EReal) (r : Fin 1024) (h : Fin 2) (e : Fin 128) (he : e.val / 64 ≠ h.val) :
    rot (padded x) (twice cosTable r) (twice sinTable r) (from' h e) = 0 := by
  have hh := h.isLt
  have hl := e.isLt
  have hv : (from' h e).val = (e.val + 128 - 64 * h.val) % 128 := rfl
  rw [rot_eq]
  refine (congrArg (fun x => turned x (rowAngle r) (colAngle r) _) (funext fun f => ?_)).trans (turned_zero _ _ _)
  unfold padded
  rw [dif_neg (by show ¬ (from' h e).val / 64 * 64 + f.val < 64; omega)]

/-- A sum over a pair's lanes whose terms vanish off the half of head `h` is the sum over that half. -/
theorem half_sum (h : Fin 2) (F : Fin 128 → EReal) (G : Fin 64 → EReal) (h1 : ∀ d : Fin 64, F ⟨h.val * 64 + d.val, by omega⟩ = G d)
    (h0 : ∀ e : Fin 128, e.val / 64 ≠ h.val → F e = 0) : ∑ e, F e = ∑ d, G d := by
  have hh := h.isLt
  refine (Fin.sum_univ_add (a := 64) (b := 64) (F : Fin (64 + 64) → EReal)).trans ?_
  by_cases hc : h.val = 0
  · have z : ∑ d : Fin 64, F (Fin.natAdd 64 d) = 0 := Finset.sum_eq_zero fun d _ => h0 _ (by show (64 + d.val) / 64 ≠ h.val; omega)
    refine (congrArg₂ (· + ·) (Finset.sum_congr rfl fun d _ => ?_) z).trans (add_zero _)
    exact (congrArg F (Fin.ext (by show d.val = h.val * 64 + d.val; omega))).trans (h1 d)
  · have z : ∑ d : Fin 64, F (Fin.castAdd 64 d) = 0 := Finset.sum_eq_zero fun d _ => h0 _ (by show d.val / 64 ≠ h.val; omega)
    refine (congrArg₂ (· + ·) z (Finset.sum_congr rfl fun d _ => ?_)).trans (zero_add _)
    exact (congrArg F (Fin.ext (by show 64 + d.val = h.val * 64 + d.val; omega))).trans (h1 d)

end Cert.Mla

end
-- ==== Proof.Mla.Reference.lean ====
/-
  Hand-written. THE LATENT ATTENTION, THE REFERENCE: its scores, weights and result at an index.
-/
module

public import proofs.«01_k».proof.Defs
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit.Point
public import proofs.«01_k».proof.Proof.Attn.Reference
public import Idealize.ShloMosaic.Lib.ValueIdx
public import Idealize.ShloMosaic.PureOps.Ideal.Laws

@[expose] public section

set_option maxRecDepth 16384

noncomputable section

namespace Cert.Mla

open Idealize.ShloMosaic Idealize.ShloMosaic.TcCoe Idealize.SL.Sem
open Cert.Reference13Ideal Cert.Reference13Ideal.Gen Cert.Reference13Ideal.Read

variable (a0 : Vec Ideal S8x1024x64x192 .f32) (a1 : Vec Ideal S8x1024x512 .f32) (a2 : Vec Ideal S8x1024x64 .f32)
  (a3 : Vec Ideal S512x16384 .f32) (a4 : Vec Ideal S8x256x512 .f32) (a5 : Vec Ideal S8x256x64 .f32)

/-- The reference's scale: 192 to the power of minus a half. -/
abbrev scaleWord : EReal := Ideal.pow (Ideal.ofBits .f32 1128267776#32) (Ideal.ofBits .f32 3204448256#32)

/-- A query: the plain part, then the turned rotary part. -/
theorem query_ref (b : Fin 8) (r : Fin 1024) (h : Fin 64) (x : Fin 192) : val_main_v70 (F := Ideal) a0 (ix4 b r h x)
    = if hx : x.val < 128 then a0 (ix4 b r h (⟨x.val, by omega⟩ : Fin 192)) else val_main_v69 (F := Ideal) a0 (ix4 b r h (⟨x.val - 128, by omega⟩ : Fin 64)) := by
  pointwise [val_main_v31, val_main_v70]

/-- A key: the expanded part, then the turned rotary part. -/
theorem key_ref (b : Fin 8) (l : Fin 1024) (h : Fin 64) (x : Fin 192) : val_main_v115 (F := Ideal) a1 a2 a3 (ix4 b l h x)
    = if hx : x.val < 128 then ∑ k : Fin 512, a1 (ix3 b l k) * a3 (ix2 k (⟨h.val * 256 + x.val, by omega⟩ : Fin 16384))
      else val_main_v109 (F := Ideal) a2 (ix3 b l (⟨x.val - 128, by omega⟩ : Fin 64)) := by
  pointwise [val_main_v110, val_main_v111, val_main_v112, val_main_v113, val_main_v114, val_main_v115]

/-- A context key: the expanded part, then the rotary part as the cache holds it. -/
theorem ckey_ref (b : Fin 8) (l : Fin 256) (h : Fin 64) (x : Fin 192) : val_main_v122 (F := Ideal) a3 a4 a5 (ix4 b l h x)
    = if hx : x.val < 128 then ∑ k : Fin 512, a4 (ix3 b l k) * a3 (ix2 k (⟨h.val * 256 + x.val, by omega⟩ : Fin 16384))
      else a5 (ix3 b l (⟨x.val - 128, by omega⟩ : Fin 64)) := by
  pointwise [val_main_v117, val_main_v118, val_main_v119, val_main_v120, val_main_v121, val_main_v122]

/-- A value. -/
theorem value_ref (b : Fin 8) (l : Fin 1024) (h : Fin 64) (d : Fin 128) : val_main_v116 (F := Ideal) a1 a3 (ix4 b l h d)
    = ∑ k : Fin 512, a1 (ix3 b l k) * a3 (ix2 k (⟨h.val * 256 + (128 + d.val), by omega⟩ : Fin 16384)) := by
  pointwise [val_main_v110, val_main_v111, val_main_v116]

/-- A context value. -/
theorem cvalue_ref (b : Fin 8) (l : Fin 256) (h : Fin 64) (d : Fin 128) : val_main_v123 (F := Ideal) a3 a4 (ix4 b l h d)
    = ∑ k : Fin 512, a4 (ix3 b l k) * a3 (ix2 k (⟨h.val * 256 + (128 + d.val), by omega⟩ : Fin 16384)) := by
  pointwise [val_main_v117, val_main_v118, val_main_v123]

/-- The scores of a query against the sequence's keys. -/
theorem local_ref (b : Fin 8) (h : Fin 64) (r : Fin 1024) (l : Fin 1024) : val_main_v130 (F := Ideal) a0 a1 a2 a3 (ix5 b h (0 : Fin 1) r l)
    = (∑ x, val_main_v115 (F := Ideal) a1 a2 a3 (ix4 b l h x) * val_main_v70 (F := Ideal) a0 (ix4 b r h x)) * scaleWord := by
  pointwise [val_main_v124, val_main_cst_1, val_main_cst_2, val_main_v126, val_main_v127, val_main_v128, val_main_v129, val_main_v130]

/-- The scores of a query against the context's keys. -/
theorem context_ref (b : Fin 8) (h : Fin 64) (r : Fin 1024) (l : Fin 256) : val_main_v134 (F := Ideal) a0 a3 a4 a5 (ix5 b h (0 : Fin 1) r l)
    = (∑ x, val_main_v122 (F := Ideal) a3 a4 a5 (ix4 b l h x) * a0 (ix4 b r h x)) * scaleWord := by
  pointwise [val_main_v125, val_main_cst_1, val_main_cst_2, val_main_v126, val_main_v131, val_main_v132, val_main_v133, val_main_v134]

/-- The scores side by side. -/
theorem scores_ref (b : Fin 8) (h : Fin 64) (r : Fin 1024) (l : Fin 1280) : val_main_v135 (F := Ideal) a0 a1 a2 a3 a4 a5 (ix5 b h (0 : Fin 1) r l)
    = if hl : l.val < 1024 then val_main_v130 (F := Ideal) a0 a1 a2 a3 (ix5 b h (0 : Fin 1) r (⟨l.val, hl⟩ : Fin 1024))
      else val_main_v134 (F := Ideal) a0 a3 a4 a5 (ix5 b h (0 : Fin 1) r (⟨l.val - 1024, by omega⟩ : Fin 256)) := by
  pointwise [val_main_v135]

/-- The maximum starts from minus infinity's word. -/
theorem first_ref : val_main_cst_3 (F := Ideal) (Shape.Idx.first h_S_) = Ideal.ofBits FTy.f32 4286578688#32 := rfl

/-- The coordinate put back at the end of an index. -/
theorem lift_ref (hr : S8x64x1x1024x1280.Reduces [4] S8x64x1x1024) (b : Fin 8) (h : Fin 64) (r : Fin 1024) (k : Fin 1280) :
    (hr.lift (ix4 b h (0 : Fin 1) r) k : S8x64x1x1024x1280.Idx) = ix5 b h (0 : Fin 1) r k :=
  funext fun a => Fin.ext (by match a with | ⟨0, _⟩ => rfl | ⟨1, _⟩ => rfl | ⟨2, _⟩ => rfl | ⟨3, _⟩ => rfl | ⟨4, _⟩ => rfl)

/-- The row's greatest score, as a fold. -/
theorem fold_ref (b : Fin 8) (h : Fin 64) (r : Fin 1024) (hr : S8x64x1x1024x1280.Reduces [4] S8x64x1x1024) : val_main_v136 (F := Ideal) a0 a1 a2 a3 a4 a5 (ix4 b h (0 : Fin 1) r)
    = (Finset.univ : Finset (Fin (S8x64x1x1024x1280.size 4))).fold max (val_main_cst_3 (F := Ideal) (Shape.Idx.first h_S_)) (fun k => val_main_v135 (F := Ideal) a0 a1 a2 a3 a4 a5 (hr.lift (ix4 b h (0 : Fin 1) r) k)) := by
  unfold val_main_v136
  generalize val_main_v135 (F := Ideal) a0 a1 a2 a3 a4 a5 = y
  exact Cert.Attn.reduce_max _ _ _ hr _ _

/-- The row's greatest score. -/
theorem top_ref (b : Fin 8) (h : Fin 64) (r : Fin 1024) : val_main_v138 (F := Ideal) a0 a1 a2 a3 a4 a5 (ix4 b h (0 : Fin 1) r)
    = max (Ideal.ofBits FTy.f32 4286578688#32) (val_main_v136 (F := Ideal) a0 a1 a2 a3 a4 a5 (ix4 b h (0 : Fin 1) r)) := by
  rw [val_main_v138_apply]
  generalize val_main_v136 (F := Ideal) a0 a1 a2 a3 a4 a5 (ix4 b h (0 : Fin 1) r) = y
  rw [val_main_v137_apply]
  rfl

/-- A score's exponential. -/
theorem exp_ref (b : Fin 8) (h : Fin 64) (r : Fin 1024) (l : Fin 1280) : val_main_v142 (F := Ideal) a0 a1 a2 a3 a4 a5 (ix5 b h (0 : Fin 1) r l)
    = Ideal.exp (val_main_v135 (F := Ideal) a0 a1 a2 a3 a4 a5 (ix5 b h (0 : Fin 1) r l) - val_main_v138 (F := Ideal) a0 a1 a2 a3 a4 a5 (ix4 b h (0 : Fin 1) r)) := by
  pointwise [val_main_v139, val_main_v140, val_main_v141, val_main_v142]

/-- The sum of a row's exponentials. -/
theorem sum_ref (b : Fin 8) (h : Fin 64) (r : Fin 1024) : val_main_v143 (F := Ideal) a0 a1 a2 a3 a4 a5 (ix4 b h (0 : Fin 1) r)
    = ∑ x : Fin 1280, val_main_v142 (F := Ideal) a0 a1 a2 a3 a4 a5 (ix5 b h (0 : Fin 1) r x) := by
  pointwise [val_main_v143, val_main_cst_5]

/-- A score's weight. -/
theorem weights_ref (b : Fin 8) (h : Fin 64) (r : Fin 1024) (l : Fin 1280) : val_main_v146 (F := Ideal) a0 a1 a2 a3 a4 a5 (ix5 b h (0 : Fin 1) r l)
   = Ideal.div (val_main_v142 (F := Ideal) a0 a1 a2 a3 a4 a5 (ix5 b h (0 : Fin 1) r l)) (val_main_v143 (F := Ideal) a0 a1 a2 a3 a4 a5 (ix4 b h (0 : Fin 1) r)) := by
  pointwise [val_main_v144, val_main_v145, val_main_v146]

theorem idx_lt0 (i : S8192x8192.Idx) : (i 0).val < 8192 := (i 0).isLt
theorem idx_lt1 (i : S8192x8192.Idx) : (i 1).val < 8192 := (i 1).isLt

/-- The reference's result: the weighted sum of the sequence's values and that of the context's. -/
theorem out_ref (i : S8192x8192.Idx) : val_main_v155 (F := Ideal) a0 a1 a2 a3 a4 a5 i
    = ∑ x : Fin 1024, val_main_v116 (F := Ideal) a1 a3 (ix4 (⟨(i 0).val / 1024, by have := idx_lt0 i; omega⟩ : Fin 8) x (⟨(i 1).val / 128, by have := idx_lt1 i; omega⟩ : Fin 64) (⟨(i 1).val % 128, by omega⟩ : Fin 128))
          * val_main_v146 (F := Ideal) a0 a1 a2 a3 a4 a5 (ix5 (⟨(i 0).val / 1024, by have := idx_lt0 i; omega⟩ : Fin 8) (⟨(i 1).val / 128, by have := idx_lt1 i; omega⟩ : Fin 64) (0 : Fin 1) (⟨(i 0).val % 1024, by omega⟩ : Fin 1024) (⟨x.val, by omega⟩ : Fin 1280))
      + ∑ x : Fin 256, val_main_v123 (F := Ideal) a3 a4 (ix4 (⟨(i 0).val / 1024, by have := idx_lt0 i; omega⟩ : Fin 8) x (⟨(i 1).val / 128, by have := idx_lt1 i; omega⟩ : Fin 64) (⟨(i 1).val % 128, by omega⟩ : Fin 128))
          * val_main_v146 (F := Ideal) a0 a1 a2 a3 a4 a5 (ix5 (⟨(i 0).val / 1024, by have := idx_lt0 i; omega⟩ : Fin 8) (⟨(i 1).val / 128, by have := idx_lt1 i; omega⟩ : Fin 64) (0 : Fin 1) (⟨(i 0).val % 1024, by omega⟩ : Fin 1024) (⟨1024 + x.val, by omega⟩ : Fin 1280)) := by
  pointwise [val_main_v147, val_main_v148, val_main_v149, val_main_v150, val_main_v151, val_main_v152, val_main_v153, val_main_v154, val_main_v155]

end Cert.Mla

end
-- ==== Proof.Mla.Equation.lean ====
/-
  Hand-written. THE LATENT ATTENTION, THE EQUATION: over finite arguments the kernel's result is the reference's.
-/
module

public import proofs.«01_k».proof.Proof.Attn.Equation
public import proofs.«01_k».proof.Proof.Mla.Tables
public import proofs.«01_k».proof.Proof.Mla.Reference

@[expose] public section

set_option maxRecDepth 16384

noncomputable section

namespace Cert.Mla

open Idealize.ShloMosaic Idealize.ShloMosaic.TcCoe Idealize.SL.Sem
open Cert.Reference13Ideal (S8x1024x64x192 S8x1024x512 S8x1024x64 S512x16384 S8x256x512 S8x256x64 S8192x8192 S8x64x1x1024x1280 S8x64x1x1024)
open Cert.Reference13Ideal.Read
open Cert.Attn (mean sum_coe div_coe neg_inf fold_real mean_real weighted_real real_of_olt)

/-- The scale, 1/sqrt(192). -/
def scale : ℝ := (Real.sqrt 192)⁻¹

/-- The reference's scale, 192 to the power of minus a half. -/
theorem scale_word : scaleWord = (scale : EReal) := by
  have h1 : Ideal.ofBits .f32 1128267776#32 = ((192 : ℝ) : EReal) := by
    simp [Ideal.ofBits, Ideal.ieee]
    rw [← EReal.coe_mul]
    norm_num
  have h2 : Ideal.ofBits .f32 3204448256#32 = ((-(1 / 2) : ℝ) : EReal) := by
    simp [Ideal.ofBits, Ideal.ieee]
    rw [← EReal.coe_mul]
    norm_num
  have h3 : Ideal.pow ((192 : ℝ) : EReal) ((-(1 / 2) : ℝ) : EReal) = (((192 : ℝ) ^ (-(1 / 2) : ℝ) : ℝ) : EReal) := rfl
  show Ideal.pow (Ideal.ofBits .f32 1128267776#32) (Ideal.ofBits .f32 3204448256#32) = _
  rw [h1, h2, h3, Real.rpow_neg (by norm_num), ← Real.sqrt_eq_rpow]
  rfl

/-- The kernel's scale, by its name. -/
theorem qscale_eq : qscale = ((scale * (Real.log 2)⁻¹ : ℝ) : EReal) :=
  IdealRules.named_const.ideal_named_scalar _ _ _ _ rfl

/-- The frequencies are real. -/
theorem freq_real (j : Fin 16) : ∃ f : ℝ, freq j = f := by
  have h1 : Ideal.ofBits .f32 1176256512#32 = ((10000 : ℝ) : EReal) := by
    simp [Ideal.ofBits, Ideal.ieee]
    rw [← EReal.coe_mul]
    norm_num
  have h2 : Ideal.ofBits .f32 1098907648#32 = ((16 : ℝ) : EReal) := by
    simp [Ideal.ofBits, Ideal.ieee]
    rw [← EReal.coe_mul]
    norm_num
  have h3 : FloatOps.sitofp (F := Ideal) .f32 (BitVec.ofNat 32 ↑j) = (((BitVec.ofNat 32 ↑j).toInt : ℝ) : EReal) := rfl
  refine ⟨Real.rpow 10000 (-((BitVec.ofNat 32 ↑j).toInt : ℝ) / 16), ?_⟩
  unfold freq
  rw [h1, h2, h3, ← EReal.coe_neg, div_coe _ _ (by norm_num)]
  rfl

theorem row_real (r : Fin 1024) : ∃ A : Fin 16 → ℝ, ∀ j, rowAngle r j = A j := by
  choose f hf using freq_real
  refine ⟨fun j => ((BitVec.ofNat 32 (r.val / 64)).toInt : ℝ) * f j, fun j => ?_⟩
  unfold rowAngle
  rw [hf j, EReal.coe_mul]
  rfl

theorem col_real (r : Fin 1024) : ∃ A : Fin 16 → ℝ, ∀ j, colAngle r j = A j := by
  choose f hf using freq_real
  refine ⟨fun j => ((BitVec.ofNat 32 (r.val % 64)).toInt : ℝ) * f j, fun j => ?_⟩
  unfold colAngle
  rw [hf j, EReal.coe_mul]
  rfl

/-- The turn of 32 real lanes by real angles. -/
def turnReal (x : Fin 32 → ℝ) (A : Fin 16 → ℝ) (e : Fin 32) : ℝ :=
  if h : e.val < 16 then x ⟨e.val, by omega⟩ * Real.cos (A ⟨e.val, h⟩) - x ⟨16 + e.val, by omega⟩ * Real.sin (A ⟨e.val, h⟩)
  else x ⟨16 + (e.val - 16), by omega⟩ * Real.cos (A ⟨e.val - 16, by omega⟩) + x ⟨e.val - 16, by omega⟩ * Real.sin (A ⟨e.val - 16, by omega⟩)

theorem turn_coe (x : Fin 32 → ℝ) (A : Fin 16 → ℝ) (e : Fin 32) :
    turn (fun d => (x d : EReal)) (fun j => (A j : EReal)) e = (turnReal x A e : EReal) := by
  have hc : ∀ t : ℝ, Ideal.cos (t : EReal) = (Real.cos t : EReal) := fun t => rfl
  have hs : ∀ t : ℝ, Ideal.sin (t : EReal) = (Real.sin t : EReal) := fun t => rfl
  unfold turn turnReal
  split <;> simp only [hc, hs, EReal.coe_mul, EReal.coe_add, EReal.coe_sub]

theorem turn_scale (x : Fin 32 → ℝ) (A : Fin 16 → ℝ) (s : ℝ) (e : Fin 32) : turnReal (fun d => x d * s) A e = turnReal x A e * s := by
  unfold turnReal
  split <;> ring

/-- A turned rotary part of real lanes is real, and scales with the part. -/
theorem turned_real (r : Fin 1024) : ∃ T : (Fin 64 → ℝ) → Fin 64 → ℝ,
    (∀ x e, turned (fun d => (x d : EReal)) (rowAngle r) (colAngle r) e = (T x e : EReal)) ∧ ∀ x s e, T (fun d => x d * s) e = T x e * s := by
  obtain ⟨A, hA⟩ := row_real r
  obtain ⟨B, hB⟩ := col_real r
  refine ⟨fun x e => if h : e.val < 32 then turnReal (fun d => x ⟨d.val, by omega⟩) A ⟨e.val, h⟩ else turnReal (fun d => x ⟨32 + d.val, by omega⟩) B ⟨e.val - 32, by omega⟩, fun x e => ?_, fun x s e => ?_⟩
  · rw [funext hA, funext hB]
    unfold turned
    dsimp only
    split
    · exact turn_coe (fun d : Fin 32 => x ⟨d.val, by omega⟩) A _
    · exact turn_coe (fun d : Fin 32 => x ⟨32 + d.val, by omega⟩) B _
  · dsimp only
    split
    · exact turn_scale (fun d : Fin 32 => x ⟨d.val, by omega⟩) A s _
    · exact turn_scale (fun d : Fin 32 => x ⟨32 + d.val, by omega⟩) B s _

/-- A sum over a head's 192 lanes: the plain lanes', then the rotary lanes'. -/
theorem lanes_split (F : Fin 192 → EReal) : ∑ x, F x = ∑ e : Fin 128, F ⟨e.val, by omega⟩ + ∑ d : Fin 64, F ⟨128 + d.val, by omega⟩ :=
  Fin.sum_univ_add (a := 128) (b := 64) (F : Fin (128 + 64) → EReal)

section Real

variable (a0 : S8x1024x64x192.Idx → ℝ) (a1 : S8x1024x512.Idx → ℝ) (a2 : S8x1024x64.Idx → ℝ)
  (a3 : S512x16384.Idx → ℝ) (a4 : S8x256x512.Idx → ℝ) (a5 : S8x256x64.Idx → ℝ) (T : Fin 1024 → (Fin 64 → ℝ) → Fin 64 → ℝ)

/-- A plain query lane, a rotary query lane, an expanded key or value column of a latent row, in exact real numbers. -/
def plainQ (b : Fin 8) (p : Fin 1024) (H : Fin 64) (e : Fin 128) : ℝ := a0 (ix4 b p H (⟨e.val, by omega⟩ : Fin 192))
def rotaryQ (b : Fin 8) (p : Fin 1024) (H : Fin 64) (d : Fin 64) : ℝ := a0 (ix4 b p H (⟨128 + d.val, by omega⟩ : Fin 192))
def column (b : Fin 8) (l : Fin 1024) (n : Fin 16384) : ℝ := ∑ k : Fin 512, a1 (ix3 b l k) * a3 (ix2 k n)
def columnC (b : Fin 8) (l : Fin 256) (n : Fin 16384) : ℝ := ∑ k : Fin 512, a4 (ix3 b l k) * a3 (ix2 k n)

/-- A query's scaled product with a latent key, in exact real numbers. -/
def prodL (b : Fin 8) (p : Fin 1024) (H : Fin 64) (l : Fin 1024) : ℝ :=
  (∑ e : Fin 128, column a1 a3 b l (⟨H.val * 256 + e.val, by omega⟩ : Fin 16384) * plainQ a0 b p H e
    + ∑ d : Fin 64, T l (fun f => a2 (ix3 b l f)) d * T p (rotaryQ a0 b p H) d) * scale

/-- A query's scaled product with a context key, in exact real numbers. -/
def prodC (b : Fin 8) (p : Fin 1024) (H : Fin 64) (l : Fin 256) : ℝ :=
  (∑ e : Fin 128, columnC a3 a4 b l (⟨H.val * 256 + e.val, by omega⟩ : Fin 16384) * plainQ a0 b p H e
    + ∑ d : Fin 64, a5 (ix3 b l d) * rotaryQ a0 b p H d) * scale

variable (hT : ∀ r x e, turned (fun d => (x d : EReal)) (rowAngle r) (colAngle r) e = (T r x e : EReal)) (hTs : ∀ r x s e, T r (fun d => x d * s) e = T r x e * s)

include hT in
/-- The reference's score against a latent key. -/
theorem local_real (b : Fin 8) (p : Fin 1024) (H : Fin 64) (l : Fin 1024) :
    val_main_v130 (F := Ideal) (fun i => (a0 i : EReal)) (fun i => (a1 i : EReal)) (fun i => (a2 i : EReal)) (fun i => (a3 i : EReal)) (ix5 b H (0 : Fin 1) p l)
      = (prodL a0 a1 a2 a3 T b p H l : EReal) := by
  have hk : ∀ e : Fin 128, val_main_v115 (F := Ideal) (fun i => (a1 i : EReal)) (fun i => (a2 i : EReal)) (fun i => (a3 i : EReal)) (ix4 b l H (⟨e.val, by omega⟩ : Fin 192))
      = (column a1 a3 b l (⟨H.val * 256 + e.val, by omega⟩ : Fin 16384) : EReal) := fun e => by
    rw [key_ref, dif_pos (by exact e.isLt)]
    simp only [← EReal.coe_mul, sum_coe]
    rfl
  have hr : ∀ d : Fin 64, val_main_v115 (F := Ideal) (fun i => (a1 i : EReal)) (fun i => (a2 i : EReal)) (fun i => (a3 i : EReal)) (ix4 b l H (⟨128 + d.val, by omega⟩ : Fin 192))
      = (T l (fun f => a2 (ix3 b l f)) d : EReal) := fun d => by
    rw [key_ref, dif_neg (by show ¬ 128 + d.val < 128; omega), k_ref, hT]
    exact congrArg (fun n => (T l (fun f => a2 (ix3 b l f)) n : EReal)) (Fin.ext (by show 128 + d.val - 128 = d.val; omega))
  have hq : ∀ e : Fin 128, val_main_v70 (F := Ideal) (fun i => (a0 i : EReal)) (ix4 b p H (⟨e.val, by omega⟩ : Fin 192)) = (plainQ a0 b p H e : EReal) := fun e => by
    rw [query_ref, dif_pos (by exact e.isLt)]
    rfl
  have hs : ∀ d : Fin 64, val_main_v70 (F := Ideal) (fun i => (a0 i : EReal)) (ix4 b p H (⟨128 + d.val, by omega⟩ : Fin 192)) = (T p (rotaryQ a0 b p H) d : EReal) := fun d => by
    rw [query_ref, dif_neg (by show ¬ 128 + d.val < 128; omega), q_ref]
    refine (hT p (rotaryQ a0 b p H) _).trans ?_
    exact congrArg (fun n => (T p (rotaryQ a0 b p H) n : EReal)) (Fin.ext (by show 128 + d.val - 128 = d.val; omega))
  rw [local_ref, scale_word, lanes_split]
  simp only [hk, hr, hq, hs, ← EReal.coe_mul, sum_coe, ← EReal.coe_add]
  rfl

/-- The reference's score against a context key. -/
theorem context_real (b : Fin 8) (p : Fin 1024) (H : Fin 64) (l : Fin 256) :
    val_main_v134 (F := Ideal) (fun i => (a0 i : EReal)) (fun i => (a3 i : EReal)) (fun i => (a4 i : EReal)) (fun i => (a5 i : EReal)) (ix5 b H (0 : Fin 1) p l)
      = (prodC a0 a3 a4 a5 b p H l : EReal) := by
  have hk : ∀ e : Fin 128, val_main_v122 (F := Ideal) (fun i => (a3 i : EReal)) (fun i => (a4 i : EReal)) (fun i => (a5 i : EReal)) (ix4 b l H (⟨e.val, by omega⟩ : Fin 192))
      = (columnC a3 a4 b l (⟨H.val * 256 + e.val, by omega⟩ : Fin 16384) : EReal) := fun e => by
    rw [ckey_ref, dif_pos (by exact e.isLt)]
    simp only [← EReal.coe_mul, sum_coe]
    rfl
  have hr : ∀ d : Fin 64, val_main_v122 (F := Ideal) (fun i => (a3 i : EReal)) (fun i => (a4 i : EReal)) (fun i => (a5 i : EReal)) (ix4 b l H (⟨128 + d.val, by omega⟩ : Fin 192))
      = (a5 (ix3 b l d) : EReal) := fun d => by
    rw [ckey_ref, dif_neg (by show ¬ 128 + d.val < 128; omega)]
    exact congrArg (fun n => (a5 (ix3 b l n) : EReal)) (Fin.ext (by show 128 + d.val - 128 = d.val; omega))
  rw [context_ref, scale_word, lanes_split]
  simp only [hk, hr, ← EReal.coe_mul, sum_coe, ← EReal.coe_add]
  rfl

/-- The queries' rotary lanes of a pair, by head of the pair and lane. -/
def pairQ (b : Fin 8) (p : Fin 1024) (j : Fin 32) (h : Fin 2) (d : Fin 64) : EReal :=
  (a0 (ix4 b p (⟨j.val * 2 + h.val, by omega⟩ : Fin 64) (⟨128 + d.val, by omega⟩ : Fin 192)) : EReal)

include hT hTs in
/-- The kernel's score against a latent key: the scaled product in units of ln 2. -/
theorem kernel_local (b : Fin 8) (p : Fin 1024) (j : Fin 32) (h : Fin 2) (l : Fin 1024) :
    scoreL (fun e => (a0 (ix4 b p (⟨j.val * 2 + h.val, by omega⟩ : Fin 64) (⟨e.val, by omega⟩ : Fin 192)) : EReal))
      (fun e => (a0 (ix4 b p (⟨j.val * 2 + e.val / 64, by omega⟩ : Fin 64) (⟨128 + e.val % 64, by omega⟩ : Fin 192)) : EReal))
      (twice cosTable p) (twice sinTable p)
      (fun e => ∑ k : Fin 512, (a1 (ix3 b l k) : EReal) * (a3 (ix2 k (⟨j.val * 512 + (h.val * 256 + e.val), by omega⟩ : Fin 16384)) : EReal))
      (fun e => rot (padded fun d => (a2 (ix3 b l d) : EReal)) (twice cosTable l) (twice sinTable l) (from' h e))
    = ((prodL a0 a1 a2 a3 T b p (⟨j.val * 2 + h.val, by omega⟩ : Fin 64) l * (Real.log 2)⁻¹ : ℝ) : EReal) := by
  have hh := h.isLt
  have hcol : ∀ e : Fin 128, (⟨j.val * 512 + (h.val * 256 + e.val), by omega⟩ : Fin 16384) = ⟨(j.val * 2 + h.val) * 256 + e.val, by omega⟩ := fun e =>
    Fin.ext (by show j.val * 512 + (h.val * 256 + e.val) = (j.val * 2 + h.val) * 256 + e.val; omega)
  have h2 : ∑ e : Fin 128, rot (fun d => (a0 (ix4 b p (⟨j.val * 2 + d.val / 64, by omega⟩ : Fin 64) (⟨128 + d.val % 64, by omega⟩ : Fin 192)) : EReal) * qscale) (twice cosTable p) (twice sinTable p) e
        * rot (padded fun d => (a2 (ix3 b l d) : EReal)) (twice cosTable l) (twice sinTable l) (from' h e)
      = ∑ d : Fin 64, ((T p (rotaryQ a0 b p (⟨j.val * 2 + h.val, by omega⟩ : Fin 64)) d * (scale * (Real.log 2)⁻¹) * T l (fun f => a2 (ix3 b l f)) d : ℝ) : EReal) := by
    refine half_sum h _ _ (fun d => ?_) (fun e he => ?_)
    · refine (congrArg₂ (· * ·) (query_own (pairQ a0 b p j) qscale p h d) (key_own _ l h d)).trans ?_
      have hq : turned (fun f => pairQ a0 b p j h f * qscale) (rowAngle p) (colAngle p) d
          = ((T p (rotaryQ a0 b p (⟨j.val * 2 + h.val, by omega⟩ : Fin 64)) d * (scale * (Real.log 2)⁻¹) : ℝ) : EReal) := by
        rw [← hTs, ← hT, qscale_eq]
        simp only [EReal.coe_mul]
        rfl
      rw [hq, hT, ← EReal.coe_mul]
    · exact (congrArg (_ * ·) (key_other _ l h e he)).trans (mul_zero _)
  unfold scoreL
  rw [h2, qscale_eq]
  simp only [hcol, ← EReal.coe_mul, sum_coe, ← EReal.coe_add]
  refine congrArg _ ?_
  unfold prodL
  refine Eq.trans ?_ (mul_assoc _ scale _).symm
  refine Eq.trans ?_ (add_mul _ _ _).symm
  refine congrArg₂ (· + ·) ((Finset.sum_congr rfl fun e _ => ?_).trans (Finset.sum_mul _ _ _).symm) ((Finset.sum_congr rfl fun d _ => ?_).trans (Finset.sum_mul _ _ _).symm)
  · show plainQ a0 b p _ e * (scale * (Real.log 2)⁻¹) * column a1 a3 b l _ = column a1 a3 b l _ * plainQ a0 b p _ e * (scale * (Real.log 2)⁻¹)
    ring
  · ring

/-- The kernel's score against a context key: the scaled product in units of ln 2. -/
theorem kernel_context (b : Fin 8) (p : Fin 1024) (j : Fin 32) (h : Fin 2) (l : Fin 256) :
    scoreC (fun e => (a0 (ix4 b p (⟨j.val * 2 + h.val, by omega⟩ : Fin 64) (⟨e.val, by omega⟩ : Fin 192)) : EReal))
      (fun e => (a0 (ix4 b p (⟨j.val * 2 + e.val / 64, by omega⟩ : Fin 64) (⟨128 + e.val % 64, by omega⟩ : Fin 192)) : EReal))
      (fun e => ∑ k : Fin 512, (a4 (ix3 b l k) : EReal) * (a3 (ix2 k (⟨j.val * 512 + (h.val * 256 + e.val), by omega⟩ : Fin 16384)) : EReal))
      (fun e => padded (fun d => (a5 (ix3 b l d) : EReal)) (from' h e))
    = ((prodC a0 a3 a4 a5 b p (⟨j.val * 2 + h.val, by omega⟩ : Fin 64) l * (Real.log 2)⁻¹ : ℝ) : EReal) := by
  have hh := h.isLt
  have hcol : ∀ e : Fin 128, (⟨j.val * 512 + (h.val * 256 + e.val), by omega⟩ : Fin 16384) = ⟨(j.val * 2 + h.val) * 256 + e.val, by omega⟩ := fun e =>
    Fin.ext (by show j.val * 512 + (h.val * 256 + e.val) = (j.val * 2 + h.val) * 256 + e.val; omega)
  have h2 : ∑ e : Fin 128, (a0 (ix4 b p (⟨j.val * 2 + e.val / 64, by omega⟩ : Fin 64) (⟨128 + e.val % 64, by omega⟩ : Fin 192)) : EReal) * qscale * padded (fun d => (a5 (ix3 b l d) : EReal)) (from' h e)
      = ∑ d : Fin 64, ((rotaryQ a0 b p (⟨j.val * 2 + h.val, by omega⟩ : Fin 64) d * (scale * (Real.log 2)⁻¹) * a5 (ix3 b l d) : ℝ) : EReal) := by
    refine half_sum h _ _ (fun d => ?_) (fun e he => ?_)
    · have hd := d.isLt
      rw [padded_own, qscale_eq, EReal.coe_mul _ (a5 (ix3 b l d)), EReal.coe_mul (rotaryQ a0 b p _ d)]
      refine congrArg (· * (a5 (ix3 b l d) : EReal)) (congrArg (· * ((scale * (Real.log 2)⁻¹ : ℝ) : EReal)) ?_)
      unfold rotaryQ
      refine congrArg₂ (fun n k => (a0 (ix4 b p n k) : EReal)) (Fin.ext ?_) (Fin.ext ?_)
      · show j.val * 2 + (h.val * 64 + d.val) / 64 = j.val * 2 + h.val
        omega
      · show 128 + (h.val * 64 + d.val) % 64 = 128 + d.val
        omega
    · rw [padded_other _ h e he, mul_zero]
  unfold scoreC
  rw [h2, qscale_eq]
  simp only [hcol, ← EReal.coe_mul, sum_coe, ← EReal.coe_add]
  refine congrArg _ ?_
  unfold prodC
  refine Eq.trans ?_ (mul_assoc _ scale _).symm
  refine Eq.trans ?_ (add_mul _ _ _).symm
  refine congrArg₂ (· + ·) ((Finset.sum_congr rfl fun e _ => ?_).trans (Finset.sum_mul _ _ _).symm) ((Finset.sum_congr rfl fun d _ => ?_).trans (Finset.sum_mul _ _ _).symm)
  · show plainQ a0 b p _ e * (scale * (Real.log 2)⁻¹) * columnC a3 a4 b l _ = columnC a3 a4 b l _ * plainQ a0 b p _ e * (scale * (Real.log 2)⁻¹)
    ring
  · ring

/-- The reference at an index by its parts, over real arguments: sequence, row, pair, head of the pair and lane. -/
theorem reference_at (b : Fin 8) (p : Fin 1024) (j : Fin 32) (h : Fin 2) (d : Fin 128) :
    ∑ x : Fin 1024, val_main_v116 (F := Ideal) (fun i => (a1 i : EReal)) (fun i => (a3 i : EReal)) (ix4 b x (⟨j.val * 2 + h.val, by omega⟩ : Fin 64) d)
        * val_main_v146 (F := Ideal) (fun i => (a0 i : EReal)) (fun i => (a1 i : EReal)) (fun i => (a2 i : EReal)) (fun i => (a3 i : EReal)) (fun i => (a4 i : EReal)) (fun i => (a5 i : EReal)) (ix5 b (⟨j.val * 2 + h.val, by omega⟩ : Fin 64) (0 : Fin 1) p (⟨x.val, by omega⟩ : Fin 1280))
      + ∑ x : Fin 256, val_main_v123 (F := Ideal) (fun i => (a3 i : EReal)) (fun i => (a4 i : EReal)) (ix4 b x (⟨j.val * 2 + h.val, by omega⟩ : Fin 64) d)
        * val_main_v146 (F := Ideal) (fun i => (a0 i : EReal)) (fun i => (a1 i : EReal)) (fun i => (a2 i : EReal)) (fun i => (a3 i : EReal)) (fun i => (a4 i : EReal)) (fun i => (a5 i : EReal)) (ix5 b (⟨j.val * 2 + h.val, by omega⟩ : Fin 64) (0 : Fin 1) p (⟨1024 + x.val, by omega⟩ : Fin 1280))
      = attend (fun i => (a0 i : EReal)) (fun i => (a1 i : EReal)) (fun i => (a2 i : EReal)) (fun i => (a3 i : EReal)) (fun i => (a4 i : EReal)) (fun i => (a5 i : EReal)) b p j h d := by
  choose T hT hTs using turned_real
  have hh := h.isLt
  obtain ⟨H, hH⟩ : ∃ H : Fin 64, H = (⟨j.val * 2 + h.val, by omega⟩ : Fin 64) := ⟨_, rfl⟩
  rw [← hH]
  let dL : Fin 1024 → ℝ := fun l => prodL a0 a1 a2 a3 T b p H l
  let dC : Fin 256 → ℝ := fun l => prodC a0 a3 a4 a5 b p H l
  let vL : Fin 1024 → ℝ := fun l => column a1 a3 b l (⟨H.val * 256 + (128 + d.val), by omega⟩ : Fin 16384)
  let vC : Fin 256 → ℝ := fun l => columnC a3 a4 b l (⟨H.val * 256 + (128 + d.val), by omega⟩ : Fin 16384)
  let u : Fin 1280 → ℝ := fun l => if h : l.val < 1024 then dL ⟨l.val, h⟩ else dC ⟨l.val - 1024, by omega⟩
  have hscore : ∀ l : Fin 1280, val_main_v135 (F := Ideal) (fun i => (a0 i : EReal)) (fun i => (a1 i : EReal)) (fun i => (a2 i : EReal)) (fun i => (a3 i : EReal)) (fun i => (a4 i : EReal)) (fun i => (a5 i : EReal)) (ix5 b H (0 : Fin 1) p l) = (u l : EReal) := fun l => by
    rw [scores_ref]
    by_cases hl : l.val < 1024
    · rw [dif_pos hl, show u l = dL ⟨l.val, hl⟩ from dif_pos hl]
      exact local_real a0 a1 a2 a3 T hT b p H _
    · rw [dif_neg hl, show u l = dC ⟨l.val - 1024, by omega⟩ from dif_neg hl]
      exact context_real a0 a3 a4 a5 b p H _
  obtain ⟨M, hM⟩ : ∃ M : ℝ, val_main_v138 (F := Ideal) (fun i => (a0 i : EReal)) (fun i => (a1 i : EReal)) (fun i => (a2 i : EReal)) (fun i => (a3 i : EReal)) (fun i => (a4 i : EReal)) (fun i => (a5 i : EReal)) (ix4 b H (0 : Fin 1) p) = M := by
    have hr : S8x64x1x1024x1280.Reduces [4] S8x64x1x1024 := by decide
    rw [top_ref, neg_inf, max_eq_right bot_le, fold_ref (fun i => (a0 i : EReal)) (fun i => (a1 i : EReal)) (fun i => (a2 i : EReal)) (fun i => (a3 i : EReal)) (fun i => (a4 i : EReal)) (fun i => (a5 i : EReal)) b H p hr, first_ref]
    haveI : Nonempty (Fin (S8x64x1x1024x1280.size 4)) := ⟨(0 : Fin 1280)⟩
    exact fold_real _ fun x => ⟨u x, by rw [lift_ref hr b H p x]; exact hscore x⟩
  have hw : ∀ l : Fin 1280, val_main_v146 (F := Ideal) (fun i => (a0 i : EReal)) (fun i => (a1 i : EReal)) (fun i => (a2 i : EReal)) (fun i => (a3 i : EReal)) (fun i => (a4 i : EReal)) (fun i => (a5 i : EReal)) (ix5 b H (0 : Fin 1) p l)
      = Ideal.div (Ideal.exp ((u l : EReal) - (M : EReal))) (∑ y : Fin 1280, Ideal.exp ((u y : EReal) - (M : EReal))) := fun l => by
    rw [weights_ref, sum_ref]
    simp only [exp_ref, hscore, hM]
  have hv : ∀ l : Fin 1024, val_main_v116 (F := Ideal) (fun i => (a1 i : EReal)) (fun i => (a3 i : EReal)) (ix4 b l H d) = (vL l : EReal) := fun l => by
    rw [value_ref]
    simp only [← EReal.coe_mul, sum_coe]
    rfl
  have hc : ∀ l : Fin 256, val_main_v123 (F := Ideal) (fun i => (a3 i : EReal)) (fun i => (a4 i : EReal)) (ix4 b l H d) = (vC l : EReal) := fun l => by
    rw [cvalue_ref]
    simp only [← EReal.coe_mul, sum_coe]
    rfl
  simp only [hw, hv, hc]
  refine (weighted_real u M dL dC vL vC (fun x => dif_pos x.isLt) (fun x => ?_)).trans ((mean_real dL dC vL vC).symm.trans ?_)
  · refine (dif_neg (by show ¬ 1024 + x.val < 1024; omega)).trans (congrArg dC (Fin.ext ?_))
    show 1024 + x.val - 1024 = x.val
    omega
  have hcol : (⟨H.val * 256 + (128 + d.val), by omega⟩ : Fin 16384) = ⟨j.val * 512 + (h.val * 256 + 128 + d.val), by omega⟩ :=
    Fin.ext (by show H.val * 256 + (128 + d.val) = j.val * 512 + (h.val * 256 + 128 + d.val); rw [hH]; show (j.val * 2 + h.val) * 256 + (128 + d.val) = _; omega)
  unfold attend
  refine congr (congr (congr (congrArg mean (funext fun l => ?_)) (funext fun l => ?_)) (funext fun l => ?_)) (funext fun l => ?_)
  · show ((prodL a0 a1 a2 a3 T b p H l * (Real.log 2)⁻¹ : ℝ) : EReal) = _
    rw [hH]
    exact (kernel_local a0 a1 a2 a3 T hT hTs b p j h l).symm
  · show ((prodC a0 a3 a4 a5 b p H l * (Real.log 2)⁻¹ : ℝ) : EReal) = _
    rw [hH]
    exact (kernel_context a0 a3 a4 a5 b p j h l).symm
  · show ((column a1 a3 b l (⟨H.val * 256 + (128 + d.val), by omega⟩ : Fin 16384) : ℝ) : EReal) = _
    rw [hcol]
    simp only [← EReal.coe_mul, sum_coe]
    rfl
  · show ((columnC a3 a4 b l (⟨H.val * 256 + (128 + d.val), by omega⟩ : Fin 16384) : ℝ) : EReal) = _
    rw [hcol]
    simp only [← EReal.coe_mul, sum_coe]
    rfl

end Real

/-- The reference's result is the kernel's, over finite arguments. -/
theorem reference_eq (a0 : Vec Ideal S8x1024x64x192 .f32) (a1 : Vec Ideal S8x1024x512 .f32) (a2 : Vec Ideal S8x1024x64 .f32)
    (a3 : Vec Ideal S512x16384 .f32) (a4 : Vec Ideal S8x256x512 .f32) (a5 : Vec Ideal S8x256x64 .f32)
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) :
    val_main_v155 (F := Ideal) a0 a1 a2 a3 a4 a5 = result a0 a1 a2 a3 a4 a5 := by
  choose r0 e0 using h0
  choose r1 e1 using h1
  choose r2 e2 using h2
  choose r3 e3 using h3
  choose r4 e4 using h4
  choose r5 e5 using h5
  obtain rfl : a0 = fun i => (r0 i : EReal) := funext e0
  obtain rfl : a1 = fun i => (r1 i : EReal) := funext e1
  obtain rfl : a2 = fun i => (r2 i : EReal) := funext e2
  obtain rfl : a3 = fun i => (r3 i : EReal) := funext e3
  obtain rfl : a4 = fun i => (r4 i : EReal) := funext e4
  obtain rfl : a5 = fun i => (r5 i : EReal) := funext e5
  funext i
  have i0 := idx_lt0 i
  have i1 := idx_lt1 i
  have hH : (⟨(i 1).val / 128, by omega⟩ : Fin 64) = ⟨(i 1).val / 256 * 2 + (i 1).val % 256 / 128, by omega⟩ :=
    Fin.ext (by show (i 1).val / 128 = (i 1).val / 256 * 2 + (i 1).val % 256 / 128; omega)
  refine (out_ref _ _ _ _ _ _ i).trans ?_
  rw [hH]
  exact reference_at r0 r1 r2 r3 r4 r5 ⟨(i 0).val / 1024, by omega⟩ ⟨(i 0).val % 1024, by omega⟩ ⟨(i 1).val / 256, by omega⟩
    ⟨(i 1).val % 256 / 128, by omega⟩ ⟨(i 1).val % 128, by omega⟩

/-- The predicate's side conditions. -/
theorem facts_finite : Cert.Pre_finite_latent.Facts := ⟨by decide, by decide, by decide, by decide, by decide, by decide⟩

/-- The claim: over finite arguments the idealized kernel and the reference end with equal results and their arguments unchanged. -/
theorem algebraic : Cert.algebraic_Kernel13Ideal_Reference13Ideal_pre_finite_latent
    (hKernel13Ideal := Cert.Kernel13Ideal.Gen.facts) (hReference13Ideal := Cert.Reference13Ideal.Gen.facts) (hPre_finite_latent := facts_finite) := by
  intro m g m' g' hpre hargs
  refine ⟨_, run m g, ?_⟩
  refine (θ_run (Cert.Reference13Ideal.defs (F := Ideal)) _ _).mono (fun r h c => ?_) (Cert.Reference13Ideal.Value.run (F := Ideal) m' g')
  obtain ⟨hv, hk⟩ := h c
  obtain ⟨p0, p1, p2, p3, p4, p5⟩ := hpre c
  obtain ⟨q0, q1, q2, q3, q4, q5⟩ := hargs c
  refine ⟨hv.trans ?_, hk⟩
  refine (val_main_v155_eq (StableHlo.launchContents m' c)).trans ?_
  refine (congr (congr (congr (congr (congr (congrArg (val_main_v155 (F := Ideal)) q0) q1) q2) q3) q4) q5).trans ?_
  exact reference_eq _ _ _ _ _ _ (fun i => real_of_olt _ _ i (congrFun p0 i)) (fun i => real_of_olt _ _ i (congrFun p1 i)) (fun i => real_of_olt _ _ i (congrFun p2 i))
    (fun i => real_of_olt _ _ i (congrFun p3 i)) (fun i => real_of_olt _ _ i (congrFun p4 i)) (fun i => real_of_olt _ _ i (congrFun p5 i))

end Cert.Mla

end
-- ==== Proof.Band.Mean.lean ====
/-
  Hand-written. THE WINDOWED ATTENTION, THE MEAN: a weighted mean over masked scores, context scores and a sink, and the window.
-/
module

public import proofs.«01_k».proof.Proof.Attn.Softmax

@[expose] public section

noncomputable section

namespace Cert.Band

open Idealize.ShloMosaic
open Cert.Attn (neg_inf sum_coe div_coe fold_real pow_shift)

/-- The largest of the local scores, the context scores and the sink. -/
def top {n : Nat} (sL : Fin n → EReal) (sC : Fin 256 → EReal) (sS : EReal) : EReal :=
  max (max (Finset.fold max (Ideal.ofBits FTy.f32 4286578688#32) sL Finset.univ) (Finset.fold max (Ideal.ofBits FTy.f32 4286578688#32) sC Finset.univ)) sS

/-- A power of two of what a score lies above `M`. -/
abbrev pw (t M : EReal) : EReal := FloatOps.exp2 (F := Ideal) (φ := .f32) (t - M)

/-- The weighted mean under the maximum `M`: the sink weighs in the denominator alone. -/
def meanAt {n : Nat} (M : EReal) (sL : Fin n → EReal) (sC : Fin 256 → EReal) (sS : EReal) (vL : Fin n → EReal) (vC : Fin 256 → EReal) : EReal :=
  Ideal.div (∑ x, pw (sL x) M * vL x + ∑ x, pw (sC x) M * vC x) (∑ x, pw (sL x) M + ∑ x, pw (sC x) M + pw sS M)

/-- The weighted mean under the largest score. -/
def wmean {n : Nat} (sL : Fin n → EReal) (sC : Fin 256 → EReal) (sS : EReal) (vL : Fin n → EReal) (vC : Fin 256 → EReal) : EReal :=
  meanAt (top sL sC sS) sL sC sS vL vC

/-- Minus infinity weighs nothing. -/
theorem pw_bot (M : EReal) : pw ⊥ M = 0 := by
  have h : (⊥ : EReal) - M = ⊥ := by rw [sub_eq_add_neg, EReal.bot_add]
  show Ideal.exp2 (⊥ - M) = 0
  rw [h]
  rfl

/-- The keys outside a range that holds the window change nothing. -/
theorem widen {n : Nat} (k0 : Nat) (hn : k0 + n ≤ 1024) (f : Fin 1024 → EReal) (sC : Fin 256 → EReal) (sS : EReal) (v : Fin 1024 → EReal) (vC : Fin 256 → EReal)
    (hf : ∀ l : Fin 1024, l.val < k0 ∨ k0 + n ≤ l.val → f l = ⊥) :
    wmean (fun l : Fin n => f ⟨k0 + l.val, by omega⟩) sC sS (fun l : Fin n => v ⟨k0 + l.val, by omega⟩) vC = wmean f sC sS v vC := by
  let e : Fin n → Fin 1024 := fun l => ⟨k0 + l.val, by omega⟩
  have he : Function.Injective e := fun a b h => Fin.ext (by have := congrArg Fin.val h; simp only [e] at this; omega)
  have ho : ∀ l : Fin 1024, l ∉ Set.range e → f l = ⊥ := fun l hl => hf l (by
    by_contra hc
    exact hl ⟨⟨l.val - k0, by omega⟩, Fin.ext (by show k0 + (l.val - k0) = l.val; omega)⟩)
  have hmax : Finset.fold max ⊥ (fun l => f (e l)) Finset.univ = Finset.fold max ⊥ f Finset.univ := by
    refine le_antisymm ((Finset.fold_max_le _).mpr ⟨bot_le, fun l _ => (Finset.le_fold_max _).mpr (Or.inr ⟨e l, Finset.mem_univ _, le_rfl⟩)⟩)
      ((Finset.fold_max_le _).mpr ⟨bot_le, fun l _ => ?_⟩)
    by_cases hl : l ∈ Set.range e
    · obtain ⟨x, hx⟩ := hl
      exact (Finset.le_fold_max _).mpr (Or.inr ⟨x, Finset.mem_univ _, hx ▸ le_rfl⟩)
    · rw [ho l hl]
      exact bot_le
  have ht : top (fun l => f (e l)) sC sS = top f sC sS := by
    unfold top
    rw [neg_inf, hmax]
  show meanAt (top (fun l => f (e l)) sC sS) (fun l => f (e l)) sC sS (fun l => v (e l)) vC = meanAt (top f sC sS) f sC sS v vC
  rw [ht]
  unfold meanAt
  have h1 : ∑ x, pw (f (e x)) (top f sC sS) * v (e x) = ∑ x, pw (f x) (top f sC sS) * v x :=
    Fintype.sum_of_injective e he _ _ (fun l hl => by rw [ho l hl, pw_bot, zero_mul]) (fun _ => rfl)
  have h2 : ∑ x, pw (f (e x)) (top f sC sS) = ∑ x, pw (f x) (top f sC sS) :=
    Fintype.sum_of_injective e he _ _ (fun l hl => by rw [ho l hl, pw_bot]) (fun _ => rfl)
  rw [h1, h2]

/-- The window: two positions at most 128 apart. -/
abbrev near (p l : Nat) : Prop := p ≤ l + 128 ∧ l ≤ p + 128

theorem word_pos : ∀ x : Fin 1024, IntOp.cmpi CmpIPredicate.sle (IntOp.absi (BitVec.ofNat 32 x.val)) 128#32 = if x.val ≤ 128 then 1#1 else 0#1 := by decide +kernel

theorem word_neg : ∀ x : Fin 1024, IntOp.cmpi CmpIPredicate.sle (IntOp.absi (-BitVec.ofNat 32 x.val)) 128#32 = if x.val ≤ 128 then 1#1 else 0#1 := by decide +kernel

/-- The test the programs make of two positions is the window's. -/
theorem near_word (p l : Fin 1024) : IntOp.cmpi CmpIPredicate.sle (IntOp.absi (IntOp.subi (BitVec.ofNat 32 p.val) (BitVec.ofNat 32 l.val))) 128#32
    = if near p.val l.val then 1#1 else 0#1 := by
  have hp := p.isLt
  have hl := l.isLt
  by_cases h : l.val ≤ p.val
  · have e : IntOp.subi (BitVec.ofNat 32 p.val) (BitVec.ofNat 32 l.val) = BitVec.ofNat 32 (p.val - l.val) := by
      show BitVec.ofNat 32 p.val - BitVec.ofNat 32 l.val = _
      apply BitVec.eq_of_toNat_eq
      rw [BitVec.toNat_sub]
      simp only [BitVec.toNat_ofNat]
      omega
    rw [e, word_pos ⟨p.val - l.val, by omega⟩]
    refine if_congr ?_ rfl rfl
    show p.val - l.val ≤ 128 ↔ _
    unfold near
    omega
  · have e : IntOp.subi (BitVec.ofNat 32 p.val) (BitVec.ofNat 32 l.val) = -BitVec.ofNat 32 (l.val - p.val) := by
      show BitVec.ofNat 32 p.val - BitVec.ofNat 32 l.val = _
      apply BitVec.eq_of_toNat_eq
      rw [BitVec.toNat_sub, BitVec.toNat_neg]
      simp only [BitVec.toNat_ofNat]
      omega
    rw [e, word_neg ⟨l.val - p.val, by omega⟩]
    refine if_congr ?_ rfl rfl
    show l.val - p.val ≤ 128 ↔ _
    unfold near
    omega

/-- A masked score: a select by the test is a case distinction by the window. -/
theorem near_select (p l : Fin 1024) (x y : EReal) :
    Scalar.select (IntOp.cmpi CmpIPredicate.sle (IntOp.absi (IntOp.subi (BitVec.ofNat 32 p.val) (BitVec.ofNat 32 l.val))) 128#32) x y = if near p.val l.val then x else y := by
  rw [near_word]
  by_cases h : near p.val l.val
  · rw [if_pos h, if_pos h]; rfl
  · rw [if_neg h, if_neg h]; rfl

end Cert.Band

end
-- ==== Proof.Band.Softmax.lean ====
/-
  Hand-written. THE WINDOWED ATTENTION, THE SOFTMAX: over scores that are real or minus infinity the kernel's weighted mean and
  the reference's are one real number.
-/
module

public import proofs.«01_k».proof.Proof.Band.Mean

@[expose] public section

noncomputable section

namespace Cert.Band

open Idealize.ShloMosaic
open Cert.Attn (neg_inf sum_coe div_coe pow_shift)

/-- The score `s` weighs `w`: minus infinity weighs nothing, a real score its exponential. -/
def Weighs (s : EReal) (w : ℝ) : Prop := (s = ⊥ ∧ w = 0) ∨ ∃ t : ℝ, s = (t : EReal) ∧ w = Real.exp t

/-- The score `s`, in units of ln 2, weighs `w`. -/
def WeighsTwo (s : EReal) (w : ℝ) : Prop := (s = ⊥ ∧ w = 0) ∨ ∃ t : ℝ, s = ((t * (Real.log 2)⁻¹ : ℝ) : EReal) ∧ w = Real.exp t

theorem Weighs.nonneg {s : EReal} {w : ℝ} (h : Weighs s w) : 0 ≤ w := by
  obtain ⟨_, h⟩ | ⟨t, _, h⟩ := h
  · exact h.ge
  · exact h ▸ (Real.exp_pos t).le

theorem WeighsTwo.nonneg {s : EReal} {w : ℝ} (h : WeighsTwo s w) : 0 ≤ w := by
  obtain ⟨_, h⟩ | ⟨t, _, h⟩ := h
  · exact h.ge
  · exact h ▸ (Real.exp_pos t).le

theorem Weighs.ne_top {s : EReal} {w : ℝ} (h : Weighs s w) : s < ⊤ := by
  obtain ⟨h, _⟩ | ⟨t, h, _⟩ := h
  · exact h ▸ bot_lt_top
  · exact h ▸ EReal.coe_lt_top t

theorem WeighsTwo.ne_top {s : EReal} {w : ℝ} (h : WeighsTwo s w) : s < ⊤ := by
  obtain ⟨h, _⟩ | ⟨t, h, _⟩ := h
  · exact h ▸ bot_lt_top
  · exact h ▸ EReal.coe_lt_top _

/-- The exponential of a score less a real number is its weight times a factor of that number's alone. -/
theorem Weighs.exp_sub {s : EReal} {w : ℝ} (h : Weighs s w) (M : ℝ) : Ideal.exp (s - (M : EReal)) = ((w * Real.exp (-M) : ℝ) : EReal) := by
  obtain ⟨h, hw⟩ | ⟨t, h, hw⟩ := h
  · have hb : (⊥ : EReal) - (M : EReal) = ⊥ := by rw [sub_eq_add_neg, EReal.bot_add]
    rw [h, hw, hb, zero_mul]
    rfl
  · rw [h, hw, ← EReal.coe_sub, ← Real.exp_add, ← sub_eq_add_neg]
    rfl

/-- The power of two of a score less a real number is its weight times a factor of that number's alone. -/
theorem WeighsTwo.pw_sub {s : EReal} {w : ℝ} (h : WeighsTwo s w) (M : ℝ) : pw s (M : EReal) = ((w * Real.rpow 2 (-M) : ℝ) : EReal) := by
  obtain ⟨h, hw⟩ | ⟨t, h, hw⟩ := h
  · rw [h, hw, pw_bot, zero_mul]
    rfl
  · rw [h, hw, ← pow_shift]
    show FloatOps.exp2 (F := Ideal) (φ := .f32) (((t * (Real.log 2)⁻¹ : ℝ) : EReal) - (M : EReal)) = _
    rw [← EReal.coe_sub]
    rfl

/-- The greatest of finitely many scores below plus infinity, one of them real, is real. -/
theorem fold_some {ι : Type} [Fintype ι] (f : ι → EReal) (hf : ∀ x, f x < ⊤) (x : ι) (r : ℝ) (hr : f x = r) :
    ∃ M : ℝ, Finset.fold max (Ideal.ofBits FTy.f32 4286578688#32) f Finset.univ = M := by
  rw [neg_inf]
  have h1 : Finset.fold max ⊥ f Finset.univ ≠ ⊤ := ne_of_lt ((Finset.fold_max_lt _).mpr ⟨bot_lt_top, fun x _ => hf x⟩)
  have h2 : Finset.fold max ⊥ f Finset.univ ≠ ⊥ := by
    have : (r : EReal) ≤ Finset.fold max ⊥ f Finset.univ := (Finset.le_fold_max _).mpr (Or.inr ⟨x, Finset.mem_univ x, hr.ge⟩)
    exact ne_of_gt (lt_of_lt_of_le (EReal.bot_lt_coe r) this)
  exact ⟨_, (EReal.coe_toReal h1 h2).symm⟩

/-- The largest score is real when the sink is. -/
theorem top_real (sL : Fin 1024 → EReal) (sC : Fin 256 → EReal) (r : ℝ) (hL : ∀ x, sL x < ⊤) (hC : ∀ x, sC x < ⊤) :
    ∃ M : ℝ, top sL sC (r : EReal) = M := by
  unfold top
  rw [neg_inf]
  have h1 : max (max (Finset.fold max ⊥ sL Finset.univ) (Finset.fold max ⊥ sC Finset.univ)) (r : EReal) ≠ ⊤ :=
    ne_of_lt (max_lt (max_lt ((Finset.fold_max_lt _).mpr ⟨bot_lt_top, fun x _ => hL x⟩) ((Finset.fold_max_lt _).mpr ⟨bot_lt_top, fun x _ => hC x⟩)) (EReal.coe_lt_top r))
  have h2 : max (max (Finset.fold max ⊥ sL Finset.univ) (Finset.fold max ⊥ sC Finset.univ)) (r : EReal) ≠ ⊥ :=
    ne_of_gt (lt_of_lt_of_le (EReal.bot_lt_coe r) (le_max_right _ _))
  exact ⟨_, (EReal.coe_toReal h1 h2).symm⟩

/-- The weighted mean of real values; the sink's weight is in the denominator alone. -/
def softSink (wL : Fin 1024 → ℝ) (wC : Fin 256 → ℝ) (wS : ℝ) (vL : Fin 1024 → ℝ) (vC : Fin 256 → ℝ) : ℝ :=
  (∑ x, wL x * vL x + ∑ x, wC x * vC x) / (∑ x, wL x + ∑ x, wC x + wS)

theorem total_pos (wL : Fin 1024 → ℝ) (wC : Fin 256 → ℝ) (wS : ℝ) (hL : ∀ x, 0 ≤ wL x) (hC : ∀ x, 0 ≤ wC x) (hS : 0 < wS) :
    0 < ∑ x, wL x + ∑ x, wC x + wS :=
  add_pos_of_nonneg_of_pos (add_nonneg (Finset.sum_nonneg fun x _ => hL x) (Finset.sum_nonneg fun x _ => hC x)) hS

/-- The kernel's mean. -/
theorem wmean_real (sL : Fin 1024 → EReal) (sC : Fin 256 → EReal) (dS : ℝ) (wL : Fin 1024 → ℝ) (wC : Fin 256 → ℝ) (vL : Fin 1024 → ℝ) (vC : Fin 256 → ℝ)
    (hL : ∀ x, WeighsTwo (sL x) (wL x)) (hC : ∀ x, WeighsTwo (sC x) (wC x)) :
    wmean sL sC ((dS * (Real.log 2)⁻¹ : ℝ) : EReal) (fun x => (vL x : EReal)) (fun x => (vC x : EReal)) = (softSink wL wC (Real.exp dS) vL vC : EReal) := by
  obtain ⟨M, hM⟩ := top_real sL sC (dS * (Real.log 2)⁻¹) (fun x => (hL x).ne_top) (fun x => (hC x).ne_top)
  have hp : 0 < Real.rpow 2 (-M) := Real.rpow_pos_of_pos (by norm_num) _
  have hS : WeighsTwo ((dS * (Real.log 2)⁻¹ : ℝ) : EReal) (Real.exp dS) := Or.inr ⟨dS, rfl, rfl⟩
  unfold wmean
  rw [hM]
  unfold meanAt
  simp only [fun x => (hL x).pw_sub M, fun x => (hC x).pw_sub M, hS.pw_sub M, ← EReal.coe_mul, sum_coe, ← EReal.coe_add]
  have h0 := total_pos wL wC (Real.exp dS) (fun x => (hL x).nonneg) (fun x => (hC x).nonneg) (Real.exp_pos _)
  have e1 : ∑ x, wL x * Real.rpow 2 (-M) + ∑ x, wC x * Real.rpow 2 (-M) + Real.exp dS * Real.rpow 2 (-M)
      = Real.rpow 2 (-M) * (∑ x, wL x + ∑ x, wC x + Real.exp dS) := by
    rw [← Finset.sum_mul, ← Finset.sum_mul]
    ring
  have e2 : ∑ x, wL x * Real.rpow 2 (-M) * vL x + ∑ x, wC x * Real.rpow 2 (-M) * vC x
      = Real.rpow 2 (-M) * (∑ x, wL x * vL x + ∑ x, wC x * vC x) := by
    rw [mul_add, Finset.mul_sum, Finset.mul_sum]
    exact congrArg₂ (· + ·) (Finset.sum_congr rfl fun x _ => by ring) (Finset.sum_congr rfl fun x _ => by ring)
  rw [e1, e2, div_coe _ _ (mul_pos hp h0).ne', mul_div_mul_left _ _ hp.ne']
  rfl

/-- The reference's weighted sums, whatever real number is taken off the scores. -/
theorem weighted_real (u : Fin 1281 → EReal) (W : Fin 1281 → ℝ) (M : ℝ) (wL : Fin 1024 → ℝ) (wC : Fin 256 → ℝ) (wS : ℝ) (vL : Fin 1024 → ℝ) (vC : Fin 256 → ℝ)
    (hu : ∀ y, Weighs (u y) (W y)) (hL : ∀ x : Fin 1024, W ⟨x.val, by omega⟩ = wL x) (hC : ∀ x : Fin 256, W ⟨1024 + x.val, by omega⟩ = wC x)
    (hS : W ⟨1280, by omega⟩ = wS) (hpos : 0 < wS) :
    ∑ x : Fin 1024, (vL x : EReal) * Ideal.div (Ideal.exp (u ⟨x.val, by omega⟩ - (M : EReal))) (∑ y : Fin 1281, Ideal.exp (u y - (M : EReal)))
      + ∑ x : Fin 256, (vC x : EReal) * Ideal.div (Ideal.exp (u ⟨1024 + x.val, by omega⟩ - (M : EReal))) (∑ y : Fin 1281, Ideal.exp (u y - (M : EReal)))
      = (softSink wL wC wS vL vC : EReal) := by
  have hp : 0 < Real.exp (-M) := Real.exp_pos _
  have h0 := total_pos wL wC wS (fun x => hL x ▸ (hu _).nonneg) (fun x => hC x ▸ (hu _).nonneg) hpos
  have hs : ∑ y : Fin 1281, W y * Real.exp (-M) = Real.exp (-M) * (∑ x, wL x + ∑ x, wC x + wS) := by
    rw [← Finset.sum_mul, mul_comm]
    congr 1
    refine (Fin.sum_univ_castSucc (n := 1280) (fun y : Fin (1280 + 1) => W y)).trans (congrArg₂ (· + ·) ?_ hS)
    refine (Fin.sum_univ_add (a := 1024) (b := 256) (fun y : Fin (1024 + 256) => W (Fin.castSucc y))).trans ?_
    exact congrArg₂ (· + ·) (Finset.sum_congr rfl fun x _ => hL x) (Finset.sum_congr rfl fun x _ => hC x)
  simp only [fun y => (hu y).exp_sub M, sum_coe, hs, hL, hC, div_coe _ _ (mul_pos hp h0).ne', ← EReal.coe_mul, ← EReal.coe_add]
  unfold softSink
  rw [add_div, Finset.sum_div, Finset.sum_div]
  have hq : ∀ e v : ℝ, v * (e * Real.exp (-M) / (Real.exp (-M) * (∑ x, wL x + ∑ x, wC x + wS))) = e * v / (∑ x, wL x + ∑ x, wC x + wS) := fun e v => by
    have := hp.ne'
    have := h0.ne'
    field_simp
  simp only [hq]

end Cert.Band

end
-- ==== Proof.Band.Common.lean ====
/-
  Hand-written. THE WINDOWED ATTENTION, ONE BLOCK: what a row of a block weighs, and the parts the four query blocks share.
-/
module

public import proofs.«01_k».proof.Proof.Band.Mean
public import proofs.«01_k».proof.Proof.Attn.Block
public import proofs.«01_k».proof.Proof.Gen.Kernel14Ideal.Frame
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot)

/-- The kernel's scale, 1/sqrt(128) over ln 2. -/
abbrev qscale : Ideal .f32 := Named.named κ "scale_log2e" 1040356334#32

/-- The mask's constant. -/
abbrev maskc : Ideal .f32 := Named.named κ "mask" 4048155338#32

/-- The four heads' queries by number. -/
def four (q0 q1 q2 q3 : FVec Ideal S256x128 .f32) (g : Fin 4) : FVec Ideal S256x128 .f32 := ![q0, q1, q2, q3] g

/-- The mask's constant is minus infinity. -/
theorem mask_eq : maskc = ⊥ :=
  IdealRules.named_const.ideal_named_scalar _ _ _ _ rfl

/-- A masked score: the block's test of two positions, each counted from its block's first, is the window's. -/
theorem masked (R k : Nat) (r l : Nat) (hp : R + r < 1024) (hl : k + l < 1024) (x : Ideal .f32) :
    Scalar.select (IntOp.cmpi CmpIPredicate.sle (IntOp.absi (IntOp.subi (IntOp.addi (BitVec.ofNat 32 R) (BitVec.ofNat 32 r)) (IntOp.addi (BitVec.ofNat 32 k) (BitVec.ofNat 32 l)))) 128#32)
      x maskc = if near (R + r) (k + l) then x else (⊥ : EReal) := by
  have e : ∀ a b : Nat, IntOp.addi (BitVec.ofNat 32 a) (BitVec.ofNat 32 b) = BitVec.ofNat 32 (a + b) := fun a b => (BitVec.ofNat_add a b).symm
  rw [e, e, mask_eq]
  exact near_select ⟨R + r, hp⟩ ⟨k + l, hl⟩ x ⊥

/-- The rotated keys at an index. -/
theorem keys_apply (x c s : Vec Ideal S1024x128 .f32) (l : Fin 1024) (d : Fin 128) :
    k0_pay5 (F := Ideal) (View.ld x r0_0) (View.ld c r0_0) (View.ld s r0_0) (ix2 l d)
      = rot (fun e => x (ix2 l e)) (fun e => c (ix2 l e)) (fun e => s (ix2 l e)) d := by
  unfold rot
  pointwise [k0_pay5]

theorem vals_apply (x : Vec Ideal S1024x128 .f32) (l : Fin 1024) (e : Fin 128) : k0_pay6 (View.ld x r0_0) (ix2 l e) = x (ix2 l e) := by
  pointwise [k0_pay6]

theorem ctxk_apply (x : Vec Ideal S1x256x128 .f32) (l : Fin 256) (e : Fin 128) : k0_pay7 (View.ld x r0_1) (ix2 l e) = x (ix3 (0 : Fin 1) l e) := by
  pointwise [k0_pay7]

theorem ctxv_apply (x : Vec Ideal S1x256x128 .f32) (l : Fin 256) (e : Fin 128) : k0_pay8 (View.ld x r0_1) (ix2 l e) = x (ix3 (0 : Fin 1) l e) := by
  pointwise [k0_pay8]

theorem sink_apply (x : Vec Ideal S1x4x8x128 .f32) (g : Fin 4) : k0_pay9 (View.ld x r0_2) (ix3 g (0 : Fin 1) (0 : Fin 1)) = x (ix4 (0 : Fin 1) g (0 : Fin 8) (0 : Fin 128)) := by
  pointwise [k0_pay9]

/-- A query row's score against a key of its sequence. -/
def score (x0 : Vec Ideal S1024x512 .f32) (x1 x5 x6 : Vec Ideal S1024x128 .f32) (p : Fin 1024) (g : Fin 4) (l : Fin 1024) : EReal :=
  ∑ e, rot (fun e => x0 (ix2 p (⟨g.val * 128 + e.val, by omega⟩ : Fin 512)) * qscale) (fun e => x5 (ix2 p e)) (fun e => x6 (ix2 p e)) e
      * rot (fun e => x1 (ix2 l e)) (fun e => x5 (ix2 l e)) (fun e => x6 (ix2 l e)) e

/-- What the body leaves at row `p`, head `g`, lane `d`, from the blocks it reads. -/
def spec (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (p : Fin 1024) (g : Fin 4) (d : Fin 128) : EReal :=
  wmean
    (fun l : Fin 1024 => if near p.val l.val then score x0 x1 x5 x6 p g l else ⊥)
    (fun l => ∑ e, x0 (ix2 p (⟨g.val * 128 + e.val, by omega⟩ : Fin 512)) * qscale * x3 (ix3 (0 : Fin 1) l e))
    (x7 (ix4 (0 : Fin 1) g (0 : Fin 8) (0 : Fin 128)))
    (fun l => x2 (ix2 l d)) (fun l => x4 (ix3 (0 : Fin 1) l d))

/-- Head 0 of a stored stack of four, at an index. -/
theorem cut0_apply (B : FVec Ideal S4x256x128 .f32) (z : S256x128.Idx) :
    (truncf .bf16 (shapeCast S256x128 (extractStridedSlice S1x256x128 ![0, 0, 0] B slices_S4x256x128_o0_0_0_S1x256x128) shapeCasts_S1x256x128_S256x128) bitsLt_bf16_f32 : FVec Ideal S256x128 .bf16) z
      = B (ix3 (0 : Fin 4) (z 0) (z 1)) := by
  pointwise

/-- Head 1 of a stored stack of four, at an index. -/
theorem cut1_apply (B : FVec Ideal S4x256x128 .f32) (z : S256x128.Idx) :
    (truncf .bf16 (shapeCast S256x128 (extractStridedSlice S1x256x128 ![1, 0, 0] B slices_S4x256x128_o1_0_0_S1x256x128) shapeCasts_S1x256x128_S256x128) bitsLt_bf16_f32 : FVec Ideal S256x128 .bf16) z
      = B (ix3 (1 : Fin 4) (z 0) (z 1)) := by
  pointwise

/-- Head 2 of a stored stack of four, at an index. -/
theorem cut2_apply (B : FVec Ideal S4x256x128 .f32) (z : S256x128.Idx) :
    (truncf .bf16 (shapeCast S256x128 (extractStridedSlice S1x256x128 ![2, 0, 0] B slices_S4x256x128_o2_0_0_S1x256x128) shapeCasts_S1x256x128_S256x128) bitsLt_bf16_f32 : FVec Ideal S256x128 .bf16) z
      = B (ix3 (2 : Fin 4) (z 0) (z 1)) := by
  pointwise

/-- Head 3 of a stored stack of four, at an index. -/
theorem cut3_apply (B : FVec Ideal S4x256x128 .f32) (z : S256x128.Idx) :
    (truncf .bf16 (shapeCast S256x128 (extractStridedSlice S1x256x128 ![3, 0, 0] B slices_S4x256x128_o3_0_0_S1x256x128) shapeCasts_S1x256x128_S256x128) bitsLt_bf16_f32 : FVec Ideal S256x128 .bf16) z
      = B (ix3 (3 : Fin 4) (z 0) (z 1)) := by
  pointwise

end Cert.Band

end
-- ==== Proof.Band.Block0.lean ====
/-
  Hand-written. THE WINDOWED ATTENTION, QUERY BLOCK 0: rows 0 to 255 against keys 0 to 383, the context and the sink.
-/
module

public import proofs.«01_k».proof.Proof.Band.Common
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot)

/-- The masked scores against the sequence's keys, at an index. -/
theorem local0_apply (k : FVec Ideal S1024x128 .bf16) (q0 q1 q2 q3 c s : FVec Ideal S256x128 .f32) (g : Fin 4) (r : Fin 256) (l : Fin 384) :
    k0_pay21 (k0_pay20 k (k0_pay12 (k0_pay10 q0) c s) (k0_pay15 q1 c s) (k0_pay16 q2) c s q3 c s) (ix3 g r l)
      = Scalar.select (IntOp.cmpi CmpIPredicate.sle (IntOp.absi (IntOp.subi (IntOp.addi 0#32 (BitVec.ofNat 32 r.val)) (IntOp.addi 0#32 (BitVec.ofNat 32 l.val)))) 128#32)
          (∑ d, rot (fun e => four q0 q1 q2 q3 g (ix2 r e) * qscale) (fun e => c (ix2 r e)) (fun e => s (ix2 r e)) d * k (ix2 (⟨0 + l.val, by omega⟩ : Fin 1024) d)) maskc := by
  match g with
  | ⟨0, _⟩ =>
    unfold rot four
    pointwise [k0_pay21, k0_pay20, k0_pay18, k0_pay16, k0_pay15, k0_pay13, k0_pay12, k0_pay10]
  | ⟨1, _⟩ =>
    unfold rot four
    pointwise [k0_pay21, k0_pay20, k0_pay18, k0_pay16, k0_pay15, k0_pay13, k0_pay12, k0_pay10]
  | ⟨2, _⟩ =>
    unfold rot four
    pointwise [k0_pay21, k0_pay20, k0_pay18, k0_pay16, k0_pay15, k0_pay13, k0_pay12, k0_pay10]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold rot four
    pointwise [k0_pay21, k0_pay20, k0_pay18, k0_pay16, k0_pay15, k0_pay13, k0_pay12, k0_pay10]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The scores against the context's keys, at an index. -/
theorem ctx0_apply (kc : FVec Ideal S256x128 .bf16) (q0 q1 q2 q3 : FVec Ideal S256x128 .f32) (g : Fin 4) (r : Fin 256) (l : Fin 256) :
    k0_pay22 kc (k0_pay19 (k0_pay11 q0) (k0_pay14 q1) (k0_pay17 q2) q3) (ix3 g r l)
      = ∑ d, four q0 q1 q2 q3 g (ix2 r d) * qscale * kc (ix2 l d) := by
  match g with
  | ⟨0, _⟩ =>
    unfold four
    pointwise [k0_pay22, k0_pay19, k0_pay18, k0_pay17, k0_pay16, k0_pay14, k0_pay13, k0_pay11, k0_pay10]
  | ⟨1, _⟩ =>
    unfold four
    pointwise [k0_pay22, k0_pay19, k0_pay18, k0_pay17, k0_pay16, k0_pay14, k0_pay13, k0_pay11, k0_pay10]
  | ⟨2, _⟩ =>
    unfold four
    pointwise [k0_pay22, k0_pay19, k0_pay18, k0_pay17, k0_pay16, k0_pay14, k0_pay13, k0_pay11, k0_pay10]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold four
    pointwise [k0_pay22, k0_pay19, k0_pay18, k0_pay17, k0_pay16, k0_pay14, k0_pay13, k0_pay11, k0_pay10]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The largest score of a row. -/
theorem top0_apply (v21 : FVec Ideal S256x128 .bf16) (v26 : FVec Ideal S4x1x1 .f32) (v107 : FVec Ideal S1024x128 .bf16) (v110 : FVec Ideal S1024x384 .f32) (g : Fin 4) (r : Fin 256) :
    k0_pay23 v21 v26 v107 v110 (ix3 g r (0 : Fin 1)) = top (fun l => k0_pay21 v110 (ix3 g r l)) (fun l => k0_pay22 v21 v107 (ix3 g r l)) (v26 (ix3 g (0 : Fin 1) (0 : Fin 1))) := by
  unfold top
  pointwise [k0_pay23]

/-- The block at an index, from its scores. -/
theorem mean0_apply (v18 : FVec Ideal S1024x128 .bf16) (v21 v24 : FVec Ideal S256x128 .bf16) (v26 : FVec Ideal S4x1x1 .f32) (v107 : FVec Ideal S1024x128 .bf16) (v110 : FVec Ideal S1024x384 .f32) (g : Fin 4) (r : Fin 256) (d : Fin 128) :
    k0_pay28 (k0_pay26 v21 v26 v107 v110) (k0_pay27 v18 v21 v24 v26 v107 v110) (ix3 g r d)
      = wmean (fun l => k0_pay21 v110 (ix3 g r l)) (fun l => k0_pay22 v21 v107 (ix3 g r l)) (v26 (ix3 g (0 : Fin 1) (0 : Fin 1)))
          (fun l : Fin 384 => v18 (ix2 (⟨0 + l.val, by omega⟩ : Fin 1024) d)) (fun l => v24 (ix2 l d)) := by
  unfold wmean
  rw [← top0_apply]
  unfold meanAt pw
  pointwise [k0_pay28, k0_pay27, k0_pay26, k0_pay25, k0_pay24]

/-- The vector of query block 0. -/
def block0 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) : FVec Ideal S4x256x128 .f32 :=
  k0_pay28 (k0_pay103 x0 x1 x2 x3 x4 x5 x6 x7) (k0_pay104 x0 x1 x2 x3 x4 x5 x6 x7)

/-- The four heads' queries of query block 0, at an index. -/
theorem four0_apply (x0 : Vec Ideal S1024x512 .f32) (g : Fin 4) (r : Fin 256) (e : Fin 128) :
    four (View.ld x0 r0_3) (View.ld x0 r0_5) (View.ld x0 r0_6) (View.ld x0 r0_7) g (ix2 r e)
      = x0 (ix2 (⟨0 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 0 at an index. -/
theorem block0_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (g : Fin 4) (r : Fin 256) (d : Fin 128) :
    block0 x0 x1 x2 x3 x4 x5 x6 x7 (ix3 g r d) = spec x0 x1 x2 x3 x4 x5 x6 x7 ⟨0 + r.val, by omega⟩ g d := by
  have hc : ∀ e : Fin 128, View.ld x5 r0_4 (ix2 r e) = x5 (ix2 (⟨0 + r.val, by omega⟩ : Fin 1024) e) := fun e => by pointwise
  have hs : ∀ e : Fin 128, View.ld x6 r0_4 (ix2 r e) = x6 (ix2 (⟨0 + r.val, by omega⟩ : Fin 1024) e) := fun e => by pointwise
  unfold block0 spec
  refine (mean0_apply _ _ _ _ _ _ _ _ _).trans ?_
  refine Eq.trans ?_ (widen (n := 384) 0 (by decide) _ _ _ _ _ fun l hl => if_neg (by rintro ⟨h1, h2⟩; dsimp only at h1 h2; omega))
  refine congr (congr (congr (congr (congrArg wmean (funext fun l => ?_)) (funext fun l => ?_)) ?_) (funext fun l => ?_)) (funext fun l => ?_)
  · refine (local0_apply (k0_pay5 (View.ld x1 r0_0) (View.ld x5 r0_0) (View.ld x6 r0_0)) (View.ld x0 r0_3) (View.ld x0 r0_5) (View.ld x0 r0_6) (View.ld x0 r0_7) (View.ld x5 r0_4) (View.ld x6 r0_4) g r l).trans ((masked 0 0 r.val l.val (by omega) (by omega) _).trans (if_congr Iff.rfl ?_ rfl))
    unfold score
    simp only [four0_apply, hc, hs, keys_apply]
  · refine (ctx0_apply (k0_pay7 (View.ld x3 r0_1)) (View.ld x0 r0_3) (View.ld x0 r0_5) (View.ld x0 r0_6) (View.ld x0 r0_7) g r l).trans ?_
    simp only [four0_apply, ctxk_apply]
  · exact sink_apply x7 g
  · exact vals_apply x2 _ d
  · exact ctxv_apply x4 l d

end Cert.Band

end
-- ==== Proof.Band.Block1.lean ====
/-
  Hand-written. THE WINDOWED ATTENTION, QUERY BLOCK 1: rows 256 to 511 against keys 128 to 639, the context and the sink.
-/
module

public import proofs.«01_k».proof.Proof.Band.Common
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot)

/-- The masked scores against the sequence's keys, at an index. -/
theorem local1_apply (k : FVec Ideal S1024x128 .bf16) (q0 q1 q2 q3 c s : FVec Ideal S256x128 .f32) (g : Fin 4) (r : Fin 256) (l : Fin 512) :
    k0_pay47 k (k0_pay36 (k0_pay35 q0 c s)) (k0_pay39 q1 c s) (k0_pay42 s) (k0_pay43 q2) (k0_pay44 q2 c) q3 c s (ix3 g r l)
      = Scalar.select (IntOp.cmpi CmpIPredicate.sle (IntOp.absi (IntOp.subi (IntOp.addi 256#32 (BitVec.ofNat 32 r.val)) (IntOp.addi 128#32 (BitVec.ofNat 32 l.val)))) 128#32)
          (∑ d, rot (fun e => four q0 q1 q2 q3 g (ix2 r e) * qscale) (fun e => c (ix2 r e)) (fun e => s (ix2 r e)) d * k (ix2 (⟨128 + l.val, by omega⟩ : Fin 1024) d)) maskc := by
  match g with
  | ⟨0, _⟩ =>
    unfold rot four
    pointwise [k0_pay47, k0_pay45, k0_pay44, k0_pay43, k0_pay42, k0_pay40, k0_pay39, k0_pay37, k0_pay36, k0_pay35, k0_pay33]
  | ⟨1, _⟩ =>
    unfold rot four
    pointwise [k0_pay47, k0_pay45, k0_pay44, k0_pay43, k0_pay42, k0_pay40, k0_pay39, k0_pay37, k0_pay36, k0_pay35, k0_pay33]
  | ⟨2, _⟩ =>
    unfold rot four
    pointwise [k0_pay47, k0_pay45, k0_pay44, k0_pay43, k0_pay42, k0_pay40, k0_pay39, k0_pay37, k0_pay36, k0_pay35, k0_pay33]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold rot four
    pointwise [k0_pay47, k0_pay45, k0_pay44, k0_pay43, k0_pay42, k0_pay40, k0_pay39, k0_pay37, k0_pay36, k0_pay35, k0_pay33]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The scaled queries, at an index. -/
theorem ctx1_apply (q0 q1 q2 q3 : FVec Ideal S256x128 .f32) (g : Fin 4) (r : Fin 256) (d : Fin 128) :
    k0_pay46 (F := Ideal) (k0_pay34 q0) (k0_pay38 q1) (k0_pay41 q2) q3 (ix2 (⟨g.val * 256 + r.val, by omega⟩ : Fin 1024) d)
      = four q0 q1 q2 q3 g (ix2 r d) * qscale := by
  match g with
  | ⟨0, _⟩ =>
    unfold four
    pointwise [k0_pay46, k0_pay45, k0_pay41, k0_pay40, k0_pay38, k0_pay37, k0_pay34, k0_pay33]
  | ⟨1, _⟩ =>
    unfold four
    pointwise [k0_pay46, k0_pay45, k0_pay41, k0_pay40, k0_pay38, k0_pay37, k0_pay34, k0_pay33]
  | ⟨2, _⟩ =>
    unfold four
    pointwise [k0_pay46, k0_pay45, k0_pay41, k0_pay40, k0_pay38, k0_pay37, k0_pay34, k0_pay33]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold four
    pointwise [k0_pay46, k0_pay45, k0_pay41, k0_pay40, k0_pay38, k0_pay37, k0_pay34, k0_pay33]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The block at an index, from its scores. -/
theorem mean1_apply (v18 : FVec Ideal S1024x128 .bf16) (v21 v24 : FVec Ideal S256x128 .bf16) (v26 : FVec Ideal S4x1x1 .f32) (v258 : FVec Ideal S1024x128 .bf16) (v277 : FVec Ideal S4x256x512 .f32) (g : Fin 4) (r : Fin 256) (d : Fin 128) :
    k0_pay48 v18 v21 v24 v26 v258 v277 (constant S1024x256 .f32 0x00000000#32) (ix3 g r d)
      = wmean (fun l => v277 (ix3 g r l)) (fun l => ∑ e, v258 (ix2 (⟨g.val * 256 + r.val, by omega⟩ : Fin 1024) e) * v21 (ix2 l e)) (v26 (ix3 g (0 : Fin 1) (0 : Fin 1)))
          (fun l : Fin 512 => v18 (ix2 (⟨128 + l.val, by omega⟩ : Fin 1024) d)) (fun l => v24 (ix2 l d)) := by
  unfold wmean meanAt top pw
  pointwise [k0_pay48]

/-- The vector of query block 1. -/
def block1 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) : FVec Ideal S4x256x128 .f32 :=
  k0_pay48 (k0_pay97 x0 x1 x2 x3 x4 x5 x6 x7) (k0_pay98 x0 x1 x2 x3 x4 x5 x6 x7) (k0_pay99 x0 x1 x2 x3 x4 x5 x6 x7) (k0_pay100 x0 x1 x2 x3 x4 x5 x6 x7) (k0_pay106 x0 x1 x2 x3 x4 x5 x6 x7) (k0_pay107 x0 x1 x2 x3 x4 x5 x6 x7) (k0_pay105 x0 x1 x2 x3 x4 x5 x6 x7)

/-- The four heads' queries of query block 1, at an index. -/
theorem four1_apply (x0 : Vec Ideal S1024x512 .f32) (g : Fin 4) (r : Fin 256) (e : Fin 128) :
    four (View.ld x0 r0_8) (View.ld x0 r0_10) (View.ld x0 r0_11) (View.ld x0 r0_12) g (ix2 r e)
      = x0 (ix2 (⟨256 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 1 at an index. -/
theorem block1_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (g : Fin 4) (r : Fin 256) (d : Fin 128) :
    block1 x0 x1 x2 x3 x4 x5 x6 x7 (ix3 g r d) = spec x0 x1 x2 x3 x4 x5 x6 x7 ⟨256 + r.val, by omega⟩ g d := by
  have hc : ∀ e : Fin 128, View.ld x5 r0_9 (ix2 r e) = x5 (ix2 (⟨256 + r.val, by omega⟩ : Fin 1024) e) := fun e => by pointwise
  have hs : ∀ e : Fin 128, View.ld x6 r0_9 (ix2 r e) = x6 (ix2 (⟨256 + r.val, by omega⟩ : Fin 1024) e) := fun e => by pointwise
  unfold block1 spec
  refine (mean1_apply _ _ _ _ _ _ _ _ _).trans ?_
  refine Eq.trans ?_ (widen (n := 512) 128 (by decide) _ _ _ _ _ fun l hl => if_neg (by rintro ⟨h1, h2⟩; dsimp only at h1 h2; omega))
  refine congr (congr (congr (congr (congrArg wmean (funext fun l => ?_)) (funext fun l => ?_)) ?_) (funext fun l => ?_)) (funext fun l => ?_)
  · refine (local1_apply (k0_pay5 (View.ld x1 r0_0) (View.ld x5 r0_0) (View.ld x6 r0_0)) (View.ld x0 r0_8) (View.ld x0 r0_10) (View.ld x0 r0_11) (View.ld x0 r0_12) (View.ld x5 r0_9) (View.ld x6 r0_9) g r l).trans ((masked 256 128 r.val l.val (by omega) (by omega) _).trans (if_congr Iff.rfl ?_ rfl))
    unfold score
    simp only [four1_apply, hc, hs, keys_apply]
  · refine Finset.sum_congr rfl fun e _ => ?_
    refine congrArg₂ (· * ·) ((ctx1_apply (View.ld x0 r0_8) (View.ld x0 r0_10) (View.ld x0 r0_11) (View.ld x0 r0_12) g r e).trans ?_) (ctxk_apply x3 l e)
    rw [four1_apply]
  · exact sink_apply x7 g
  · exact vals_apply x2 _ d
  · exact ctxv_apply x4 l d

end Cert.Band

end
-- ==== Proof.Band.Block2.lean ====
/-
  Hand-written. THE WINDOWED ATTENTION, QUERY BLOCK 2: rows 512 to 767 against keys 384 to 895, the context and the sink.
-/
module

public import proofs.«01_k».proof.Proof.Band.Common
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot)

/-- The masked scores against the sequence's keys, at an index. -/
theorem local2_apply (k : FVec Ideal S1024x128 .bf16) (q0 q1 q2 q3 c s : FVec Ideal S256x128 .f32) (g : Fin 4) (r : Fin 256) (l : Fin 512) :
    k0_pay70 k (k0_pay55 q0 c s) (k0_pay61 (k0_pay56 q1) (k0_pay58 c) (k0_pay59 s) k0_pay60 0#32) (k0_pay64 q2 c s) (k0_pay65 q3) (k0_pay67 c) (k0_pay68 s) (iota .tc S256x128 32 [1] iota_S256x128_d1_w32) k0_pay69 (ix3 g r l)
      = Scalar.select (IntOp.cmpi CmpIPredicate.sle (IntOp.absi (IntOp.subi (IntOp.addi 512#32 (BitVec.ofNat 32 r.val)) (IntOp.addi 384#32 (BitVec.ofNat 32 l.val)))) 128#32)
          (∑ d, rot (fun e => four q0 q1 q2 q3 g (ix2 r e) * qscale) (fun e => c (ix2 r e)) (fun e => s (ix2 r e)) d * k (ix2 (⟨384 + l.val, by omega⟩ : Fin 1024) d)) maskc := by
  match g with
  | ⟨0, _⟩ =>
    unfold rot four
    pointwise [k0_pay70, k0_pay69, k0_pay68, k0_pay67, k0_pay65, k0_pay64, k0_pay62, k0_pay61, k0_pay60, k0_pay59, k0_pay58, k0_pay56, k0_pay55, k0_pay53]
  | ⟨1, _⟩ =>
    unfold rot four
    pointwise [k0_pay70, k0_pay69, k0_pay68, k0_pay67, k0_pay65, k0_pay64, k0_pay62, k0_pay61, k0_pay60, k0_pay59, k0_pay58, k0_pay56, k0_pay55, k0_pay53]
  | ⟨2, _⟩ =>
    unfold rot four
    pointwise [k0_pay70, k0_pay69, k0_pay68, k0_pay67, k0_pay65, k0_pay64, k0_pay62, k0_pay61, k0_pay60, k0_pay59, k0_pay58, k0_pay56, k0_pay55, k0_pay53]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold rot four
    pointwise [k0_pay70, k0_pay69, k0_pay68, k0_pay67, k0_pay65, k0_pay64, k0_pay62, k0_pay61, k0_pay60, k0_pay59, k0_pay58, k0_pay56, k0_pay55, k0_pay53]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The scores against the context's keys, at an index. -/
theorem ctx2_apply (kc : FVec Ideal S256x128 .bf16) (q0 q1 q2 q3 : FVec Ideal S256x128 .f32) (g : Fin 4) (r : Fin 256) (l : Fin 256) :
    k0_pay71 kc (k0_pay54 q0) (k0_pay57 q1) (k0_pay63 q2) (k0_pay66 q3) (ix3 g r l)
      = ∑ d, four q0 q1 q2 q3 g (ix2 r d) * qscale * kc (ix2 l d) := by
  match g with
  | ⟨0, _⟩ =>
    unfold four
    pointwise [k0_pay71, k0_pay66, k0_pay65, k0_pay63, k0_pay62, k0_pay57, k0_pay56, k0_pay54, k0_pay53]
  | ⟨1, _⟩ =>
    unfold four
    pointwise [k0_pay71, k0_pay66, k0_pay65, k0_pay63, k0_pay62, k0_pay57, k0_pay56, k0_pay54, k0_pay53]
  | ⟨2, _⟩ =>
    unfold four
    pointwise [k0_pay71, k0_pay66, k0_pay65, k0_pay63, k0_pay62, k0_pay57, k0_pay56, k0_pay54, k0_pay53]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold four
    pointwise [k0_pay71, k0_pay66, k0_pay65, k0_pay63, k0_pay62, k0_pay57, k0_pay56, k0_pay54, k0_pay53]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The largest score of a row. -/
theorem top2_apply (v21 : FVec Ideal S256x128 .bf16) (v26 : FVec Ideal S4x1x1 .f32) (v16 : FVec Ideal S1024x128 .bf16) (v332 v348 v352 v368 v372 v388 : FVec Ideal S256x128 .bf16) (v391 : FVec Ideal S256x128 .f32) (v392 : FVec Ideal S256x128 .bf16) (v394 v396 : FVec Ideal S256x128 .f32) (v397 v398 : IVec S256x128 32) (g : Fin 4) (r : Fin 256) :
    k0_pay73 v16 v21 v26 v332 v348 v352 v368 v372 v388 v391 v392 v394 v396 v397 v398 (ix3 g r (0 : Fin 1)) = top (fun l => k0_pay70 v16 v348 v368 v388 v391 v394 v396 v397 v398 (ix3 g r l)) (fun l => k0_pay71 v21 v332 v352 v372 v392 (ix3 g r l)) (v26 (ix3 g (0 : Fin 1) (0 : Fin 1))) := by
  unfold top
  pointwise [k0_pay73]

/-- The block at an index, from its scores. -/
theorem mean2_apply (v18 : FVec Ideal S1024x128 .bf16) (v21 v24 : FVec Ideal S256x128 .bf16) (v26 : FVec Ideal S4x1x1 .f32) (v16 : FVec Ideal S1024x128 .bf16) (v332 v348 v352 v368 v372 v388 : FVec Ideal S256x128 .bf16) (v391 : FVec Ideal S256x128 .f32) (v392 : FVec Ideal S256x128 .bf16) (v394 v396 : FVec Ideal S256x128 .f32) (v397 v398 : IVec S256x128 32) (g : Fin 4) (r : Fin 256) (d : Fin 128) :
    k0_pay77 v24 v26 (k0_pay71 v21 v332 v352 v372 v392) (k0_pay72 v18) (k0_pay73 v16 v21 v26 v332 v348 v352 v368 v372 v388 v391 v392 v394 v396 v397 v398) (k0_pay75 v16 v21 v26 v332 v348 v352 v368 v372 v388 v391 v392 v394 v396 v397 v398) (k0_pay76 v16 v21 v26 v332 v348 v352 v368 v372 v388 v391 v392 v394 v396 v397 v398) (constant S1024x128 .f32 0x00000000#32) (ix3 g r d)
      = wmean (fun l => k0_pay70 v16 v348 v368 v388 v391 v394 v396 v397 v398 (ix3 g r l)) (fun l => k0_pay71 v21 v332 v352 v372 v392 (ix3 g r l)) (v26 (ix3 g (0 : Fin 1) (0 : Fin 1)))
          (fun l : Fin 512 => v18 (ix2 (⟨384 + l.val, by omega⟩ : Fin 1024) d)) (fun l => v24 (ix2 l d)) := by
  unfold wmean
  rw [← top2_apply]
  unfold meanAt pw
  pointwise [k0_pay77, k0_pay76, k0_pay75, k0_pay74, k0_pay72]

/-- The vector of query block 2. -/
def block2 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) : FVec Ideal S4x256x128 .f32 :=
  k0_pay77 (k0_pay99 x0 x1 x2 x3 x4 x5 x6 x7) (k0_pay100 x0 x1 x2 x3 x4 x5 x6 x7) (k0_pay121 x0 x1 x2 x3 x4 x5 x6 x7) (k0_pay122 x0 x1 x2 x3 x4 x5 x6 x7) (k0_pay123 x0 x1 x2 x3 x4 x5 x6 x7) (k0_pay124 x0 x1 x2 x3 x4 x5 x6 x7) (k0_pay125 x0 x1 x2 x3 x4 x5 x6 x7) (k0_pay120 x0 x1 x2 x3 x4 x5 x6 x7)

/-- The four heads' queries of query block 2, at an index. -/
theorem four2_apply (x0 : Vec Ideal S1024x512 .f32) (g : Fin 4) (r : Fin 256) (e : Fin 128) :
    four (View.ld x0 r0_13) (View.ld x0 r0_15) (View.ld x0 r0_16) (View.ld x0 r0_17) g (ix2 r e)
      = x0 (ix2 (⟨512 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 2 at an index. -/
theorem block2_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (g : Fin 4) (r : Fin 256) (d : Fin 128) :
    block2 x0 x1 x2 x3 x4 x5 x6 x7 (ix3 g r d) = spec x0 x1 x2 x3 x4 x5 x6 x7 ⟨512 + r.val, by omega⟩ g d := by
  have hc : ∀ e : Fin 128, View.ld x5 r0_14 (ix2 r e) = x5 (ix2 (⟨512 + r.val, by omega⟩ : Fin 1024) e) := fun e => by pointwise
  have hs : ∀ e : Fin 128, View.ld x6 r0_14 (ix2 r e) = x6 (ix2 (⟨512 + r.val, by omega⟩ : Fin 1024) e) := fun e => by pointwise
  unfold block2 spec
  refine (mean2_apply _ _ _ _ _ _ _ _ _ _ _ _ _ _ _ _ _ _ _ _).trans ?_
  refine Eq.trans ?_ (widen (n := 512) 384 (by decide) _ _ _ _ _ fun l hl => if_neg (by rintro ⟨h1, h2⟩; dsimp only at h1 h2; omega))
  refine congr (congr (congr (congr (congrArg wmean (funext fun l => ?_)) (funext fun l => ?_)) ?_) (funext fun l => ?_)) (funext fun l => ?_)
  · refine (local2_apply (k0_pay5 (View.ld x1 r0_0) (View.ld x5 r0_0) (View.ld x6 r0_0)) (View.ld x0 r0_13) (View.ld x0 r0_15) (View.ld x0 r0_16) (View.ld x0 r0_17) (View.ld x5 r0_14) (View.ld x6 r0_14) g r l).trans ((masked 512 384 r.val l.val (by omega) (by omega) _).trans (if_congr Iff.rfl ?_ rfl))
    unfold score
    simp only [four2_apply, hc, hs, keys_apply]
  · refine (ctx2_apply (k0_pay7 (View.ld x3 r0_1)) (View.ld x0 r0_13) (View.ld x0 r0_15) (View.ld x0 r0_16) (View.ld x0 r0_17) g r l).trans ?_
    simp only [four2_apply, ctxk_apply]
  · exact sink_apply x7 g
  · exact vals_apply x2 _ d
  · exact ctxv_apply x4 l d

end Cert.Band

end
-- ==== Proof.Band.Block3.lean ====
/-
  Hand-written. THE WINDOWED ATTENTION, QUERY BLOCK 3: rows 768 to 1023 against keys 640 to 1023, the context and the sink.
-/
module

public import proofs.«01_k».proof.Proof.Band.Common
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot)

/-- The scores against the sequence's keys, at an index. -/
theorem local3_apply (k : FVec Ideal S1024x128 .bf16) (q0 q1 q2 q3 c s : FVec Ideal S256x128 .f32) (g : Fin 4) (r : Fin 256) (l : Fin 384) :
    k0_pay93 k (k0_pay85 (k0_pay82 q0) (k0_pay84 c) s) (k0_pay88 q1 c s) (k0_pay89 q2) c s q3 c s (ix3 g r l)
      = ∑ d, rot (fun e => four q0 q1 q2 q3 g (ix2 r e) * qscale) (fun e => c (ix2 r e)) (fun e => s (ix2 r e)) d * k (ix2 (⟨640 + l.val, by omega⟩ : Fin 1024) d) := by
  match g with
  | ⟨0, _⟩ =>
    unfold rot four
    pointwise [k0_pay93, k0_pay91, k0_pay89, k0_pay88, k0_pay86, k0_pay85, k0_pay84, k0_pay82]
  | ⟨1, _⟩ =>
    unfold rot four
    pointwise [k0_pay93, k0_pay91, k0_pay89, k0_pay88, k0_pay86, k0_pay85, k0_pay84, k0_pay82]
  | ⟨2, _⟩ =>
    unfold rot four
    pointwise [k0_pay93, k0_pay91, k0_pay89, k0_pay88, k0_pay86, k0_pay85, k0_pay84, k0_pay82]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold rot four
    pointwise [k0_pay93, k0_pay91, k0_pay89, k0_pay88, k0_pay86, k0_pay85, k0_pay84, k0_pay82]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The scaled queries, at an index. -/
theorem ctx3_apply (q0 q1 q2 q3 : FVec Ideal S256x128 .f32) (g : Fin 4) (r : Fin 256) (d : Fin 128) :
    k0_pay92 (F := Ideal) (k0_pay83 q0) (k0_pay87 q1) (k0_pay90 q2) q3 (ix2 (⟨g.val * 256 + r.val, by omega⟩ : Fin 1024) d)
      = four q0 q1 q2 q3 g (ix2 r d) * qscale := by
  match g with
  | ⟨0, _⟩ =>
    unfold four
    pointwise [k0_pay92, k0_pay91, k0_pay90, k0_pay89, k0_pay87, k0_pay86, k0_pay83, k0_pay82]
  | ⟨1, _⟩ =>
    unfold four
    pointwise [k0_pay92, k0_pay91, k0_pay90, k0_pay89, k0_pay87, k0_pay86, k0_pay83, k0_pay82]
  | ⟨2, _⟩ =>
    unfold four
    pointwise [k0_pay92, k0_pay91, k0_pay90, k0_pay89, k0_pay87, k0_pay86, k0_pay83, k0_pay82]
    simp only [Nat.reduceMul, show ¬ (512 + r.val < 256) by omega, show ¬ (512 + r.val - 256 < 256) by omega, show 512 + r.val - 256 - 256 < 256 by omega, show 512 + r.val - 256 - 256 = r.val by omega, r.isLt, dif_pos, dif_neg, not_false_eq_true, dite_true, dite_false, Fin.eta]
  | ⟨3, _⟩ =>
    unfold four
    pointwise [k0_pay92, k0_pay91, k0_pay90, k0_pay89, k0_pay87, k0_pay86, k0_pay83, k0_pay82]
    simp only [Nat.reduceMul, show ¬ (768 + r.val < 256) by omega, show ¬ (768 + r.val - 256 < 256) by omega, show ¬ (768 + r.val - 256 - 256 < 256) by omega, show 768 + r.val - 256 - 256 - 256 = r.val by omega, dif_pos, dif_neg, not_false_eq_true, dite_true, dite_false, Fin.eta]

/-- The block at an index, from its scores. -/
theorem mean3_apply (v18 : FVec Ideal S1024x128 .bf16) (v21 v24 : FVec Ideal S256x128 .bf16) (v26 : FVec Ideal S4x1x1 .f32) (v560 : FVec Ideal S1024x128 .bf16) (v564 : FVec Ideal S4x256x384 .f32) (g : Fin 4) (r : Fin 256) (d : Fin 128) :
    k0_pay94 v18 v21 v24 v26 v560 v564 (iota .tc S256x384 32 [0] iota_S256x384_d0_w32) 768#32 (ix3 g r d)
      = wmean (fun l : Fin 384 => Scalar.select (IntOp.cmpi CmpIPredicate.sle (IntOp.absi (IntOp.subi (IntOp.addi 768#32 (BitVec.ofNat 32 r.val)) (IntOp.addi 640#32 (BitVec.ofNat 32 l.val)))) 128#32) (v564 (ix3 g r l)) maskc) (fun l => ∑ e, v560 (ix2 (⟨g.val * 256 + r.val, by omega⟩ : Fin 1024) e) * v21 (ix2 l e)) (v26 (ix3 g (0 : Fin 1) (0 : Fin 1)))
          (fun l : Fin 384 => v18 (ix2 (⟨640 + l.val, by omega⟩ : Fin 1024) d)) (fun l => v24 (ix2 l d)) := by
  unfold wmean meanAt top pw
  pointwise [k0_pay94]

/-- The vector of query block 3. -/
def block3 (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) : FVec Ideal S4x256x128 .f32 :=
  k0_pay129 x0 x1 x2 x3 x4 x5 x6 x7

/-- The four heads' queries of query block 3, at an index. -/
theorem four3_apply (x0 : Vec Ideal S1024x512 .f32) (g : Fin 4) (r : Fin 256) (e : Fin 128) :
    four (View.ld x0 r0_18) (View.ld x0 r0_20) (View.ld x0 r0_21) (View.ld x0 r0_22) g (ix2 r e)
      = x0 (ix2 (⟨768 + r.val, by omega⟩ : Fin 1024) (⟨g.val * 128 + e.val, by omega⟩ : Fin 512)) := by
  match g with
  | ⟨0, _⟩ => unfold four; pointwise
  | ⟨1, _⟩ => unfold four; pointwise
  | ⟨2, _⟩ => unfold four; pointwise
  | ⟨3, _⟩ => unfold four; pointwise

/-- Query block 3 at an index. -/
theorem block3_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (g : Fin 4) (r : Fin 256) (d : Fin 128) :
    block3 x0 x1 x2 x3 x4 x5 x6 x7 (ix3 g r d) = spec x0 x1 x2 x3 x4 x5 x6 x7 ⟨768 + r.val, by omega⟩ g d := by
  have hc : ∀ e : Fin 128, View.ld x5 r0_19 (ix2 r e) = x5 (ix2 (⟨768 + r.val, by omega⟩ : Fin 1024) e) := fun e => by pointwise
  have hs : ∀ e : Fin 128, View.ld x6 r0_19 (ix2 r e) = x6 (ix2 (⟨768 + r.val, by omega⟩ : Fin 1024) e) := fun e => by pointwise
  unfold block3 spec
  refine (mean3_apply _ _ _ _ _ _ _ _ _).trans ?_
  refine Eq.trans ?_ (widen (n := 384) 640 (by decide) _ _ _ _ _ fun l hl => if_neg (by rintro ⟨h1, h2⟩; dsimp only at h1 h2; omega))
  refine congr (congr (congr (congr (congrArg wmean (funext fun l => ?_)) (funext fun l => ?_)) ?_) (funext fun l => ?_)) (funext fun l => ?_)
  · refine (masked 768 640 r.val l.val (by omega) (by omega) _).trans (if_congr Iff.rfl ?_ rfl)
    refine (local3_apply (k0_pay5 (View.ld x1 r0_0) (View.ld x5 r0_0) (View.ld x6 r0_0)) (View.ld x0 r0_18) (View.ld x0 r0_20) (View.ld x0 r0_21) (View.ld x0 r0_22) (View.ld x5 r0_19) (View.ld x6 r0_19) g r l).trans ?_
    unfold score
    simp only [four3_apply, hc, hs, keys_apply]
  · refine Finset.sum_congr rfl fun e _ => ?_
    refine congrArg₂ (· * ·) ((ctx3_apply (View.ld x0 r0_18) (View.ld x0 r0_20) (View.ld x0 r0_21) (View.ld x0 r0_22) g r e).trans ?_) (ctxk_apply x3 l e)
    rw [four3_apply]
  · exact sink_apply x7 g
  · exact vals_apply x2 _ d
  · exact ctxv_apply x4 l d

end Cert.Band

end
-- ==== Proof.Band.Out.lean ====
/-
  Hand-written. THE WINDOWED ATTENTION, THE BLOCKS TOGETHER: what the body leaves at an index of its result's block.
-/
module

public import proofs.«01_k».proof.Proof.Band.Block0
public import proofs.«01_k».proof.Proof.Band.Block1
public import proofs.«01_k».proof.Proof.Band.Block2
public import proofs.«01_k».proof.Proof.Band.Block3

@[expose] public section

set_option maxRecDepth 16384

noncomputable section

namespace Cert.Band

open Idealize.ShloMosaic Idealize.ShloMosaic.TcCoe Idealize.SL.Sem
open Cert.Kernel14Ideal Cert.Kernel14Ideal.Gen

set_option maxHeartbeats 1000000 in
/-- The body's result at row `p`, head `g` and lane `d` of its block, from the blocks it reads. -/
theorem out_apply (x0 : Vec Ideal S1024x512 .f32) (x1 : Vec Ideal S1024x128 .f32) (x2 : Vec Ideal S1024x128 .f32) (x3 : Vec Ideal S1x256x128 .f32) (x4 : Vec Ideal S1x256x128 .f32) (x5 : Vec Ideal S1024x128 .f32) (x6 : Vec Ideal S1024x128 .f32) (x7 : Vec Ideal S1x4x8x128 .f32) (i : S1024x512.Idx) (p : Fin 1024) (g : Fin 4) (d : Fin 128) (hp : (i 0).val = p.val) (hi : (i 1).val = g.val * 128 + d.val) :
    out0_8 x0 x1 x2 x3 x4 x5 x6 x7 i = spec x0 x1 x2 x3 x4 x5 x6 x7 p g d := by
  unfold out0_8
  canon_tiles z hz
  · refine (cut3_apply (block3 x0 x1 x2 x3 x4 x5 x6 x7) z).trans ((block3_apply x0 x1 x2 x3 x4 x5 x6 x7 _ _ _).trans ?_)
    exact congr (congr (congrArg (spec x0 x1 x2 x3 x4 x5 x6 x7) (Fin.ext (by show 768 + (z 0).val = p.val; omega))) (Fin.ext (by show 3 = g.val; omega)))
      (Fin.ext (by show (z 1).val = d.val; omega))
  · refine (cut2_apply (block3 x0 x1 x2 x3 x4 x5 x6 x7) z).trans ((block3_apply x0 x1 x2 x3 x4 x5 x6 x7 _ _ _).trans ?_)
    exact congr (congr (congrArg (spec x0 x1 x2 x3 x4 x5 x6 x7) (Fin.ext (by show 768 + (z 0).val = p.val; omega))) (Fin.ext (by show 2 = g.val; omega)))
      (Fin.ext (by show (z 1).val = d.val; omega))
  · refine (cut1_apply (block3 x0 x1 x2 x3 x4 x5 x6 x7) z).trans ((block3_apply x0 x1 x2 x3 x4 x5 x6 x7 _ _ _).trans ?_)
    exact congr (congr (congrArg (spec x0 x1 x2 x3 x4 x5 x6 x7) (Fin.ext (by show 768 + (z 0).val = p.val; omega))) (Fin.ext (by show 1 = g.val; omega)))
      (Fin.ext (by show (z 1).val = d.val; omega))
  · refine (cut0_apply (block3 x0 x1 x2 x3 x4 x5 x6 x7) z).trans ((block3_apply x0 x1 x2 x3 x4 x5 x6 x7 _ _ _).trans ?_)
    exact congr (congr (congrArg (spec x0 x1 x2 x3 x4 x5 x6 x7) (Fin.ext (by show 768 + (z 0).val = p.val; omega))) (Fin.ext (by show 0 = g.val; omega)))
      (Fin.ext (by show (z 1).val = d.val; omega))
  · refine (cut3_apply (block2 x0 x1 x2 x3 x4 x5 x6 x7) z).trans ((block2_apply x0 x1 x2 x3 x4 x5 x6 x7 _ _ _).trans ?_)
    exact congr (congr (congrArg (spec x0 x1 x2 x3 x4 x5 x6 x7) (Fin.ext (by show 512 + (z 0).val = p.val; omega))) (Fin.ext (by show 3 = g.val; omega)))
      (Fin.ext (by show (z 1).val = d.val; omega))
  · refine (cut2_apply (block2 x0 x1 x2 x3 x4 x5 x6 x7) z).trans ((block2_apply x0 x1 x2 x3 x4 x5 x6 x7 _ _ _).trans ?_)
    exact congr (congr (congrArg (spec x0 x1 x2 x3 x4 x5 x6 x7) (Fin.ext (by show 512 + (z 0).val = p.val; omega))) (Fin.ext (by show 2 = g.val; omega)))
      (Fin.ext (by show (z 1).val = d.val; omega))
  · refine (cut1_apply (block2 x0 x1 x2 x3 x4 x5 x6 x7) z).trans ((block2_apply x0 x1 x2 x3 x4 x5 x6 x7 _ _ _).trans ?_)
    exact congr (congr (congrArg (spec x0 x1 x2 x3 x4 x5 x6 x7) (Fin.ext (by show 512 + (z 0).val = p.val; omega))) (Fin.ext (by show 1 = g.val; omega)))
      (Fin.ext (by show (z 1).val = d.val; omega))
  · refine (cut0_apply (block2 x0 x1 x2 x3 x4 x5 x6 x7) z).trans ((block2_apply x0 x1 x2 x3 x4 x5 x6 x7 _ _ _).trans ?_)
    exact congr (congr (congrArg (spec x0 x1 x2 x3 x4 x5 x6 x7) (Fin.ext (by show 512 + (z 0).val = p.val; omega))) (Fin.ext (by show 0 = g.val; omega)))
      (Fin.ext (by show (z 1).val = d.val; omega))
  · refine (cut3_apply (block1 x0 x1 x2 x3 x4 x5 x6 x7) z).trans ((block1_apply x0 x1 x2 x3 x4 x5 x6 x7 _ _ _).trans ?_)
    exact congr (congr (congrArg (spec x0 x1 x2 x3 x4 x5 x6 x7) (Fin.ext (by show 256 + (z 0).val = p.val; omega))) (Fin.ext (by show 3 = g.val; omega)))
      (Fin.ext (by show (z 1).val = d.val; omega))
  · refine (cut2_apply (block1 x0 x1 x2 x3 x4 x5 x6 x7) z).trans ((block1_apply x0 x1 x2 x3 x4 x5 x6 x7 _ _ _).trans ?_)
    exact congr (congr (congrArg (spec x0 x1 x2 x3 x4 x5 x6 x7) (Fin.ext (by show 256 + (z 0).val = p.val; omega))) (Fin.ext (by show 2 = g.val; omega)))
      (Fin.ext (by show (z 1).val = d.val; omega))
  · refine (cut1_apply (block1 x0 x1 x2 x3 x4 x5 x6 x7) z).trans ((block1_apply x0 x1 x2 x3 x4 x5 x6 x7 _ _ _).trans ?_)
    exact congr (congr (congrArg (spec x0 x1 x2 x3 x4 x5 x6 x7) (Fin.ext (by show 256 + (z 0).val = p.val; omega))) (Fin.ext (by show 1 = g.val; omega)))
      (Fin.ext (by show (z 1).val = d.val; omega))
  · refine (cut0_apply (block1 x0 x1 x2 x3 x4 x5 x6 x7) z).trans ((block1_apply x0 x1 x2 x3 x4 x5 x6 x7 _ _ _).trans ?_)
    exact congr (congr (congrArg (spec x0 x1 x2 x3 x4 x5 x6 x7) (Fin.ext (by show 256 + (z 0).val = p.val; omega))) (Fin.ext (by show 0 = g.val; omega)))
      (Fin.ext (by show (z 1).val = d.val; omega))
  · refine (cut3_apply (block0 x0 x1 x2 x3 x4 x5 x6 x7) z).trans ((block0_apply x0 x1 x2 x3 x4 x5 x6 x7 _ _ _).trans ?_)
    exact congr (congr (congrArg (spec x0 x1 x2 x3 x4 x5 x6 x7) (Fin.ext (by show 0 + (z 0).val = p.val; omega))) (Fin.ext (by show 3 = g.val; omega)))
      (Fin.ext (by show (z 1).val = d.val; omega))
  · refine (cut2_apply (block0 x0 x1 x2 x3 x4 x5 x6 x7) z).trans ((block0_apply x0 x1 x2 x3 x4 x5 x6 x7 _ _ _).trans ?_)
    exact congr (congr (congrArg (spec x0 x1 x2 x3 x4 x5 x6 x7) (Fin.ext (by show 0 + (z 0).val = p.val; omega))) (Fin.ext (by show 2 = g.val; omega)))
      (Fin.ext (by show (z 1).val = d.val; omega))
  · refine (cut1_apply (block0 x0 x1 x2 x3 x4 x5 x6 x7) z).trans ((block0_apply x0 x1 x2 x3 x4 x5 x6 x7 _ _ _).trans ?_)
    exact congr (congr (congrArg (spec x0 x1 x2 x3 x4 x5 x6 x7) (Fin.ext (by show 0 + (z 0).val = p.val; omega))) (Fin.ext (by show 1 = g.val; omega)))
      (Fin.ext (by show (z 1).val = d.val; omega))
  · refine (cut0_apply (block0 x0 x1 x2 x3 x4 x5 x6 x7) z).trans ((block0_apply x0 x1 x2 x3 x4 x5 x6 x7 _ _ _).trans ?_)
    exact congr (congr (congrArg (spec x0 x1 x2 x3 x4 x5 x6 x7) (Fin.ext (by show 0 + (z 0).val = p.val; omega))) (Fin.ext (by show 0 = g.val; omega)))
      (Fin.ext (by show (z 1).val = d.val; omega))

end Cert.Band

end
-- ==== Proof.Band.Array.lean ====
/-
  Hand-written. THE WINDOWED ATTENTION, THE ARRAY: the element of the result at row `r` and column `c`, from the four arguments.
-/
module

public import proofs.«01_k».proof.Proof.Band.Out
public import proofs.«01_k».proof.Proof.Attn.Array
public import proofs.«01_k».proof.Proof.Gen.Kernel14Ideal.Value

@[expose] public section

set_option maxRecDepth 16384

noncomputable section

namespace Cert.Band

open Idealize.ShloMosaic Idealize.ShloMosaic.TcCoe Idealize.SL.Sem
open Cert.Kernel14Ideal Cert.Kernel14Ideal.Gen
open Cert.Attn (rot cosTable sinTable table_apply)
open Idealize.ShloMosaic.Pipeline (Dat Cfg Window)

variable (m : (ℓ : Loc nD τ sig) → Buf (Elt Ideal) ℓ) (ρ : Dev nD → PrngReg)

theorem idx_q : ∀ t : Fin cfg0.N, win0_0.index t = ![t.val / 8, t.val % 8] := (by decide +kernel : ∀ t : Fin grid0.N, _)
theorem idx_k : ∀ t : Fin cfg0.N, win0_1.index t = ![t.val / 8, 32 + t.val % 8] := (by decide +kernel : ∀ t : Fin grid0.N, _)
theorem idx_v : ∀ t : Fin cfg0.N, win0_2.index t = ![t.val / 8, 40 + t.val % 8] := (by decide +kernel : ∀ t : Fin grid0.N, _)
theorem idx_ck : ∀ t : Fin cfg0.N, win0_3.index t = ![t.val / 8, 0, t.val % 8] := (by decide +kernel : ∀ t : Fin grid0.N, _)
theorem idx_cv : ∀ t : Fin cfg0.N, win0_4.index t = ![t.val / 8, 0, t.val % 8] := (by decide +kernel : ∀ t : Fin grid0.N, _)
theorem idx_cos : ∀ t : Fin cfg0.N, win0_5.index t = ![0, 0] := (by decide +kernel : ∀ t : Fin grid0.N, _)
theorem idx_sin : ∀ t : Fin cfg0.N, win0_6.index t = ![0, 0] := (by decide +kernel : ∀ t : Fin grid0.N, _)
theorem idx_sink : ∀ t : Fin cfg0.N, win0_7.index t = ![t.val % 8, 0, 0, 0] := (by decide +kernel : ∀ t : Fin grid0.N, _)
theorem idx_out : ∀ t : Fin cfg0.N, win0_8.index t = ![t.val / 8, t.val % 8] := (by decide +kernel : ∀ t : Fin grid0.N, _)

/-- The cosine table at the region's entry. -/
theorem entry_cos (c : Dev nD) : (V m c main_v37 : Vec Ideal S1024x128 .f32)
    = shapeCast S1024x128 (broadcastInDim S1x1024x1x128 ![0, 1, 2, 3] bcast_S1x1024x1x128_S1x1024x1x128_0_1_2_3 (shapeCast S1x1024x1x128 cosTable shapeCasts_S1024x128_S1x1024x1x128)) shapeCasts_S1x1024x1x128_S1024x128 := by
  unfold V
  after_results
  rfl

/-- The table of signed sines at the region's entry. -/
theorem entry_sin (c : Dev nD) : (V m c main_v40 : Vec Ideal S1024x128 .f32)
    = shapeCast S1024x128 (broadcastInDim S1x1024x1x128 ![0, 1, 2, 3] bcast_S1x1024x1x128_S1x1024x1x128_0_1_2_3 (shapeCast S1x1024x1x128 sinTable shapeCasts_S1024x128_S1x1024x1x128)) shapeCasts_S1x1024x1x128_S1024x128 := by
  unfold V
  after_results
  rfl

/-- The context keys at the region's entry. -/
theorem entry_ck (c : Dev nD) : (V m c main_v0 : Vec Ideal S8x256x1024 .f32)
    = shapeCast S8x256x1024 (m ((c : Thread nD τ).loc main_arg1) : Vec Ideal S8x256x8x128 .f32) shapeCasts_S8x256x8x128_S8x256x1024 := by
  unfold V
  after_results
  rfl

/-- The context values at the region's entry. -/
theorem entry_cv (c : Dev nD) : (V m c main_v1 : Vec Ideal S8x256x1024 .f32)
    = shapeCast S8x256x1024 (m ((c : Thread nD τ).loc main_arg2) : Vec Ideal S8x256x8x128 .f32) shapeCasts_S8x256x8x128_S8x256x1024 := by
  unfold V
  after_results
  rfl

/-- The sinks in units of ln 2. -/
def sinks (sk : Vec Ideal S32 .f32) : FVec Ideal S32 .f32 :=
  Host.divf sk (broadcastInDim S32 ![] bcast_S_S32 (Host.log (constant S_ .f32 0x40000000#32)))

/-- The sinks at the region's entry. -/
theorem entry_sink (c : Dev nD) : (V m c main_v45 : Vec Ideal S8x4x8x128 .f32)
    = broadcastInDim S8x4x8x128 ![0, 1, 2, 3] bcast_S8x4x1x1_S8x4x8x128_0_1_2_3 (shapeCast S8x4x1x1 (sinks (m ((c : Thread nD τ).loc main_arg3) : Vec Ideal S32 .f32)) shapeCasts_S32_S8x4x1x1) := by
  unfold V
  after_results
  rfl

/-- The sink of a query head. -/
theorem sinks_apply (sk : Vec Ideal S32 .f32) (h : Fin 32) : sinks sk (ix1 h) = Ideal.div (sk (ix1 h)) (Ideal.log (Ideal.ofBits .f32 0x40000000#32)) := by
  pointwise [sinks]

/-- The element of the result for sequence `b`, key/value head `kv`, row `p`, query head `g` of the four and lane `d`. -/
def attend (a : Vec Ideal S8192x6144 .f32) (ck cv : Vec Ideal S8x256x8x128 .f32) (sk : Vec Ideal S32 .f32) (b kv : Fin 8) (p : Fin 1024) (g : Fin 4) (d : Fin 128) : EReal :=
  wmean
    (fun l : Fin 1024 => if near p.val l.val then
      ∑ e, rot (fun e => a (ix2 (⟨b.val * 1024 + p.val, by omega⟩ : Fin 8192) (⟨kv.val * 512 + g.val * 128 + e.val, by omega⟩ : Fin 6144)) * qscale)
        (fun e => cosTable (ix2 p e)) (fun e => sinTable (ix2 p e)) e
      * rot (fun e => a (ix2 (⟨b.val * 1024 + l.val, by omega⟩ : Fin 8192) (⟨4096 + kv.val * 128 + e.val, by omega⟩ : Fin 6144)))
        (fun e => cosTable (ix2 l e)) (fun e => sinTable (ix2 l e)) e else ⊥)
    (fun l => ∑ e, a (ix2 (⟨b.val * 1024 + p.val, by omega⟩ : Fin 8192) (⟨kv.val * 512 + g.val * 128 + e.val, by omega⟩ : Fin 6144)) * qscale * ck (ix4 b l kv e))
    (sinks sk (ix1 (⟨kv.val * 4 + g.val, by omega⟩ : Fin 32)))
    (fun l => a (ix2 (⟨b.val * 1024 + l.val, by omega⟩ : Fin 8192) (⟨5120 + kv.val * 128 + d.val, by omega⟩ : Fin 6144)))
    (fun l => cv (ix4 b l kv d))

/-- The result as a function of the four arguments. -/
def result (a : Vec Ideal S8192x6144 .f32) (ck cv : Vec Ideal S8x256x8x128 .f32) (sk : Vec Ideal S32 .f32) : Vec Ideal S8192x4096 .bf16 := fun i =>
  attend a ck cv sk (⟨(i 0).val / 1024, Nat.div_lt_of_lt_mul (i 0).isLt⟩) (⟨(i 1).val / 512, Nat.div_lt_of_lt_mul (i 1).isLt⟩)
    (⟨(i 0).val % 1024, Nat.mod_lt _ (by decide)⟩) (⟨(i 1).val % 512 / 128, Nat.div_lt_of_lt_mul (Nat.mod_lt _ (by decide))⟩)
    (⟨(i 1).val % 128, Nat.mod_lt _ (by decide)⟩)

/-- The query block a point reads, at an index. -/
theorem read_q (c : Dev nD) (t : Fin cfg0.N) (b kv : Fin 8) (hb : b.val = t.val / 8) (hkv : kv.val = t.val % 8) (p : Fin 1024) (g : Fin 4) (e : Fin 128) : iblk m c 0 t (ix2 p (⟨g.val * 128 + e.val, by omega⟩ : Fin 512)) = m ((c : Thread nD τ).loc main_arg0) (ix2 (⟨b.val * 1024 + p.val, by omega⟩ : Fin 8192) (⟨kv.val * 512 + g.val * 128 + e.val, by omega⟩ : Fin 6144)) := by
  blk_point [iblk, V, idx_q t, hb, hkv]

/-- The key block a point reads, at an index. -/
theorem read_k (c : Dev nD) (t : Fin cfg0.N) (b kv : Fin 8) (hb : b.val = t.val / 8) (hkv : kv.val = t.val % 8) (l : Fin 1024) (e : Fin 128) : iblk m c 1 t (ix2 l e) = m ((c : Thread nD τ).loc main_arg0) (ix2 (⟨b.val * 1024 + l.val, by omega⟩ : Fin 8192) (⟨4096 + kv.val * 128 + e.val, by omega⟩ : Fin 6144)) := by
  blk_point [iblk, V, idx_k t, hb, hkv]

/-- The value block a point reads, at an index. -/
theorem read_v (c : Dev nD) (t : Fin cfg0.N) (b kv : Fin 8) (hb : b.val = t.val / 8) (hkv : kv.val = t.val % 8) (d : Fin 128) (l : Fin 1024) : iblk m c 2 t (ix2 l d) = m ((c : Thread nD τ).loc main_arg0) (ix2 (⟨b.val * 1024 + l.val, by omega⟩ : Fin 8192) (⟨5120 + kv.val * 128 + d.val, by omega⟩ : Fin 6144)) := by
  blk_point [iblk, V, idx_v t, hb, hkv]

/-- The context keys' block a point reads, at an index. -/
theorem read_ck (c : Dev nD) (t : Fin cfg0.N) (b kv : Fin 8) (hb : b.val = t.val / 8) (hkv : kv.val = t.val % 8) (l : Fin 256) (e : Fin 128) : iblk m c 3 t (ix3 (0 : Fin 1) l e) = m ((c : Thread nD τ).loc main_arg1) (ix4 b l kv e) := by
  have hi : ((cfg0.win 3).blk t).view.emb (ix3 (0 : Fin 1) l e) = (ix3 b l (⟨kv.val * 128 + e.val, by omega⟩ : Fin 1024) : S8x256x1024.Idx) := by
    blk_ext [idx_ck t]
  unfold iblk
  refine (congrArg (V m c main_v0) hi).trans ?_
  rw [entry_ck]
  pointwise

/-- The context values' block a point reads, at an index. -/
theorem read_cv (c : Dev nD) (t : Fin cfg0.N) (b kv : Fin 8) (hb : b.val = t.val / 8) (hkv : kv.val = t.val % 8) (d : Fin 128) (l : Fin 256) : iblk m c 4 t (ix3 (0 : Fin 1) l d) = m ((c : Thread nD τ).loc main_arg2) (ix4 b l kv d) := by
  have hi : ((cfg0.win 4).blk t).view.emb (ix3 (0 : Fin 1) l d) = (ix3 b l (⟨kv.val * 128 + d.val, by omega⟩ : Fin 1024) : S8x256x1024.Idx) := by
    blk_ext [idx_cv t]
  unfold iblk
  refine (congrArg (V m c main_v1) hi).trans ?_
  rw [entry_cv]
  pointwise

/-- The block of cosines a point reads, at an index. -/
theorem read_cos (c : Dev nD) (t : Fin cfg0.N) (l : Fin 1024) (e : Fin 128) : iblk m c 5 t (ix2 l e) = cosTable (ix2 l e) := by
  have hi : ((cfg0.win 5).blk t).view.emb (ix2 l e) = (ix2 l e : S1024x128.Idx) := by
    blk_ext [idx_cos t]
  unfold iblk
  refine (congrArg (V m c main_v37) hi).trans ?_
  rw [entry_cos]
  exact table_apply _ l e

/-- The block of signed sines a point reads, at an index. -/
theorem read_sin (c : Dev nD) (t : Fin cfg0.N) (l : Fin 1024) (e : Fin 128) : iblk m c 6 t (ix2 l e) = sinTable (ix2 l e) := by
  have hi : ((cfg0.win 6).blk t).view.emb (ix2 l e) = (ix2 l e : S1024x128.Idx) := by
    blk_ext [idx_sin t]
  unfold iblk
  refine (congrArg (V m c main_v40) hi).trans ?_
  rw [entry_sin]
  exact table_apply _ l e

/-- The block of sinks a point reads, at an index. -/
theorem read_sink (c : Dev nD) (t : Fin cfg0.N) (kv : Fin 8) (hkv : kv.val = t.val % 8) (g : Fin 4) : iblk m c 7 t (ix4 (0 : Fin 1) g (0 : Fin 8) (0 : Fin 128)) = sinks (m ((c : Thread nD τ).loc main_arg3)) (ix1 (⟨kv.val * 4 + g.val, by omega⟩ : Fin 32)) := by
  have hi : ((cfg0.win 7).blk t).view.emb (ix4 (0 : Fin 1) g (0 : Fin 8) (0 : Fin 128)) = (ix4 kv g (0 : Fin 8) (0 : Fin 128) : S8x4x8x128.Idx) := by
    blk_ext [idx_sink t]
  unfold iblk
  refine (congrArg (V m c main_v45) hi).trans ?_
  rw [entry_sink]
  generalize sinks (m ((c : Thread nD τ).loc main_arg3)) = y
  pointwise

/-- What a point stores, at an index of its block. -/
theorem block_result (c : Dev nD) (t : Fin cfg0.N) (y : S1024x512.Idx) (i : S8192x4096.Idx)
    (h0 : (i 0).val = t.val / 8 * 1024 + (y 0).val) (h1 : (i 1).val = t.val % 8 * 512 + (y 1).val) :
    (dats m 0 c).after 8 t y
      = result (m ((c : Thread nD τ).loc main_arg0)) (m ((c : Thread nD τ).loc main_arg1)) (m ((c : Thread nD τ).loc main_arg2)) (m ((c : Thread nD τ).loc main_arg3)) i := by
  have hN : t.val < 64 := t.isLt.trans_eq N_0
  have y0 : (y 0).val < 1024 := (y 0).isLt
  have y1 : (y 1).val < 512 := (y 1).isLt
  obtain ⟨b, hb⟩ : ∃ b : Fin 8, b.val = t.val / 8 := ⟨⟨t.val / 8, by omega⟩, rfl⟩
  obtain ⟨kv, hkv⟩ : ∃ b : Fin 8, b.val = t.val % 8 := ⟨⟨t.val % 8, by omega⟩, rfl⟩
  obtain ⟨p, hp⟩ : ∃ p : Fin 1024, p.val = (y 0).val := ⟨⟨(y 0).val, by omega⟩, rfl⟩
  obtain ⟨g, hg⟩ : ∃ g : Fin 4, g.val = (y 1).val / 128 := ⟨⟨(y 1).val / 128, by omega⟩, rfl⟩
  obtain ⟨d, hd⟩ : ∃ d : Fin 128, d.val = (y 1).val % 128 := ⟨⟨(y 1).val % 128, by omega⟩, rfl⟩
  have er : result (m ((c : Thread nD τ).loc main_arg0)) (m ((c : Thread nD τ).loc main_arg1)) (m ((c : Thread nD τ).loc main_arg2)) (m ((c : Thread nD τ).loc main_arg3)) i
      = attend (m ((c : Thread nD τ).loc main_arg0)) (m ((c : Thread nD τ).loc main_arg1)) (m ((c : Thread nD τ).loc main_arg2)) (m ((c : Thread nD τ).loc main_arg3)) b kv p g d := by
    unfold result
    congr 1 <;> refine Fin.ext ?_ <;> dsimp only <;> omega
  rw [er, after0_8, out_apply _ _ _ _ _ _ _ _ y p g d hp.symm (by omega)]
  unfold spec score attend
  simp only [read_q m c t b kv hb hkv p g, read_k m c t b kv hb hkv, read_v m c t b kv hb hkv d, read_ck m c t b kv hb hkv, read_cv m c t b kv hb hkv d, read_cos m c t, read_sin m c t, read_sink m c t kv hkv]

/-- The result array after the run. -/
theorem array_eq (c : Dev nD) :
    (dats m 0 c).arrAt 8 cfg0.N
      = result (m ((c : Thread nD τ).loc main_arg0)) (m ((c : Thread nD τ).loc main_arg1)) (m ((c : Thread nD τ).loc main_arg2)) (m ((c : Thread nD τ).loc main_arg3)) :=
  Dat.arrAt_eq_of_covers (dats m 0 c) 8 _ (by decide +kernel) fun t hf y =>
    block_result m c t y _ (by blk_simp [idx_out t]) (by blk_simp [idx_out t])

/-- The run of the idealized call: its result is `result` of the four arguments, which end unchanged. -/
theorem run : θ_run (defs (F := Ideal)) (onTc (τ := τ) (main (F := Ideal))) ⟨m, fun _ => 0, ρ⟩ (fun r => ∀ c : Dev nD,
    r.2.mem ((c.tc : Thread nD τ).loc main_v46)
      = result (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (array_eq m c), (h c).2⟩) (Value.run_blocks m ρ)

end Cert.Band

end
-- ==== Proof.Band.Turned.lean ====
/-
  Hand-written. THE WINDOWED ATTENTION, THE REFERENCE'S TURNED HEADS: the queries and keys turned by the positions' angles, at an index.
-/
module

public import proofs.«01_k».proof.Defs
public import proofs.«01_k».proof.Proof.Attn.Turned
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Reference14Ideal Cert.Reference14Ideal.Gen Cert.Reference14Ideal.Read
open Cert.Attn (freq rowAngle colAngle turn turned)

variable (a : Vec Ideal S8192x6144 .f32) (ck cv : Vec Ideal S8x256x8x128 .f32)

theorem rows_ref (r : Fin 1024) (j : Fin 32) : val_main_v24 (F := Ideal) (ix2 r j) = rowAngle r j := by
  unfold rowAngle freq
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0]

theorem cols_ref (r : Fin 1024) (j : Fin 32) : val_main_v29 (F := Ideal) (ix2 r j) = colAngle r j := by
  unfold colAngle freq
  pointwise [val_main_v7, val_main_v8, val_main_v9, val_main_v10, val_main_v11, val_main_v12, val_main_v13, val_main_v14, val_main_v15, val_main_v16, val_main_v17, val_main_v18, val_main_v19, val_main_v20, val_main_v25, val_main_v26, val_main_v27, val_main_v28, val_main_v29, val_main_cst, val_main_cst_0]

/-- The turned queries. -/
theorem q_ref (b : Fin 8) (r : Fin 1024) (h : Fin 32) (e : Fin 128) : val_main_v74 (F := Ideal) a (ix4 b r h e)
    = turned (fun d => a (ix2 (⟨b.val * 1024 + r.val, by omega⟩ : Fin 8192) (⟨h.val * 128 + d.val, by omega⟩ : Fin 6144))) (rowAngle r) (colAngle r) e := by
  unfold turned turn
  simp only [← rows_ref, ← cols_ref]
  pointwise [val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v0, val_main_v1, val_main_v2]

/-- The turned keys. -/
theorem k_ref (b : Fin 8) (r : Fin 1024) (h : Fin 8) (e : Fin 128) : val_main_v113 (F := Ideal) a (ix4 b r h e)
    = turned (fun d => a (ix2 (⟨b.val * 1024 + r.val, by omega⟩ : Fin 8192) (⟨4096 + (h.val * 128 + d.val), by omega⟩ : Fin 6144))) (rowAngle r) (colAngle r) e := by
  unfold turned turn
  simp only [← rows_ref, ← cols_ref]
  pointwise [val_main_v34, val_main_v35, val_main_v36, val_main_v37, val_main_v30, val_main_v31, val_main_v32, val_main_v33, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v0, val_main_v3, val_main_v4]

end Cert.Band

end
-- ==== Proof.Band.Reference.lean ====
/-
  Hand-written. THE WINDOWED ATTENTION, THE REFERENCE: its scores, weights and result at an index.
-/
module

public import proofs.«01_k».proof.Defs
public import proofs.«01_k».proof.Proof.Band.Mean
public import proofs.«01_k».proof.Proof.Attn.Reference
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit.Point
public import Idealize.ShloMosaic.Lib.ValueIdx
public import Idealize.ShloMosaic.PureOps.Ideal.Laws

@[expose] public section

set_option maxRecDepth 16384

noncomputable section

namespace Cert.Band

open Idealize.ShloMosaic Idealize.ShloMosaic.TcCoe Idealize.SL.Sem
open Cert.Reference14Ideal Cert.Reference14Ideal.Gen Cert.Reference14Ideal.Read
open Cert.Attn (reduce_max neg_inf)

variable (a : Vec Ideal S8192x6144 .f32) (ck cv : Vec Ideal S8x256x8x128 .f32) (sk : Vec Ideal S32 .f32)

/-- The scores of a query against the sequence's keys, before the window. -/
theorem local_ref (b kv : Fin 8) (g : Fin 4) (r : Fin 1024) (l : Fin 1024) : val_main_v127 (F := Ideal) a (ix5 b kv g r l)
    = (∑ x, val_main_v113 (F := Ideal) a (ix4 b l kv x) * val_main_v74 (F := Ideal) a (ix4 b r (⟨kv.val * 4 + g.val, by omega⟩ : Fin 32) x)) * Ideal.ofBits .f32 1035273459#32 := by
  pointwise [val_main_v75, val_main_v124, val_main_v125, val_main_v126, val_main_v127, val_main_cst_1]

/-- The window's test at an index. -/
theorem test_ref (b kv : Fin 8) (g : Fin 4) (r : Fin 1024) (l : Fin 1024) : val_main_call0_v1 (F := Ideal) (ix5 b kv g r l)
    = IntOp.cmpi CmpIPredicate.sle (IntOp.absi (IntOp.subi (BitVec.ofNat 32 r.val) (BitVec.ofNat 32 l.val))) 128#32 := by
  pointwise [val_main_call0_v1, val_main_v123, val_main_v122, val_main_c, val_main_v121, val_main_v120, val_main_v119, val_main_v118, val_main_v117, val_main_v116, val_main_v115]

/-- The mask's value at an index. -/
theorem fill_ref (b kv : Fin 8) (g : Fin 4) (r : Fin 1024) (l : Fin 1024) : val_main_call0_v2 (F := Ideal) (ix5 b kv g r l) = Ideal.ofBits FTy.f32 4286578688#32 := by
  rw [val_main_call0_v2_apply]
  rfl

/-- The scores inside the window; outside it they are minus infinity. -/
theorem masked_ref (b kv : Fin 8) (g : Fin 4) (r : Fin 1024) (l : Fin 1024) : val_main_v128 (F := Ideal) a (ix5 b kv g r l)
    = if near r.val l.val then val_main_v127 (F := Ideal) a (ix5 b kv g r l) else ⊥ := by
  rw [val_main_v128_apply, test_ref, fill_ref, neg_inf]
  exact near_select r l _ _

/-- The scores of a query against the context's keys. -/
theorem context_ref (b kv : Fin 8) (g : Fin 4) (r : Fin 1024) (l : Fin 256) : val_main_v132 (F := Ideal) a ck (ix5 b kv g r l)
    = (∑ x, ck (ix4 b l kv x) * a (ix2 (⟨b.val * 1024 + r.val, by omega⟩ : Fin 8192) (⟨kv.val * 512 + g.val * 128 + x.val, by omega⟩ : Fin 6144))) * Ideal.ofBits .f32 1035273459#32 := by
  pointwise [val_main_v76, val_main_v129, val_main_v130, val_main_v131, val_main_v132, val_main_cst_3, val_main_v0, val_main_v1, val_main_v2]

/-- The sink of a query head. -/
theorem sink_ref (b kv : Fin 8) (g : Fin 4) (r : Fin 1024) (z : Fin 1) : val_main_v133 (F := Ideal) sk (ix5 b kv g r z) = sk (ix1 (⟨kv.val * 4 + g.val, by omega⟩ : Fin 32)) := by
  pointwise [val_main_v133, val_main_v114]

/-- The scores side by side. -/
theorem scores_ref (b kv : Fin 8) (g : Fin 4) (r : Fin 1024) (l : Fin 1281) : val_main_v134 (F := Ideal) a ck sk (ix5 b kv g r l)
    = if h : l.val < 1024 then val_main_v128 (F := Ideal) a (ix5 b kv g r (⟨l.val, h⟩ : Fin 1024))
      else if h' : l.val - 1024 < 256 then val_main_v132 (F := Ideal) a ck (ix5 b kv g r (⟨l.val - 1024, by omega⟩ : Fin 256))
      else val_main_v133 (F := Ideal) sk (ix5 b kv g r (⟨l.val - 1024 - 256, by omega⟩ : Fin 1)) := by
  generalize hx : val_main_v128 (F := Ideal) a = x
  generalize hy : val_main_v132 (F := Ideal) a ck = y
  generalize hz : val_main_v133 (F := Ideal) sk = z
  pointwise [val_main_v134, hx, hy, hz]

/-- The maximum starts from minus infinity's word. -/
theorem first_ref : val_main_cst_4 (F := Ideal) (Shape.Idx.first h_S_) = Ideal.ofBits FTy.f32 4286578688#32 := rfl

/-- The coordinate put back at the end of an index. -/
theorem lift_ref (h : S8x8x4x1024x1281.Reduces [4] S8x8x4x1024) (b kv : Fin 8) (g : Fin 4) (r : Fin 1024) (k : Fin 1281) :
    (h.lift (ix4 b kv g r) k : S8x8x4x1024x1281.Idx) = ix5 b kv g r k :=
  funext fun a => Fin.ext (by match a with | ⟨0, _⟩ => rfl | ⟨1, _⟩ => rfl | ⟨2, _⟩ => rfl | ⟨3, _⟩ => rfl | ⟨4, _⟩ => rfl)

/-- The row's greatest score, as a fold. -/
theorem fold_ref (b kv : Fin 8) (g : Fin 4) (r : Fin 1024) (h : S8x8x4x1024x1281.Reduces [4] S8x8x4x1024) : val_main_v135 (F := Ideal) a ck sk (ix4 b kv g r)
    = (Finset.univ : Finset (Fin (S8x8x4x1024x1281.size 4))).fold max (val_main_cst_4 (F := Ideal) (Shape.Idx.first h_S_)) (fun k => val_main_v134 (F := Ideal) a ck sk (h.lift (ix4 b kv g r) k)) := by
  unfold val_main_v135
  generalize val_main_v134 (F := Ideal) a ck sk = y
  exact reduce_max _ _ _ h _ _

/-- The row's greatest score. -/
theorem top_ref (b kv : Fin 8) (g : Fin 4) (r : Fin 1024) : val_main_v137 (F := Ideal) a ck sk (ix4 b kv g r)
    = max (Ideal.ofBits FTy.f32 4286578688#32) (val_main_v135 (F := Ideal) a ck sk (ix4 b kv g r)) := by
  rw [val_main_v137_apply]
  generalize val_main_v135 (F := Ideal) a ck sk (ix4 b kv g r) = y
  rw [val_main_v136_apply]
  rfl

/-- A score's exponential. -/
theorem exp_ref (b kv : Fin 8) (g : Fin 4) (r : Fin 1024) (l : Fin 1281) : val_main_v141 (F := Ideal) a ck sk (ix5 b kv g r l)
    = Ideal.exp (val_main_v134 (F := Ideal) a ck sk (ix5 b kv g r l) - val_main_v137 (F := Ideal) a ck sk (ix4 b kv g r)) := by
  pointwise [val_main_v141, val_main_v140, val_main_v139, val_main_v138]

/-- The sum of a row's exponentials. -/
theorem sum_ref (b kv : Fin 8) (g : Fin 4) (r : Fin 1024) : val_main_v142 (F := Ideal) a ck sk (ix4 b kv g r)
    = ∑ x : Fin 1281, val_main_v141 (F := Ideal) a ck sk (ix5 b kv g r x) := by
  pointwise [val_main_v142, val_main_cst_6]

/-- A score's weight. -/
theorem weights_ref (b kv : Fin 8) (g : Fin 4) (r : Fin 1024) (l : Fin 1281) : val_main_v145 (F := Ideal) a ck sk (ix5 b kv g r l)
   = Ideal.div (val_main_v141 (F := Ideal) a ck sk (ix5 b kv g r l)) (val_main_v142 (F := Ideal) a ck sk (ix4 b kv g r)) := by
  pointwise [val_main_v143, val_main_v144, val_main_v145]

theorem idx_lt0 (i : S8192x4096.Idx) : (i 0).val < 8192 := (i 0).isLt
theorem idx_lt1 (i : S8192x4096.Idx) : (i 1).val < 4096 := (i 1).isLt

/-- The reference's result: the weighted sum of the sequence's values and that of the context's. -/
theorem out_ref (i : S8192x4096.Idx) : val_main_v154 (F := Ideal) a ck cv sk i
    = ∑ x : Fin 1024, a (ix2 (⟨(i 0).val / 1024 * 1024 + x.val, by have := idx_lt0 i; omega⟩ : Fin 8192) (⟨5120 + ((i 1).val / 512 * 128 + (i 1).val % 128), by have := idx_lt1 i; omega⟩ : Fin 6144))
          * val_main_v145 (F := Ideal) a ck sk (ix5 (⟨(i 0).val / 1024, by have := idx_lt0 i; omega⟩ : Fin 8) (⟨(i 1).val / 512, by have := idx_lt1 i; omega⟩ : Fin 8) (⟨(i 1).val / 128 % 4, by omega⟩ : Fin 4) (⟨(i 0).val % 1024, by omega⟩ : Fin 1024) (⟨x.val, by omega⟩ : Fin 1281))
      + ∑ x : Fin 256, cv (ix4 (⟨(i 0).val / 1024, by have := idx_lt0 i; omega⟩ : Fin 8) x (⟨(i 1).val / 512, by have := idx_lt1 i; omega⟩ : Fin 8) (⟨(i 1).val % 128, by omega⟩ : Fin 128))
          * val_main_v145 (F := Ideal) a ck sk (ix5 (⟨(i 0).val / 1024, by have := idx_lt0 i; omega⟩ : Fin 8) (⟨(i 1).val / 512, by have := idx_lt1 i; omega⟩ : Fin 8) (⟨(i 1).val / 128 % 4, by omega⟩ : Fin 4) (⟨(i 0).val % 1024, by omega⟩ : Fin 1024) (⟨1024 + x.val, by omega⟩ : Fin 1281)) := by
  pointwise [val_main_v146, val_main_v147, val_main_v148, val_main_v149, val_main_v150, val_main_v151, val_main_v152, val_main_v153, val_main_v154, val_main_v0, val_main_v5, val_main_v6]

end Cert.Band

end
-- ==== Proof.Band.Equation.lean ====
/-
  Hand-written. THE WINDOWED ATTENTION, THE EQUATION: over finite arguments the kernel's result is the reference's.
-/
module

public import proofs.«01_k».proof.Proof.Attn.Equation
public import proofs.«01_k».proof.Proof.Band.Softmax
public import proofs.«01_k».proof.Proof.Band.Array
public import proofs.«01_k».proof.Proof.Band.Turned
public import proofs.«01_k».proof.Proof.Band.Reference

@[expose] public section

set_option maxRecDepth 16384

noncomputable section

namespace Cert.Band

open Idealize.ShloMosaic Idealize.ShloMosaic.TcCoe Idealize.SL.Sem
open Cert.Reference14Ideal (S8192x6144 S8x256x8x128 S8192x4096 S32 S8x8x4x1024x1281 S8x8x4x1024)
open Cert.Reference14Ideal.Read
open Cert.Attn (neg_inf sum_coe div_coe scale scale_word turned_real rot_eq)

theorem qscale_eq : qscale = ((scale * (Real.log 2)⁻¹ : ℝ) : EReal) :=
  IdealRules.named_const.ideal_named_scalar _ _ _ _ rfl

/-- The logarithm of the word 2. -/
theorem log_two : Ideal.log (Ideal.ofBits .f32 0x40000000#32) = (Real.log 2 : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else ((Real.log 2 : ℝ) : EReal)) = _
  exact if_neg (by norm_num)

/-- A score under the window weighs its exponential inside and nothing outside. -/
theorem weighs_near (N : Prop) [Decidable N] (t : ℝ) : Weighs (if N then (t : EReal) else ⊥) (if N then Real.exp t else 0) := by
  by_cases h : N
  · rw [if_pos h, if_pos h]
    exact Or.inr ⟨t, rfl, rfl⟩
  · rw [if_neg h, if_neg h]
    exact Or.inl ⟨rfl, rfl⟩

theorem weighsTwo_near (N : Prop) [Decidable N] (t : ℝ) : WeighsTwo (if N then ((t * (Real.log 2)⁻¹ : ℝ) : EReal) else ⊥) (if N then Real.exp t else 0) := by
  by_cases h : N
  · rw [if_pos h, if_pos h]
    exact Or.inr ⟨t, rfl, rfl⟩
  · rw [if_neg h, if_neg h]
    exact Or.inl ⟨rfl, rfl⟩

/-- The reference at an index by its parts: sequence, key/value head, row, query head and lane. -/
theorem reference_at (a : Vec Ideal S8192x6144 .f32) (ck cv : Vec Ideal S8x256x8x128 .f32) (sk : Vec Ideal S32 .f32)
    (ha : ∀ i, ∃ r : ℝ, a i = r) (hk : ∀ i, ∃ r : ℝ, ck i = r) (hv : ∀ i, ∃ r : ℝ, cv i = r) (hsk : ∀ i, ∃ r : ℝ, sk i = r)
    (b kv : Fin 8) (g : Fin 4) (p : Fin 1024) (d : Fin 128) :
    ∑ x : Fin 1024, a (ix2 (⟨b.val * 1024 + x.val, by omega⟩ : Fin 8192) (⟨5120 + (kv.val * 128 + d.val), by omega⟩ : Fin 6144))
        * val_main_v145 (F := Ideal) a ck sk (ix5 b kv g p (⟨x.val, by omega⟩ : Fin 1281))
      + ∑ x : Fin 256, cv (ix4 b x kv d) * val_main_v145 (F := Ideal) a ck sk (ix5 b kv g p (⟨1024 + x.val, by omega⟩ : Fin 1281))
      = attend a ck cv sk b kv p g d := by
  choose a' ha using ha
  choose k' hk using hk
  choose v' hv using hv
  choose s' hsk using hsk
  choose T hT hTs using turned_real
  -- the scores, in exact real numbers
  let q : Fin 128 → ℝ := fun e => a' (ix2 (⟨b.val * 1024 + p.val, by omega⟩ : Fin 8192) (⟨kv.val * 512 + g.val * 128 + e.val, by omega⟩ : Fin 6144))
  let k : Fin 1024 → Fin 128 → ℝ := fun l e => a' (ix2 (⟨b.val * 1024 + l.val, by omega⟩ : Fin 8192) (⟨4096 + (kv.val * 128 + e.val), by omega⟩ : Fin 6144))
  let dL : Fin 1024 → ℝ := fun l => (∑ e, T l (k l) e * T p q e) * scale
  let dC : Fin 256 → ℝ := fun l => (∑ e, k' (ix4 b l kv e) * q e) * scale
  let dS : ℝ := s' (ix1 (⟨kv.val * 4 + g.val, by omega⟩ : Fin 32))
  let vL : Fin 1024 → ℝ := fun l => a' (ix2 (⟨b.val * 1024 + l.val, by omega⟩ : Fin 8192) (⟨5120 + (kv.val * 128 + d.val), by omega⟩ : Fin 6144))
  let vC : Fin 256 → ℝ := fun l => v' (ix4 b l kv d)
  let wL : Fin 1024 → ℝ := fun l => if near p.val l.val then Real.exp (dL l) else 0
  let wC : Fin 256 → ℝ := fun l => Real.exp (dC l)
  let W : Fin 1281 → ℝ := fun l => if h : l.val < 1024 then wL ⟨l.val, h⟩ else if h' : l.val - 1024 < 256 then wC ⟨l.val - 1024, h'⟩ else Real.exp dS
  have hscore : ∀ l : Fin 1281, Weighs (val_main_v134 (F := Ideal) a ck sk (ix5 b kv g p l)) (W l) := fun l => by
    rw [scores_ref]
    by_cases h : l.val < 1024
    · rw [dif_pos h, show W l = wL ⟨l.val, h⟩ from dif_pos h, masked_ref, local_ref, scale_word]
      simp only [k_ref, q_ref, ha]
      have hq : ∀ e : Fin 128, (⟨(kv.val * 4 + g.val) * 128 + e.val, by omega⟩ : Fin 6144) = ⟨kv.val * 512 + g.val * 128 + e.val, by omega⟩ := fun e => Fin.ext (by show (kv.val * 4 + g.val) * 128 + e.val = kv.val * 512 + g.val * 128 + e.val; omega)
      simp only [hq, hT, ← EReal.coe_mul, sum_coe]
      exact weighs_near (near p.val l.val) (dL ⟨l.val, h⟩)
    · by_cases h' : l.val - 1024 < 256
      · rw [dif_neg h, dif_pos h', context_ref, show W l = wC ⟨l.val - 1024, h'⟩ from (dif_neg h).trans (dif_pos h'), scale_word]
        simp only [ha, hk, ← EReal.coe_mul, sum_coe]
        exact Or.inr ⟨dC ⟨l.val - 1024, h'⟩, rfl, rfl⟩
      · rw [dif_neg h, dif_neg h', sink_ref, show W l = Real.exp dS from (dif_neg h).trans (dif_neg h'), hsk]
        exact Or.inr ⟨dS, rfl, rfl⟩
  have hWS : W ⟨1280, by omega⟩ = Real.exp dS := rfl
  obtain ⟨M, hM⟩ : ∃ M : ℝ, val_main_v137 (F := Ideal) a ck sk (ix4 b kv g p) = M := by
    have hr : S8x8x4x1024x1281.Reduces [4] S8x8x4x1024 := by decide
    rw [top_ref, neg_inf, max_eq_right bot_le, fold_ref a ck sk b kv g p hr, first_ref]
    refine fold_some _ (fun x => by rw [lift_ref hr b kv g p x]; exact (hscore x).ne_top) (⟨1280, by decide⟩ : Fin 1281) dS ?_
    rw [lift_ref hr b kv g p ⟨1280, by decide⟩, scores_ref, dif_neg (by decide), dif_neg (by decide), sink_ref, hsk]
  have hw : ∀ l : Fin 1281, val_main_v145 (F := Ideal) a ck sk (ix5 b kv g p l)
      = Ideal.div (Ideal.exp (val_main_v134 (F := Ideal) a ck sk (ix5 b kv g p l) - (M : EReal))) (∑ y : Fin 1281, Ideal.exp (val_main_v134 (F := Ideal) a ck sk (ix5 b kv g p y) - (M : EReal))) := fun l => by
    rw [weights_ref, sum_ref]
    simp only [exp_ref, hM]
  simp only [hw]
  generalize hu : (fun l : Fin 1281 => val_main_v134 (F := Ideal) a ck sk (ix5 b kv g p l)) = u at hscore
  have hu' : ∀ l : Fin 1281, val_main_v134 (F := Ideal) a ck sk (ix5 b kv g p l) = u l := fun l => congrFun hu l
  simp only [hu', ha, hv] at hscore ⊢
  have hC : ∀ x : Fin 256, W ⟨1024 + x.val, by omega⟩ = wC x := fun x => by
    refine (dif_neg (by show ¬ 1024 + x.val < 1024; omega)).trans ((dif_pos (by show 1024 + x.val - 1024 < 256; omega)).trans (congrArg wC (Fin.ext ?_)))
    show 1024 + x.val - 1024 = x.val
    omega
  refine (weighted_real u W M wL wC (Real.exp dS) vL vC hscore (fun x => dif_pos x.isLt) hC hWS (Real.exp_pos _)).trans ?_
  have hkey : ∀ (l : Fin 1024) (e : Fin 128), (⟨4096 + kv.val * 128 + e.val, by omega⟩ : Fin 6144) = ⟨4096 + (kv.val * 128 + e.val), by omega⟩ := fun l e => Fin.ext (by show 4096 + kv.val * 128 + e.val = 4096 + (kv.val * 128 + e.val); omega)
  have hval : (⟨5120 + kv.val * 128 + d.val, by omega⟩ : Fin 6144) = ⟨5120 + (kv.val * 128 + d.val), by omega⟩ := Fin.ext (by show 5120 + kv.val * 128 + d.val = 5120 + (kv.val * 128 + d.val); omega)
  have h2 : Real.log 2 ≠ 0 := (Real.log_pos (by norm_num)).ne'
  refine (wmean_real (fun l => if near p.val l.val then ((dL l * (Real.log 2)⁻¹ : ℝ) : EReal) else ⊥) (fun l => ((dC l * (Real.log 2)⁻¹ : ℝ) : EReal)) dS wL wC vL vC
    (fun l => weighsTwo_near (near p.val l.val) (dL l)) (fun l => Or.inr ⟨dC l, rfl, rfl⟩)).symm.trans ?_
  unfold attend
  refine congr (congr (congr (congr (congrArg wmean (funext fun l => ?_)) (funext fun l => ?_)) ?_) (funext fun l => ?_)) (funext fun l => ?_)
  · refine if_congr Iff.rfl ?_ rfl
    simp only [rot_eq, qscale_eq, ha, hkey l, ← EReal.coe_mul, hT, hTs, sum_coe]
    refine congrArg _ ?_
    show (∑ e, T l (k l) e * T p q e) * scale * (Real.log 2)⁻¹ = ∑ e, T p q e * (scale * (Real.log 2)⁻¹) * T l (k l) e
    rw [Finset.sum_mul, Finset.sum_mul]
    exact Finset.sum_congr rfl fun e _ => by ring
  · simp only [qscale_eq, ha, hk, ← EReal.coe_mul, sum_coe]
    refine congrArg _ ?_
    show (∑ e, k' (ix4 b l kv e) * q e) * scale * (Real.log 2)⁻¹ = ∑ e, q e * (scale * (Real.log 2)⁻¹) * k' (ix4 b l kv e)
    rw [Finset.sum_mul, Finset.sum_mul]
    exact Finset.sum_congr rfl fun e _ => by ring
  · rw [sinks_apply, log_two, hsk, div_coe _ _ h2, div_eq_mul_inv]
  · rw [hval, ha]
  · rw [hv]

/-- The reference's result is the kernel's, over finite arguments. -/
theorem reference_eq (a : Vec Ideal S8192x6144 .f32) (ck cv : Vec Ideal S8x256x8x128 .f32) (sk : Vec Ideal S32 .f32)
    (ha : ∀ i, ∃ r : ℝ, a i = r) (hk : ∀ i, ∃ r : ℝ, ck i = r) (hv : ∀ i, ∃ r : ℝ, cv i = r) (hsk : ∀ i, ∃ r : ℝ, sk i = r) :
    val_main_v154 (F := Ideal) a ck cv sk = result a ck cv sk := by
  funext i
  have h0 := idx_lt0 i
  have h1 := idx_lt1 i
  have hg : (⟨(i 1).val % 512 / 128, by omega⟩ : Fin 4) = ⟨(i 1).val / 128 % 4, by omega⟩ := Fin.ext (by show (i 1).val % 512 / 128 = (i 1).val / 128 % 4; omega)
  refine (out_ref a ck cv sk i).trans ((reference_at a ck cv sk ha hk hv hsk ⟨(i 0).val / 1024, by omega⟩ ⟨(i 1).val / 512, by omega⟩ ⟨(i 1).val / 128 % 4, by omega⟩
    ⟨(i 0).val % 1024, by omega⟩ ⟨(i 1).val % 128, by omega⟩).trans ?_)
  unfold result
  rw [hg]

/-- A magnitude below plus infinity's word is a real's. -/
theorem real_of_olt {s : Shape} (a : FVec Ideal s .f32) (hb : Cert.Pre_finite_window.S_.BroadcastsInDim s ![]) (i : s.Idx)
    (h : cmpf .olt (Host.absf a) (broadcastInDim s ![] hb (constant Cert.Pre_finite_window.S_ .f32 0x7F800000#32)) i = 1#1) : ∃ r : ℝ, a i = r :=
  Cert.Attn.real_of_olt a hb i h

/-- The predicate's side conditions. -/
theorem facts_finite_window : Cert.Pre_finite_window.Facts := ⟨by decide, by decide, by decide⟩

/-- The claim: over finite arguments the idealized kernel and the reference end with equal results and their arguments unchanged. -/
theorem algebraic : Cert.algebraic_Kernel14Ideal_Reference14Ideal_pre_finite_window
    (hKernel14Ideal := Cert.Kernel14Ideal.Gen.facts) (hReference14Ideal := Cert.Reference14Ideal.Gen.facts) (hPre_finite_window := facts_finite_window) := by
  intro m g m' g' hpre hargs
  refine ⟨_, run m g, ?_⟩
  refine (θ_run (Cert.Reference14Ideal.defs (F := Ideal)) _ _).mono (fun r h c => ?_) (Cert.Reference14Ideal.Value.run (F := Ideal) m' g')
  obtain ⟨hv, h0⟩ := h c
  obtain ⟨pa, pk, pv, ps⟩ := hpre c
  refine ⟨hv.trans ?_, h0⟩
  refine (val_main_v154_eq (StableHlo.launchContents m' c)).trans ?_
  refine (congr (congr (congr (congrArg (val_main_v154 (F := Ideal)) (hargs c).1) (hargs c).2.1) (hargs c).2.2.1) (hargs c).2.2.2).trans ?_
  exact reference_eq _ _ _ _ (fun i => real_of_olt _ _ i (congrFun pa i)) (fun i => real_of_olt _ _ i (congrFun pk i)) (fun i => real_of_olt _ _ i (congrFun pv i)) (fun i => real_of_olt _ _ i (congrFun ps i))

end Cert.Band

end
-- ==== Proof.lean ====
/-
  Hand-written. THE PROOF OF `Cert.Claim`: the frames of the programs, the printed constant of the attention, and the equations
  of the calls, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.ReferenceIdeal.Run
public import proofs.«01_k».proof.Proof.Gen.ReferenceIdeal.Read
public import proofs.«01_k».proof.Proof.Attn.Equation
public import proofs.«01_k».proof.Proof.Ffn.Equation
public import proofs.«01_k».proof.Proof.Down.Equation
public import proofs.«01_k».proof.Proof.Out.Equation
public import proofs.«01_k».proof.Proof.Qkv.Equation
public import proofs.«01_k».proof.Proof.Kva.Equation
public import proofs.«01_k».proof.Proof.Norm.Equation
public import proofs.«01_k».proof.Proof.OutMla.Equation
public import proofs.«01_k».proof.Proof.QkvB.Equation
public import proofs.«01_k».proof.Proof.Qa.Equation
public import proofs.«01_k».proof.Proof.Qb.Equation
public import proofs.«01_k».proof.Proof.Last.Equation
public import proofs.«01_k».proof.Proof.Mla.Equation
public import proofs.«01_k».proof.Proof.Band.Equation
public import Idealize.ShloMosaic.Adequacy
public import Idealize.ShloMosaic.Init

@[expose] public section

noncomputable section

namespace Cert.Proof

open Idealize.ShloMosaic Idealize.SL.Sem

/-- Everything the certificate states. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Attn.facts_finite, Cert.Mla.facts_finite, Cert.Band.facts_finite_window,
    fun m ρ _ => Cert.Kernel.Gen.frame m ρ,
    fun m ρ _ => Cert.KernelIdeal.Gen.frame m ρ,
    fun m ρ _ => Cert.KernelIdeal.Gen.frame m ρ,
    fun m ρ _ => (θ_run (Cert.ReferenceIdeal.defs (F := Ideal)) _ _).mono
      (fun r h => ⟨fun c => (h c).2, sem_eq_zero_of_no_sems (by decide) r.2⟩) (Cert.ReferenceIdeal.Value.run (F := Ideal) m ρ),
    fun m ρ _ => (θ_run (Cert.ReferenceIdeal.defs (F := Ideal)) _ _).mono
      (fun r h => ⟨fun c => (h c).2, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run (Cert.Reference2Ideal.defs (F := Ideal)) _ _).mono
      (fun r h => ⟨fun c => (h c).2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run (Cert.Reference3Ideal.defs (F := Ideal)) _ _).mono
      (fun r h => ⟨fun c => (h c).2, sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run (Cert.Reference4Ideal.defs (F := Ideal)) _ _).mono
      (fun r h => ⟨fun c => (h c).2, sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run (Cert.Reference5Ideal.defs (F := Ideal)) _ _).mono
      (fun r h => ⟨fun c => (h c).2.2.2, sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run (Cert.Reference6Ideal.defs (F := Ideal)) _ _).mono
      (fun r h => ⟨fun c => (h c).2.2, sem_eq_zero_of_no_sems (by decide) r.2⟩) (Cert.Reference6Ideal.Value.run (F := Ideal) m ρ),
    fun m ρ _ => Cert.Kernel7.Gen.frame m ρ,
    fun m ρ _ => Cert.Kernel7Ideal.Gen.frame m ρ,
    fun m ρ _ => (θ_run (Cert.Reference7Ideal.defs (F := Ideal)) _ _).mono
      (fun r h => ⟨fun c => (h c).2.2, sem_eq_zero_of_no_sems (by decide) r.2⟩) (Cert.Reference7Ideal.Value.run (F := Ideal) m ρ),
    fun m ρ _ => Cert.Kernel8.Gen.frame m ρ,
    fun m ρ _ => Cert.Kernel8Ideal.Gen.frame m ρ,
    fun m ρ _ => (θ_run (Cert.Reference8Ideal.defs (F := Ideal)) _ _).mono
      (fun r h => ⟨fun c => (h c).2, sem_eq_zero_of_no_sems (by decide) r.2⟩) (Cert.Reference8Ideal.Value.run (F := Ideal) m ρ),
    fun m ρ _ => Cert.Kernel9.Gen.frame m ρ,
    fun m ρ _ => Cert.Kernel9Ideal.Gen.frame m ρ,
    fun m ρ _ => (θ_run (Cert.Reference9Ideal.defs (F := Ideal)) _ _).mono
      (fun r h => ⟨fun c => (h c).2.2.2, sem_eq_zero_of_no_sems (by decide) r.2⟩) (Cert.Reference9Ideal.Value.run (F := Ideal) m ρ),
    fun m ρ _ => Cert.Kernel10.Gen.frame m ρ,
    fun m ρ _ => Cert.Kernel10Ideal.Gen.frame m ρ,
    fun m ρ _ => (θ_run (Cert.Reference10Ideal.defs (F := Ideal)) _ _).mono
      (fun r h => ⟨fun c => (h c).2, sem_eq_zero_of_no_sems (by decide) r.2⟩) (Cert.Reference10Ideal.Value.run (F := Ideal) m ρ),
    fun m ρ _ => Cert.Kernel11.Gen.frame m ρ,
    fun m ρ _ => Cert.Kernel11Ideal.Gen.frame m ρ,
    fun m ρ _ => (θ_run (Cert.Reference11Ideal.defs (F := Ideal)) _ _).mono
      (fun r h => ⟨fun c => (h c).2.2, sem_eq_zero_of_no_sems (by decide) r.2⟩) (Cert.Reference11Ideal.Value.run (F := Ideal) m ρ),
    fun m ρ _ => Cert.Kernel12.Gen.frame m ρ,
    fun m ρ _ => Cert.Kernel12Ideal.Gen.frame m ρ,
    fun m ρ _ => (θ_run (Cert.Reference12Ideal.defs (F := Ideal)) _ _).mono
      (fun r h => ⟨fun c => (h c).2, sem_eq_zero_of_no_sems (by decide) r.2⟩) (Cert.Reference12Ideal.Value.run (F := Ideal) m ρ),
    fun m ρ _ => Cert.Kernel13.Gen.frame m ρ,
    fun m ρ _ => Cert.Kernel13Ideal.Gen.frame m ρ,
    fun m ρ _ => Cert.Kernel13Ideal.Gen.frame m ρ,
    fun m ρ _ => (θ_run (Cert.Reference13Ideal.defs (F := Ideal)) _ _).mono
      (fun r h => ⟨fun c => (h c).2, sem_eq_zero_of_no_sems (by decide) r.2⟩) (Cert.Reference13Ideal.Value.run (F := Ideal) m ρ),
    fun m ρ _ => (θ_run (Cert.Reference13Ideal.defs (F := Ideal)) _ _).mono
      (fun r h => ⟨fun c => (h c).2, sem_eq_zero_of_no_sems (by decide) r.2⟩) (Cert.Reference13Ideal.Value.run (F := Ideal) m ρ),
    fun m ρ _ => Cert.Kernel14.Gen.frame m ρ,
    fun m ρ _ => Cert.Kernel14Ideal.Gen.frame m ρ,
    fun m ρ _ => Cert.Kernel14Ideal.Gen.frame m ρ,
    fun m ρ _ => (θ_run (Cert.Reference14Ideal.defs (F := Ideal)) _ _).mono
      (fun r h => ⟨fun c => (h c).2, sem_eq_zero_of_no_sems (by decide) r.2⟩) (Cert.Reference14Ideal.Value.run (F := Ideal) m ρ),
    fun m ρ _ => (θ_run (Cert.Reference14Ideal.defs (F := Ideal)) _ _).mono
      (fun r h => ⟨fun c => (h c).2, sem_eq_zero_of_no_sems (by decide) r.2⟩) (Cert.Reference14Ideal.Value.run (F := Ideal) m ρ),
    IdealRules.named_const.statement Cert.KernelIdeal.κ "scale_log2e" .f32 0x3E0293EE#32 _ rfl,
    Cert.Attn.algebraic, trivial, Cert.Ffn.algebraic, trivial, Cert.Down.algebraic,
    trivial, Cert.Out.algebraic, trivial, Cert.Qkv.algebraic, trivial, Cert.Kva.algebraic, trivial, Cert.Norm.algebraic, trivial, Cert.OutMla.algebraic, trivial, Cert.QkvB.algebraic, trivial, Cert.Qa.algebraic, trivial, Cert.Qb.algebraic, trivial, Cert.Last.algebraic,
    IdealRules.named_const.statement Cert.Kernel13Ideal.κ "scale_log2e" .f32 0x3DD53B95#32 _ rfl, Cert.Mla.algebraic,
    ⟨IdealRules.named_const.statement Cert.Kernel14Ideal.κ "scale_log2e" .f32 0x3E0293EE#32 _ rfl,
      IdealRules.named_const.statement Cert.Kernel14Ideal.κ "mask" .f32 0xF149F2CA#32 _ rfl⟩, Cert.Band.algebraic⟩

end Cert.Proof

end
